-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Xquant (m : (ℓ : Loc Cert.Xquant.nD Cert.Xquant.τ Cert.Xquant.sig) → Buf (Elt Bits) ℓ) : Prop :=
  True

def Pre_XquantIdeal (m : (ℓ : Loc Cert.XquantIdeal.nD Cert.XquantIdeal.τ Cert.XquantIdeal.sig) → Buf (Elt Ideal) ℓ) : Prop :=
  True

def Pre_XquantIdeal_x_in_range [hPre_x_in_range : Cert.Pre_x_in_range.Facts] (m : (ℓ : Loc Cert.XquantIdeal.nD Cert.XquantIdeal.τ Cert.XquantIdeal.sig) → Buf (Elt Ideal) ℓ) : Prop :=
  ∀ c : Dev Cert.XquantIdeal.nD,
    (Cert.Pre_x_in_range.fn (F := Ideal) (m ((c.tc : Thread Cert.XquantIdeal.nD Cert.XquantIdeal.τ).loc Cert.XquantIdeal.main_arg0))) = (fun _ => 1#1)

def Pre_XReferenceIdeal (m : (ℓ : Loc Cert.XReferenceIdeal.nD Cert.XReferenceIdeal.τ Cert.XReferenceIdeal.sig) → Buf (Elt Ideal) ℓ) : Prop :=
  True

def Pre_XReferenceIdeal_x_in_range [hPre_x_in_range : Cert.Pre_x_in_range.Facts] (m : (ℓ : Loc Cert.XReferenceIdeal.nD Cert.XReferenceIdeal.τ Cert.XReferenceIdeal.sig) → Buf (Elt Ideal) ℓ) : Prop :=
  ∀ c : Dev Cert.XReferenceIdeal.nD,
    (Cert.Pre_x_in_range.fn (F := Ideal) (m ((c.tc : Thread Cert.XReferenceIdeal.nD Cert.XReferenceIdeal.τ).loc Cert.XReferenceIdeal.main_arg0))) = (fun _ => 1#1)

def Pre_FpropIdeal (m : (ℓ : Loc Cert.FpropIdeal.nD Cert.FpropIdeal.τ Cert.FpropIdeal.sig) → Buf (Elt Ideal) ℓ) : Prop :=
  True

def Pre_FpropIdeal_w_in_range [hPre_w_in_range : Cert.Pre_w_in_range.Facts] (m : (ℓ : Loc Cert.FpropIdeal.nD Cert.FpropIdeal.τ Cert.FpropIdeal.sig) → Buf (Elt Ideal) ℓ) : Prop :=
  ∀ c : Dev Cert.FpropIdeal.nD,
    (Cert.Pre_w_in_range.fn (F := Ideal) (m ((c.tc : Thread Cert.FpropIdeal.nD Cert.FpropIdeal.τ).loc Cert.FpropIdeal.main_arg0)) (m ((c.tc : Thread Cert.FpropIdeal.nD Cert.FpropIdeal.τ).loc Cert.FpropIdeal.main_arg1))) = (fun _ => 1#1)

def Pre_FReferenceIdeal (m : (ℓ : Loc Cert.FReferenceIdeal.nD Cert.FReferenceIdeal.τ Cert.FReferenceIdeal.sig) → Buf (Elt Ideal) ℓ) : Prop :=
  True

def Pre_FReferenceIdeal_w_in_range [hPre_w_in_range : Cert.Pre_w_in_range.Facts] (m : (ℓ : Loc Cert.FReferenceIdeal.nD Cert.FReferenceIdeal.τ Cert.FReferenceIdeal.sig) → Buf (Elt Ideal) ℓ) : Prop :=
  ∀ c : Dev Cert.FReferenceIdeal.nD,
    (Cert.Pre_w_in_range.fn (F := Ideal) (m ((c.tc : Thread Cert.FReferenceIdeal.nD Cert.FReferenceIdeal.τ).loc Cert.FReferenceIdeal.main_arg0)) (m ((c.tc : Thread Cert.FReferenceIdeal.nD Cert.FReferenceIdeal.τ).loc Cert.FReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Xquant [hXquant : Cert.Xquant.Facts] : Prop :=
  ∀ (m : (ℓ : Loc Cert.Xquant.nD Cert.Xquant.τ Cert.Xquant.sig) → Buf (Elt Bits) ℓ) (g : Dev Cert.Xquant.nD → PrngReg), Pre_Xquant m →
    θ_run (Cert.Xquant.defs (F := Bits)) (onTc (τ := Cert.Xquant.τ) (Cert.Xquant.main (F := Bits))) ⟨m, fun _ => 0, g⟩ (fun r => (∀ c : Dev Cert.Xquant.nD,
      r.2.mem ((c.tc : Thread Cert.Xquant.nD Cert.Xquant.τ).loc Cert.Xquant.main_arg0) = m ((c.tc : Thread Cert.Xquant.nD Cert.Xquant.τ).loc Cert.Xquant.main_arg0))
      ∧ r.2.sem = fun _ => 0)

def quiescent_XquantIdeal [hXquantIdeal : Cert.XquantIdeal.Facts] : Prop :=
  ∀ (m : (ℓ : Loc Cert.XquantIdeal.nD Cert.XquantIdeal.τ Cert.XquantIdeal.sig) → Buf (Elt Ideal) ℓ) (g : Dev Cert.XquantIdeal.nD → PrngReg), Pre_XquantIdeal m →
    θ_run (Cert.XquantIdeal.defs (F := Ideal)) (onTc (τ := Cert.XquantIdeal.τ) (Cert.XquantIdeal.main (F := Ideal))) ⟨m, fun _ => 0, g⟩ (fun r => (∀ c : Dev Cert.XquantIdeal.nD,
      r.2.mem ((c.tc : Thread Cert.XquantIdeal.nD Cert.XquantIdeal.τ).loc Cert.XquantIdeal.main_arg0) = m ((c.tc : Thread Cert.XquantIdeal.nD Cert.XquantIdeal.τ).loc Cert.XquantIdeal.main_arg0))
      ∧ r.2.sem = fun _ => 0)

def quiescent_XquantIdeal_pre_x_in_range [hXquantIdeal : Cert.XquantIdeal.Facts] [hPre_x_in_range : Cert.Pre_x_in_range.Facts] : Prop :=
  ∀ (m : (ℓ : Loc Cert.XquantIdeal.nD Cert.XquantIdeal.τ Cert.XquantIdeal.sig) → Buf (Elt Ideal) ℓ) (g : Dev Cert.XquantIdeal.nD → PrngReg), Pre_XquantIdeal_x_in_range m →
    θ_run (Cert.XquantIdeal.defs (F := Ideal)) (onTc (τ := Cert.XquantIdeal.τ) (Cert.XquantIdeal.main (F := Ideal))) ⟨m, fun _ => 0, g⟩ (fun r => (∀ c : Dev Cert.XquantIdeal.nD,
      r.2.mem ((c.tc : Thread Cert.XquantIdeal.nD Cert.XquantIdeal.τ).loc Cert.XquantIdeal.main_arg0) = m ((c.tc : Thread Cert.XquantIdeal.nD Cert.XquantIdeal.τ).loc Cert.XquantIdeal.main_arg0))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0))
      ∧ r.2.sem = fun _ => 0)

def quiescent_XReferenceIdeal_pre_x_in_range [hXReferenceIdeal : Cert.XReferenceIdeal.Facts] [hPre_x_in_range : Cert.Pre_x_in_range.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal_x_in_range m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0))
      ∧ r.2.sem = fun _ => 0)

def quiescent_FpropIdeal [hFpropIdeal : Cert.FpropIdeal.Facts] : Prop :=
  ∀ (m : (ℓ : Loc Cert.FpropIdeal.nD Cert.FpropIdeal.τ Cert.FpropIdeal.sig) → Buf (Elt Ideal) ℓ) (g : Dev Cert.FpropIdeal.nD → PrngReg), Pre_FpropIdeal m →
    θ_run (Cert.FpropIdeal.defs (F := Ideal)) (onTc (τ := Cert.FpropIdeal.τ) (Cert.FpropIdeal.main (F := Ideal))) ⟨m, fun _ => 0, g⟩ (fun r => (∀ c : Dev Cert.FpropIdeal.nD,
      r.2.mem ((c.tc : Thread Cert.FpropIdeal.nD Cert.FpropIdeal.τ).loc Cert.FpropIdeal.main_arg0) = m ((c.tc : Thread Cert.FpropIdeal.nD Cert.FpropIdeal.τ).loc Cert.FpropIdeal.main_arg0)
      ∧ r.2.mem ((c.tc : Thread Cert.FpropIdeal.nD Cert.FpropIdeal.τ).loc Cert.FpropIdeal.main_arg1) = m ((c.tc : Thread Cert.FpropIdeal.nD Cert.FpropIdeal.τ).loc Cert.FpropIdeal.main_arg1))
      ∧ r.2.sem = fun _ => 0)

def quiescent_FpropIdeal_pre_w_in_range [hFpropIdeal : Cert.FpropIdeal.Facts] [hPre_w_in_range : Cert.Pre_w_in_range.Facts] : Prop :=
  ∀ (m : (ℓ : Loc Cert.FpropIdeal.nD Cert.FpropIdeal.τ Cert.FpropIdeal.sig) → Buf (Elt Ideal) ℓ) (g : Dev Cert.FpropIdeal.nD → PrngReg), Pre_FpropIdeal_w_in_range m →
    θ_run (Cert.FpropIdeal.defs (F := Ideal)) (onTc (τ := Cert.FpropIdeal.τ) (Cert.FpropIdeal.main (F := Ideal))) ⟨m, fun _ => 0, g⟩ (fun r => (∀ c : Dev Cert.FpropIdeal.nD,
      r.2.mem ((c.tc : Thread Cert.FpropIdeal.nD Cert.FpropIdeal.τ).loc Cert.FpropIdeal.main_arg0) = m ((c.tc : Thread Cert.FpropIdeal.nD Cert.FpropIdeal.τ).loc Cert.FpropIdeal.main_arg0)
      ∧ r.2.mem ((c.tc : Thread Cert.FpropIdeal.nD Cert.FpropIdeal.τ).loc Cert.FpropIdeal.main_arg1) = m ((c.tc : Thread Cert.FpropIdeal.nD Cert.FpropIdeal.τ).loc Cert.FpropIdeal.main_arg1))
      ∧ r.2.sem = fun _ => 0)

def quiescent_FReferenceIdeal [hFReferenceIdeal : Cert.FReferenceIdeal.Facts] : Prop :=
  ∀ (m : (ℓ : Loc Cert.FReferenceIdeal.nD Cert.FReferenceIdeal.τ Cert.FReferenceIdeal.sig) → Buf (Elt Ideal) ℓ) (g : Dev Cert.FReferenceIdeal.nD → PrngReg), Pre_FReferenceIdeal m →
    θ_run (Cert.FReferenceIdeal.defs (F := Ideal)) (onTc (τ := Cert.FReferenceIdeal.τ) (Cert.FReferenceIdeal.main (F := Ideal))) ⟨m, fun _ => 0, g⟩ (fun r => (∀ c : Dev Cert.FReferenceIdeal.nD,
      r.2.mem ((c.tc : Thread Cert.FReferenceIdeal.nD Cert.FReferenceIdeal.τ).loc Cert.FReferenceIdeal.main_arg0) = m ((c.tc : Thread Cert.FReferenceIdeal.nD Cert.FReferenceIdeal.τ).loc Cert.FReferenceIdeal.main_arg0)
      ∧ r.2.mem ((c.tc : Thread Cert.FReferenceIdeal.nD Cert.FReferenceIdeal.τ).loc Cert.FReferenceIdeal.main_arg1) = m ((c.tc : Thread Cert.FReferenceIdeal.nD Cert.FReferenceIdeal.τ).loc Cert.FReferenceIdeal.main_arg1))
      ∧ r.2.sem = fun _ => 0)

def quiescent_FReferenceIdeal_pre_w_in_range [hFReferenceIdeal : Cert.FReferenceIdeal.Facts] [hPre_w_in_range : Cert.Pre_w_in_range.Facts] : Prop :=
  ∀ (m : (ℓ : Loc Cert.FReferenceIdeal.nD Cert.FReferenceIdeal.τ Cert.FReferenceIdeal.sig) → Buf (Elt Ideal) ℓ) (g : Dev Cert.FReferenceIdeal.nD → PrngReg), Pre_FReferenceIdeal_w_in_range m →
    θ_run (Cert.FReferenceIdeal.defs (F := Ideal)) (onTc (τ := Cert.FReferenceIdeal.τ) (Cert.FReferenceIdeal.main (F := Ideal))) ⟨m, fun _ => 0, g⟩ (fun r => (∀ c : Dev Cert.FReferenceIdeal.nD,
      r.2.mem ((c.tc : Thread Cert.FReferenceIdeal.nD Cert.FReferenceIdeal.τ).loc Cert.FReferenceIdeal.main_arg0) = m ((c.tc : Thread Cert.FReferenceIdeal.nD Cert.FReferenceIdeal.τ).loc Cert.FReferenceIdeal.main_arg0)
      ∧ r.2.mem ((c.tc : Thread Cert.FReferenceIdeal.nD Cert.FReferenceIdeal.τ).loc Cert.FReferenceIdeal.main_arg1) = m ((c.tc : Thread Cert.FReferenceIdeal.nD Cert.FReferenceIdeal.τ).loc Cert.FReferenceIdeal.main_arg1))
      ∧ r.2.sem = fun _ => 0)

def preserves_Kernel_KernelIdeal : Prop :=
  IdealRules.bf16_pair.Statement Cert.KernelIdeal.S16x512 Cert.KernelIdeal.S8x512

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Xquant_XquantIdeal : Prop :=
  IdealRules.bf16_pair.Statement Cert.XquantIdeal.S16x512 Cert.XquantIdeal.S8x512

def algebraic_XquantIdeal_XReferenceIdeal_pre_x_in_range [hXquantIdeal : Cert.XquantIdeal.Facts] [hXReferenceIdeal : Cert.XReferenceIdeal.Facts] [hPre_x_in_range : Cert.Pre_x_in_range.Facts] : Prop :=
  ∀ (m : (ℓ : Loc Cert.XquantIdeal.nD Cert.XquantIdeal.τ Cert.XquantIdeal.sig) → Buf (Elt Ideal) ℓ) (g : Dev Cert.XquantIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_XquantIdeal_x_in_range m →
    (∀ c : Dev Cert.XquantIdeal.nD,
      m' ((c.tc : Thread Cert.XReferenceIdeal.nD Cert.XReferenceIdeal.τ).loc Cert.XReferenceIdeal.main_arg0) = m ((c.tc : Thread Cert.XquantIdeal.nD Cert.XquantIdeal.τ).loc Cert.XquantIdeal.main_arg0)) →
    ∃ (v0 : (c : Dev Cert.XquantIdeal.nD) → Buf (Elt Ideal) ((c.tc : Thread Cert.XquantIdeal.nD Cert.XquantIdeal.τ).loc Cert.XquantIdeal.main_v0_0)) (v1 : (c : Dev Cert.XquantIdeal.nD) → Buf (Elt Ideal) ((c.tc : Thread Cert.XquantIdeal.nD Cert.XquantIdeal.τ).loc Cert.XquantIdeal.main_v0_1)) (v2 : (c : Dev Cert.XquantIdeal.nD) → Buf (Elt Ideal) ((c.tc : Thread Cert.XquantIdeal.nD Cert.XquantIdeal.τ).loc Cert.XquantIdeal.main_v0_2)) (v3 : (c : Dev Cert.XquantIdeal.nD) → Buf (Elt Ideal) ((c.tc : Thread Cert.XquantIdeal.nD Cert.XquantIdeal.τ).loc Cert.XquantIdeal.main_v0_3)) (v4 : (c : Dev Cert.XquantIdeal.nD) → Buf (Elt Ideal) ((c.tc : Thread Cert.XquantIdeal.nD Cert.XquantIdeal.τ).loc Cert.XquantIdeal.main_v0_4)) (v5 : (c : Dev Cert.XquantIdeal.nD) → Buf (Elt Ideal) ((c.tc : Thread Cert.XquantIdeal.nD Cert.XquantIdeal.τ).loc Cert.XquantIdeal.main_v0_5)),
      θ_run (Cert.XquantIdeal.defs (F := Ideal)) (onTc (τ := Cert.XquantIdeal.τ) (Cert.XquantIdeal.main (F := Ideal))) ⟨m, fun _ => 0, g⟩ (fun r => ∀ c : Dev Cert.XquantIdeal.nD,
          r.2.mem ((c.tc : Thread Cert.XquantIdeal.nD Cert.XquantIdeal.τ).loc Cert.XquantIdeal.main_v0_0) = v0 c
          ∧ r.2.mem ((c.tc : Thread Cert.XquantIdeal.nD Cert.XquantIdeal.τ).loc Cert.XquantIdeal.main_v0_1) = v1 c
          ∧ r.2.mem ((c.tc : Thread Cert.XquantIdeal.nD Cert.XquantIdeal.τ).loc Cert.XquantIdeal.main_v0_2) = v2 c
          ∧ r.2.mem ((c.tc : Thread Cert.XquantIdeal.nD Cert.XquantIdeal.τ).loc Cert.XquantIdeal.main_v0_3) = v3 c
          ∧ r.2.mem ((c.tc : Thread Cert.XquantIdeal.nD Cert.XquantIdeal.τ).loc Cert.XquantIdeal.main_v0_4) = v4 c
          ∧ r.2.mem ((c.tc : Thread Cert.XquantIdeal.nD Cert.XquantIdeal.τ).loc Cert.XquantIdeal.main_v0_5) = v5 c
          ∧ r.2.mem ((c.tc : Thread Cert.XquantIdeal.nD Cert.XquantIdeal.τ).loc Cert.XquantIdeal.main_arg0) = m ((c.tc : Thread Cert.XquantIdeal.nD Cert.XquantIdeal.τ).loc Cert.XquantIdeal.main_arg0))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v0_0) = v0 c
          ∧ r.2.mem ((c.tc : Thread Cert.XReferenceIdeal.nD Cert.XReferenceIdeal.τ).loc Cert.XReferenceIdeal.main_v0_1) = v1 c
          ∧ r.2.mem ((c.tc : Thread Cert.XReferenceIdeal.nD Cert.XReferenceIdeal.τ).loc Cert.XReferenceIdeal.main_v0_2) = v2 c
          ∧ r.2.mem ((c.tc : Thread Cert.XReferenceIdeal.nD Cert.XReferenceIdeal.τ).loc Cert.XReferenceIdeal.main_v0_3) = v3 c
          ∧ r.2.mem ((c.tc : Thread Cert.XReferenceIdeal.nD Cert.XReferenceIdeal.τ).loc Cert.XReferenceIdeal.main_v0_4) = v4 c
          ∧ r.2.mem ((c.tc : Thread Cert.XReferenceIdeal.nD Cert.XReferenceIdeal.τ).loc Cert.XReferenceIdeal.main_v0_5) = v5 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0))

def algebraic_FpropIdeal_FReferenceIdeal_pre_w_in_range [hFpropIdeal : Cert.FpropIdeal.Facts] [hFReferenceIdeal : Cert.FReferenceIdeal.Facts] [hPre_w_in_range : Cert.Pre_w_in_range.Facts] : Prop :=
  ∀ (m : (ℓ : Loc Cert.FpropIdeal.nD Cert.FpropIdeal.τ Cert.FpropIdeal.sig) → Buf (Elt Ideal) ℓ) (g : Dev Cert.FpropIdeal.nD → PrngReg)
    (m' : (ℓ : Loc Cert.FReferenceIdeal.nD Cert.FReferenceIdeal.τ Cert.FReferenceIdeal.sig) → Buf (Elt Ideal) ℓ) (g' : Dev Cert.FReferenceIdeal.nD → PrngReg), Pre_FpropIdeal_w_in_range m →
    (∀ c : Dev Cert.FpropIdeal.nD,
      m' ((c.tc : Thread Cert.FReferenceIdeal.nD Cert.FReferenceIdeal.τ).loc Cert.FReferenceIdeal.main_arg0) = m ((c.tc : Thread Cert.FpropIdeal.nD Cert.FpropIdeal.τ).loc Cert.FpropIdeal.main_arg0)
      ∧ m' ((c.tc : Thread Cert.FReferenceIdeal.nD Cert.FReferenceIdeal.τ).loc Cert.FReferenceIdeal.main_arg1) = m ((c.tc : Thread Cert.FpropIdeal.nD Cert.FpropIdeal.τ).loc Cert.FpropIdeal.main_arg1)) →
    ∃ (v0 : (c : Dev Cert.FpropIdeal.nD) → Buf (Elt Ideal) ((c.tc : Thread Cert.FpropIdeal.nD Cert.FpropIdeal.τ).loc Cert.FpropIdeal.main_v0_0)) (v1 : (c : Dev Cert.FpropIdeal.nD) → Buf (Elt Ideal) ((c.tc : Thread Cert.FpropIdeal.nD Cert.FpropIdeal.τ).loc Cert.FpropIdeal.main_v0_1)) (v2 : (c : Dev Cert.FpropIdeal.nD) → Buf (Elt Ideal) ((c.tc : Thread Cert.FpropIdeal.nD Cert.FpropIdeal.τ).loc Cert.FpropIdeal.main_v0_2)),
      θ_run (Cert.FpropIdeal.defs (F := Ideal)) (onTc (τ := Cert.FpropIdeal.τ) (Cert.FpropIdeal.main (F := Ideal))) ⟨m, fun _ => 0, g⟩ (fun r => ∀ c : Dev Cert.FpropIdeal.nD,
          r.2.mem ((c.tc : Thread Cert.FpropIdeal.nD Cert.FpropIdeal.τ).loc Cert.FpropIdeal.main_v0_0) = v0 c
          ∧ r.2.mem ((c.tc : Thread Cert.FpropIdeal.nD Cert.FpropIdeal.τ).loc Cert.FpropIdeal.main_v0_1) = v1 c
          ∧ r.2.mem ((c.tc : Thread Cert.FpropIdeal.nD Cert.FpropIdeal.τ).loc Cert.FpropIdeal.main_v0_2) = v2 c
          ∧ r.2.mem ((c.tc : Thread Cert.FpropIdeal.nD Cert.FpropIdeal.τ).loc Cert.FpropIdeal.main_arg0) = m ((c.tc : Thread Cert.FpropIdeal.nD Cert.FpropIdeal.τ).loc Cert.FpropIdeal.main_arg0)
          ∧ r.2.mem ((c.tc : Thread Cert.FpropIdeal.nD Cert.FpropIdeal.τ).loc Cert.FpropIdeal.main_arg1) = m ((c.tc : Thread Cert.FpropIdeal.nD Cert.FpropIdeal.τ).loc Cert.FpropIdeal.main_arg1))
      ∧ θ_run (Cert.FReferenceIdeal.defs (F := Ideal)) (onTc (τ := Cert.FReferenceIdeal.τ) (Cert.FReferenceIdeal.main (F := Ideal))) ⟨m', fun _ => 0, g'⟩ (fun r => ∀ c : Dev Cert.FReferenceIdeal.nD,
          r.2.mem ((c.tc : Thread Cert.FReferenceIdeal.nD Cert.FReferenceIdeal.τ).loc Cert.FReferenceIdeal.main_v0_0) = v0 c
          ∧ r.2.mem ((c.tc : Thread Cert.FReferenceIdeal.nD Cert.FReferenceIdeal.τ).loc Cert.FReferenceIdeal.main_v0_1) = v1 c
          ∧ r.2.mem ((c.tc : Thread Cert.FReferenceIdeal.nD Cert.FReferenceIdeal.τ).loc Cert.FReferenceIdeal.main_v0_2) = v2 c
          ∧ r.2.mem ((c.tc : Thread Cert.FReferenceIdeal.nD Cert.FReferenceIdeal.τ).loc Cert.FReferenceIdeal.main_arg0) = m' ((c.tc : Thread Cert.FReferenceIdeal.nD Cert.FReferenceIdeal.τ).loc Cert.FReferenceIdeal.main_arg0)
          ∧ r.2.mem ((c.tc : Thread Cert.FReferenceIdeal.nD Cert.FReferenceIdeal.τ).loc Cert.FReferenceIdeal.main_arg1) = m' ((c.tc : Thread Cert.FReferenceIdeal.nD Cert.FReferenceIdeal.τ).loc Cert.FReferenceIdeal.main_arg1))

def Claim : Prop :=
  ∃ (hKernel : Cert.Kernel.Facts) (hKernelIdeal : Cert.KernelIdeal.Facts) (hReferenceIdeal : Cert.ReferenceIdeal.Facts) (hXquant : Cert.Xquant.Facts) (hXquantIdeal : Cert.XquantIdeal.Facts) (hXReferenceIdeal : Cert.XReferenceIdeal.Facts) (hFpropIdeal : Cert.FpropIdeal.Facts) (hFReferenceIdeal : Cert.FReferenceIdeal.Facts) (hPre_in_range : Cert.Pre_in_range.Facts) (hPre_x_in_range : Cert.Pre_x_in_range.Facts) (hPre_w_in_range : Cert.Pre_w_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Xquant (hXquant := hXquant)
    ∧ quiescent_XquantIdeal (hXquantIdeal := hXquantIdeal)
    ∧ quiescent_XquantIdeal_pre_x_in_range (hXquantIdeal := hXquantIdeal) (hPre_x_in_range := hPre_x_in_range)
    ∧ quiescent_XReferenceIdeal (hXReferenceIdeal := hXReferenceIdeal)
    ∧ quiescent_XReferenceIdeal_pre_x_in_range (hXReferenceIdeal := hXReferenceIdeal) (hPre_x_in_range := hPre_x_in_range)
    ∧ quiescent_FpropIdeal (hFpropIdeal := hFpropIdeal)
    ∧ quiescent_FpropIdeal_pre_w_in_range (hFpropIdeal := hFpropIdeal) (hPre_w_in_range := hPre_w_in_range)
    ∧ quiescent_FReferenceIdeal (hFReferenceIdeal := hFReferenceIdeal)
    ∧ quiescent_FReferenceIdeal_pre_w_in_range (hFReferenceIdeal := hFReferenceIdeal) (hPre_w_in_range := hPre_w_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_Xquant_XquantIdeal
    ∧ algebraic_XquantIdeal_XReferenceIdeal_pre_x_in_range (hXquantIdeal := hXquantIdeal) (hXReferenceIdeal := hXReferenceIdeal) (hPre_x_in_range := hPre_x_in_range)
    ∧ algebraic_FpropIdeal_FReferenceIdeal_pre_w_in_range (hFpropIdeal := hFpropIdeal) (hFReferenceIdeal := hFReferenceIdeal) (hPre_w_in_range := hPre_w_in_range)
-- ==== Pre_in_range.lean ====
abbrev S1920x18944 : Shape := ⟨2, ![1920, 18944]⟩
abbrev S1920x3584 : Shape := ⟨2, ![1920, 3584]⟩
abbrev S60x32x18944 : Shape := ⟨3, ![60, 32, 18944]⟩
abbrev S_ : Shape := ⟨0, ![]⟩
abbrev S60x18944 : Shape := ⟨2, ![60, 18944]⟩

class Facts : Prop where
  bitsLt_bf16_f32 : FTy.bits .bf16 < FTy.bits .f32
  shapeCasts_S1920x18944_S60x32x18944 : S1920x18944.ShapeCasts S60x32x18944
  reducesTo_S60x32x18944_S60x18944_d1 : S60x32x18944.ReducesTo [1] S60x18944
  h_S_ : 0 < S_.numel
  bcast_S_S60x18944 : S_.BroadcastsInDim S60x18944 (![] : Fin 0 → Fin S60x18944.rank)
  reducesTo_S60x18944_S_d0_1 : S60x18944.ReducesTo [0, 1] S_

variable [Facts]

def fn {F : FTy → Type} [FloatOps F] (main_arg0 : FVec F S1920x18944 .bf16) (main_arg1 : FVec F S1920x3584 .bf16) : IVec S_ 1 :=
  let main_v0 : FVec F S1920x18944 .f32 := (extf .f32 · bitsLt_bf16_f32) main_arg0
  let main_v1 : FVec F S1920x18944 .f32 := Host.absf main_v0
  let main_v2 : FVec F S60x32x18944 .f32 := shapeCast S60x32x18944 main_v1 shapeCasts_S1920x18944_S60x32x18944
  let main_cst : FVec F S_ .f32 := constant S_ .f32 0xFF800000#32
  let main_v3 : FVec F S60x18944 .f32 := (fun x v => Host.reduce FloatOps.maximumf x v reducesTo_S60x32x18944_S60x18944_d1 h_S_) main_v2 main_cst
  let main_cst_0 : FVec F S_ .f32 := constant S_ .f32 0x00000000#32
  let main_v4 : FVec F S60x18944 .f32 := broadcastInDim S60x18944 ![] bcast_S_S60x18944 main_cst_0
  let main_v5 : IVec S60x18944 1 := cmpf .oeq main_v3 main_v4
  let main_cst_1 : FVec F S_ .f32 := constant S_ .f32 0x04000000#32
  let main_v6 : FVec F S60x18944 .f32 := broadcastInDim S60x18944 ![] bcast_S_S60x18944 main_cst_1
  let main_v7 : IVec S60x18944 1 := cmpf .oge main_v3 main_v6
  let main_cst_2 : FVec F S_ .f32 := constant S_ .f32 0x7F7F0000#32
  let main_v8 : FVec F S60x18944 .f32 := broadcastInDim S60x18944 ![] bcast_S_S60x18944 main_cst_2
  let main_v9 : IVec S60x18944 1 := cmpf .ole main_v3 main_v8
  let main_v10 : IVec S60x18944 1 := andi main_v7 main_v9
  let main_v11 : IVec S60x18944 1 := ori main_v5 main_v10
  let main_c : IVec S_ 1 := constantI S_ 1 1#1
  let main_v12 : IVec S_ 1 := (fun x v => Host.reduce IntOp.andi x v reducesTo_S60x18944_S_d0_1 h_S_) main_v11 main_c
  main_v12
-- ==== Pre_w_in_range.lean ====
abbrev S1920x3584 : Shape := ⟨2, ![1920, 3584]⟩
abbrev S18944x3584 : Shape := ⟨2, ![18944, 3584]⟩
abbrev S18944x112x32 : Shape := ⟨3, ![18944, 112, 32]⟩
abbrev S_ : Shape := ⟨0, ![]⟩
abbrev S18944x112 : Shape := ⟨2, ![18944, 112]⟩

class Facts : Prop where
  bitsLt_bf16_f32 : FTy.bits .bf16 < FTy.bits .f32
  shapeCasts_S18944x3584_S18944x112x32 : S18944x3584.ShapeCasts S18944x112x32
  reducesTo_S18944x112x32_S18944x112_d2 : S18944x112x32.ReducesTo [2] S18944x112
  h_S_ : 0 < S_.numel
  bcast_S_S18944x112 : S_.BroadcastsInDim S18944x112 (![] : Fin 0 → Fin S18944x112.rank)
  reducesTo_S18944x112_S_d0_1 : S18944x112.ReducesTo [0, 1] S_

variable [Facts]

def fn {F : FTy → Type} [FloatOps F] (main_arg0 : FVec F S1920x3584 .bf16) (main_arg1 : FVec F S18944x3584 .bf16) : IVec S_ 1 :=
  let main_v0 : FVec F S18944x3584 .f32 := (extf .f32 · bitsLt_bf16_f32) main_arg1
  let main_v1 : FVec F S18944x3584 .f32 := Host.absf main_v0
  let main_v2 : FVec F S18944x112x32 .f32 := shapeCast S18944x112x32 main_v1 shapeCasts_S18944x3584_S18944x112x32
  let main_cst : FVec F S_ .f32 := constant S_ .f32 0xFF800000#32
  let main_v3 : FVec F S18944x112 .f32 := (fun x v => Host.reduce FloatOps.maximumf x v reducesTo_S18944x112x32_S18944x112_d2 h_S_) main_v2 main_cst
  let main_cst_0 : FVec F S_ .f32 := constant S_ .f32 0x00000000#32
  let main_v4 : FVec F S18944x112 .f32 := broadcastInDim S18944x112 ![] bcast_S_S18944x112 main_cst_0
  let main_v5 : IVec S18944x112 1 := cmpf .oeq main_v3 main_v4
  let main_cst_1 : FVec F S_ .f32 := constant S_ .f32 0x04000000#32
  let main_v6 : FVec F S18944x112 .f32 := broadcastInDim S18944x112 ![] bcast_S_S18944x112 main_cst_1
  let main_v7 : IVec S18944x112 1 := cmpf .oge main_v3 main_v6
  let main_cst_2 : FVec F S_ .f32 := constant S_ .f32 0x7F7F0000#32
  let main_v8 : FVec F S18944x112 .f32 := broadcastInDim S18944x112 ![] bcast_S_S18944x112 main_cst_2
  let main_v9 : IVec S18944x112 1 := cmpf .ole main_v3 main_v8
  let main_v10 : IVec S18944x112 1 := andi main_v7 main_v9
  let main_v11 : IVec S18944x112 1 := ori main_v5 main_v10
  let main_c : IVec S_ 1 := constantI S_ 1 1#1
  let main_v12 : IVec S_ 1 := (fun x v => Host.reduce IntOp.andi x v reducesTo_S18944x112_S_d0_1 h_S_) main_v11 main_c
  main_v12
-- ==== Pre_x_in_range.lean ====
abbrev S1920x3584 : Shape := ⟨2, ![1920, 3584]⟩
abbrev S1920x112x32 : Shape := ⟨3, ![1920, 112, 32]⟩
abbrev S_ : Shape := ⟨0, ![]⟩
abbrev S1920x112 : Shape := ⟨2, ![1920, 112]⟩
abbrev S60x32x3584 : Shape := ⟨3, ![60, 32, 3584]⟩
abbrev S60x3584 : Shape := ⟨2, ![60, 3584]⟩

class Facts : Prop where
  bitsLt_bf16_f32 : FTy.bits .bf16 < FTy.bits .f32
  shapeCasts_S1920x3584_S1920x112x32 : S1920x3584.ShapeCasts S1920x112x32
  reducesTo_S1920x112x32_S1920x112_d2 : S1920x112x32.ReducesTo [2] S1920x112
  h_S_ : 0 < S_.numel
  shapeCasts_S1920x3584_S60x32x3584 : S1920x3584.ShapeCasts S60x32x3584
  reducesTo_S60x32x3584_S60x3584_d1 : S60x32x3584.ReducesTo [1] S60x3584
  bcast_S_S1920x112 : S_.BroadcastsInDim S1920x112 (![] : Fin 0 → Fin S1920x112.rank)
  reducesTo_S1920x112_S_d0_1 : S1920x112.ReducesTo [0, 1] S_
  bcast_S_S60x3584 : S_.BroadcastsInDim S60x3584 (![] : Fin 0 → Fin S60x3584.rank)
  reducesTo_S60x3584_S_d0_1 : S60x3584.ReducesTo [0, 1] S_

variable [Facts]

def fn_part1 {F : FTy → Type} [FloatOps F] (main_v5 : FVec F S60x3584 .f32) (main_v14 : IVec S_ 1) (main_v16 : IVec S60x3584 1) : IVec S_ 1 :=
  let main_cst_5 : FVec F S_ .f32 := constant S_ .f32 0x04000000#32
  let main_v17 : FVec F S60x3584 .f32 := broadcastInDim S60x3584 ![] bcast_S_S60x3584 main_cst_5
  let main_v18 : IVec S60x3584 1 := cmpf .oge main_v5 main_v17
  let main_cst_6 : FVec F S_ .f32 := constant S_ .f32 0x7F7F0000#32
  let main_v19 : FVec F S60x3584 .f32 := broadcastInDim S60x3584 ![] bcast_S_S60x3584 main_cst_6
  let main_v20 : IVec S60x3584 1 := cmpf .ole main_v5 main_v19
  let main_v21 : IVec S60x3584 1 := andi main_v18 main_v20
  let main_v22 : IVec S60x3584 1 := ori main_v16 main_v21
  let main_c_7 : IVec S_ 1 := constantI S_ 1 1#1
  let main_v23 : IVec S_ 1 := (fun x v => Host.reduce IntOp.andi x v reducesTo_S60x3584_S_d0_1 h_S_) main_v22 main_c_7
  let main_v24 : IVec S_ 1 := andi main_v14 main_v23
  main_v24

def fn {F : FTy → Type} [FloatOps F] (main_arg0 : FVec F S1920x3584 .bf16) : IVec S_ 1 :=
  let main_v0 : FVec F S1920x3584 .f32 := (extf .f32 · bitsLt_bf16_f32) main_arg0
  let main_v1 : FVec F S1920x3584 .f32 := Host.absf main_v0
  let main_v2 : FVec F S1920x112x32 .f32 := shapeCast S1920x112x32 main_v1 shapeCasts_S1920x3584_S1920x112x32
  let main_cst : FVec F S_ .f32 := constant S_ .f32 0xFF800000#32
  let main_v3 : FVec F S1920x112 .f32 := (fun x v => Host.reduce FloatOps.maximumf x v reducesTo_S1920x112x32_S1920x112_d2 h_S_) main_v2 main_cst
  let main_v4 : FVec F S60x32x3584 .f32 := shapeCast S60x32x3584 main_v1 shapeCasts_S1920x3584_S60x32x3584
  let main_cst_0 : FVec F S_ .f32 := constant S_ .f32 0xFF800000#32
  let main_v5 : FVec F S60x3584 .f32 := (fun x v => Host.reduce FloatOps.maximumf x v reducesTo_S60x32x3584_S60x3584_d1 h_S_) main_v4 main_cst_0
  let main_cst_1 : FVec F S_ .f32 := constant S_ .f32 0x00000000#32
  let main_v6 : FVec F S1920x112 .f32 := broadcastInDim S1920x112 ![] bcast_S_S1920x112 main_cst_1
  let main_v7 : IVec S1920x112 1 := cmpf .oeq main_v3 main_v6
  let main_cst_2 : FVec F S_ .f32 := constant S_ .f32 0x04000000#32
  let main_v8 : FVec F S1920x112 .f32 := broadcastInDim S1920x112 ![] bcast_S_S1920x112 main_cst_2
  let main_v9 : IVec S1920x112 1 := cmpf .oge main_v3 main_v8
  let main_cst_3 : FVec F S_ .f32 := constant S_ .f32 0x7F7F0000#32
  let main_v10 : FVec F S1920x112 .f32 := broadcastInDim S1920x112 ![] bcast_S_S1920x112 main_cst_3
  let main_v11 : IVec S1920x112 1 := cmpf .ole main_v3 main_v10
  let main_v12 : IVec S1920x112 1 := andi main_v9 main_v11
  let main_v13 : IVec S1920x112 1 := ori main_v7 main_v12
  let main_c : IVec S_ 1 := constantI S_ 1 1#1
  let main_v14 : IVec S_ 1 := (fun x v => Host.reduce IntOp.andi x v reducesTo_S1920x112_S_d0_1 h_S_) main_v13 main_c
  let main_cst_4 : FVec F S_ .f32 := constant S_ .f32 0x00000000#32
  let main_v15 : FVec F S60x3584 .f32 := broadcastInDim S60x3584 ![] bcast_S_S60x3584 main_cst_4
  let main_v16 : IVec S60x3584 1 := cmpf .oeq main_v5 main_v15
  fn_part1 (F := F) main_v5 main_v14 main_v16
-- ==== Kernel.lean ====
abbrev S1920x18944 : Shape := ⟨2, ![1920, 18944]⟩
abbrev S1920x3584 : Shape := ⟨2, ![1920, 3584]⟩
abbrev S18944x3584 : Shape := ⟨2, ![18944, 3584]⟩
abbrev S3x20x18944 : Shape := ⟨3, ![3, 20, 18944]⟩
abbrev S1920x512 : Shape := ⟨2, ![1920, 512]⟩
abbrev S512x3584 : Shape := ⟨2, ![512, 3584]⟩
abbrev S3x20x512 : Shape := ⟨3, ![3, 20, 512]⟩
abbrev S2x512x1920 : Shape := ⟨3, ![2, 512, 1920]⟩
abbrev S3x24x512 : Shape := ⟨3, ![3, 24, 512]⟩
abbrev S32x512 : Shape := ⟨2, ![32, 512]⟩
abbrev S16x512 : Shape := ⟨2, ![16, 512]⟩
abbrev S8x512 : Shape := ⟨2, ![8, 512]⟩
abbrev S1x512 : Shape := ⟨2, ![1, 512]⟩
abbrev S1x1x512 : Shape := ⟨3, ![1, 1, 512]⟩
abbrev S128x512 : Shape := ⟨2, ![128, 512]⟩
abbrev S512x128 : Shape := ⟨2, ![512, 128]⟩
abbrev S1x512x128 : Shape := ⟨3, ![1, 512, 128]⟩
abbrev S1x20x512 : Shape := ⟨3, ![1, 20, 512]⟩
abbrev S20x512 : Shape := ⟨2, ![20, 512]⟩
abbrev S1x512x1920 : Shape := ⟨3, ![1, 512, 1920]⟩
abbrev S512x1920 : Shape := ⟨2, ![512, 1920]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S1920x18944, .bf16⟩
  | .hbm, ⟨1, _⟩ => ⟨S1920x3584, .bf16⟩
  | .hbm, ⟨2, _⟩ => ⟨S18944x3584, .f32⟩
  | .hbm, ⟨3, _⟩ => ⟨S1920x18944, .fp8e4m3⟩
  | .hbm, ⟨4, _⟩ => ⟨S3x20x18944, .i8⟩
  | .local _ .vmem, ⟨0, _⟩ => ⟨S1920x512, .bf16⟩
  | .local _ .vmem, ⟨1, _⟩ => ⟨S1920x512, .bf16⟩
  | .local _ .vmem, ⟨2, _⟩ => ⟨S1920x3584, .bf16⟩
  | .local _ .vmem, ⟨3, _⟩ => ⟨S512x3584, .f32⟩
  | .local _ .vmem, ⟨4, _⟩ => ⟨S512x3584, .f32⟩
  | .local _ .vmem, ⟨5, _⟩ => ⟨S1920x512, .fp8e4m3⟩
  | .local _ .vmem, ⟨6, _⟩ => ⟨S1920x512, .fp8e4m3⟩
  | .local _ .vmem, ⟨7, _⟩ => ⟨S3x20x512, .i8⟩
  | .local _ .vmem, ⟨8, _⟩ => ⟨S3x20x512, .i8⟩
  | .local _ .vmem, ⟨9, _⟩ => ⟨S2x512x1920, .bf16⟩
  | .local _ .vmem, ⟨10, _⟩ => ⟨S3x24x512, .i32⟩
  | _, _ => ⟨S1920x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![38], ![false]⟩

def k0_cond1 (i : grid0.Coords) : BitVec 1 :=
  let arg0 : BitVec 32 := BitVec.ofNat 32 (i 0).val
  let c0_i32_15 : BitVec 32 := 0#32
  let v53 : BitVec 1 := Scalar.cmpi .eq arg0 c0_i32_15
  let v54 : BitVec 32 := Scalar.extui v53
  let c0_i32_16 : BitVec 32 := 0#32
  let v55 : BitVec 1 := Scalar.cmpi .ne v54 c0_i32_16
  v55

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v277 : Index := Scalar.indexCast v9
  let c0_97 : Index := 0#32
  let c0_98 : Index := 0#32
  ![v277.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v499 : Index := Scalar.indexCast v9
  let c0_179 : Index := 0#32
  let c128_180 : Index := 128#32
  ![v499.toNat, 0, 128]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v721 : Index := Scalar.indexCast v9
  let c0_261 : Index := 0#32
  let c256_262 : Index := 256#32
  ![v721.toNat, 0, 256]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v943 : Index := Scalar.indexCast v9
  let c0_343 : Index := 0#32
  let c384_344 : Index := 384#32
  ![v943.toNat, 0, 384]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1165 : Index := Scalar.indexCast v9
  let c0_425 : Index := 0#32
  let c512_426 : Index := 512#32
  ![v1165.toNat, 0, 512]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1387 : Index := Scalar.indexCast v9
  let c0_511 : Index := 0#32
  let c640_512 : Index := 640#32
  ![v1387.toNat, 0, 640]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1609 : Index := Scalar.indexCast v9
  let c0_597 : Index := 0#32
  let c768_598 : Index := 768#32
  ![v1609.toNat, 0, 768]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1831 : Index := Scalar.indexCast v9
  let c0_683 : Index := 0#32
  let c896_684 : Index := 896#32
  ![v1831.toNat, 0, 896]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2053 : Index := Scalar.indexCast v9
  let c0_769 : Index := 0#32
  let c1024_770 : Index := 1024#32
  ![v2053.toNat, 0, 1024]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2275 : Index := Scalar.indexCast v9
  let c0_855 : Index := 0#32
  let c1152_856 : Index := 1152#32
  ![v2275.toNat, 0, 1152]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2497 : Index := Scalar.indexCast v9
  let c0_941 : Index := 0#32
  let c1280_942 : Index := 1280#32
  ![v2497.toNat, 0, 1280]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2719 : Index := Scalar.indexCast v9
  let c0_1027 : Index := 0#32
  let c1408_1028 : Index := 1408#32
  ![v2719.toNat, 0, 1408]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2941 : Index := Scalar.indexCast v9
  let c0_1113 : Index := 0#32
  let c1536_1114 : Index := 1536#32
  ![v2941.toNat, 0, 1536]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3163 : Index := Scalar.indexCast v9
  let c0_1199 : Index := 0#32
  let c1664_1200 : Index := 1664#32
  ![v3163.toNat, 0, 1664]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3385 : Index := Scalar.indexCast v9
  let c0_1285 : Index := 0#32
  let c1792_1286 : Index := 1792#32
  ![v3385.toNat, 0, 1792]
def k0_cond2 (i : grid0.Coords) : BitVec 1 :=
  let arg0 : BitVec 32 := BitVec.ofNat 32 (i 0).val
  let c0_i32_17 : BitVec 32 := 0#32
  let v56 : BitVec 1 := Scalar.cmpi .sgt arg0 c0_i32_17
  let v57 : BitVec 32 := Scalar.extui v56
  let c0_i32_18 : BitVec 32 := 0#32
  let v58 : BitVec 1 := Scalar.cmpi .ne v57 c0_i32_18
  v58

def k0_off16 (i : grid0.Coords) : Fin 3 → Nat :=
  let c1_i32_19 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v59 : BitVec 32 := Scalar.subi c1_i32_19 v9
  let v60 : Index := Scalar.indexCast v59
  let c0_20 : Index := 0#32
  let c0_21 : Index := 0#32
  ![v60.toNat, 0, 0]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v284 : Index := Scalar.indexCast v9
  let c0_105 : Index := 0#32
  let c0_106 : Index := 0#32
  ![v284.toNat, 0, 0]
def k0_off18 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v506 : Index := Scalar.indexCast v9
  let c0_187 : Index := 0#32
  let c128_188 : Index := 128#32
  ![v506.toNat, 0, 128]
def k0_off19 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v735 : Index := Scalar.indexCast v9
  let c0_276 : Index := 0#32
  let c256_277 : Index := 256#32
  ![v735.toNat, 0, 256]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v957 : Index := Scalar.indexCast v9
  let c0_358 : Index := 0#32
  let c384_359 : Index := 384#32
  ![v957.toNat, 0, 384]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1186 : Index := Scalar.indexCast v9
  let c0_448 : Index := 0#32
  let c512_449 : Index := 512#32
  ![v1186.toNat, 0, 512]
def k0_off22 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1408 : Index := Scalar.indexCast v9
  let c0_534 : Index := 0#32
  let c640_535 : Index := 640#32
  ![v1408.toNat, 0, 640]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1637 : Index := Scalar.indexCast v9
  let c0_627 : Index := 0#32
  let c768_628 : Index := 768#32
  ![v1637.toNat, 0, 768]
def k0_off24 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1859 : Index := Scalar.indexCast v9
  let c0_713 : Index := 0#32
  let c896_714 : Index := 896#32
  ![v1859.toNat, 0, 896]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2088 : Index := Scalar.indexCast v9
  let c0_807 : Index := 0#32
  let c1024_808 : Index := 1024#32
  ![v2088.toNat, 0, 1024]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2310 : Index := Scalar.indexCast v9
  let c0_893 : Index := 0#32
  let c1152_894 : Index := 1152#32
  ![v2310.toNat, 0, 1152]
def k0_off27 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2539 : Index := Scalar.indexCast v9
  let c0_986 : Index := 0#32
  let c1280_987 : Index := 1280#32
  ![v2539.toNat, 0, 1280]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2761 : Index := Scalar.indexCast v9
  let c0_1072 : Index := 0#32
  let c1408_1073 : Index := 1408#32
  ![v2761.toNat, 0, 1408]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2990 : Index := Scalar.indexCast v9
  let c0_1166 : Index := 0#32
  let c1536_1167 : Index := 1536#32
  ![v2990.toNat, 0, 1536]
def k0_off30 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3212 : Index := Scalar.indexCast v9
  let c0_1252 : Index := 0#32
  let c1664_1253 : Index := 1664#32
  ![v3212.toNat, 0, 1664]
def k0_off31 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3434 : Index := Scalar.indexCast v9
  let c0_1338 : Index := 0#32
  let c1792_1339 : Index := 1792#32
  ![v3434.toNat, 0, 1792]
def cc0_transform_0 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  let c0_i32_1 : BitVec 32 := 0#32
  ![c0_i32.toNat, c0_i32_0.toNat, v0.toNat]

abbrev stage0_0 : Fin 2 → Memref sig .tc .vmem S1920x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x20x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S1920x18944 : Shape := ⟨2, ![1920, 18944]⟩
abbrev S1920x3584 : Shape := ⟨2, ![1920, 3584]⟩
abbrev S18944x3584 : Shape := ⟨2, ![18944, 3584]⟩
abbrev S3x20x18944 : Shape := ⟨3, ![3, 20, 18944]⟩
abbrev S60x32x18944 : Shape := ⟨3, ![60, 32, 18944]⟩
abbrev S60x18944 : Shape := ⟨2, ![60, 18944]⟩
abbrev S60x1x18944 : Shape := ⟨3, ![60, 1, 18944]⟩

abbrev nBuf : Space → Nat
  | .hbm => 5
  | .vmem => 5
  | .smem => 0
  | _ => 0

abbrev bufTy : (tb : Table) → Fin (tcTables nBuf tb) → BufTy
  | .hbm, ⟨0, _⟩ => ⟨S1920x18944, .bf16⟩
  | .hbm, ⟨1, _⟩ => ⟨S1920x3584, .bf16⟩
  | .hbm, ⟨2, _⟩ => ⟨S18944x3584, .f32⟩
  | .hbm, ⟨3, _⟩ => ⟨S1920x18944, .fp8e4m3⟩
  | .hbm, ⟨4, _⟩ => ⟨S3x20x18944, .i8⟩
  | .local _ .vmem, ⟨0, _⟩ => ⟨S1920x18944, .bf16⟩
  | .local _ .vmem, ⟨1, _⟩ => ⟨S1920x3584, .bf16⟩
  | .local _ .vmem, ⟨2, _⟩ => ⟨S18944x3584, .f32⟩
  | .local _ .vmem, ⟨3, _⟩ => ⟨S1920x18944, .fp8e4m3⟩
  | .local _ .vmem, ⟨4, _⟩ => ⟨S3x20x18944, .i8⟩
  | _, _ => ⟨S1920x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x18944 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x20x18944 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Xquant.lean ====
abbrev S1920x3584 : Shape := ⟨2, ![1920, 3584]⟩
abbrev S1920x112 : Shape := ⟨2, ![1920, 112]⟩
abbrev S3x20x3584 : Shape := ⟨3, ![3, 20, 3584]⟩
abbrev S640x3584 : Shape := ⟨2, ![640, 3584]⟩
abbrev S640x112 : Shape := ⟨2, ![640, 112]⟩
abbrev S1x20x3584 : Shape := ⟨3, ![1, 20, 3584]⟩
abbrev S24x3584 : Shape := ⟨2, ![24, 3584]⟩
abbrev S16x128 : Shape := ⟨2, ![16, 128]⟩
abbrev S32x512 : Shape := ⟨2, ![32, 512]⟩
abbrev S32x128 : Shape := ⟨2, ![32, 128]⟩
abbrev S16x128x1 : Shape := ⟨3, ![16, 128, 1]⟩
abbrev S16x512 : Shape := ⟨2, ![16, 512]⟩
abbrev S8x512 : Shape := ⟨2, ![8, 512]⟩
abbrev S1x512 : Shape := ⟨2, ![1, 512]⟩
abbrev S32x112 : Shape := ⟨2, ![32, 112]⟩
abbrev S20x3584 : Shape := ⟨2, ![20, 3584]⟩

abbrev nBuf : Space → Nat
  | .hbm => 7
  | .vmem => 15
  | .smem => 0
  | _ => 0

abbrev bufTy : (tb : Table) → Fin (tcTables nBuf tb) → BufTy
  | .hbm, ⟨0, _⟩ => ⟨S1920x3584, .bf16⟩
  | .hbm, ⟨1, _⟩ => ⟨S1920x3584, .fp8e4m3⟩
  | .hbm, ⟨2, _⟩ => ⟨S1920x112, .i8⟩
  | .hbm, ⟨3, _⟩ => ⟨S1920x3584, .fp8e4m3⟩
  | .hbm, ⟨4, _⟩ => ⟨S3x20x3584, .i8⟩
  | .hbm, ⟨5, _⟩ => ⟨S1920x3584, .bf16⟩
  | .hbm, ⟨6, _⟩ => ⟨S1920x3584, .bf16⟩
  | .local _ .vmem, ⟨0, _⟩ => ⟨S640x3584, .bf16⟩
  | .local _ .vmem, ⟨1, _⟩ => ⟨S640x3584, .bf16⟩
  | .local _ .vmem, ⟨2, _⟩ => ⟨S640x3584, .fp8e4m3⟩
  | .local _ .vmem, ⟨3, _⟩ => ⟨S640x3584, .fp8e4m3⟩
  | .local _ .vmem, ⟨4, _⟩ => ⟨S640x112, .i8⟩
  | .local _ .vmem, ⟨5, _⟩ => ⟨S640x112, .i8⟩
  | .local _ .vmem, ⟨6, _⟩ => ⟨S640x3584, .fp8e4m3⟩
  | .local _ .vmem, ⟨7, _⟩ => ⟨S640x3584, .fp8e4m3⟩
  | .local _ .vmem, ⟨8, _⟩ => ⟨S1x20x3584, .i8⟩
  | .local _ .vmem, ⟨9, _⟩ => ⟨S1x20x3584, .i8⟩
  | .local _ .vmem, ⟨10, _⟩ => ⟨S640x3584, .bf16⟩
  | .local _ .vmem, ⟨11, _⟩ => ⟨S640x3584, .bf16⟩
  | .local _ .vmem, ⟨12, _⟩ => ⟨S640x3584, .bf16⟩
  | .local _ .vmem, ⟨13, _⟩ => ⟨S640x3584, .bf16⟩
  | .local _ .vmem, ⟨14, _⟩ => ⟨S24x3584, .i32⟩
  | _, _ => ⟨S1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![3], ![false]⟩

@[reducible] def k0_t1_loop : Scf.Loop 32 :=
  let c0_i32_2 : BitVec 32 := 0#32
  let c20_i32 : BitVec 32 := 20#32
  let v28 : BitVec 32 := Scalar.addi c0_i32_2 c20_i32
  let c1_i32_3 : BitVec 32 := 1#32
  ⟨c0_i32_2, v28, c1_i32_3⟩
def k0_mult1 (k0_t1 : Fin k0_t1_loop.trips) : BitVec 32 :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  v40
def k0_off1 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v42 : Index := Scalar.indexCast v41
  let c0_12 : Index := 0#32
  ![v42.toNat, 0]
def k0_off2 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v478 : Index := Scalar.indexCast v41
  let c0_128 : Index := 0#32
  ![v478.toNat, 0]
def k0_off3 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v482 : Index := Scalar.indexCast v41
  let c128 : Index := 128#32
  ![v482.toNat, 128]
def k0_off4 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v486 : Index := Scalar.indexCast v41
  let c256 : Index := 256#32
  ![v486.toNat, 256]
def k0_off5 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v490 : Index := Scalar.indexCast v41
  let c384 : Index := 384#32
  ![v490.toNat, 384]
def k0_off6 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let v546 : Index := Scalar.indexCast arg9
  let c0_150 : Index := 0#32
  ![v546.toNat, 0]
def k0_off7 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v550 : Index := Scalar.indexCast v41
  let c512 : Index := 512#32
  ![v550.toNat, 512]
def k0_off8 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v986 : Index := Scalar.indexCast v41
  let c512_269 : Index := 512#32
  ![v986.toNat, 512]
def k0_off9 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v990 : Index := Scalar.indexCast v41
  let c640 : Index := 640#32
  ![v990.toNat, 640]
def k0_off10 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v994 : Index := Scalar.indexCast v41
  let c768 : Index := 768#32
  ![v994.toNat, 768]
def k0_off11 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v998 : Index := Scalar.indexCast v41
  let c896 : Index := 896#32
  ![v998.toNat, 896]
def k0_off12 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let v1054 : Index := Scalar.indexCast arg9
  let c512_291 : Index := 512#32
  ![v1054.toNat, 512]
def k0_off13 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v1058 : Index := Scalar.indexCast v41
  let c1024 : Index := 1024#32
  ![v1058.toNat, 1024]
def k0_off14 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v1494 : Index := Scalar.indexCast v41
  let c1024_410 : Index := 1024#32
  ![v1494.toNat, 1024]
def k0_off15 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v1498 : Index := Scalar.indexCast v41
  let c1152 : Index := 1152#32
  ![v1498.toNat, 1152]
def k0_off16 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v1502 : Index := Scalar.indexCast v41
  let c1280 : Index := 1280#32
  ![v1502.toNat, 1280]
def k0_off17 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v1506 : Index := Scalar.indexCast v41
  let c1408 : Index := 1408#32
  ![v1506.toNat, 1408]
def k0_off18 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let v1562 : Index := Scalar.indexCast arg9
  let c1024_432 : Index := 1024#32
  ![v1562.toNat, 1024]
def k0_off19 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v1566 : Index := Scalar.indexCast v41
  let c1536 : Index := 1536#32
  ![v1566.toNat, 1536]
def k0_off20 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2002 : Index := Scalar.indexCast v41
  let c1536_551 : Index := 1536#32
  ![v2002.toNat, 1536]
def k0_off21 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2006 : Index := Scalar.indexCast v41
  let c1664 : Index := 1664#32
  ![v2006.toNat, 1664]
def k0_off22 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2010 : Index := Scalar.indexCast v41
  let c1792 : Index := 1792#32
  ![v2010.toNat, 1792]
def k0_off23 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2014 : Index := Scalar.indexCast v41
  let c1920 : Index := 1920#32
  ![v2014.toNat, 1920]
def k0_off24 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let v2070 : Index := Scalar.indexCast arg9
  let c1536_573 : Index := 1536#32
  ![v2070.toNat, 1536]
def k0_off25 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2074 : Index := Scalar.indexCast v41
  let c2048 : Index := 2048#32
  ![v2074.toNat, 2048]
def k0_off26 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2510 : Index := Scalar.indexCast v41
  let c2048_692 : Index := 2048#32
  ![v2510.toNat, 2048]
def k0_off27 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2514 : Index := Scalar.indexCast v41
  let c2176 : Index := 2176#32
  ![v2514.toNat, 2176]
def k0_off28 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2518 : Index := Scalar.indexCast v41
  let c2304 : Index := 2304#32
  ![v2518.toNat, 2304]
def k0_off29 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2522 : Index := Scalar.indexCast v41
  let c2432 : Index := 2432#32
  ![v2522.toNat, 2432]
def k0_off30 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let v2578 : Index := Scalar.indexCast arg9
  let c2048_714 : Index := 2048#32
  ![v2578.toNat, 2048]
def k0_off31 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v2582 : Index := Scalar.indexCast v41
  let c2560 : Index := 2560#32
  ![v2582.toNat, 2560]
def k0_off32 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3018 : Index := Scalar.indexCast v41
  let c2560_833 : Index := 2560#32
  ![v3018.toNat, 2560]
def k0_off33 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3022 : Index := Scalar.indexCast v41
  let c2688 : Index := 2688#32
  ![v3022.toNat, 2688]
def k0_off34 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3026 : Index := Scalar.indexCast v41
  let c2816 : Index := 2816#32
  ![v3026.toNat, 2816]
def k0_off35 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3030 : Index := Scalar.indexCast v41
  let c2944 : Index := 2944#32
  ![v3030.toNat, 2944]
def k0_off36 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let v3086 : Index := Scalar.indexCast arg9
  let c2560_855 : Index := 2560#32
  ![v3086.toNat, 2560]
def k0_off37 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3090 : Index := Scalar.indexCast v41
  let c3072 : Index := 3072#32
  ![v3090.toNat, 3072]
def k0_off38 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3526 : Index := Scalar.indexCast v41
  let c3072_974 : Index := 3072#32
  ![v3526.toNat, 3072]
def k0_off39 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3530 : Index := Scalar.indexCast v41
  let c3200 : Index := 3200#32
  ![v3530.toNat, 3200]
def k0_off40 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3534 : Index := Scalar.indexCast v41
  let c3328 : Index := 3328#32
  ![v3534.toNat, 3328]
def k0_off41 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3538 : Index := Scalar.indexCast v41
  let c3456 : Index := 3456#32
  ![v3538.toNat, 3456]
def k0_off42 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let v3594 : Index := Scalar.indexCast arg9
  let c3072_996 : Index := 3072#32
  ![v3594.toNat, 3072]
def k0_off43 (k0_t1 : Fin k0_t1_loop.trips) : Fin 2 → Nat :=
  let c0_i32_2 : BitVec 32 := 0#32
  let c1_i32_3 : BitVec 32 := 1#32
  let arg9 : BitVec 32 := Scf.iv c0_i32_2 c1_i32_3 k0_t1
  let c32_i32_11 : BitVec 32 := 32#32
  let v40 : BitVec 32 := Scalar.muli arg9 c32_i32_11
  let v41 : BitVec 32 := v40
  let v3707 : Index := Scalar.indexCast v41
  let c0_1032 : Index := 0#32
  ![v3707.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x112 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x20x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== XquantIdeal.lean ====
variable {F : FTy → Type} [FloatOps F]
-- ==== XReferenceIdeal.lean ====
abbrev S1920x3584 : Shape := ⟨2, ![1920, 3584]⟩
abbrev S1920x112 : Shape := ⟨2, ![1920, 112]⟩
abbrev S3x20x3584 : Shape := ⟨3, ![3, 20, 3584]⟩
abbrev S1920x112x32 : Shape := ⟨3, ![1920, 112, 32]⟩
abbrev S1920x112x1 : Shape := ⟨3, ![1920, 112, 1]⟩
abbrev S60x32x3584 : Shape := ⟨3, ![60, 32, 3584]⟩
abbrev S60x3584 : Shape := ⟨2, ![60, 3584]⟩
abbrev S60x1x3584 : Shape := ⟨3, ![60, 1, 3584]⟩

abbrev nBuf : Space → Nat
  | .hbm => 7
  | .vmem => 7
  | .smem => 0
  | _ => 0

abbrev bufTy : (tb : Table) → Fin (tcTables nBuf tb) → BufTy
  | .hbm, ⟨0, _⟩ => ⟨S1920x3584, .bf16⟩
  | .hbm, ⟨1, _⟩ => ⟨S1920x3584, .fp8e4m3⟩
  | .hbm, ⟨2, _⟩ => ⟨S1920x112, .i8⟩
  | .hbm, ⟨3, _⟩ => ⟨S1920x3584, .fp8e4m3⟩
  | .hbm, ⟨4, _⟩ => ⟨S3x20x3584, .i8⟩
  | .hbm, ⟨5, _⟩ => ⟨S1920x3584, .bf16⟩
  | .hbm, ⟨6, _⟩ => ⟨S1920x3584, .bf16⟩
  | .local _ .vmem, ⟨0, _⟩ => ⟨S1920x3584, .bf16⟩
  | .local _ .vmem, ⟨1, _⟩ => ⟨S1920x3584, .fp8e4m3⟩
  | .local _ .vmem, ⟨2, _⟩ => ⟨S1920x112, .i8⟩
  | .local _ .vmem, ⟨3, _⟩ => ⟨S1920x3584, .fp8e4m3⟩
  | .local _ .vmem, ⟨4, _⟩ => ⟨S3x20x3584, .i8⟩
  | .local _ .vmem, ⟨5, _⟩ => ⟨S1920x3584, .bf16⟩
  | .local _ .vmem, ⟨6, _⟩ => ⟨S1920x3584, .bf16⟩
  | _, _ => ⟨S1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1920x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x112 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x20x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== FpropIdeal.lean ====
abbrev S1920x3584 : Shape := ⟨2, ![1920, 3584]⟩
abbrev S18944x3584 : Shape := ⟨2, ![18944, 3584]⟩
abbrev S1920x18944 : Shape := ⟨2, ![1920, 18944]⟩
abbrev S18944x112 : Shape := ⟨2, ![18944, 112]⟩
abbrev S512x3584 : Shape := ⟨2, ![512, 3584]⟩
abbrev S1920x512 : Shape := ⟨2, ![1920, 512]⟩
abbrev S512x112 : Shape := ⟨2, ![512, 112]⟩
abbrev S2x512x3584 : Shape := ⟨3, ![2, 512, 3584]⟩
abbrev S16x128 : Shape := ⟨2, ![16, 128]⟩
abbrev S32x512 : Shape := ⟨2, ![32, 512]⟩
abbrev S32x128 : Shape := ⟨2, ![32, 128]⟩
abbrev S16x128x1 : Shape := ⟨3, ![16, 128, 1]⟩
abbrev S1x32x128 : Shape := ⟨3, ![1, 32, 128]⟩
abbrev S32x112 : Shape := ⟨2, ![32, 112]⟩
abbrev S480x3584 : Shape := ⟨2, ![480, 3584]⟩
abbrev S1x512x3584 : Shape := ⟨3, ![1, 512, 3584]⟩
abbrev S480x512 : Shape := ⟨2, ![480, 512]⟩

abbrev nBuf : Space → Nat
  | .hbm => 5
  | .vmem => 10
  | .smem => 0
  | _ => 0

abbrev bufTy : (tb : Table) → Fin (tcTables nBuf tb) → BufTy
  | .hbm, ⟨0, _⟩ => ⟨S1920x3584, .bf16⟩
  | .hbm, ⟨1, _⟩ => ⟨S18944x3584, .bf16⟩
  | .hbm, ⟨2, _⟩ => ⟨S1920x18944, .bf16⟩
  | .hbm, ⟨3, _⟩ => ⟨S18944x3584, .fp8e4m3⟩
  | .hbm, ⟨4, _⟩ => ⟨S18944x112, .i8⟩
  | .local _ .vmem, ⟨0, _⟩ => ⟨S1920x3584, .bf16⟩
  | .local _ .vmem, ⟨1, _⟩ => ⟨S512x3584, .bf16⟩
  | .local _ .vmem, ⟨2, _⟩ => ⟨S512x3584, .bf16⟩
  | .local _ .vmem, ⟨3, _⟩ => ⟨S1920x512, .bf16⟩
  | .local _ .vmem, ⟨4, _⟩ => ⟨S1920x512, .bf16⟩
  | .local _ .vmem, ⟨5, _⟩ => ⟨S512x3584, .fp8e4m3⟩
  | .local _ .vmem, ⟨6, _⟩ => ⟨S512x3584, .fp8e4m3⟩
  | .local _ .vmem, ⟨7, _⟩ => ⟨S512x112, .i8⟩
  | .local _ .vmem, ⟨8, _⟩ => ⟨S512x112, .i8⟩
  | .local _ .vmem, ⟨9, _⟩ => ⟨S2x512x3584, .bf16⟩
  | _, _ => ⟨S1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![38], ![false]⟩

def k0_cond1 (i : grid0.Coords) : BitVec 1 :=
  let arg0 : BitVec 32 := BitVec.ofNat 32 (i 0).val
  let c0_i32_20 : BitVec 32 := 0#32
  let v82 : BitVec 1 := Scalar.cmpi .eq arg0 c0_i32_20
  let v83 : BitVec 32 := Scalar.extui v82
  let c0_i32_21 : BitVec 32 := 0#32
  let v84 : BitVec 1 := Scalar.cmpi .ne v83 c0_i32_21
  v84

def k0_off1 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v347 : Index := Scalar.indexCast v37
  let c0_93 : Index := 0#32
  let c0_94 : Index := 0#32
  ![v347.toNat, 0, 0]
def k0_off2 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v352 : Index := Scalar.indexCast v37
  let c0_96 : Index := 0#32
  let c128_97 : Index := 128#32
  ![v352.toNat, 0, 128]
def k0_off3 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v357 : Index := Scalar.indexCast v37
  let c0_99 : Index := 0#32
  let c256_100 : Index := 256#32
  ![v357.toNat, 0, 256]
def k0_off4 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v362 : Index := Scalar.indexCast v37
  let c0_102 : Index := 0#32
  let c384_103 : Index := 384#32
  ![v362.toNat, 0, 384]
def k0_off5 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v625 : Index := Scalar.indexCast v37
  let c0_173 : Index := 0#32
  let c512_174 : Index := 512#32
  ![v625.toNat, 0, 512]
def k0_off6 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v630 : Index := Scalar.indexCast v37
  let c0_176 : Index := 0#32
  let c640_177 : Index := 640#32
  ![v630.toNat, 0, 640]
def k0_off7 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v635 : Index := Scalar.indexCast v37
  let c0_179 : Index := 0#32
  let c768_180 : Index := 768#32
  ![v635.toNat, 0, 768]
def k0_off8 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v640 : Index := Scalar.indexCast v37
  let c0_182 : Index := 0#32
  let c896_183 : Index := 896#32
  ![v640.toNat, 0, 896]
def k0_off9 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v903 : Index := Scalar.indexCast v37
  let c0_253 : Index := 0#32
  let c1024_254 : Index := 1024#32
  ![v903.toNat, 0, 1024]
def k0_off10 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v908 : Index := Scalar.indexCast v37
  let c0_256 : Index := 0#32
  let c1152_257 : Index := 1152#32
  ![v908.toNat, 0, 1152]
def k0_off11 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v913 : Index := Scalar.indexCast v37
  let c0_259 : Index := 0#32
  let c1280_260 : Index := 1280#32
  ![v913.toNat, 0, 1280]
def k0_off12 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v918 : Index := Scalar.indexCast v37
  let c0_262 : Index := 0#32
  let c1408_263 : Index := 1408#32
  ![v918.toNat, 0, 1408]
def k0_off13 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1181 : Index := Scalar.indexCast v37
  let c0_333 : Index := 0#32
  let c1536_334 : Index := 1536#32
  ![v1181.toNat, 0, 1536]
def k0_off14 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1186 : Index := Scalar.indexCast v37
  let c0_336 : Index := 0#32
  let c1664_337 : Index := 1664#32
  ![v1186.toNat, 0, 1664]
def k0_off15 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1191 : Index := Scalar.indexCast v37
  let c0_339 : Index := 0#32
  let c1792_340 : Index := 1792#32
  ![v1191.toNat, 0, 1792]
def k0_off16 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1196 : Index := Scalar.indexCast v37
  let c0_342 : Index := 0#32
  let c1920_343 : Index := 1920#32
  ![v1196.toNat, 0, 1920]
def k0_off17 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1459 : Index := Scalar.indexCast v37
  let c0_413 : Index := 0#32
  let c2048_414 : Index := 2048#32
  ![v1459.toNat, 0, 2048]
def k0_off18 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1464 : Index := Scalar.indexCast v37
  let c0_416 : Index := 0#32
  let c2176_417 : Index := 2176#32
  ![v1464.toNat, 0, 2176]
def k0_off19 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1469 : Index := Scalar.indexCast v37
  let c0_419 : Index := 0#32
  let c2304_420 : Index := 2304#32
  ![v1469.toNat, 0, 2304]
def k0_off20 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1474 : Index := Scalar.indexCast v37
  let c0_422 : Index := 0#32
  let c2432_423 : Index := 2432#32
  ![v1474.toNat, 0, 2432]
def k0_off21 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1737 : Index := Scalar.indexCast v37
  let c0_493 : Index := 0#32
  let c2560_494 : Index := 2560#32
  ![v1737.toNat, 0, 2560]
def k0_off22 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1742 : Index := Scalar.indexCast v37
  let c0_496 : Index := 0#32
  let c2688_497 : Index := 2688#32
  ![v1742.toNat, 0, 2688]
def k0_off23 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1747 : Index := Scalar.indexCast v37
  let c0_499 : Index := 0#32
  let c2816_500 : Index := 2816#32
  ![v1747.toNat, 0, 2816]
def k0_off24 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1752 : Index := Scalar.indexCast v37
  let c0_502 : Index := 0#32
  let c2944_503 : Index := 2944#32
  ![v1752.toNat, 0, 2944]
def k0_off25 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2015 : Index := Scalar.indexCast v37
  let c0_573 : Index := 0#32
  let c3072_574 : Index := 3072#32
  ![v2015.toNat, 0, 3072]
def k0_off26 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2020 : Index := Scalar.indexCast v37
  let c0_576 : Index := 0#32
  let c3200_577 : Index := 3200#32
  ![v2020.toNat, 0, 3200]
def k0_off27 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2025 : Index := Scalar.indexCast v37
  let c0_579 : Index := 0#32
  let c3328_580 : Index := 3328#32
  ![v2025.toNat, 0, 3328]
def k0_off28 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2030 : Index := Scalar.indexCast v37
  let c0_582 : Index := 0#32
  let c3456_583 : Index := 3456#32
  ![v2030.toNat, 0, 3456]
def k0_off29 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2387 : Index := Scalar.indexCast v37
  let c32_685 : Index := 32#32
  let c0_686 : Index := 0#32
  ![v2387.toNat, 32, 0]
def k0_off30 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2392 : Index := Scalar.indexCast v37
  let c32_689 : Index := 32#32
  let c128_690 : Index := 128#32
  ![v2392.toNat, 32, 128]
def k0_off31 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2397 : Index := Scalar.indexCast v37
  let c32_693 : Index := 32#32
  let c256_694 : Index := 256#32
  ![v2397.toNat, 32, 256]
def k0_off32 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2402 : Index := Scalar.indexCast v37
  let c32_697 : Index := 32#32
  let c384_698 : Index := 384#32
  ![v2402.toNat, 32, 384]
def k0_off33 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2665 : Index := Scalar.indexCast v37
  let c32_769 : Index := 32#32
  let c512_770 : Index := 512#32
  ![v2665.toNat, 32, 512]
def k0_off34 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2670 : Index := Scalar.indexCast v37
  let c32_773 : Index := 32#32
  let c640_774 : Index := 640#32
  ![v2670.toNat, 32, 640]
def k0_off35 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2675 : Index := Scalar.indexCast v37
  let c32_777 : Index := 32#32
  let c768_778 : Index := 768#32
  ![v2675.toNat, 32, 768]
def k0_off36 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2680 : Index := Scalar.indexCast v37
  let c32_781 : Index := 32#32
  let c896_782 : Index := 896#32
  ![v2680.toNat, 32, 896]
def k0_off37 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2943 : Index := Scalar.indexCast v37
  let c32_853 : Index := 32#32
  let c1024_854 : Index := 1024#32
  ![v2943.toNat, 32, 1024]
def k0_off38 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2948 : Index := Scalar.indexCast v37
  let c32_857 : Index := 32#32
  let c1152_858 : Index := 1152#32
  ![v2948.toNat, 32, 1152]
def k0_off39 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2953 : Index := Scalar.indexCast v37
  let c32_861 : Index := 32#32
  let c1280_862 : Index := 1280#32
  ![v2953.toNat, 32, 1280]
def k0_off40 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2958 : Index := Scalar.indexCast v37
  let c32_865 : Index := 32#32
  let c1408_866 : Index := 1408#32
  ![v2958.toNat, 32, 1408]
def k0_off41 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3221 : Index := Scalar.indexCast v37
  let c32_937 : Index := 32#32
  let c1536_938 : Index := 1536#32
  ![v3221.toNat, 32, 1536]
def k0_off42 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3226 : Index := Scalar.indexCast v37
  let c32_941 : Index := 32#32
  let c1664_942 : Index := 1664#32
  ![v3226.toNat, 32, 1664]
def k0_off43 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3231 : Index := Scalar.indexCast v37
  let c32_945 : Index := 32#32
  let c1792_946 : Index := 1792#32
  ![v3231.toNat, 32, 1792]
def k0_off44 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3236 : Index := Scalar.indexCast v37
  let c32_949 : Index := 32#32
  let c1920_950 : Index := 1920#32
  ![v3236.toNat, 32, 1920]
def k0_off45 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3499 : Index := Scalar.indexCast v37
  let c32_1021 : Index := 32#32
  let c2048_1022 : Index := 2048#32
  ![v3499.toNat, 32, 2048]
def k0_off46 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3504 : Index := Scalar.indexCast v37
  let c32_1025 : Index := 32#32
  let c2176_1026 : Index := 2176#32
  ![v3504.toNat, 32, 2176]
def k0_off47 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3509 : Index := Scalar.indexCast v37
  let c32_1029 : Index := 32#32
  let c2304_1030 : Index := 2304#32
  ![v3509.toNat, 32, 2304]
def k0_off48 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3514 : Index := Scalar.indexCast v37
  let c32_1033 : Index := 32#32
  let c2432_1034 : Index := 2432#32
  ![v3514.toNat, 32, 2432]
def k0_off49 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3777 : Index := Scalar.indexCast v37
  let c32_1105 : Index := 32#32
  let c2560_1106 : Index := 2560#32
  ![v3777.toNat, 32, 2560]
def k0_off50 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3782 : Index := Scalar.indexCast v37
  let c32_1109 : Index := 32#32
  let c2688_1110 : Index := 2688#32
  ![v3782.toNat, 32, 2688]
def k0_off51 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3787 : Index := Scalar.indexCast v37
  let c32_1113 : Index := 32#32
  let c2816_1114 : Index := 2816#32
  ![v3787.toNat, 32, 2816]
def k0_off52 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3792 : Index := Scalar.indexCast v37
  let c32_1117 : Index := 32#32
  let c2944_1118 : Index := 2944#32
  ![v3792.toNat, 32, 2944]
def k0_off53 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4055 : Index := Scalar.indexCast v37
  let c32_1189 : Index := 32#32
  let c3072_1190 : Index := 3072#32
  ![v4055.toNat, 32, 3072]
def k0_off54 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4060 : Index := Scalar.indexCast v37
  let c32_1193 : Index := 32#32
  let c3200_1194 : Index := 3200#32
  ![v4060.toNat, 32, 3200]
def k0_off55 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4065 : Index := Scalar.indexCast v37
  let c32_1197 : Index := 32#32
  let c3328_1198 : Index := 3328#32
  ![v4065.toNat, 32, 3328]
def k0_off56 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4070 : Index := Scalar.indexCast v37
  let c32_1201 : Index := 32#32
  let c3456_1202 : Index := 3456#32
  ![v4070.toNat, 32, 3456]
def k0_off57 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4427 : Index := Scalar.indexCast v37
  let c64_1307 : Index := 64#32
  let c0_1308 : Index := 0#32
  ![v4427.toNat, 64, 0]
def k0_off58 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4432 : Index := Scalar.indexCast v37
  let c64_1311 : Index := 64#32
  let c128_1312 : Index := 128#32
  ![v4432.toNat, 64, 128]
def k0_off59 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4437 : Index := Scalar.indexCast v37
  let c64_1315 : Index := 64#32
  let c256_1316 : Index := 256#32
  ![v4437.toNat, 64, 256]
def k0_off60 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4442 : Index := Scalar.indexCast v37
  let c64_1319 : Index := 64#32
  let c384_1320 : Index := 384#32
  ![v4442.toNat, 64, 384]
def k0_off61 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4705 : Index := Scalar.indexCast v37
  let c64_1391 : Index := 64#32
  let c512_1392 : Index := 512#32
  ![v4705.toNat, 64, 512]
def k0_off62 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4710 : Index := Scalar.indexCast v37
  let c64_1395 : Index := 64#32
  let c640_1396 : Index := 640#32
  ![v4710.toNat, 64, 640]
def k0_off63 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4715 : Index := Scalar.indexCast v37
  let c64_1399 : Index := 64#32
  let c768_1400 : Index := 768#32
  ![v4715.toNat, 64, 768]
def k0_off64 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4720 : Index := Scalar.indexCast v37
  let c64_1403 : Index := 64#32
  let c896_1404 : Index := 896#32
  ![v4720.toNat, 64, 896]
def k0_off65 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4983 : Index := Scalar.indexCast v37
  let c64_1475 : Index := 64#32
  let c1024_1476 : Index := 1024#32
  ![v4983.toNat, 64, 1024]
def k0_off66 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4988 : Index := Scalar.indexCast v37
  let c64_1479 : Index := 64#32
  let c1152_1480 : Index := 1152#32
  ![v4988.toNat, 64, 1152]
def k0_off67 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4993 : Index := Scalar.indexCast v37
  let c64_1483 : Index := 64#32
  let c1280_1484 : Index := 1280#32
  ![v4993.toNat, 64, 1280]
def k0_off68 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4998 : Index := Scalar.indexCast v37
  let c64_1487 : Index := 64#32
  let c1408_1488 : Index := 1408#32
  ![v4998.toNat, 64, 1408]
def k0_off69 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5261 : Index := Scalar.indexCast v37
  let c64_1559 : Index := 64#32
  let c1536_1560 : Index := 1536#32
  ![v5261.toNat, 64, 1536]
def k0_off70 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5266 : Index := Scalar.indexCast v37
  let c64_1563 : Index := 64#32
  let c1664_1564 : Index := 1664#32
  ![v5266.toNat, 64, 1664]
def k0_off71 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5271 : Index := Scalar.indexCast v37
  let c64_1567 : Index := 64#32
  let c1792_1568 : Index := 1792#32
  ![v5271.toNat, 64, 1792]
def k0_off72 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5276 : Index := Scalar.indexCast v37
  let c64_1571 : Index := 64#32
  let c1920_1572 : Index := 1920#32
  ![v5276.toNat, 64, 1920]
def k0_off73 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5539 : Index := Scalar.indexCast v37
  let c64_1643 : Index := 64#32
  let c2048_1644 : Index := 2048#32
  ![v5539.toNat, 64, 2048]
def k0_off74 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5544 : Index := Scalar.indexCast v37
  let c64_1647 : Index := 64#32
  let c2176_1648 : Index := 2176#32
  ![v5544.toNat, 64, 2176]
def k0_off75 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5549 : Index := Scalar.indexCast v37
  let c64_1651 : Index := 64#32
  let c2304_1652 : Index := 2304#32
  ![v5549.toNat, 64, 2304]
def k0_off76 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5554 : Index := Scalar.indexCast v37
  let c64_1655 : Index := 64#32
  let c2432_1656 : Index := 2432#32
  ![v5554.toNat, 64, 2432]
def k0_off77 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5817 : Index := Scalar.indexCast v37
  let c64_1727 : Index := 64#32
  let c2560_1728 : Index := 2560#32
  ![v5817.toNat, 64, 2560]
def k0_off78 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5822 : Index := Scalar.indexCast v37
  let c64_1731 : Index := 64#32
  let c2688_1732 : Index := 2688#32
  ![v5822.toNat, 64, 2688]
def k0_off79 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5827 : Index := Scalar.indexCast v37
  let c64_1735 : Index := 64#32
  let c2816_1736 : Index := 2816#32
  ![v5827.toNat, 64, 2816]
def k0_off80 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5832 : Index := Scalar.indexCast v37
  let c64_1739 : Index := 64#32
  let c2944_1740 : Index := 2944#32
  ![v5832.toNat, 64, 2944]
def k0_off81 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6095 : Index := Scalar.indexCast v37
  let c64_1811 : Index := 64#32
  let c3072_1812 : Index := 3072#32
  ![v6095.toNat, 64, 3072]
def k0_off82 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6100 : Index := Scalar.indexCast v37
  let c64_1815 : Index := 64#32
  let c3200_1816 : Index := 3200#32
  ![v6100.toNat, 64, 3200]
def k0_off83 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6105 : Index := Scalar.indexCast v37
  let c64_1819 : Index := 64#32
  let c3328_1820 : Index := 3328#32
  ![v6105.toNat, 64, 3328]
def k0_off84 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6110 : Index := Scalar.indexCast v37
  let c64_1823 : Index := 64#32
  let c3456_1824 : Index := 3456#32
  ![v6110.toNat, 64, 3456]
def k0_off85 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6467 : Index := Scalar.indexCast v37
  let c96_1929 : Index := 96#32
  let c0_1930 : Index := 0#32
  ![v6467.toNat, 96, 0]
def k0_off86 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6472 : Index := Scalar.indexCast v37
  let c96_1933 : Index := 96#32
  let c128_1934 : Index := 128#32
  ![v6472.toNat, 96, 128]
def k0_off87 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6477 : Index := Scalar.indexCast v37
  let c96_1937 : Index := 96#32
  let c256_1938 : Index := 256#32
  ![v6477.toNat, 96, 256]
def k0_off88 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6482 : Index := Scalar.indexCast v37
  let c96_1941 : Index := 96#32
  let c384_1942 : Index := 384#32
  ![v6482.toNat, 96, 384]
def k0_off89 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6745 : Index := Scalar.indexCast v37
  let c96_2013 : Index := 96#32
  let c512_2014 : Index := 512#32
  ![v6745.toNat, 96, 512]
def k0_off90 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6750 : Index := Scalar.indexCast v37
  let c96_2017 : Index := 96#32
  let c640_2018 : Index := 640#32
  ![v6750.toNat, 96, 640]
def k0_off91 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6755 : Index := Scalar.indexCast v37
  let c96_2021 : Index := 96#32
  let c768_2022 : Index := 768#32
  ![v6755.toNat, 96, 768]
def k0_off92 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6760 : Index := Scalar.indexCast v37
  let c96_2025 : Index := 96#32
  let c896_2026 : Index := 896#32
  ![v6760.toNat, 96, 896]
def k0_off93 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7023 : Index := Scalar.indexCast v37
  let c96_2097 : Index := 96#32
  let c1024_2098 : Index := 1024#32
  ![v7023.toNat, 96, 1024]
def k0_off94 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7028 : Index := Scalar.indexCast v37
  let c96_2101 : Index := 96#32
  let c1152_2102 : Index := 1152#32
  ![v7028.toNat, 96, 1152]
def k0_off95 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7033 : Index := Scalar.indexCast v37
  let c96_2105 : Index := 96#32
  let c1280_2106 : Index := 1280#32
  ![v7033.toNat, 96, 1280]
def k0_off96 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7038 : Index := Scalar.indexCast v37
  let c96_2109 : Index := 96#32
  let c1408_2110 : Index := 1408#32
  ![v7038.toNat, 96, 1408]
def k0_off97 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7301 : Index := Scalar.indexCast v37
  let c96_2181 : Index := 96#32
  let c1536_2182 : Index := 1536#32
  ![v7301.toNat, 96, 1536]
def k0_off98 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7306 : Index := Scalar.indexCast v37
  let c96_2185 : Index := 96#32
  let c1664_2186 : Index := 1664#32
  ![v7306.toNat, 96, 1664]
def k0_off99 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7311 : Index := Scalar.indexCast v37
  let c96_2189 : Index := 96#32
  let c1792_2190 : Index := 1792#32
  ![v7311.toNat, 96, 1792]
def k0_off100 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7316 : Index := Scalar.indexCast v37
  let c96_2193 : Index := 96#32
  let c1920_2194 : Index := 1920#32
  ![v7316.toNat, 96, 1920]
def k0_off101 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7579 : Index := Scalar.indexCast v37
  let c96_2265 : Index := 96#32
  let c2048_2266 : Index := 2048#32
  ![v7579.toNat, 96, 2048]
def k0_off102 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7584 : Index := Scalar.indexCast v37
  let c96_2269 : Index := 96#32
  let c2176_2270 : Index := 2176#32
  ![v7584.toNat, 96, 2176]
def k0_off103 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7589 : Index := Scalar.indexCast v37
  let c96_2273 : Index := 96#32
  let c2304_2274 : Index := 2304#32
  ![v7589.toNat, 96, 2304]
def k0_off104 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7594 : Index := Scalar.indexCast v37
  let c96_2277 : Index := 96#32
  let c2432_2278 : Index := 2432#32
  ![v7594.toNat, 96, 2432]
def k0_off105 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7857 : Index := Scalar.indexCast v37
  let c96_2349 : Index := 96#32
  let c2560_2350 : Index := 2560#32
  ![v7857.toNat, 96, 2560]
def k0_off106 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7862 : Index := Scalar.indexCast v37
  let c96_2353 : Index := 96#32
  let c2688_2354 : Index := 2688#32
  ![v7862.toNat, 96, 2688]
def k0_off107 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7867 : Index := Scalar.indexCast v37
  let c96_2357 : Index := 96#32
  let c2816_2358 : Index := 2816#32
  ![v7867.toNat, 96, 2816]
def k0_off108 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7872 : Index := Scalar.indexCast v37
  let c96_2361 : Index := 96#32
  let c2944_2362 : Index := 2944#32
  ![v7872.toNat, 96, 2944]
def k0_off109 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8135 : Index := Scalar.indexCast v37
  let c96_2433 : Index := 96#32
  let c3072_2434 : Index := 3072#32
  ![v8135.toNat, 96, 3072]
def k0_off110 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8140 : Index := Scalar.indexCast v37
  let c96_2437 : Index := 96#32
  let c3200_2438 : Index := 3200#32
  ![v8140.toNat, 96, 3200]
def k0_off111 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8145 : Index := Scalar.indexCast v37
  let c96_2441 : Index := 96#32
  let c3328_2442 : Index := 3328#32
  ![v8145.toNat, 96, 3328]
def k0_off112 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8150 : Index := Scalar.indexCast v37
  let c96_2445 : Index := 96#32
  let c3456_2446 : Index := 3456#32
  ![v8150.toNat, 96, 3456]
def k0_off113 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8507 : Index := Scalar.indexCast v37
  let c128_2552 : Index := 128#32
  let c0_2553 : Index := 0#32
  ![v8507.toNat, 128, 0]
def k0_off114 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8512 : Index := Scalar.indexCast v37
  let c128_2556 : Index := 128#32
  let c128_2557 : Index := 128#32
  ![v8512.toNat, 128, 128]
def k0_off115 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8517 : Index := Scalar.indexCast v37
  let c128_2560 : Index := 128#32
  let c256_2561 : Index := 256#32
  ![v8517.toNat, 128, 256]
def k0_off116 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8522 : Index := Scalar.indexCast v37
  let c128_2564 : Index := 128#32
  let c384_2565 : Index := 384#32
  ![v8522.toNat, 128, 384]
def k0_off117 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8785 : Index := Scalar.indexCast v37
  let c128_2636 : Index := 128#32
  let c512_2637 : Index := 512#32
  ![v8785.toNat, 128, 512]
def k0_off118 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8790 : Index := Scalar.indexCast v37
  let c128_2640 : Index := 128#32
  let c640_2641 : Index := 640#32
  ![v8790.toNat, 128, 640]
def k0_off119 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8795 : Index := Scalar.indexCast v37
  let c128_2644 : Index := 128#32
  let c768_2645 : Index := 768#32
  ![v8795.toNat, 128, 768]
def k0_off120 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8800 : Index := Scalar.indexCast v37
  let c128_2648 : Index := 128#32
  let c896_2649 : Index := 896#32
  ![v8800.toNat, 128, 896]
def k0_off121 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9063 : Index := Scalar.indexCast v37
  let c128_2720 : Index := 128#32
  let c1024_2721 : Index := 1024#32
  ![v9063.toNat, 128, 1024]
def k0_off122 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9068 : Index := Scalar.indexCast v37
  let c128_2724 : Index := 128#32
  let c1152_2725 : Index := 1152#32
  ![v9068.toNat, 128, 1152]
def k0_off123 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9073 : Index := Scalar.indexCast v37
  let c128_2728 : Index := 128#32
  let c1280_2729 : Index := 1280#32
  ![v9073.toNat, 128, 1280]
def k0_off124 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9078 : Index := Scalar.indexCast v37
  let c128_2732 : Index := 128#32
  let c1408_2733 : Index := 1408#32
  ![v9078.toNat, 128, 1408]
def k0_off125 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9341 : Index := Scalar.indexCast v37
  let c128_2804 : Index := 128#32
  let c1536_2805 : Index := 1536#32
  ![v9341.toNat, 128, 1536]
def k0_off126 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9346 : Index := Scalar.indexCast v37
  let c128_2808 : Index := 128#32
  let c1664_2809 : Index := 1664#32
  ![v9346.toNat, 128, 1664]
def k0_off127 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9351 : Index := Scalar.indexCast v37
  let c128_2812 : Index := 128#32
  let c1792_2813 : Index := 1792#32
  ![v9351.toNat, 128, 1792]
def k0_off128 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9356 : Index := Scalar.indexCast v37
  let c128_2816 : Index := 128#32
  let c1920_2817 : Index := 1920#32
  ![v9356.toNat, 128, 1920]
def k0_off129 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9619 : Index := Scalar.indexCast v37
  let c128_2888 : Index := 128#32
  let c2048_2889 : Index := 2048#32
  ![v9619.toNat, 128, 2048]
def k0_off130 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9624 : Index := Scalar.indexCast v37
  let c128_2892 : Index := 128#32
  let c2176_2893 : Index := 2176#32
  ![v9624.toNat, 128, 2176]
def k0_off131 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9629 : Index := Scalar.indexCast v37
  let c128_2896 : Index := 128#32
  let c2304_2897 : Index := 2304#32
  ![v9629.toNat, 128, 2304]
def k0_off132 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9634 : Index := Scalar.indexCast v37
  let c128_2900 : Index := 128#32
  let c2432_2901 : Index := 2432#32
  ![v9634.toNat, 128, 2432]
def k0_off133 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9897 : Index := Scalar.indexCast v37
  let c128_2972 : Index := 128#32
  let c2560_2973 : Index := 2560#32
  ![v9897.toNat, 128, 2560]
def k0_off134 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9902 : Index := Scalar.indexCast v37
  let c128_2976 : Index := 128#32
  let c2688_2977 : Index := 2688#32
  ![v9902.toNat, 128, 2688]
def k0_off135 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9907 : Index := Scalar.indexCast v37
  let c128_2980 : Index := 128#32
  let c2816_2981 : Index := 2816#32
  ![v9907.toNat, 128, 2816]
def k0_off136 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9912 : Index := Scalar.indexCast v37
  let c128_2984 : Index := 128#32
  let c2944_2985 : Index := 2944#32
  ![v9912.toNat, 128, 2944]
def k0_off137 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10175 : Index := Scalar.indexCast v37
  let c128_3056 : Index := 128#32
  let c3072_3057 : Index := 3072#32
  ![v10175.toNat, 128, 3072]
def k0_off138 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10180 : Index := Scalar.indexCast v37
  let c128_3060 : Index := 128#32
  let c3200_3061 : Index := 3200#32
  ![v10180.toNat, 128, 3200]
def k0_off139 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10185 : Index := Scalar.indexCast v37
  let c128_3064 : Index := 128#32
  let c3328_3065 : Index := 3328#32
  ![v10185.toNat, 128, 3328]
def k0_off140 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10190 : Index := Scalar.indexCast v37
  let c128_3068 : Index := 128#32
  let c3456_3069 : Index := 3456#32
  ![v10190.toNat, 128, 3456]
def k0_off141 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10547 : Index := Scalar.indexCast v37
  let c160_3174 : Index := 160#32
  let c0_3175 : Index := 0#32
  ![v10547.toNat, 160, 0]
def k0_off142 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10552 : Index := Scalar.indexCast v37
  let c160_3178 : Index := 160#32
  let c128_3179 : Index := 128#32
  ![v10552.toNat, 160, 128]
def k0_off143 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10557 : Index := Scalar.indexCast v37
  let c160_3182 : Index := 160#32
  let c256_3183 : Index := 256#32
  ![v10557.toNat, 160, 256]
def k0_off144 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10562 : Index := Scalar.indexCast v37
  let c160_3186 : Index := 160#32
  let c384_3187 : Index := 384#32
  ![v10562.toNat, 160, 384]
def k0_off145 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10825 : Index := Scalar.indexCast v37
  let c160_3258 : Index := 160#32
  let c512_3259 : Index := 512#32
  ![v10825.toNat, 160, 512]
def k0_off146 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10830 : Index := Scalar.indexCast v37
  let c160_3262 : Index := 160#32
  let c640_3263 : Index := 640#32
  ![v10830.toNat, 160, 640]
def k0_off147 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10835 : Index := Scalar.indexCast v37
  let c160_3266 : Index := 160#32
  let c768_3267 : Index := 768#32
  ![v10835.toNat, 160, 768]
def k0_off148 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10840 : Index := Scalar.indexCast v37
  let c160_3270 : Index := 160#32
  let c896_3271 : Index := 896#32
  ![v10840.toNat, 160, 896]
def k0_off149 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11103 : Index := Scalar.indexCast v37
  let c160_3342 : Index := 160#32
  let c1024_3343 : Index := 1024#32
  ![v11103.toNat, 160, 1024]
def k0_off150 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11108 : Index := Scalar.indexCast v37
  let c160_3346 : Index := 160#32
  let c1152_3347 : Index := 1152#32
  ![v11108.toNat, 160, 1152]
def k0_off151 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11113 : Index := Scalar.indexCast v37
  let c160_3350 : Index := 160#32
  let c1280_3351 : Index := 1280#32
  ![v11113.toNat, 160, 1280]
def k0_off152 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11118 : Index := Scalar.indexCast v37
  let c160_3354 : Index := 160#32
  let c1408_3355 : Index := 1408#32
  ![v11118.toNat, 160, 1408]
def k0_off153 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11381 : Index := Scalar.indexCast v37
  let c160_3426 : Index := 160#32
  let c1536_3427 : Index := 1536#32
  ![v11381.toNat, 160, 1536]
def k0_off154 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11386 : Index := Scalar.indexCast v37
  let c160_3430 : Index := 160#32
  let c1664_3431 : Index := 1664#32
  ![v11386.toNat, 160, 1664]
def k0_off155 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11391 : Index := Scalar.indexCast v37
  let c160_3434 : Index := 160#32
  let c1792_3435 : Index := 1792#32
  ![v11391.toNat, 160, 1792]
def k0_off156 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11396 : Index := Scalar.indexCast v37
  let c160_3438 : Index := 160#32
  let c1920_3439 : Index := 1920#32
  ![v11396.toNat, 160, 1920]
def k0_off157 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11659 : Index := Scalar.indexCast v37
  let c160_3510 : Index := 160#32
  let c2048_3511 : Index := 2048#32
  ![v11659.toNat, 160, 2048]
def k0_off158 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11664 : Index := Scalar.indexCast v37
  let c160_3514 : Index := 160#32
  let c2176_3515 : Index := 2176#32
  ![v11664.toNat, 160, 2176]
def k0_off159 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11669 : Index := Scalar.indexCast v37
  let c160_3518 : Index := 160#32
  let c2304_3519 : Index := 2304#32
  ![v11669.toNat, 160, 2304]
def k0_off160 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11674 : Index := Scalar.indexCast v37
  let c160_3522 : Index := 160#32
  let c2432_3523 : Index := 2432#32
  ![v11674.toNat, 160, 2432]
def k0_off161 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11937 : Index := Scalar.indexCast v37
  let c160_3594 : Index := 160#32
  let c2560_3595 : Index := 2560#32
  ![v11937.toNat, 160, 2560]
def k0_off162 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11942 : Index := Scalar.indexCast v37
  let c160_3598 : Index := 160#32
  let c2688_3599 : Index := 2688#32
  ![v11942.toNat, 160, 2688]
def k0_off163 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11947 : Index := Scalar.indexCast v37
  let c160_3602 : Index := 160#32
  let c2816_3603 : Index := 2816#32
  ![v11947.toNat, 160, 2816]
def k0_off164 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11952 : Index := Scalar.indexCast v37
  let c160_3606 : Index := 160#32
  let c2944_3607 : Index := 2944#32
  ![v11952.toNat, 160, 2944]
def k0_off165 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12215 : Index := Scalar.indexCast v37
  let c160_3678 : Index := 160#32
  let c3072_3679 : Index := 3072#32
  ![v12215.toNat, 160, 3072]
def k0_off166 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12220 : Index := Scalar.indexCast v37
  let c160_3682 : Index := 160#32
  let c3200_3683 : Index := 3200#32
  ![v12220.toNat, 160, 3200]
def k0_off167 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12225 : Index := Scalar.indexCast v37
  let c160_3686 : Index := 160#32
  let c3328_3687 : Index := 3328#32
  ![v12225.toNat, 160, 3328]
def k0_off168 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12230 : Index := Scalar.indexCast v37
  let c160_3690 : Index := 160#32
  let c3456_3691 : Index := 3456#32
  ![v12230.toNat, 160, 3456]
def k0_off169 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12587 : Index := Scalar.indexCast v37
  let c192_3796 : Index := 192#32
  let c0_3797 : Index := 0#32
  ![v12587.toNat, 192, 0]
def k0_off170 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12592 : Index := Scalar.indexCast v37
  let c192_3800 : Index := 192#32
  let c128_3801 : Index := 128#32
  ![v12592.toNat, 192, 128]
def k0_off171 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12597 : Index := Scalar.indexCast v37
  let c192_3804 : Index := 192#32
  let c256_3805 : Index := 256#32
  ![v12597.toNat, 192, 256]
def k0_off172 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12602 : Index := Scalar.indexCast v37
  let c192_3808 : Index := 192#32
  let c384_3809 : Index := 384#32
  ![v12602.toNat, 192, 384]
def k0_off173 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12865 : Index := Scalar.indexCast v37
  let c192_3880 : Index := 192#32
  let c512_3881 : Index := 512#32
  ![v12865.toNat, 192, 512]
def k0_off174 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12870 : Index := Scalar.indexCast v37
  let c192_3884 : Index := 192#32
  let c640_3885 : Index := 640#32
  ![v12870.toNat, 192, 640]
def k0_off175 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12875 : Index := Scalar.indexCast v37
  let c192_3888 : Index := 192#32
  let c768_3889 : Index := 768#32
  ![v12875.toNat, 192, 768]
def k0_off176 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12880 : Index := Scalar.indexCast v37
  let c192_3892 : Index := 192#32
  let c896_3893 : Index := 896#32
  ![v12880.toNat, 192, 896]
def k0_off177 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13143 : Index := Scalar.indexCast v37
  let c192_3964 : Index := 192#32
  let c1024_3965 : Index := 1024#32
  ![v13143.toNat, 192, 1024]
def k0_off178 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13148 : Index := Scalar.indexCast v37
  let c192_3968 : Index := 192#32
  let c1152_3969 : Index := 1152#32
  ![v13148.toNat, 192, 1152]
def k0_off179 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13153 : Index := Scalar.indexCast v37
  let c192_3972 : Index := 192#32
  let c1280_3973 : Index := 1280#32
  ![v13153.toNat, 192, 1280]
def k0_off180 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13158 : Index := Scalar.indexCast v37
  let c192_3976 : Index := 192#32
  let c1408_3977 : Index := 1408#32
  ![v13158.toNat, 192, 1408]
def k0_off181 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13421 : Index := Scalar.indexCast v37
  let c192_4048 : Index := 192#32
  let c1536_4049 : Index := 1536#32
  ![v13421.toNat, 192, 1536]
def k0_off182 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13426 : Index := Scalar.indexCast v37
  let c192_4052 : Index := 192#32
  let c1664_4053 : Index := 1664#32
  ![v13426.toNat, 192, 1664]
def k0_off183 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13431 : Index := Scalar.indexCast v37
  let c192_4056 : Index := 192#32
  let c1792_4057 : Index := 1792#32
  ![v13431.toNat, 192, 1792]
def k0_off184 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13436 : Index := Scalar.indexCast v37
  let c192_4060 : Index := 192#32
  let c1920_4061 : Index := 1920#32
  ![v13436.toNat, 192, 1920]
def k0_off185 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13699 : Index := Scalar.indexCast v37
  let c192_4132 : Index := 192#32
  let c2048_4133 : Index := 2048#32
  ![v13699.toNat, 192, 2048]
def k0_off186 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13704 : Index := Scalar.indexCast v37
  let c192_4136 : Index := 192#32
  let c2176_4137 : Index := 2176#32
  ![v13704.toNat, 192, 2176]
def k0_off187 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13709 : Index := Scalar.indexCast v37
  let c192_4140 : Index := 192#32
  let c2304_4141 : Index := 2304#32
  ![v13709.toNat, 192, 2304]
def k0_off188 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13714 : Index := Scalar.indexCast v37
  let c192_4144 : Index := 192#32
  let c2432_4145 : Index := 2432#32
  ![v13714.toNat, 192, 2432]
def k0_off189 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13977 : Index := Scalar.indexCast v37
  let c192_4216 : Index := 192#32
  let c2560_4217 : Index := 2560#32
  ![v13977.toNat, 192, 2560]
def k0_off190 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13982 : Index := Scalar.indexCast v37
  let c192_4220 : Index := 192#32
  let c2688_4221 : Index := 2688#32
  ![v13982.toNat, 192, 2688]
def k0_off191 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13987 : Index := Scalar.indexCast v37
  let c192_4224 : Index := 192#32
  let c2816_4225 : Index := 2816#32
  ![v13987.toNat, 192, 2816]
def k0_off192 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13992 : Index := Scalar.indexCast v37
  let c192_4228 : Index := 192#32
  let c2944_4229 : Index := 2944#32
  ![v13992.toNat, 192, 2944]
def k0_off193 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14255 : Index := Scalar.indexCast v37
  let c192_4300 : Index := 192#32
  let c3072_4301 : Index := 3072#32
  ![v14255.toNat, 192, 3072]
def k0_off194 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14260 : Index := Scalar.indexCast v37
  let c192_4304 : Index := 192#32
  let c3200_4305 : Index := 3200#32
  ![v14260.toNat, 192, 3200]
def k0_off195 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14265 : Index := Scalar.indexCast v37
  let c192_4308 : Index := 192#32
  let c3328_4309 : Index := 3328#32
  ![v14265.toNat, 192, 3328]
def k0_off196 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14270 : Index := Scalar.indexCast v37
  let c192_4312 : Index := 192#32
  let c3456_4313 : Index := 3456#32
  ![v14270.toNat, 192, 3456]
def k0_off197 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14627 : Index := Scalar.indexCast v37
  let c224_4418 : Index := 224#32
  let c0_4419 : Index := 0#32
  ![v14627.toNat, 224, 0]
def k0_off198 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14632 : Index := Scalar.indexCast v37
  let c224_4422 : Index := 224#32
  let c128_4423 : Index := 128#32
  ![v14632.toNat, 224, 128]
def k0_off199 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14637 : Index := Scalar.indexCast v37
  let c224_4426 : Index := 224#32
  let c256_4427 : Index := 256#32
  ![v14637.toNat, 224, 256]
def k0_off200 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14642 : Index := Scalar.indexCast v37
  let c224_4430 : Index := 224#32
  let c384_4431 : Index := 384#32
  ![v14642.toNat, 224, 384]
def k0_off201 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14905 : Index := Scalar.indexCast v37
  let c224_4502 : Index := 224#32
  let c512_4503 : Index := 512#32
  ![v14905.toNat, 224, 512]
def k0_off202 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14910 : Index := Scalar.indexCast v37
  let c224_4506 : Index := 224#32
  let c640_4507 : Index := 640#32
  ![v14910.toNat, 224, 640]
def k0_off203 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14915 : Index := Scalar.indexCast v37
  let c224_4510 : Index := 224#32
  let c768_4511 : Index := 768#32
  ![v14915.toNat, 224, 768]
def k0_off204 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14920 : Index := Scalar.indexCast v37
  let c224_4514 : Index := 224#32
  let c896_4515 : Index := 896#32
  ![v14920.toNat, 224, 896]
def k0_off205 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15183 : Index := Scalar.indexCast v37
  let c224_4586 : Index := 224#32
  let c1024_4587 : Index := 1024#32
  ![v15183.toNat, 224, 1024]
def k0_off206 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15188 : Index := Scalar.indexCast v37
  let c224_4590 : Index := 224#32
  let c1152_4591 : Index := 1152#32
  ![v15188.toNat, 224, 1152]
def k0_off207 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15193 : Index := Scalar.indexCast v37
  let c224_4594 : Index := 224#32
  let c1280_4595 : Index := 1280#32
  ![v15193.toNat, 224, 1280]
def k0_off208 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15198 : Index := Scalar.indexCast v37
  let c224_4598 : Index := 224#32
  let c1408_4599 : Index := 1408#32
  ![v15198.toNat, 224, 1408]
def k0_off209 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15461 : Index := Scalar.indexCast v37
  let c224_4670 : Index := 224#32
  let c1536_4671 : Index := 1536#32
  ![v15461.toNat, 224, 1536]
def k0_off210 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15466 : Index := Scalar.indexCast v37
  let c224_4674 : Index := 224#32
  let c1664_4675 : Index := 1664#32
  ![v15466.toNat, 224, 1664]
def k0_off211 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15471 : Index := Scalar.indexCast v37
  let c224_4678 : Index := 224#32
  let c1792_4679 : Index := 1792#32
  ![v15471.toNat, 224, 1792]
def k0_off212 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15476 : Index := Scalar.indexCast v37
  let c224_4682 : Index := 224#32
  let c1920_4683 : Index := 1920#32
  ![v15476.toNat, 224, 1920]
def k0_off213 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15739 : Index := Scalar.indexCast v37
  let c224_4754 : Index := 224#32
  let c2048_4755 : Index := 2048#32
  ![v15739.toNat, 224, 2048]
def k0_off214 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15744 : Index := Scalar.indexCast v37
  let c224_4758 : Index := 224#32
  let c2176_4759 : Index := 2176#32
  ![v15744.toNat, 224, 2176]
def k0_off215 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15749 : Index := Scalar.indexCast v37
  let c224_4762 : Index := 224#32
  let c2304_4763 : Index := 2304#32
  ![v15749.toNat, 224, 2304]
def k0_off216 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15754 : Index := Scalar.indexCast v37
  let c224_4766 : Index := 224#32
  let c2432_4767 : Index := 2432#32
  ![v15754.toNat, 224, 2432]
def k0_off217 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16017 : Index := Scalar.indexCast v37
  let c224_4838 : Index := 224#32
  let c2560_4839 : Index := 2560#32
  ![v16017.toNat, 224, 2560]
def k0_off218 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16022 : Index := Scalar.indexCast v37
  let c224_4842 : Index := 224#32
  let c2688_4843 : Index := 2688#32
  ![v16022.toNat, 224, 2688]
def k0_off219 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16027 : Index := Scalar.indexCast v37
  let c224_4846 : Index := 224#32
  let c2816_4847 : Index := 2816#32
  ![v16027.toNat, 224, 2816]
def k0_off220 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16032 : Index := Scalar.indexCast v37
  let c224_4850 : Index := 224#32
  let c2944_4851 : Index := 2944#32
  ![v16032.toNat, 224, 2944]
def k0_off221 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16295 : Index := Scalar.indexCast v37
  let c224_4922 : Index := 224#32
  let c3072_4923 : Index := 3072#32
  ![v16295.toNat, 224, 3072]
def k0_off222 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16300 : Index := Scalar.indexCast v37
  let c224_4926 : Index := 224#32
  let c3200_4927 : Index := 3200#32
  ![v16300.toNat, 224, 3200]
def k0_off223 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16305 : Index := Scalar.indexCast v37
  let c224_4930 : Index := 224#32
  let c3328_4931 : Index := 3328#32
  ![v16305.toNat, 224, 3328]
def k0_off224 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16310 : Index := Scalar.indexCast v37
  let c224_4934 : Index := 224#32
  let c3456_4935 : Index := 3456#32
  ![v16310.toNat, 224, 3456]
def k0_off225 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16667 : Index := Scalar.indexCast v37
  let c256_5041 : Index := 256#32
  let c0_5042 : Index := 0#32
  ![v16667.toNat, 256, 0]
def k0_off226 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16672 : Index := Scalar.indexCast v37
  let c256_5045 : Index := 256#32
  let c128_5046 : Index := 128#32
  ![v16672.toNat, 256, 128]
def k0_off227 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16677 : Index := Scalar.indexCast v37
  let c256_5049 : Index := 256#32
  let c256_5050 : Index := 256#32
  ![v16677.toNat, 256, 256]
def k0_off228 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16682 : Index := Scalar.indexCast v37
  let c256_5053 : Index := 256#32
  let c384_5054 : Index := 384#32
  ![v16682.toNat, 256, 384]
def k0_off229 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16945 : Index := Scalar.indexCast v37
  let c256_5125 : Index := 256#32
  let c512_5126 : Index := 512#32
  ![v16945.toNat, 256, 512]
def k0_off230 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16950 : Index := Scalar.indexCast v37
  let c256_5129 : Index := 256#32
  let c640_5130 : Index := 640#32
  ![v16950.toNat, 256, 640]
def k0_off231 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16955 : Index := Scalar.indexCast v37
  let c256_5133 : Index := 256#32
  let c768_5134 : Index := 768#32
  ![v16955.toNat, 256, 768]
def k0_off232 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16960 : Index := Scalar.indexCast v37
  let c256_5137 : Index := 256#32
  let c896_5138 : Index := 896#32
  ![v16960.toNat, 256, 896]
def k0_off233 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17223 : Index := Scalar.indexCast v37
  let c256_5209 : Index := 256#32
  let c1024_5210 : Index := 1024#32
  ![v17223.toNat, 256, 1024]
def k0_off234 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17228 : Index := Scalar.indexCast v37
  let c256_5213 : Index := 256#32
  let c1152_5214 : Index := 1152#32
  ![v17228.toNat, 256, 1152]
def k0_off235 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17233 : Index := Scalar.indexCast v37
  let c256_5217 : Index := 256#32
  let c1280_5218 : Index := 1280#32
  ![v17233.toNat, 256, 1280]
def k0_off236 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17238 : Index := Scalar.indexCast v37
  let c256_5221 : Index := 256#32
  let c1408_5222 : Index := 1408#32
  ![v17238.toNat, 256, 1408]
def k0_off237 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17501 : Index := Scalar.indexCast v37
  let c256_5293 : Index := 256#32
  let c1536_5294 : Index := 1536#32
  ![v17501.toNat, 256, 1536]
def k0_off238 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17506 : Index := Scalar.indexCast v37
  let c256_5297 : Index := 256#32
  let c1664_5298 : Index := 1664#32
  ![v17506.toNat, 256, 1664]
def k0_off239 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17511 : Index := Scalar.indexCast v37
  let c256_5301 : Index := 256#32
  let c1792_5302 : Index := 1792#32
  ![v17511.toNat, 256, 1792]
def k0_off240 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17516 : Index := Scalar.indexCast v37
  let c256_5305 : Index := 256#32
  let c1920_5306 : Index := 1920#32
  ![v17516.toNat, 256, 1920]
def k0_off241 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17779 : Index := Scalar.indexCast v37
  let c256_5377 : Index := 256#32
  let c2048_5378 : Index := 2048#32
  ![v17779.toNat, 256, 2048]
def k0_off242 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17784 : Index := Scalar.indexCast v37
  let c256_5381 : Index := 256#32
  let c2176_5382 : Index := 2176#32
  ![v17784.toNat, 256, 2176]
def k0_off243 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17789 : Index := Scalar.indexCast v37
  let c256_5385 : Index := 256#32
  let c2304_5386 : Index := 2304#32
  ![v17789.toNat, 256, 2304]
def k0_off244 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17794 : Index := Scalar.indexCast v37
  let c256_5389 : Index := 256#32
  let c2432_5390 : Index := 2432#32
  ![v17794.toNat, 256, 2432]
def k0_off245 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18057 : Index := Scalar.indexCast v37
  let c256_5461 : Index := 256#32
  let c2560_5462 : Index := 2560#32
  ![v18057.toNat, 256, 2560]
def k0_off246 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18062 : Index := Scalar.indexCast v37
  let c256_5465 : Index := 256#32
  let c2688_5466 : Index := 2688#32
  ![v18062.toNat, 256, 2688]
def k0_off247 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18067 : Index := Scalar.indexCast v37
  let c256_5469 : Index := 256#32
  let c2816_5470 : Index := 2816#32
  ![v18067.toNat, 256, 2816]
def k0_off248 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18072 : Index := Scalar.indexCast v37
  let c256_5473 : Index := 256#32
  let c2944_5474 : Index := 2944#32
  ![v18072.toNat, 256, 2944]
def k0_off249 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18335 : Index := Scalar.indexCast v37
  let c256_5545 : Index := 256#32
  let c3072_5546 : Index := 3072#32
  ![v18335.toNat, 256, 3072]
def k0_off250 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18340 : Index := Scalar.indexCast v37
  let c256_5549 : Index := 256#32
  let c3200_5550 : Index := 3200#32
  ![v18340.toNat, 256, 3200]
def k0_off251 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18345 : Index := Scalar.indexCast v37
  let c256_5553 : Index := 256#32
  let c3328_5554 : Index := 3328#32
  ![v18345.toNat, 256, 3328]
def k0_off252 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18350 : Index := Scalar.indexCast v37
  let c256_5557 : Index := 256#32
  let c3456_5558 : Index := 3456#32
  ![v18350.toNat, 256, 3456]
def k0_off253 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18707 : Index := Scalar.indexCast v37
  let c288_5663 : Index := 288#32
  let c0_5664 : Index := 0#32
  ![v18707.toNat, 288, 0]
def k0_off254 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18712 : Index := Scalar.indexCast v37
  let c288_5667 : Index := 288#32
  let c128_5668 : Index := 128#32
  ![v18712.toNat, 288, 128]
def k0_off255 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18717 : Index := Scalar.indexCast v37
  let c288_5671 : Index := 288#32
  let c256_5672 : Index := 256#32
  ![v18717.toNat, 288, 256]
def k0_off256 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18722 : Index := Scalar.indexCast v37
  let c288_5675 : Index := 288#32
  let c384_5676 : Index := 384#32
  ![v18722.toNat, 288, 384]
def k0_off257 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18985 : Index := Scalar.indexCast v37
  let c288_5747 : Index := 288#32
  let c512_5748 : Index := 512#32
  ![v18985.toNat, 288, 512]
def k0_off258 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18990 : Index := Scalar.indexCast v37
  let c288_5751 : Index := 288#32
  let c640_5752 : Index := 640#32
  ![v18990.toNat, 288, 640]
def k0_off259 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18995 : Index := Scalar.indexCast v37
  let c288_5755 : Index := 288#32
  let c768_5756 : Index := 768#32
  ![v18995.toNat, 288, 768]
def k0_off260 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19000 : Index := Scalar.indexCast v37
  let c288_5759 : Index := 288#32
  let c896_5760 : Index := 896#32
  ![v19000.toNat, 288, 896]
def k0_off261 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19263 : Index := Scalar.indexCast v37
  let c288_5831 : Index := 288#32
  let c1024_5832 : Index := 1024#32
  ![v19263.toNat, 288, 1024]
def k0_off262 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19268 : Index := Scalar.indexCast v37
  let c288_5835 : Index := 288#32
  let c1152_5836 : Index := 1152#32
  ![v19268.toNat, 288, 1152]
def k0_off263 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19273 : Index := Scalar.indexCast v37
  let c288_5839 : Index := 288#32
  let c1280_5840 : Index := 1280#32
  ![v19273.toNat, 288, 1280]
def k0_off264 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19278 : Index := Scalar.indexCast v37
  let c288_5843 : Index := 288#32
  let c1408_5844 : Index := 1408#32
  ![v19278.toNat, 288, 1408]
def k0_off265 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19541 : Index := Scalar.indexCast v37
  let c288_5915 : Index := 288#32
  let c1536_5916 : Index := 1536#32
  ![v19541.toNat, 288, 1536]
def k0_off266 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19546 : Index := Scalar.indexCast v37
  let c288_5919 : Index := 288#32
  let c1664_5920 : Index := 1664#32
  ![v19546.toNat, 288, 1664]
def k0_off267 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19551 : Index := Scalar.indexCast v37
  let c288_5923 : Index := 288#32
  let c1792_5924 : Index := 1792#32
  ![v19551.toNat, 288, 1792]
def k0_off268 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19556 : Index := Scalar.indexCast v37
  let c288_5927 : Index := 288#32
  let c1920_5928 : Index := 1920#32
  ![v19556.toNat, 288, 1920]
def k0_off269 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19819 : Index := Scalar.indexCast v37
  let c288_5999 : Index := 288#32
  let c2048_6000 : Index := 2048#32
  ![v19819.toNat, 288, 2048]
def k0_off270 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19824 : Index := Scalar.indexCast v37
  let c288_6003 : Index := 288#32
  let c2176_6004 : Index := 2176#32
  ![v19824.toNat, 288, 2176]
def k0_off271 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19829 : Index := Scalar.indexCast v37
  let c288_6007 : Index := 288#32
  let c2304_6008 : Index := 2304#32
  ![v19829.toNat, 288, 2304]
def k0_off272 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19834 : Index := Scalar.indexCast v37
  let c288_6011 : Index := 288#32
  let c2432_6012 : Index := 2432#32
  ![v19834.toNat, 288, 2432]
def k0_off273 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20097 : Index := Scalar.indexCast v37
  let c288_6083 : Index := 288#32
  let c2560_6084 : Index := 2560#32
  ![v20097.toNat, 288, 2560]
def k0_off274 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20102 : Index := Scalar.indexCast v37
  let c288_6087 : Index := 288#32
  let c2688_6088 : Index := 2688#32
  ![v20102.toNat, 288, 2688]
def k0_off275 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20107 : Index := Scalar.indexCast v37
  let c288_6091 : Index := 288#32
  let c2816_6092 : Index := 2816#32
  ![v20107.toNat, 288, 2816]
def k0_off276 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20112 : Index := Scalar.indexCast v37
  let c288_6095 : Index := 288#32
  let c2944_6096 : Index := 2944#32
  ![v20112.toNat, 288, 2944]
def k0_off277 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20375 : Index := Scalar.indexCast v37
  let c288_6167 : Index := 288#32
  let c3072_6168 : Index := 3072#32
  ![v20375.toNat, 288, 3072]
def k0_off278 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20380 : Index := Scalar.indexCast v37
  let c288_6171 : Index := 288#32
  let c3200_6172 : Index := 3200#32
  ![v20380.toNat, 288, 3200]
def k0_off279 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20385 : Index := Scalar.indexCast v37
  let c288_6175 : Index := 288#32
  let c3328_6176 : Index := 3328#32
  ![v20385.toNat, 288, 3328]
def k0_off280 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20390 : Index := Scalar.indexCast v37
  let c288_6179 : Index := 288#32
  let c3456_6180 : Index := 3456#32
  ![v20390.toNat, 288, 3456]
def k0_off281 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20747 : Index := Scalar.indexCast v37
  let c320_6285 : Index := 320#32
  let c0_6286 : Index := 0#32
  ![v20747.toNat, 320, 0]
def k0_off282 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20752 : Index := Scalar.indexCast v37
  let c320_6289 : Index := 320#32
  let c128_6290 : Index := 128#32
  ![v20752.toNat, 320, 128]
def k0_off283 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20757 : Index := Scalar.indexCast v37
  let c320_6293 : Index := 320#32
  let c256_6294 : Index := 256#32
  ![v20757.toNat, 320, 256]
def k0_off284 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20762 : Index := Scalar.indexCast v37
  let c320_6297 : Index := 320#32
  let c384_6298 : Index := 384#32
  ![v20762.toNat, 320, 384]
def k0_off285 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21025 : Index := Scalar.indexCast v37
  let c320_6369 : Index := 320#32
  let c512_6370 : Index := 512#32
  ![v21025.toNat, 320, 512]
def k0_off286 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21030 : Index := Scalar.indexCast v37
  let c320_6373 : Index := 320#32
  let c640_6374 : Index := 640#32
  ![v21030.toNat, 320, 640]
def k0_off287 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21035 : Index := Scalar.indexCast v37
  let c320_6377 : Index := 320#32
  let c768_6378 : Index := 768#32
  ![v21035.toNat, 320, 768]
def k0_off288 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21040 : Index := Scalar.indexCast v37
  let c320_6381 : Index := 320#32
  let c896_6382 : Index := 896#32
  ![v21040.toNat, 320, 896]
def k0_off289 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21303 : Index := Scalar.indexCast v37
  let c320_6453 : Index := 320#32
  let c1024_6454 : Index := 1024#32
  ![v21303.toNat, 320, 1024]
def k0_off290 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21308 : Index := Scalar.indexCast v37
  let c320_6457 : Index := 320#32
  let c1152_6458 : Index := 1152#32
  ![v21308.toNat, 320, 1152]
def k0_off291 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21313 : Index := Scalar.indexCast v37
  let c320_6461 : Index := 320#32
  let c1280_6462 : Index := 1280#32
  ![v21313.toNat, 320, 1280]
def k0_off292 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21318 : Index := Scalar.indexCast v37
  let c320_6465 : Index := 320#32
  let c1408_6466 : Index := 1408#32
  ![v21318.toNat, 320, 1408]
def k0_off293 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21581 : Index := Scalar.indexCast v37
  let c320_6537 : Index := 320#32
  let c1536_6538 : Index := 1536#32
  ![v21581.toNat, 320, 1536]
def k0_off294 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21586 : Index := Scalar.indexCast v37
  let c320_6541 : Index := 320#32
  let c1664_6542 : Index := 1664#32
  ![v21586.toNat, 320, 1664]
def k0_off295 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21591 : Index := Scalar.indexCast v37
  let c320_6545 : Index := 320#32
  let c1792_6546 : Index := 1792#32
  ![v21591.toNat, 320, 1792]
def k0_off296 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21596 : Index := Scalar.indexCast v37
  let c320_6549 : Index := 320#32
  let c1920_6550 : Index := 1920#32
  ![v21596.toNat, 320, 1920]
def k0_off297 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21859 : Index := Scalar.indexCast v37
  let c320_6621 : Index := 320#32
  let c2048_6622 : Index := 2048#32
  ![v21859.toNat, 320, 2048]
def k0_off298 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21864 : Index := Scalar.indexCast v37
  let c320_6625 : Index := 320#32
  let c2176_6626 : Index := 2176#32
  ![v21864.toNat, 320, 2176]
def k0_off299 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21869 : Index := Scalar.indexCast v37
  let c320_6629 : Index := 320#32
  let c2304_6630 : Index := 2304#32
  ![v21869.toNat, 320, 2304]
def k0_off300 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21874 : Index := Scalar.indexCast v37
  let c320_6633 : Index := 320#32
  let c2432_6634 : Index := 2432#32
  ![v21874.toNat, 320, 2432]
def k0_off301 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22137 : Index := Scalar.indexCast v37
  let c320_6705 : Index := 320#32
  let c2560_6706 : Index := 2560#32
  ![v22137.toNat, 320, 2560]
def k0_off302 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22142 : Index := Scalar.indexCast v37
  let c320_6709 : Index := 320#32
  let c2688_6710 : Index := 2688#32
  ![v22142.toNat, 320, 2688]
def k0_off303 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22147 : Index := Scalar.indexCast v37
  let c320_6713 : Index := 320#32
  let c2816_6714 : Index := 2816#32
  ![v22147.toNat, 320, 2816]
def k0_off304 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22152 : Index := Scalar.indexCast v37
  let c320_6717 : Index := 320#32
  let c2944_6718 : Index := 2944#32
  ![v22152.toNat, 320, 2944]
def k0_off305 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22415 : Index := Scalar.indexCast v37
  let c320_6789 : Index := 320#32
  let c3072_6790 : Index := 3072#32
  ![v22415.toNat, 320, 3072]
def k0_off306 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22420 : Index := Scalar.indexCast v37
  let c320_6793 : Index := 320#32
  let c3200_6794 : Index := 3200#32
  ![v22420.toNat, 320, 3200]
def k0_off307 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22425 : Index := Scalar.indexCast v37
  let c320_6797 : Index := 320#32
  let c3328_6798 : Index := 3328#32
  ![v22425.toNat, 320, 3328]
def k0_off308 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22430 : Index := Scalar.indexCast v37
  let c320_6801 : Index := 320#32
  let c3456_6802 : Index := 3456#32
  ![v22430.toNat, 320, 3456]
def k0_off309 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22787 : Index := Scalar.indexCast v37
  let c352_6907 : Index := 352#32
  let c0_6908 : Index := 0#32
  ![v22787.toNat, 352, 0]
def k0_off310 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22792 : Index := Scalar.indexCast v37
  let c352_6911 : Index := 352#32
  let c128_6912 : Index := 128#32
  ![v22792.toNat, 352, 128]
def k0_off311 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22797 : Index := Scalar.indexCast v37
  let c352_6915 : Index := 352#32
  let c256_6916 : Index := 256#32
  ![v22797.toNat, 352, 256]
def k0_off312 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22802 : Index := Scalar.indexCast v37
  let c352_6919 : Index := 352#32
  let c384_6920 : Index := 384#32
  ![v22802.toNat, 352, 384]
def k0_off313 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23065 : Index := Scalar.indexCast v37
  let c352_6991 : Index := 352#32
  let c512_6992 : Index := 512#32
  ![v23065.toNat, 352, 512]
def k0_off314 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23070 : Index := Scalar.indexCast v37
  let c352_6995 : Index := 352#32
  let c640_6996 : Index := 640#32
  ![v23070.toNat, 352, 640]
def k0_off315 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23075 : Index := Scalar.indexCast v37
  let c352_6999 : Index := 352#32
  let c768_7000 : Index := 768#32
  ![v23075.toNat, 352, 768]
def k0_off316 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23080 : Index := Scalar.indexCast v37
  let c352_7003 : Index := 352#32
  let c896_7004 : Index := 896#32
  ![v23080.toNat, 352, 896]
def k0_off317 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23343 : Index := Scalar.indexCast v37
  let c352_7075 : Index := 352#32
  let c1024_7076 : Index := 1024#32
  ![v23343.toNat, 352, 1024]
def k0_off318 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23348 : Index := Scalar.indexCast v37
  let c352_7079 : Index := 352#32
  let c1152_7080 : Index := 1152#32
  ![v23348.toNat, 352, 1152]
def k0_off319 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23353 : Index := Scalar.indexCast v37
  let c352_7083 : Index := 352#32
  let c1280_7084 : Index := 1280#32
  ![v23353.toNat, 352, 1280]
def k0_off320 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23358 : Index := Scalar.indexCast v37
  let c352_7087 : Index := 352#32
  let c1408_7088 : Index := 1408#32
  ![v23358.toNat, 352, 1408]
def k0_off321 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23621 : Index := Scalar.indexCast v37
  let c352_7159 : Index := 352#32
  let c1536_7160 : Index := 1536#32
  ![v23621.toNat, 352, 1536]
def k0_off322 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23626 : Index := Scalar.indexCast v37
  let c352_7163 : Index := 352#32
  let c1664_7164 : Index := 1664#32
  ![v23626.toNat, 352, 1664]
def k0_off323 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23631 : Index := Scalar.indexCast v37
  let c352_7167 : Index := 352#32
  let c1792_7168 : Index := 1792#32
  ![v23631.toNat, 352, 1792]
def k0_off324 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23636 : Index := Scalar.indexCast v37
  let c352_7171 : Index := 352#32
  let c1920_7172 : Index := 1920#32
  ![v23636.toNat, 352, 1920]
def k0_off325 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23899 : Index := Scalar.indexCast v37
  let c352_7243 : Index := 352#32
  let c2048_7244 : Index := 2048#32
  ![v23899.toNat, 352, 2048]
def k0_off326 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23904 : Index := Scalar.indexCast v37
  let c352_7247 : Index := 352#32
  let c2176_7248 : Index := 2176#32
  ![v23904.toNat, 352, 2176]
def k0_off327 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23909 : Index := Scalar.indexCast v37
  let c352_7251 : Index := 352#32
  let c2304_7252 : Index := 2304#32
  ![v23909.toNat, 352, 2304]
def k0_off328 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23914 : Index := Scalar.indexCast v37
  let c352_7255 : Index := 352#32
  let c2432_7256 : Index := 2432#32
  ![v23914.toNat, 352, 2432]
def k0_off329 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24177 : Index := Scalar.indexCast v37
  let c352_7327 : Index := 352#32
  let c2560_7328 : Index := 2560#32
  ![v24177.toNat, 352, 2560]
def k0_off330 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24182 : Index := Scalar.indexCast v37
  let c352_7331 : Index := 352#32
  let c2688_7332 : Index := 2688#32
  ![v24182.toNat, 352, 2688]
def k0_off331 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24187 : Index := Scalar.indexCast v37
  let c352_7335 : Index := 352#32
  let c2816_7336 : Index := 2816#32
  ![v24187.toNat, 352, 2816]
def k0_off332 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24192 : Index := Scalar.indexCast v37
  let c352_7339 : Index := 352#32
  let c2944_7340 : Index := 2944#32
  ![v24192.toNat, 352, 2944]
def k0_off333 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24455 : Index := Scalar.indexCast v37
  let c352_7411 : Index := 352#32
  let c3072_7412 : Index := 3072#32
  ![v24455.toNat, 352, 3072]
def k0_off334 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24460 : Index := Scalar.indexCast v37
  let c352_7415 : Index := 352#32
  let c3200_7416 : Index := 3200#32
  ![v24460.toNat, 352, 3200]
def k0_off335 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24465 : Index := Scalar.indexCast v37
  let c352_7419 : Index := 352#32
  let c3328_7420 : Index := 3328#32
  ![v24465.toNat, 352, 3328]
def k0_off336 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24470 : Index := Scalar.indexCast v37
  let c352_7423 : Index := 352#32
  let c3456_7424 : Index := 3456#32
  ![v24470.toNat, 352, 3456]
def k0_off337 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24827 : Index := Scalar.indexCast v37
  let c384_7530 : Index := 384#32
  let c0_7531 : Index := 0#32
  ![v24827.toNat, 384, 0]
def k0_off338 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24832 : Index := Scalar.indexCast v37
  let c384_7534 : Index := 384#32
  let c128_7535 : Index := 128#32
  ![v24832.toNat, 384, 128]
def k0_off339 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24837 : Index := Scalar.indexCast v37
  let c384_7538 : Index := 384#32
  let c256_7539 : Index := 256#32
  ![v24837.toNat, 384, 256]
def k0_off340 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24842 : Index := Scalar.indexCast v37
  let c384_7542 : Index := 384#32
  let c384_7543 : Index := 384#32
  ![v24842.toNat, 384, 384]
def k0_off341 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25105 : Index := Scalar.indexCast v37
  let c384_7614 : Index := 384#32
  let c512_7615 : Index := 512#32
  ![v25105.toNat, 384, 512]
def k0_off342 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25110 : Index := Scalar.indexCast v37
  let c384_7618 : Index := 384#32
  let c640_7619 : Index := 640#32
  ![v25110.toNat, 384, 640]
def k0_off343 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25115 : Index := Scalar.indexCast v37
  let c384_7622 : Index := 384#32
  let c768_7623 : Index := 768#32
  ![v25115.toNat, 384, 768]
def k0_off344 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25120 : Index := Scalar.indexCast v37
  let c384_7626 : Index := 384#32
  let c896_7627 : Index := 896#32
  ![v25120.toNat, 384, 896]
def k0_off345 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25383 : Index := Scalar.indexCast v37
  let c384_7698 : Index := 384#32
  let c1024_7699 : Index := 1024#32
  ![v25383.toNat, 384, 1024]
def k0_off346 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25388 : Index := Scalar.indexCast v37
  let c384_7702 : Index := 384#32
  let c1152_7703 : Index := 1152#32
  ![v25388.toNat, 384, 1152]
def k0_off347 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25393 : Index := Scalar.indexCast v37
  let c384_7706 : Index := 384#32
  let c1280_7707 : Index := 1280#32
  ![v25393.toNat, 384, 1280]
def k0_off348 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25398 : Index := Scalar.indexCast v37
  let c384_7710 : Index := 384#32
  let c1408_7711 : Index := 1408#32
  ![v25398.toNat, 384, 1408]
def k0_off349 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25661 : Index := Scalar.indexCast v37
  let c384_7782 : Index := 384#32
  let c1536_7783 : Index := 1536#32
  ![v25661.toNat, 384, 1536]
def k0_off350 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25666 : Index := Scalar.indexCast v37
  let c384_7786 : Index := 384#32
  let c1664_7787 : Index := 1664#32
  ![v25666.toNat, 384, 1664]
def k0_off351 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25671 : Index := Scalar.indexCast v37
  let c384_7790 : Index := 384#32
  let c1792_7791 : Index := 1792#32
  ![v25671.toNat, 384, 1792]
def k0_off352 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25676 : Index := Scalar.indexCast v37
  let c384_7794 : Index := 384#32
  let c1920_7795 : Index := 1920#32
  ![v25676.toNat, 384, 1920]
def k0_off353 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25939 : Index := Scalar.indexCast v37
  let c384_7866 : Index := 384#32
  let c2048_7867 : Index := 2048#32
  ![v25939.toNat, 384, 2048]
def k0_off354 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25944 : Index := Scalar.indexCast v37
  let c384_7870 : Index := 384#32
  let c2176_7871 : Index := 2176#32
  ![v25944.toNat, 384, 2176]
def k0_off355 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25949 : Index := Scalar.indexCast v37
  let c384_7874 : Index := 384#32
  let c2304_7875 : Index := 2304#32
  ![v25949.toNat, 384, 2304]
def k0_off356 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25954 : Index := Scalar.indexCast v37
  let c384_7878 : Index := 384#32
  let c2432_7879 : Index := 2432#32
  ![v25954.toNat, 384, 2432]
def k0_off357 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26217 : Index := Scalar.indexCast v37
  let c384_7950 : Index := 384#32
  let c2560_7951 : Index := 2560#32
  ![v26217.toNat, 384, 2560]
def k0_off358 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26222 : Index := Scalar.indexCast v37
  let c384_7954 : Index := 384#32
  let c2688_7955 : Index := 2688#32
  ![v26222.toNat, 384, 2688]
def k0_off359 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26227 : Index := Scalar.indexCast v37
  let c384_7958 : Index := 384#32
  let c2816_7959 : Index := 2816#32
  ![v26227.toNat, 384, 2816]
def k0_off360 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26232 : Index := Scalar.indexCast v37
  let c384_7962 : Index := 384#32
  let c2944_7963 : Index := 2944#32
  ![v26232.toNat, 384, 2944]
def k0_off361 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26495 : Index := Scalar.indexCast v37
  let c384_8034 : Index := 384#32
  let c3072_8035 : Index := 3072#32
  ![v26495.toNat, 384, 3072]
def k0_off362 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26500 : Index := Scalar.indexCast v37
  let c384_8038 : Index := 384#32
  let c3200_8039 : Index := 3200#32
  ![v26500.toNat, 384, 3200]
def k0_off363 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26505 : Index := Scalar.indexCast v37
  let c384_8042 : Index := 384#32
  let c3328_8043 : Index := 3328#32
  ![v26505.toNat, 384, 3328]
def k0_off364 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26510 : Index := Scalar.indexCast v37
  let c384_8046 : Index := 384#32
  let c3456_8047 : Index := 3456#32
  ![v26510.toNat, 384, 3456]
def k0_off365 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26867 : Index := Scalar.indexCast v37
  let c416_8152 : Index := 416#32
  let c0_8153 : Index := 0#32
  ![v26867.toNat, 416, 0]
def k0_off366 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26872 : Index := Scalar.indexCast v37
  let c416_8156 : Index := 416#32
  let c128_8157 : Index := 128#32
  ![v26872.toNat, 416, 128]
def k0_off367 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26877 : Index := Scalar.indexCast v37
  let c416_8160 : Index := 416#32
  let c256_8161 : Index := 256#32
  ![v26877.toNat, 416, 256]
def k0_off368 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26882 : Index := Scalar.indexCast v37
  let c416_8164 : Index := 416#32
  let c384_8165 : Index := 384#32
  ![v26882.toNat, 416, 384]
def k0_off369 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27145 : Index := Scalar.indexCast v37
  let c416_8236 : Index := 416#32
  let c512_8237 : Index := 512#32
  ![v27145.toNat, 416, 512]
def k0_off370 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27150 : Index := Scalar.indexCast v37
  let c416_8240 : Index := 416#32
  let c640_8241 : Index := 640#32
  ![v27150.toNat, 416, 640]
def k0_off371 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27155 : Index := Scalar.indexCast v37
  let c416_8244 : Index := 416#32
  let c768_8245 : Index := 768#32
  ![v27155.toNat, 416, 768]
def k0_off372 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27160 : Index := Scalar.indexCast v37
  let c416_8248 : Index := 416#32
  let c896_8249 : Index := 896#32
  ![v27160.toNat, 416, 896]
def k0_off373 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27423 : Index := Scalar.indexCast v37
  let c416_8320 : Index := 416#32
  let c1024_8321 : Index := 1024#32
  ![v27423.toNat, 416, 1024]
def k0_off374 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27428 : Index := Scalar.indexCast v37
  let c416_8324 : Index := 416#32
  let c1152_8325 : Index := 1152#32
  ![v27428.toNat, 416, 1152]
def k0_off375 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27433 : Index := Scalar.indexCast v37
  let c416_8328 : Index := 416#32
  let c1280_8329 : Index := 1280#32
  ![v27433.toNat, 416, 1280]
def k0_off376 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27438 : Index := Scalar.indexCast v37
  let c416_8332 : Index := 416#32
  let c1408_8333 : Index := 1408#32
  ![v27438.toNat, 416, 1408]
def k0_off377 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27701 : Index := Scalar.indexCast v37
  let c416_8404 : Index := 416#32
  let c1536_8405 : Index := 1536#32
  ![v27701.toNat, 416, 1536]
def k0_off378 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27706 : Index := Scalar.indexCast v37
  let c416_8408 : Index := 416#32
  let c1664_8409 : Index := 1664#32
  ![v27706.toNat, 416, 1664]
def k0_off379 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27711 : Index := Scalar.indexCast v37
  let c416_8412 : Index := 416#32
  let c1792_8413 : Index := 1792#32
  ![v27711.toNat, 416, 1792]
def k0_off380 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27716 : Index := Scalar.indexCast v37
  let c416_8416 : Index := 416#32
  let c1920_8417 : Index := 1920#32
  ![v27716.toNat, 416, 1920]
def k0_off381 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27979 : Index := Scalar.indexCast v37
  let c416_8488 : Index := 416#32
  let c2048_8489 : Index := 2048#32
  ![v27979.toNat, 416, 2048]
def k0_off382 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27984 : Index := Scalar.indexCast v37
  let c416_8492 : Index := 416#32
  let c2176_8493 : Index := 2176#32
  ![v27984.toNat, 416, 2176]
def k0_off383 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27989 : Index := Scalar.indexCast v37
  let c416_8496 : Index := 416#32
  let c2304_8497 : Index := 2304#32
  ![v27989.toNat, 416, 2304]
def k0_off384 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27994 : Index := Scalar.indexCast v37
  let c416_8500 : Index := 416#32
  let c2432_8501 : Index := 2432#32
  ![v27994.toNat, 416, 2432]
def k0_off385 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28257 : Index := Scalar.indexCast v37
  let c416_8572 : Index := 416#32
  let c2560_8573 : Index := 2560#32
  ![v28257.toNat, 416, 2560]
def k0_off386 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28262 : Index := Scalar.indexCast v37
  let c416_8576 : Index := 416#32
  let c2688_8577 : Index := 2688#32
  ![v28262.toNat, 416, 2688]
def k0_off387 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28267 : Index := Scalar.indexCast v37
  let c416_8580 : Index := 416#32
  let c2816_8581 : Index := 2816#32
  ![v28267.toNat, 416, 2816]
def k0_off388 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28272 : Index := Scalar.indexCast v37
  let c416_8584 : Index := 416#32
  let c2944_8585 : Index := 2944#32
  ![v28272.toNat, 416, 2944]
def k0_off389 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28535 : Index := Scalar.indexCast v37
  let c416_8656 : Index := 416#32
  let c3072_8657 : Index := 3072#32
  ![v28535.toNat, 416, 3072]
def k0_off390 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28540 : Index := Scalar.indexCast v37
  let c416_8660 : Index := 416#32
  let c3200_8661 : Index := 3200#32
  ![v28540.toNat, 416, 3200]
def k0_off391 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28545 : Index := Scalar.indexCast v37
  let c416_8664 : Index := 416#32
  let c3328_8665 : Index := 3328#32
  ![v28545.toNat, 416, 3328]
def k0_off392 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28550 : Index := Scalar.indexCast v37
  let c416_8668 : Index := 416#32
  let c3456_8669 : Index := 3456#32
  ![v28550.toNat, 416, 3456]
def k0_off393 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28907 : Index := Scalar.indexCast v37
  let c448_8774 : Index := 448#32
  let c0_8775 : Index := 0#32
  ![v28907.toNat, 448, 0]
def k0_off394 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28912 : Index := Scalar.indexCast v37
  let c448_8778 : Index := 448#32
  let c128_8779 : Index := 128#32
  ![v28912.toNat, 448, 128]
def k0_off395 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28917 : Index := Scalar.indexCast v37
  let c448_8782 : Index := 448#32
  let c256_8783 : Index := 256#32
  ![v28917.toNat, 448, 256]
def k0_off396 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28922 : Index := Scalar.indexCast v37
  let c448_8786 : Index := 448#32
  let c384_8787 : Index := 384#32
  ![v28922.toNat, 448, 384]
def k0_off397 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29185 : Index := Scalar.indexCast v37
  let c448_8858 : Index := 448#32
  let c512_8859 : Index := 512#32
  ![v29185.toNat, 448, 512]
def k0_off398 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29190 : Index := Scalar.indexCast v37
  let c448_8862 : Index := 448#32
  let c640_8863 : Index := 640#32
  ![v29190.toNat, 448, 640]
def k0_off399 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29195 : Index := Scalar.indexCast v37
  let c448_8866 : Index := 448#32
  let c768_8867 : Index := 768#32
  ![v29195.toNat, 448, 768]
def k0_off400 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29200 : Index := Scalar.indexCast v37
  let c448_8870 : Index := 448#32
  let c896_8871 : Index := 896#32
  ![v29200.toNat, 448, 896]
def k0_off401 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29463 : Index := Scalar.indexCast v37
  let c448_8942 : Index := 448#32
  let c1024_8943 : Index := 1024#32
  ![v29463.toNat, 448, 1024]
def k0_off402 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29468 : Index := Scalar.indexCast v37
  let c448_8946 : Index := 448#32
  let c1152_8947 : Index := 1152#32
  ![v29468.toNat, 448, 1152]
def k0_off403 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29473 : Index := Scalar.indexCast v37
  let c448_8950 : Index := 448#32
  let c1280_8951 : Index := 1280#32
  ![v29473.toNat, 448, 1280]
def k0_off404 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29478 : Index := Scalar.indexCast v37
  let c448_8954 : Index := 448#32
  let c1408_8955 : Index := 1408#32
  ![v29478.toNat, 448, 1408]
def k0_off405 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29741 : Index := Scalar.indexCast v37
  let c448_9026 : Index := 448#32
  let c1536_9027 : Index := 1536#32
  ![v29741.toNat, 448, 1536]
def k0_off406 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29746 : Index := Scalar.indexCast v37
  let c448_9030 : Index := 448#32
  let c1664_9031 : Index := 1664#32
  ![v29746.toNat, 448, 1664]
def k0_off407 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29751 : Index := Scalar.indexCast v37
  let c448_9034 : Index := 448#32
  let c1792_9035 : Index := 1792#32
  ![v29751.toNat, 448, 1792]
def k0_off408 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29756 : Index := Scalar.indexCast v37
  let c448_9038 : Index := 448#32
  let c1920_9039 : Index := 1920#32
  ![v29756.toNat, 448, 1920]
def k0_off409 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30019 : Index := Scalar.indexCast v37
  let c448_9110 : Index := 448#32
  let c2048_9111 : Index := 2048#32
  ![v30019.toNat, 448, 2048]
def k0_off410 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30024 : Index := Scalar.indexCast v37
  let c448_9114 : Index := 448#32
  let c2176_9115 : Index := 2176#32
  ![v30024.toNat, 448, 2176]
def k0_off411 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30029 : Index := Scalar.indexCast v37
  let c448_9118 : Index := 448#32
  let c2304_9119 : Index := 2304#32
  ![v30029.toNat, 448, 2304]
def k0_off412 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30034 : Index := Scalar.indexCast v37
  let c448_9122 : Index := 448#32
  let c2432_9123 : Index := 2432#32
  ![v30034.toNat, 448, 2432]
def k0_off413 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30297 : Index := Scalar.indexCast v37
  let c448_9194 : Index := 448#32
  let c2560_9195 : Index := 2560#32
  ![v30297.toNat, 448, 2560]
def k0_off414 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30302 : Index := Scalar.indexCast v37
  let c448_9198 : Index := 448#32
  let c2688_9199 : Index := 2688#32
  ![v30302.toNat, 448, 2688]
def k0_off415 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30307 : Index := Scalar.indexCast v37
  let c448_9202 : Index := 448#32
  let c2816_9203 : Index := 2816#32
  ![v30307.toNat, 448, 2816]
def k0_off416 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30312 : Index := Scalar.indexCast v37
  let c448_9206 : Index := 448#32
  let c2944_9207 : Index := 2944#32
  ![v30312.toNat, 448, 2944]
def k0_off417 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30575 : Index := Scalar.indexCast v37
  let c448_9278 : Index := 448#32
  let c3072_9279 : Index := 3072#32
  ![v30575.toNat, 448, 3072]
def k0_off418 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30580 : Index := Scalar.indexCast v37
  let c448_9282 : Index := 448#32
  let c3200_9283 : Index := 3200#32
  ![v30580.toNat, 448, 3200]
def k0_off419 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30585 : Index := Scalar.indexCast v37
  let c448_9286 : Index := 448#32
  let c3328_9287 : Index := 3328#32
  ![v30585.toNat, 448, 3328]
def k0_off420 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30590 : Index := Scalar.indexCast v37
  let c448_9290 : Index := 448#32
  let c3456_9291 : Index := 3456#32
  ![v30590.toNat, 448, 3456]
def k0_off421 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30947 : Index := Scalar.indexCast v37
  let c480_9396 : Index := 480#32
  let c0_9397 : Index := 0#32
  ![v30947.toNat, 480, 0]
def k0_off422 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30952 : Index := Scalar.indexCast v37
  let c480_9400 : Index := 480#32
  let c128_9401 : Index := 128#32
  ![v30952.toNat, 480, 128]
def k0_off423 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30957 : Index := Scalar.indexCast v37
  let c480_9404 : Index := 480#32
  let c256_9405 : Index := 256#32
  ![v30957.toNat, 480, 256]
def k0_off424 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30962 : Index := Scalar.indexCast v37
  let c480_9408 : Index := 480#32
  let c384_9409 : Index := 384#32
  ![v30962.toNat, 480, 384]
def k0_off425 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31225 : Index := Scalar.indexCast v37
  let c480_9480 : Index := 480#32
  let c512_9481 : Index := 512#32
  ![v31225.toNat, 480, 512]
def k0_off426 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31230 : Index := Scalar.indexCast v37
  let c480_9484 : Index := 480#32
  let c640_9485 : Index := 640#32
  ![v31230.toNat, 480, 640]
def k0_off427 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31235 : Index := Scalar.indexCast v37
  let c480_9488 : Index := 480#32
  let c768_9489 : Index := 768#32
  ![v31235.toNat, 480, 768]
def k0_off428 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31240 : Index := Scalar.indexCast v37
  let c480_9492 : Index := 480#32
  let c896_9493 : Index := 896#32
  ![v31240.toNat, 480, 896]
def k0_off429 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31503 : Index := Scalar.indexCast v37
  let c480_9564 : Index := 480#32
  let c1024_9565 : Index := 1024#32
  ![v31503.toNat, 480, 1024]
def k0_off430 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31508 : Index := Scalar.indexCast v37
  let c480_9568 : Index := 480#32
  let c1152_9569 : Index := 1152#32
  ![v31508.toNat, 480, 1152]
def k0_off431 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31513 : Index := Scalar.indexCast v37
  let c480_9572 : Index := 480#32
  let c1280_9573 : Index := 1280#32
  ![v31513.toNat, 480, 1280]
def k0_off432 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31518 : Index := Scalar.indexCast v37
  let c480_9576 : Index := 480#32
  let c1408_9577 : Index := 1408#32
  ![v31518.toNat, 480, 1408]
def k0_off433 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31781 : Index := Scalar.indexCast v37
  let c480_9648 : Index := 480#32
  let c1536_9649 : Index := 1536#32
  ![v31781.toNat, 480, 1536]
def k0_off434 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31786 : Index := Scalar.indexCast v37
  let c480_9652 : Index := 480#32
  let c1664_9653 : Index := 1664#32
  ![v31786.toNat, 480, 1664]
def k0_off435 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31791 : Index := Scalar.indexCast v37
  let c480_9656 : Index := 480#32
  let c1792_9657 : Index := 1792#32
  ![v31791.toNat, 480, 1792]
def k0_off436 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31796 : Index := Scalar.indexCast v37
  let c480_9660 : Index := 480#32
  let c1920_9661 : Index := 1920#32
  ![v31796.toNat, 480, 1920]
def k0_off437 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32059 : Index := Scalar.indexCast v37
  let c480_9732 : Index := 480#32
  let c2048_9733 : Index := 2048#32
  ![v32059.toNat, 480, 2048]
def k0_off438 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32064 : Index := Scalar.indexCast v37
  let c480_9736 : Index := 480#32
  let c2176_9737 : Index := 2176#32
  ![v32064.toNat, 480, 2176]
def k0_off439 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32069 : Index := Scalar.indexCast v37
  let c480_9740 : Index := 480#32
  let c2304_9741 : Index := 2304#32
  ![v32069.toNat, 480, 2304]
def k0_off440 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32074 : Index := Scalar.indexCast v37
  let c480_9744 : Index := 480#32
  let c2432_9745 : Index := 2432#32
  ![v32074.toNat, 480, 2432]
def k0_off441 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32337 : Index := Scalar.indexCast v37
  let c480_9816 : Index := 480#32
  let c2560_9817 : Index := 2560#32
  ![v32337.toNat, 480, 2560]
def k0_off442 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32342 : Index := Scalar.indexCast v37
  let c480_9820 : Index := 480#32
  let c2688_9821 : Index := 2688#32
  ![v32342.toNat, 480, 2688]
def k0_off443 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32347 : Index := Scalar.indexCast v37
  let c480_9824 : Index := 480#32
  let c2816_9825 : Index := 2816#32
  ![v32347.toNat, 480, 2816]
def k0_off444 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32352 : Index := Scalar.indexCast v37
  let c480_9828 : Index := 480#32
  let c2944_9829 : Index := 2944#32
  ![v32352.toNat, 480, 2944]
def k0_off445 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32615 : Index := Scalar.indexCast v37
  let c480_9900 : Index := 480#32
  let c3072_9901 : Index := 3072#32
  ![v32615.toNat, 480, 3072]
def k0_off446 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32620 : Index := Scalar.indexCast v37
  let c480_9904 : Index := 480#32
  let c3200_9905 : Index := 3200#32
  ![v32620.toNat, 480, 3200]
def k0_off447 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32625 : Index := Scalar.indexCast v37
  let c480_9908 : Index := 480#32
  let c3328_9909 : Index := 3328#32
  ![v32625.toNat, 480, 3328]
def k0_off448 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32630 : Index := Scalar.indexCast v37
  let c480_9912 : Index := 480#32
  let c3456_9913 : Index := 3456#32
  ![v32630.toNat, 480, 3456]
def k0_cond2 (i : grid0.Coords) : BitVec 1 :=
  let arg0 : BitVec 32 := BitVec.ofNat 32 (i 0).val
  let c0_i32_22 : BitVec 32 := 0#32
  let v85 : BitVec 1 := Scalar.cmpi .sgt arg0 c0_i32_22
  let v86 : BitVec 32 := Scalar.extui v85
  let c0_i32_23 : BitVec 32 := 0#32
  let v87 : BitVec 1 := Scalar.cmpi .ne v86 c0_i32_23
  v87

def k0_off449 (i : grid0.Coords) : Fin 3 → Nat :=
  let c1_i32_26 : BitVec 32 := 1#32
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v89 : BitVec 32 := Scalar.subi c1_i32_26 v37
  let v90 : Index := Scalar.indexCast v89
  let c0_27 : Index := 0#32
  let c0_28 : Index := 0#32
  ![v90.toNat, 0, 0]
def k0_off450 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v355 : Index := Scalar.indexCast v37
  let c0_101 : Index := 0#32
  let c0_102 : Index := 0#32
  ![v355.toNat, 0, 0]
def k0_off451 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v360 : Index := Scalar.indexCast v37
  let c0_104 : Index := 0#32
  let c128_105 : Index := 128#32
  ![v360.toNat, 0, 128]
def k0_off452 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v365 : Index := Scalar.indexCast v37
  let c0_107 : Index := 0#32
  let c256_108 : Index := 256#32
  ![v365.toNat, 0, 256]
def k0_off453 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v370 : Index := Scalar.indexCast v37
  let c0_110 : Index := 0#32
  let c384_111 : Index := 384#32
  ![v370.toNat, 0, 384]
def k0_off454 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v633 : Index := Scalar.indexCast v37
  let c0_181 : Index := 0#32
  let c512_182 : Index := 512#32
  ![v633.toNat, 0, 512]
def k0_off455 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v638 : Index := Scalar.indexCast v37
  let c0_184 : Index := 0#32
  let c640_185 : Index := 640#32
  ![v638.toNat, 0, 640]
def k0_off456 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v643 : Index := Scalar.indexCast v37
  let c0_187 : Index := 0#32
  let c768_188 : Index := 768#32
  ![v643.toNat, 0, 768]
def k0_off457 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v648 : Index := Scalar.indexCast v37
  let c0_190 : Index := 0#32
  let c896_191 : Index := 896#32
  ![v648.toNat, 0, 896]
def k0_off458 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v911 : Index := Scalar.indexCast v37
  let c0_261 : Index := 0#32
  let c1024_262 : Index := 1024#32
  ![v911.toNat, 0, 1024]
def k0_off459 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v916 : Index := Scalar.indexCast v37
  let c0_264 : Index := 0#32
  let c1152_265 : Index := 1152#32
  ![v916.toNat, 0, 1152]
def k0_off460 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v921 : Index := Scalar.indexCast v37
  let c0_267 : Index := 0#32
  let c1280_268 : Index := 1280#32
  ![v921.toNat, 0, 1280]
def k0_off461 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v926 : Index := Scalar.indexCast v37
  let c0_270 : Index := 0#32
  let c1408_271 : Index := 1408#32
  ![v926.toNat, 0, 1408]
def k0_off462 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1189 : Index := Scalar.indexCast v37
  let c0_341 : Index := 0#32
  let c1536_342 : Index := 1536#32
  ![v1189.toNat, 0, 1536]
def k0_off463 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1194 : Index := Scalar.indexCast v37
  let c0_344 : Index := 0#32
  let c1664_345 : Index := 1664#32
  ![v1194.toNat, 0, 1664]
def k0_off464 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1199 : Index := Scalar.indexCast v37
  let c0_347 : Index := 0#32
  let c1792_348 : Index := 1792#32
  ![v1199.toNat, 0, 1792]
def k0_off465 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1204 : Index := Scalar.indexCast v37
  let c0_350 : Index := 0#32
  let c1920_351 : Index := 1920#32
  ![v1204.toNat, 0, 1920]
def k0_off466 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1467 : Index := Scalar.indexCast v37
  let c0_421 : Index := 0#32
  let c2048_422 : Index := 2048#32
  ![v1467.toNat, 0, 2048]
def k0_off467 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1472 : Index := Scalar.indexCast v37
  let c0_424 : Index := 0#32
  let c2176_425 : Index := 2176#32
  ![v1472.toNat, 0, 2176]
def k0_off468 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1477 : Index := Scalar.indexCast v37
  let c0_427 : Index := 0#32
  let c2304_428 : Index := 2304#32
  ![v1477.toNat, 0, 2304]
def k0_off469 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1482 : Index := Scalar.indexCast v37
  let c0_430 : Index := 0#32
  let c2432_431 : Index := 2432#32
  ![v1482.toNat, 0, 2432]
def k0_off470 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1745 : Index := Scalar.indexCast v37
  let c0_501 : Index := 0#32
  let c2560_502 : Index := 2560#32
  ![v1745.toNat, 0, 2560]
def k0_off471 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1750 : Index := Scalar.indexCast v37
  let c0_504 : Index := 0#32
  let c2688_505 : Index := 2688#32
  ![v1750.toNat, 0, 2688]
def k0_off472 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1755 : Index := Scalar.indexCast v37
  let c0_507 : Index := 0#32
  let c2816_508 : Index := 2816#32
  ![v1755.toNat, 0, 2816]
def k0_off473 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v1760 : Index := Scalar.indexCast v37
  let c0_510 : Index := 0#32
  let c2944_511 : Index := 2944#32
  ![v1760.toNat, 0, 2944]
def k0_off474 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2023 : Index := Scalar.indexCast v37
  let c0_581 : Index := 0#32
  let c3072_582 : Index := 3072#32
  ![v2023.toNat, 0, 3072]
def k0_off475 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2028 : Index := Scalar.indexCast v37
  let c0_584 : Index := 0#32
  let c3200_585 : Index := 3200#32
  ![v2028.toNat, 0, 3200]
def k0_off476 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2033 : Index := Scalar.indexCast v37
  let c0_587 : Index := 0#32
  let c3328_588 : Index := 3328#32
  ![v2033.toNat, 0, 3328]
def k0_off477 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2038 : Index := Scalar.indexCast v37
  let c0_590 : Index := 0#32
  let c3456_591 : Index := 3456#32
  ![v2038.toNat, 0, 3456]
def k0_off478 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2395 : Index := Scalar.indexCast v37
  let c32_693 : Index := 32#32
  let c0_694 : Index := 0#32
  ![v2395.toNat, 32, 0]
def k0_off479 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2400 : Index := Scalar.indexCast v37
  let c32_697 : Index := 32#32
  let c128_698 : Index := 128#32
  ![v2400.toNat, 32, 128]
def k0_off480 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2405 : Index := Scalar.indexCast v37
  let c32_701 : Index := 32#32
  let c256_702 : Index := 256#32
  ![v2405.toNat, 32, 256]
def k0_off481 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2410 : Index := Scalar.indexCast v37
  let c32_705 : Index := 32#32
  let c384_706 : Index := 384#32
  ![v2410.toNat, 32, 384]
def k0_off482 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2673 : Index := Scalar.indexCast v37
  let c32_777 : Index := 32#32
  let c512_778 : Index := 512#32
  ![v2673.toNat, 32, 512]
def k0_off483 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2678 : Index := Scalar.indexCast v37
  let c32_781 : Index := 32#32
  let c640_782 : Index := 640#32
  ![v2678.toNat, 32, 640]
def k0_off484 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2683 : Index := Scalar.indexCast v37
  let c32_785 : Index := 32#32
  let c768_786 : Index := 768#32
  ![v2683.toNat, 32, 768]
def k0_off485 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2688 : Index := Scalar.indexCast v37
  let c32_789 : Index := 32#32
  let c896_790 : Index := 896#32
  ![v2688.toNat, 32, 896]
def k0_off486 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2951 : Index := Scalar.indexCast v37
  let c32_861 : Index := 32#32
  let c1024_862 : Index := 1024#32
  ![v2951.toNat, 32, 1024]
def k0_off487 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2956 : Index := Scalar.indexCast v37
  let c32_865 : Index := 32#32
  let c1152_866 : Index := 1152#32
  ![v2956.toNat, 32, 1152]
def k0_off488 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2961 : Index := Scalar.indexCast v37
  let c32_869 : Index := 32#32
  let c1280_870 : Index := 1280#32
  ![v2961.toNat, 32, 1280]
def k0_off489 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v2966 : Index := Scalar.indexCast v37
  let c32_873 : Index := 32#32
  let c1408_874 : Index := 1408#32
  ![v2966.toNat, 32, 1408]
def k0_off490 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3229 : Index := Scalar.indexCast v37
  let c32_945 : Index := 32#32
  let c1536_946 : Index := 1536#32
  ![v3229.toNat, 32, 1536]
def k0_off491 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3234 : Index := Scalar.indexCast v37
  let c32_949 : Index := 32#32
  let c1664_950 : Index := 1664#32
  ![v3234.toNat, 32, 1664]
def k0_off492 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3239 : Index := Scalar.indexCast v37
  let c32_953 : Index := 32#32
  let c1792_954 : Index := 1792#32
  ![v3239.toNat, 32, 1792]
def k0_off493 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3244 : Index := Scalar.indexCast v37
  let c32_957 : Index := 32#32
  let c1920_958 : Index := 1920#32
  ![v3244.toNat, 32, 1920]
def k0_off494 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3507 : Index := Scalar.indexCast v37
  let c32_1029 : Index := 32#32
  let c2048_1030 : Index := 2048#32
  ![v3507.toNat, 32, 2048]
def k0_off495 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3512 : Index := Scalar.indexCast v37
  let c32_1033 : Index := 32#32
  let c2176_1034 : Index := 2176#32
  ![v3512.toNat, 32, 2176]
def k0_off496 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3517 : Index := Scalar.indexCast v37
  let c32_1037 : Index := 32#32
  let c2304_1038 : Index := 2304#32
  ![v3517.toNat, 32, 2304]
def k0_off497 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3522 : Index := Scalar.indexCast v37
  let c32_1041 : Index := 32#32
  let c2432_1042 : Index := 2432#32
  ![v3522.toNat, 32, 2432]
def k0_off498 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3785 : Index := Scalar.indexCast v37
  let c32_1113 : Index := 32#32
  let c2560_1114 : Index := 2560#32
  ![v3785.toNat, 32, 2560]
def k0_off499 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3790 : Index := Scalar.indexCast v37
  let c32_1117 : Index := 32#32
  let c2688_1118 : Index := 2688#32
  ![v3790.toNat, 32, 2688]
def k0_off500 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3795 : Index := Scalar.indexCast v37
  let c32_1121 : Index := 32#32
  let c2816_1122 : Index := 2816#32
  ![v3795.toNat, 32, 2816]
def k0_off501 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v3800 : Index := Scalar.indexCast v37
  let c32_1125 : Index := 32#32
  let c2944_1126 : Index := 2944#32
  ![v3800.toNat, 32, 2944]
def k0_off502 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4063 : Index := Scalar.indexCast v37
  let c32_1197 : Index := 32#32
  let c3072_1198 : Index := 3072#32
  ![v4063.toNat, 32, 3072]
def k0_off503 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4068 : Index := Scalar.indexCast v37
  let c32_1201 : Index := 32#32
  let c3200_1202 : Index := 3200#32
  ![v4068.toNat, 32, 3200]
def k0_off504 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4073 : Index := Scalar.indexCast v37
  let c32_1205 : Index := 32#32
  let c3328_1206 : Index := 3328#32
  ![v4073.toNat, 32, 3328]
def k0_off505 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4078 : Index := Scalar.indexCast v37
  let c32_1209 : Index := 32#32
  let c3456_1210 : Index := 3456#32
  ![v4078.toNat, 32, 3456]
def k0_off506 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4435 : Index := Scalar.indexCast v37
  let c64_1315 : Index := 64#32
  let c0_1316 : Index := 0#32
  ![v4435.toNat, 64, 0]
def k0_off507 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4440 : Index := Scalar.indexCast v37
  let c64_1319 : Index := 64#32
  let c128_1320 : Index := 128#32
  ![v4440.toNat, 64, 128]
def k0_off508 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4445 : Index := Scalar.indexCast v37
  let c64_1323 : Index := 64#32
  let c256_1324 : Index := 256#32
  ![v4445.toNat, 64, 256]
def k0_off509 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4450 : Index := Scalar.indexCast v37
  let c64_1327 : Index := 64#32
  let c384_1328 : Index := 384#32
  ![v4450.toNat, 64, 384]
def k0_off510 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4713 : Index := Scalar.indexCast v37
  let c64_1399 : Index := 64#32
  let c512_1400 : Index := 512#32
  ![v4713.toNat, 64, 512]
def k0_off511 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4718 : Index := Scalar.indexCast v37
  let c64_1403 : Index := 64#32
  let c640_1404 : Index := 640#32
  ![v4718.toNat, 64, 640]
def k0_off512 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4723 : Index := Scalar.indexCast v37
  let c64_1407 : Index := 64#32
  let c768_1408 : Index := 768#32
  ![v4723.toNat, 64, 768]
def k0_off513 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4728 : Index := Scalar.indexCast v37
  let c64_1411 : Index := 64#32
  let c896_1412 : Index := 896#32
  ![v4728.toNat, 64, 896]
def k0_off514 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4991 : Index := Scalar.indexCast v37
  let c64_1483 : Index := 64#32
  let c1024_1484 : Index := 1024#32
  ![v4991.toNat, 64, 1024]
def k0_off515 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v4996 : Index := Scalar.indexCast v37
  let c64_1487 : Index := 64#32
  let c1152_1488 : Index := 1152#32
  ![v4996.toNat, 64, 1152]
def k0_off516 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5001 : Index := Scalar.indexCast v37
  let c64_1491 : Index := 64#32
  let c1280_1492 : Index := 1280#32
  ![v5001.toNat, 64, 1280]
def k0_off517 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5006 : Index := Scalar.indexCast v37
  let c64_1495 : Index := 64#32
  let c1408_1496 : Index := 1408#32
  ![v5006.toNat, 64, 1408]
def k0_off518 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5269 : Index := Scalar.indexCast v37
  let c64_1567 : Index := 64#32
  let c1536_1568 : Index := 1536#32
  ![v5269.toNat, 64, 1536]
def k0_off519 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5274 : Index := Scalar.indexCast v37
  let c64_1571 : Index := 64#32
  let c1664_1572 : Index := 1664#32
  ![v5274.toNat, 64, 1664]
def k0_off520 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5279 : Index := Scalar.indexCast v37
  let c64_1575 : Index := 64#32
  let c1792_1576 : Index := 1792#32
  ![v5279.toNat, 64, 1792]
def k0_off521 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5284 : Index := Scalar.indexCast v37
  let c64_1579 : Index := 64#32
  let c1920_1580 : Index := 1920#32
  ![v5284.toNat, 64, 1920]
def k0_off522 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5547 : Index := Scalar.indexCast v37
  let c64_1651 : Index := 64#32
  let c2048_1652 : Index := 2048#32
  ![v5547.toNat, 64, 2048]
def k0_off523 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5552 : Index := Scalar.indexCast v37
  let c64_1655 : Index := 64#32
  let c2176_1656 : Index := 2176#32
  ![v5552.toNat, 64, 2176]
def k0_off524 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5557 : Index := Scalar.indexCast v37
  let c64_1659 : Index := 64#32
  let c2304_1660 : Index := 2304#32
  ![v5557.toNat, 64, 2304]
def k0_off525 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5562 : Index := Scalar.indexCast v37
  let c64_1663 : Index := 64#32
  let c2432_1664 : Index := 2432#32
  ![v5562.toNat, 64, 2432]
def k0_off526 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5825 : Index := Scalar.indexCast v37
  let c64_1735 : Index := 64#32
  let c2560_1736 : Index := 2560#32
  ![v5825.toNat, 64, 2560]
def k0_off527 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5830 : Index := Scalar.indexCast v37
  let c64_1739 : Index := 64#32
  let c2688_1740 : Index := 2688#32
  ![v5830.toNat, 64, 2688]
def k0_off528 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5835 : Index := Scalar.indexCast v37
  let c64_1743 : Index := 64#32
  let c2816_1744 : Index := 2816#32
  ![v5835.toNat, 64, 2816]
def k0_off529 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v5840 : Index := Scalar.indexCast v37
  let c64_1747 : Index := 64#32
  let c2944_1748 : Index := 2944#32
  ![v5840.toNat, 64, 2944]
def k0_off530 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6103 : Index := Scalar.indexCast v37
  let c64_1819 : Index := 64#32
  let c3072_1820 : Index := 3072#32
  ![v6103.toNat, 64, 3072]
def k0_off531 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6108 : Index := Scalar.indexCast v37
  let c64_1823 : Index := 64#32
  let c3200_1824 : Index := 3200#32
  ![v6108.toNat, 64, 3200]
def k0_off532 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6113 : Index := Scalar.indexCast v37
  let c64_1827 : Index := 64#32
  let c3328_1828 : Index := 3328#32
  ![v6113.toNat, 64, 3328]
def k0_off533 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6118 : Index := Scalar.indexCast v37
  let c64_1831 : Index := 64#32
  let c3456_1832 : Index := 3456#32
  ![v6118.toNat, 64, 3456]
def k0_off534 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6475 : Index := Scalar.indexCast v37
  let c96_1937 : Index := 96#32
  let c0_1938 : Index := 0#32
  ![v6475.toNat, 96, 0]
def k0_off535 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6480 : Index := Scalar.indexCast v37
  let c96_1941 : Index := 96#32
  let c128_1942 : Index := 128#32
  ![v6480.toNat, 96, 128]
def k0_off536 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6485 : Index := Scalar.indexCast v37
  let c96_1945 : Index := 96#32
  let c256_1946 : Index := 256#32
  ![v6485.toNat, 96, 256]
def k0_off537 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6490 : Index := Scalar.indexCast v37
  let c96_1949 : Index := 96#32
  let c384_1950 : Index := 384#32
  ![v6490.toNat, 96, 384]
def k0_off538 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6753 : Index := Scalar.indexCast v37
  let c96_2021 : Index := 96#32
  let c512_2022 : Index := 512#32
  ![v6753.toNat, 96, 512]
def k0_off539 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6758 : Index := Scalar.indexCast v37
  let c96_2025 : Index := 96#32
  let c640_2026 : Index := 640#32
  ![v6758.toNat, 96, 640]
def k0_off540 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6763 : Index := Scalar.indexCast v37
  let c96_2029 : Index := 96#32
  let c768_2030 : Index := 768#32
  ![v6763.toNat, 96, 768]
def k0_off541 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v6768 : Index := Scalar.indexCast v37
  let c96_2033 : Index := 96#32
  let c896_2034 : Index := 896#32
  ![v6768.toNat, 96, 896]
def k0_off542 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7031 : Index := Scalar.indexCast v37
  let c96_2105 : Index := 96#32
  let c1024_2106 : Index := 1024#32
  ![v7031.toNat, 96, 1024]
def k0_off543 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7036 : Index := Scalar.indexCast v37
  let c96_2109 : Index := 96#32
  let c1152_2110 : Index := 1152#32
  ![v7036.toNat, 96, 1152]
def k0_off544 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7041 : Index := Scalar.indexCast v37
  let c96_2113 : Index := 96#32
  let c1280_2114 : Index := 1280#32
  ![v7041.toNat, 96, 1280]
def k0_off545 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7046 : Index := Scalar.indexCast v37
  let c96_2117 : Index := 96#32
  let c1408_2118 : Index := 1408#32
  ![v7046.toNat, 96, 1408]
def k0_off546 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7309 : Index := Scalar.indexCast v37
  let c96_2189 : Index := 96#32
  let c1536_2190 : Index := 1536#32
  ![v7309.toNat, 96, 1536]
def k0_off547 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7314 : Index := Scalar.indexCast v37
  let c96_2193 : Index := 96#32
  let c1664_2194 : Index := 1664#32
  ![v7314.toNat, 96, 1664]
def k0_off548 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7319 : Index := Scalar.indexCast v37
  let c96_2197 : Index := 96#32
  let c1792_2198 : Index := 1792#32
  ![v7319.toNat, 96, 1792]
def k0_off549 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7324 : Index := Scalar.indexCast v37
  let c96_2201 : Index := 96#32
  let c1920_2202 : Index := 1920#32
  ![v7324.toNat, 96, 1920]
def k0_off550 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7587 : Index := Scalar.indexCast v37
  let c96_2273 : Index := 96#32
  let c2048_2274 : Index := 2048#32
  ![v7587.toNat, 96, 2048]
def k0_off551 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7592 : Index := Scalar.indexCast v37
  let c96_2277 : Index := 96#32
  let c2176_2278 : Index := 2176#32
  ![v7592.toNat, 96, 2176]
def k0_off552 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7597 : Index := Scalar.indexCast v37
  let c96_2281 : Index := 96#32
  let c2304_2282 : Index := 2304#32
  ![v7597.toNat, 96, 2304]
def k0_off553 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7602 : Index := Scalar.indexCast v37
  let c96_2285 : Index := 96#32
  let c2432_2286 : Index := 2432#32
  ![v7602.toNat, 96, 2432]
def k0_off554 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7865 : Index := Scalar.indexCast v37
  let c96_2357 : Index := 96#32
  let c2560_2358 : Index := 2560#32
  ![v7865.toNat, 96, 2560]
def k0_off555 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7870 : Index := Scalar.indexCast v37
  let c96_2361 : Index := 96#32
  let c2688_2362 : Index := 2688#32
  ![v7870.toNat, 96, 2688]
def k0_off556 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7875 : Index := Scalar.indexCast v37
  let c96_2365 : Index := 96#32
  let c2816_2366 : Index := 2816#32
  ![v7875.toNat, 96, 2816]
def k0_off557 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v7880 : Index := Scalar.indexCast v37
  let c96_2369 : Index := 96#32
  let c2944_2370 : Index := 2944#32
  ![v7880.toNat, 96, 2944]
def k0_off558 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8143 : Index := Scalar.indexCast v37
  let c96_2441 : Index := 96#32
  let c3072_2442 : Index := 3072#32
  ![v8143.toNat, 96, 3072]
def k0_off559 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8148 : Index := Scalar.indexCast v37
  let c96_2445 : Index := 96#32
  let c3200_2446 : Index := 3200#32
  ![v8148.toNat, 96, 3200]
def k0_off560 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8153 : Index := Scalar.indexCast v37
  let c96_2449 : Index := 96#32
  let c3328_2450 : Index := 3328#32
  ![v8153.toNat, 96, 3328]
def k0_off561 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8158 : Index := Scalar.indexCast v37
  let c96_2453 : Index := 96#32
  let c3456_2454 : Index := 3456#32
  ![v8158.toNat, 96, 3456]
def k0_off562 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8523 : Index := Scalar.indexCast v37
  let c128_2567 : Index := 128#32
  let c0_2568 : Index := 0#32
  ![v8523.toNat, 128, 0]
def k0_off563 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8528 : Index := Scalar.indexCast v37
  let c128_2571 : Index := 128#32
  let c128_2572 : Index := 128#32
  ![v8528.toNat, 128, 128]
def k0_off564 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8533 : Index := Scalar.indexCast v37
  let c128_2575 : Index := 128#32
  let c256_2576 : Index := 256#32
  ![v8533.toNat, 128, 256]
def k0_off565 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8538 : Index := Scalar.indexCast v37
  let c128_2579 : Index := 128#32
  let c384_2580 : Index := 384#32
  ![v8538.toNat, 128, 384]
def k0_off566 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8801 : Index := Scalar.indexCast v37
  let c128_2651 : Index := 128#32
  let c512_2652 : Index := 512#32
  ![v8801.toNat, 128, 512]
def k0_off567 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8806 : Index := Scalar.indexCast v37
  let c128_2655 : Index := 128#32
  let c640_2656 : Index := 640#32
  ![v8806.toNat, 128, 640]
def k0_off568 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8811 : Index := Scalar.indexCast v37
  let c128_2659 : Index := 128#32
  let c768_2660 : Index := 768#32
  ![v8811.toNat, 128, 768]
def k0_off569 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v8816 : Index := Scalar.indexCast v37
  let c128_2663 : Index := 128#32
  let c896_2664 : Index := 896#32
  ![v8816.toNat, 128, 896]
def k0_off570 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9079 : Index := Scalar.indexCast v37
  let c128_2735 : Index := 128#32
  let c1024_2736 : Index := 1024#32
  ![v9079.toNat, 128, 1024]
def k0_off571 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9084 : Index := Scalar.indexCast v37
  let c128_2739 : Index := 128#32
  let c1152_2740 : Index := 1152#32
  ![v9084.toNat, 128, 1152]
def k0_off572 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9089 : Index := Scalar.indexCast v37
  let c128_2743 : Index := 128#32
  let c1280_2744 : Index := 1280#32
  ![v9089.toNat, 128, 1280]
def k0_off573 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9094 : Index := Scalar.indexCast v37
  let c128_2747 : Index := 128#32
  let c1408_2748 : Index := 1408#32
  ![v9094.toNat, 128, 1408]
def k0_off574 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9357 : Index := Scalar.indexCast v37
  let c128_2819 : Index := 128#32
  let c1536_2820 : Index := 1536#32
  ![v9357.toNat, 128, 1536]
def k0_off575 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9362 : Index := Scalar.indexCast v37
  let c128_2823 : Index := 128#32
  let c1664_2824 : Index := 1664#32
  ![v9362.toNat, 128, 1664]
def k0_off576 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9367 : Index := Scalar.indexCast v37
  let c128_2827 : Index := 128#32
  let c1792_2828 : Index := 1792#32
  ![v9367.toNat, 128, 1792]
def k0_off577 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9372 : Index := Scalar.indexCast v37
  let c128_2831 : Index := 128#32
  let c1920_2832 : Index := 1920#32
  ![v9372.toNat, 128, 1920]
def k0_off578 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9635 : Index := Scalar.indexCast v37
  let c128_2903 : Index := 128#32
  let c2048_2904 : Index := 2048#32
  ![v9635.toNat, 128, 2048]
def k0_off579 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9640 : Index := Scalar.indexCast v37
  let c128_2907 : Index := 128#32
  let c2176_2908 : Index := 2176#32
  ![v9640.toNat, 128, 2176]
def k0_off580 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9645 : Index := Scalar.indexCast v37
  let c128_2911 : Index := 128#32
  let c2304_2912 : Index := 2304#32
  ![v9645.toNat, 128, 2304]
def k0_off581 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9650 : Index := Scalar.indexCast v37
  let c128_2915 : Index := 128#32
  let c2432_2916 : Index := 2432#32
  ![v9650.toNat, 128, 2432]
def k0_off582 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9913 : Index := Scalar.indexCast v37
  let c128_2987 : Index := 128#32
  let c2560_2988 : Index := 2560#32
  ![v9913.toNat, 128, 2560]
def k0_off583 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9918 : Index := Scalar.indexCast v37
  let c128_2991 : Index := 128#32
  let c2688_2992 : Index := 2688#32
  ![v9918.toNat, 128, 2688]
def k0_off584 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9923 : Index := Scalar.indexCast v37
  let c128_2995 : Index := 128#32
  let c2816_2996 : Index := 2816#32
  ![v9923.toNat, 128, 2816]
def k0_off585 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v9928 : Index := Scalar.indexCast v37
  let c128_2999 : Index := 128#32
  let c2944_3000 : Index := 2944#32
  ![v9928.toNat, 128, 2944]
def k0_off586 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10191 : Index := Scalar.indexCast v37
  let c128_3071 : Index := 128#32
  let c3072_3072 : Index := 3072#32
  ![v10191.toNat, 128, 3072]
def k0_off587 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10196 : Index := Scalar.indexCast v37
  let c128_3075 : Index := 128#32
  let c3200_3076 : Index := 3200#32
  ![v10196.toNat, 128, 3200]
def k0_off588 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10201 : Index := Scalar.indexCast v37
  let c128_3079 : Index := 128#32
  let c3328_3080 : Index := 3328#32
  ![v10201.toNat, 128, 3328]
def k0_off589 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10206 : Index := Scalar.indexCast v37
  let c128_3083 : Index := 128#32
  let c3456_3084 : Index := 3456#32
  ![v10206.toNat, 128, 3456]
def k0_off590 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10563 : Index := Scalar.indexCast v37
  let c160_3189 : Index := 160#32
  let c0_3190 : Index := 0#32
  ![v10563.toNat, 160, 0]
def k0_off591 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10568 : Index := Scalar.indexCast v37
  let c160_3193 : Index := 160#32
  let c128_3194 : Index := 128#32
  ![v10568.toNat, 160, 128]
def k0_off592 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10573 : Index := Scalar.indexCast v37
  let c160_3197 : Index := 160#32
  let c256_3198 : Index := 256#32
  ![v10573.toNat, 160, 256]
def k0_off593 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10578 : Index := Scalar.indexCast v37
  let c160_3201 : Index := 160#32
  let c384_3202 : Index := 384#32
  ![v10578.toNat, 160, 384]
def k0_off594 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10841 : Index := Scalar.indexCast v37
  let c160_3273 : Index := 160#32
  let c512_3274 : Index := 512#32
  ![v10841.toNat, 160, 512]
def k0_off595 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10846 : Index := Scalar.indexCast v37
  let c160_3277 : Index := 160#32
  let c640_3278 : Index := 640#32
  ![v10846.toNat, 160, 640]
def k0_off596 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10851 : Index := Scalar.indexCast v37
  let c160_3281 : Index := 160#32
  let c768_3282 : Index := 768#32
  ![v10851.toNat, 160, 768]
def k0_off597 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v10856 : Index := Scalar.indexCast v37
  let c160_3285 : Index := 160#32
  let c896_3286 : Index := 896#32
  ![v10856.toNat, 160, 896]
def k0_off598 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11119 : Index := Scalar.indexCast v37
  let c160_3357 : Index := 160#32
  let c1024_3358 : Index := 1024#32
  ![v11119.toNat, 160, 1024]
def k0_off599 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11124 : Index := Scalar.indexCast v37
  let c160_3361 : Index := 160#32
  let c1152_3362 : Index := 1152#32
  ![v11124.toNat, 160, 1152]
def k0_off600 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11129 : Index := Scalar.indexCast v37
  let c160_3365 : Index := 160#32
  let c1280_3366 : Index := 1280#32
  ![v11129.toNat, 160, 1280]
def k0_off601 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11134 : Index := Scalar.indexCast v37
  let c160_3369 : Index := 160#32
  let c1408_3370 : Index := 1408#32
  ![v11134.toNat, 160, 1408]
def k0_off602 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11397 : Index := Scalar.indexCast v37
  let c160_3441 : Index := 160#32
  let c1536_3442 : Index := 1536#32
  ![v11397.toNat, 160, 1536]
def k0_off603 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11402 : Index := Scalar.indexCast v37
  let c160_3445 : Index := 160#32
  let c1664_3446 : Index := 1664#32
  ![v11402.toNat, 160, 1664]
def k0_off604 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11407 : Index := Scalar.indexCast v37
  let c160_3449 : Index := 160#32
  let c1792_3450 : Index := 1792#32
  ![v11407.toNat, 160, 1792]
def k0_off605 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11412 : Index := Scalar.indexCast v37
  let c160_3453 : Index := 160#32
  let c1920_3454 : Index := 1920#32
  ![v11412.toNat, 160, 1920]
def k0_off606 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11675 : Index := Scalar.indexCast v37
  let c160_3525 : Index := 160#32
  let c2048_3526 : Index := 2048#32
  ![v11675.toNat, 160, 2048]
def k0_off607 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11680 : Index := Scalar.indexCast v37
  let c160_3529 : Index := 160#32
  let c2176_3530 : Index := 2176#32
  ![v11680.toNat, 160, 2176]
def k0_off608 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11685 : Index := Scalar.indexCast v37
  let c160_3533 : Index := 160#32
  let c2304_3534 : Index := 2304#32
  ![v11685.toNat, 160, 2304]
def k0_off609 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11690 : Index := Scalar.indexCast v37
  let c160_3537 : Index := 160#32
  let c2432_3538 : Index := 2432#32
  ![v11690.toNat, 160, 2432]
def k0_off610 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11953 : Index := Scalar.indexCast v37
  let c160_3609 : Index := 160#32
  let c2560_3610 : Index := 2560#32
  ![v11953.toNat, 160, 2560]
def k0_off611 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11958 : Index := Scalar.indexCast v37
  let c160_3613 : Index := 160#32
  let c2688_3614 : Index := 2688#32
  ![v11958.toNat, 160, 2688]
def k0_off612 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11963 : Index := Scalar.indexCast v37
  let c160_3617 : Index := 160#32
  let c2816_3618 : Index := 2816#32
  ![v11963.toNat, 160, 2816]
def k0_off613 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v11968 : Index := Scalar.indexCast v37
  let c160_3621 : Index := 160#32
  let c2944_3622 : Index := 2944#32
  ![v11968.toNat, 160, 2944]
def k0_off614 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12231 : Index := Scalar.indexCast v37
  let c160_3693 : Index := 160#32
  let c3072_3694 : Index := 3072#32
  ![v12231.toNat, 160, 3072]
def k0_off615 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12236 : Index := Scalar.indexCast v37
  let c160_3697 : Index := 160#32
  let c3200_3698 : Index := 3200#32
  ![v12236.toNat, 160, 3200]
def k0_off616 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12241 : Index := Scalar.indexCast v37
  let c160_3701 : Index := 160#32
  let c3328_3702 : Index := 3328#32
  ![v12241.toNat, 160, 3328]
def k0_off617 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12246 : Index := Scalar.indexCast v37
  let c160_3705 : Index := 160#32
  let c3456_3706 : Index := 3456#32
  ![v12246.toNat, 160, 3456]
def k0_off618 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12603 : Index := Scalar.indexCast v37
  let c192_3811 : Index := 192#32
  let c0_3812 : Index := 0#32
  ![v12603.toNat, 192, 0]
def k0_off619 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12608 : Index := Scalar.indexCast v37
  let c192_3815 : Index := 192#32
  let c128_3816 : Index := 128#32
  ![v12608.toNat, 192, 128]
def k0_off620 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12613 : Index := Scalar.indexCast v37
  let c192_3819 : Index := 192#32
  let c256_3820 : Index := 256#32
  ![v12613.toNat, 192, 256]
def k0_off621 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12618 : Index := Scalar.indexCast v37
  let c192_3823 : Index := 192#32
  let c384_3824 : Index := 384#32
  ![v12618.toNat, 192, 384]
def k0_off622 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12881 : Index := Scalar.indexCast v37
  let c192_3895 : Index := 192#32
  let c512_3896 : Index := 512#32
  ![v12881.toNat, 192, 512]
def k0_off623 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12886 : Index := Scalar.indexCast v37
  let c192_3899 : Index := 192#32
  let c640_3900 : Index := 640#32
  ![v12886.toNat, 192, 640]
def k0_off624 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12891 : Index := Scalar.indexCast v37
  let c192_3903 : Index := 192#32
  let c768_3904 : Index := 768#32
  ![v12891.toNat, 192, 768]
def k0_off625 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v12896 : Index := Scalar.indexCast v37
  let c192_3907 : Index := 192#32
  let c896_3908 : Index := 896#32
  ![v12896.toNat, 192, 896]
def k0_off626 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13159 : Index := Scalar.indexCast v37
  let c192_3979 : Index := 192#32
  let c1024_3980 : Index := 1024#32
  ![v13159.toNat, 192, 1024]
def k0_off627 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13164 : Index := Scalar.indexCast v37
  let c192_3983 : Index := 192#32
  let c1152_3984 : Index := 1152#32
  ![v13164.toNat, 192, 1152]
def k0_off628 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13169 : Index := Scalar.indexCast v37
  let c192_3987 : Index := 192#32
  let c1280_3988 : Index := 1280#32
  ![v13169.toNat, 192, 1280]
def k0_off629 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13174 : Index := Scalar.indexCast v37
  let c192_3991 : Index := 192#32
  let c1408_3992 : Index := 1408#32
  ![v13174.toNat, 192, 1408]
def k0_off630 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13437 : Index := Scalar.indexCast v37
  let c192_4063 : Index := 192#32
  let c1536_4064 : Index := 1536#32
  ![v13437.toNat, 192, 1536]
def k0_off631 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13442 : Index := Scalar.indexCast v37
  let c192_4067 : Index := 192#32
  let c1664_4068 : Index := 1664#32
  ![v13442.toNat, 192, 1664]
def k0_off632 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13447 : Index := Scalar.indexCast v37
  let c192_4071 : Index := 192#32
  let c1792_4072 : Index := 1792#32
  ![v13447.toNat, 192, 1792]
def k0_off633 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13452 : Index := Scalar.indexCast v37
  let c192_4075 : Index := 192#32
  let c1920_4076 : Index := 1920#32
  ![v13452.toNat, 192, 1920]
def k0_off634 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13715 : Index := Scalar.indexCast v37
  let c192_4147 : Index := 192#32
  let c2048_4148 : Index := 2048#32
  ![v13715.toNat, 192, 2048]
def k0_off635 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13720 : Index := Scalar.indexCast v37
  let c192_4151 : Index := 192#32
  let c2176_4152 : Index := 2176#32
  ![v13720.toNat, 192, 2176]
def k0_off636 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13725 : Index := Scalar.indexCast v37
  let c192_4155 : Index := 192#32
  let c2304_4156 : Index := 2304#32
  ![v13725.toNat, 192, 2304]
def k0_off637 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13730 : Index := Scalar.indexCast v37
  let c192_4159 : Index := 192#32
  let c2432_4160 : Index := 2432#32
  ![v13730.toNat, 192, 2432]
def k0_off638 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13993 : Index := Scalar.indexCast v37
  let c192_4231 : Index := 192#32
  let c2560_4232 : Index := 2560#32
  ![v13993.toNat, 192, 2560]
def k0_off639 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v13998 : Index := Scalar.indexCast v37
  let c192_4235 : Index := 192#32
  let c2688_4236 : Index := 2688#32
  ![v13998.toNat, 192, 2688]
def k0_off640 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14003 : Index := Scalar.indexCast v37
  let c192_4239 : Index := 192#32
  let c2816_4240 : Index := 2816#32
  ![v14003.toNat, 192, 2816]
def k0_off641 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14008 : Index := Scalar.indexCast v37
  let c192_4243 : Index := 192#32
  let c2944_4244 : Index := 2944#32
  ![v14008.toNat, 192, 2944]
def k0_off642 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14271 : Index := Scalar.indexCast v37
  let c192_4315 : Index := 192#32
  let c3072_4316 : Index := 3072#32
  ![v14271.toNat, 192, 3072]
def k0_off643 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14276 : Index := Scalar.indexCast v37
  let c192_4319 : Index := 192#32
  let c3200_4320 : Index := 3200#32
  ![v14276.toNat, 192, 3200]
def k0_off644 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14281 : Index := Scalar.indexCast v37
  let c192_4323 : Index := 192#32
  let c3328_4324 : Index := 3328#32
  ![v14281.toNat, 192, 3328]
def k0_off645 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14286 : Index := Scalar.indexCast v37
  let c192_4327 : Index := 192#32
  let c3456_4328 : Index := 3456#32
  ![v14286.toNat, 192, 3456]
def k0_off646 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14643 : Index := Scalar.indexCast v37
  let c224_4433 : Index := 224#32
  let c0_4434 : Index := 0#32
  ![v14643.toNat, 224, 0]
def k0_off647 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14648 : Index := Scalar.indexCast v37
  let c224_4437 : Index := 224#32
  let c128_4438 : Index := 128#32
  ![v14648.toNat, 224, 128]
def k0_off648 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14653 : Index := Scalar.indexCast v37
  let c224_4441 : Index := 224#32
  let c256_4442 : Index := 256#32
  ![v14653.toNat, 224, 256]
def k0_off649 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14658 : Index := Scalar.indexCast v37
  let c224_4445 : Index := 224#32
  let c384_4446 : Index := 384#32
  ![v14658.toNat, 224, 384]
def k0_off650 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14921 : Index := Scalar.indexCast v37
  let c224_4517 : Index := 224#32
  let c512_4518 : Index := 512#32
  ![v14921.toNat, 224, 512]
def k0_off651 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14926 : Index := Scalar.indexCast v37
  let c224_4521 : Index := 224#32
  let c640_4522 : Index := 640#32
  ![v14926.toNat, 224, 640]
def k0_off652 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14931 : Index := Scalar.indexCast v37
  let c224_4525 : Index := 224#32
  let c768_4526 : Index := 768#32
  ![v14931.toNat, 224, 768]
def k0_off653 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v14936 : Index := Scalar.indexCast v37
  let c224_4529 : Index := 224#32
  let c896_4530 : Index := 896#32
  ![v14936.toNat, 224, 896]
def k0_off654 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15199 : Index := Scalar.indexCast v37
  let c224_4601 : Index := 224#32
  let c1024_4602 : Index := 1024#32
  ![v15199.toNat, 224, 1024]
def k0_off655 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15204 : Index := Scalar.indexCast v37
  let c224_4605 : Index := 224#32
  let c1152_4606 : Index := 1152#32
  ![v15204.toNat, 224, 1152]
def k0_off656 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15209 : Index := Scalar.indexCast v37
  let c224_4609 : Index := 224#32
  let c1280_4610 : Index := 1280#32
  ![v15209.toNat, 224, 1280]
def k0_off657 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15214 : Index := Scalar.indexCast v37
  let c224_4613 : Index := 224#32
  let c1408_4614 : Index := 1408#32
  ![v15214.toNat, 224, 1408]
def k0_off658 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15477 : Index := Scalar.indexCast v37
  let c224_4685 : Index := 224#32
  let c1536_4686 : Index := 1536#32
  ![v15477.toNat, 224, 1536]
def k0_off659 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15482 : Index := Scalar.indexCast v37
  let c224_4689 : Index := 224#32
  let c1664_4690 : Index := 1664#32
  ![v15482.toNat, 224, 1664]
def k0_off660 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15487 : Index := Scalar.indexCast v37
  let c224_4693 : Index := 224#32
  let c1792_4694 : Index := 1792#32
  ![v15487.toNat, 224, 1792]
def k0_off661 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15492 : Index := Scalar.indexCast v37
  let c224_4697 : Index := 224#32
  let c1920_4698 : Index := 1920#32
  ![v15492.toNat, 224, 1920]
def k0_off662 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15755 : Index := Scalar.indexCast v37
  let c224_4769 : Index := 224#32
  let c2048_4770 : Index := 2048#32
  ![v15755.toNat, 224, 2048]
def k0_off663 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15760 : Index := Scalar.indexCast v37
  let c224_4773 : Index := 224#32
  let c2176_4774 : Index := 2176#32
  ![v15760.toNat, 224, 2176]
def k0_off664 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15765 : Index := Scalar.indexCast v37
  let c224_4777 : Index := 224#32
  let c2304_4778 : Index := 2304#32
  ![v15765.toNat, 224, 2304]
def k0_off665 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v15770 : Index := Scalar.indexCast v37
  let c224_4781 : Index := 224#32
  let c2432_4782 : Index := 2432#32
  ![v15770.toNat, 224, 2432]
def k0_off666 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16033 : Index := Scalar.indexCast v37
  let c224_4853 : Index := 224#32
  let c2560_4854 : Index := 2560#32
  ![v16033.toNat, 224, 2560]
def k0_off667 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16038 : Index := Scalar.indexCast v37
  let c224_4857 : Index := 224#32
  let c2688_4858 : Index := 2688#32
  ![v16038.toNat, 224, 2688]
def k0_off668 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16043 : Index := Scalar.indexCast v37
  let c224_4861 : Index := 224#32
  let c2816_4862 : Index := 2816#32
  ![v16043.toNat, 224, 2816]
def k0_off669 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16048 : Index := Scalar.indexCast v37
  let c224_4865 : Index := 224#32
  let c2944_4866 : Index := 2944#32
  ![v16048.toNat, 224, 2944]
def k0_off670 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16311 : Index := Scalar.indexCast v37
  let c224_4937 : Index := 224#32
  let c3072_4938 : Index := 3072#32
  ![v16311.toNat, 224, 3072]
def k0_off671 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16316 : Index := Scalar.indexCast v37
  let c224_4941 : Index := 224#32
  let c3200_4942 : Index := 3200#32
  ![v16316.toNat, 224, 3200]
def k0_off672 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16321 : Index := Scalar.indexCast v37
  let c224_4945 : Index := 224#32
  let c3328_4946 : Index := 3328#32
  ![v16321.toNat, 224, 3328]
def k0_off673 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16326 : Index := Scalar.indexCast v37
  let c224_4949 : Index := 224#32
  let c3456_4950 : Index := 3456#32
  ![v16326.toNat, 224, 3456]
def k0_off674 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16691 : Index := Scalar.indexCast v37
  let c256_5063 : Index := 256#32
  let c0_5064 : Index := 0#32
  ![v16691.toNat, 256, 0]
def k0_off675 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16696 : Index := Scalar.indexCast v37
  let c256_5067 : Index := 256#32
  let c128_5068 : Index := 128#32
  ![v16696.toNat, 256, 128]
def k0_off676 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16701 : Index := Scalar.indexCast v37
  let c256_5071 : Index := 256#32
  let c256_5072 : Index := 256#32
  ![v16701.toNat, 256, 256]
def k0_off677 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16706 : Index := Scalar.indexCast v37
  let c256_5075 : Index := 256#32
  let c384_5076 : Index := 384#32
  ![v16706.toNat, 256, 384]
def k0_off678 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16969 : Index := Scalar.indexCast v37
  let c256_5147 : Index := 256#32
  let c512_5148 : Index := 512#32
  ![v16969.toNat, 256, 512]
def k0_off679 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16974 : Index := Scalar.indexCast v37
  let c256_5151 : Index := 256#32
  let c640_5152 : Index := 640#32
  ![v16974.toNat, 256, 640]
def k0_off680 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16979 : Index := Scalar.indexCast v37
  let c256_5155 : Index := 256#32
  let c768_5156 : Index := 768#32
  ![v16979.toNat, 256, 768]
def k0_off681 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v16984 : Index := Scalar.indexCast v37
  let c256_5159 : Index := 256#32
  let c896_5160 : Index := 896#32
  ![v16984.toNat, 256, 896]
def k0_off682 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17247 : Index := Scalar.indexCast v37
  let c256_5231 : Index := 256#32
  let c1024_5232 : Index := 1024#32
  ![v17247.toNat, 256, 1024]
def k0_off683 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17252 : Index := Scalar.indexCast v37
  let c256_5235 : Index := 256#32
  let c1152_5236 : Index := 1152#32
  ![v17252.toNat, 256, 1152]
def k0_off684 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17257 : Index := Scalar.indexCast v37
  let c256_5239 : Index := 256#32
  let c1280_5240 : Index := 1280#32
  ![v17257.toNat, 256, 1280]
def k0_off685 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17262 : Index := Scalar.indexCast v37
  let c256_5243 : Index := 256#32
  let c1408_5244 : Index := 1408#32
  ![v17262.toNat, 256, 1408]
def k0_off686 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17525 : Index := Scalar.indexCast v37
  let c256_5315 : Index := 256#32
  let c1536_5316 : Index := 1536#32
  ![v17525.toNat, 256, 1536]
def k0_off687 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17530 : Index := Scalar.indexCast v37
  let c256_5319 : Index := 256#32
  let c1664_5320 : Index := 1664#32
  ![v17530.toNat, 256, 1664]
def k0_off688 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17535 : Index := Scalar.indexCast v37
  let c256_5323 : Index := 256#32
  let c1792_5324 : Index := 1792#32
  ![v17535.toNat, 256, 1792]
def k0_off689 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17540 : Index := Scalar.indexCast v37
  let c256_5327 : Index := 256#32
  let c1920_5328 : Index := 1920#32
  ![v17540.toNat, 256, 1920]
def k0_off690 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17803 : Index := Scalar.indexCast v37
  let c256_5399 : Index := 256#32
  let c2048_5400 : Index := 2048#32
  ![v17803.toNat, 256, 2048]
def k0_off691 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17808 : Index := Scalar.indexCast v37
  let c256_5403 : Index := 256#32
  let c2176_5404 : Index := 2176#32
  ![v17808.toNat, 256, 2176]
def k0_off692 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17813 : Index := Scalar.indexCast v37
  let c256_5407 : Index := 256#32
  let c2304_5408 : Index := 2304#32
  ![v17813.toNat, 256, 2304]
def k0_off693 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v17818 : Index := Scalar.indexCast v37
  let c256_5411 : Index := 256#32
  let c2432_5412 : Index := 2432#32
  ![v17818.toNat, 256, 2432]
def k0_off694 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18081 : Index := Scalar.indexCast v37
  let c256_5483 : Index := 256#32
  let c2560_5484 : Index := 2560#32
  ![v18081.toNat, 256, 2560]
def k0_off695 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18086 : Index := Scalar.indexCast v37
  let c256_5487 : Index := 256#32
  let c2688_5488 : Index := 2688#32
  ![v18086.toNat, 256, 2688]
def k0_off696 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18091 : Index := Scalar.indexCast v37
  let c256_5491 : Index := 256#32
  let c2816_5492 : Index := 2816#32
  ![v18091.toNat, 256, 2816]
def k0_off697 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18096 : Index := Scalar.indexCast v37
  let c256_5495 : Index := 256#32
  let c2944_5496 : Index := 2944#32
  ![v18096.toNat, 256, 2944]
def k0_off698 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18359 : Index := Scalar.indexCast v37
  let c256_5567 : Index := 256#32
  let c3072_5568 : Index := 3072#32
  ![v18359.toNat, 256, 3072]
def k0_off699 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18364 : Index := Scalar.indexCast v37
  let c256_5571 : Index := 256#32
  let c3200_5572 : Index := 3200#32
  ![v18364.toNat, 256, 3200]
def k0_off700 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18369 : Index := Scalar.indexCast v37
  let c256_5575 : Index := 256#32
  let c3328_5576 : Index := 3328#32
  ![v18369.toNat, 256, 3328]
def k0_off701 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18374 : Index := Scalar.indexCast v37
  let c256_5579 : Index := 256#32
  let c3456_5580 : Index := 3456#32
  ![v18374.toNat, 256, 3456]
def k0_off702 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18731 : Index := Scalar.indexCast v37
  let c288_5685 : Index := 288#32
  let c0_5686 : Index := 0#32
  ![v18731.toNat, 288, 0]
def k0_off703 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18736 : Index := Scalar.indexCast v37
  let c288_5689 : Index := 288#32
  let c128_5690 : Index := 128#32
  ![v18736.toNat, 288, 128]
def k0_off704 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18741 : Index := Scalar.indexCast v37
  let c288_5693 : Index := 288#32
  let c256_5694 : Index := 256#32
  ![v18741.toNat, 288, 256]
def k0_off705 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v18746 : Index := Scalar.indexCast v37
  let c288_5697 : Index := 288#32
  let c384_5698 : Index := 384#32
  ![v18746.toNat, 288, 384]
def k0_off706 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19009 : Index := Scalar.indexCast v37
  let c288_5769 : Index := 288#32
  let c512_5770 : Index := 512#32
  ![v19009.toNat, 288, 512]
def k0_off707 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19014 : Index := Scalar.indexCast v37
  let c288_5773 : Index := 288#32
  let c640_5774 : Index := 640#32
  ![v19014.toNat, 288, 640]
def k0_off708 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19019 : Index := Scalar.indexCast v37
  let c288_5777 : Index := 288#32
  let c768_5778 : Index := 768#32
  ![v19019.toNat, 288, 768]
def k0_off709 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19024 : Index := Scalar.indexCast v37
  let c288_5781 : Index := 288#32
  let c896_5782 : Index := 896#32
  ![v19024.toNat, 288, 896]
def k0_off710 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19287 : Index := Scalar.indexCast v37
  let c288_5853 : Index := 288#32
  let c1024_5854 : Index := 1024#32
  ![v19287.toNat, 288, 1024]
def k0_off711 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19292 : Index := Scalar.indexCast v37
  let c288_5857 : Index := 288#32
  let c1152_5858 : Index := 1152#32
  ![v19292.toNat, 288, 1152]
def k0_off712 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19297 : Index := Scalar.indexCast v37
  let c288_5861 : Index := 288#32
  let c1280_5862 : Index := 1280#32
  ![v19297.toNat, 288, 1280]
def k0_off713 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19302 : Index := Scalar.indexCast v37
  let c288_5865 : Index := 288#32
  let c1408_5866 : Index := 1408#32
  ![v19302.toNat, 288, 1408]
def k0_off714 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19565 : Index := Scalar.indexCast v37
  let c288_5937 : Index := 288#32
  let c1536_5938 : Index := 1536#32
  ![v19565.toNat, 288, 1536]
def k0_off715 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19570 : Index := Scalar.indexCast v37
  let c288_5941 : Index := 288#32
  let c1664_5942 : Index := 1664#32
  ![v19570.toNat, 288, 1664]
def k0_off716 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19575 : Index := Scalar.indexCast v37
  let c288_5945 : Index := 288#32
  let c1792_5946 : Index := 1792#32
  ![v19575.toNat, 288, 1792]
def k0_off717 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19580 : Index := Scalar.indexCast v37
  let c288_5949 : Index := 288#32
  let c1920_5950 : Index := 1920#32
  ![v19580.toNat, 288, 1920]
def k0_off718 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19843 : Index := Scalar.indexCast v37
  let c288_6021 : Index := 288#32
  let c2048_6022 : Index := 2048#32
  ![v19843.toNat, 288, 2048]
def k0_off719 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19848 : Index := Scalar.indexCast v37
  let c288_6025 : Index := 288#32
  let c2176_6026 : Index := 2176#32
  ![v19848.toNat, 288, 2176]
def k0_off720 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19853 : Index := Scalar.indexCast v37
  let c288_6029 : Index := 288#32
  let c2304_6030 : Index := 2304#32
  ![v19853.toNat, 288, 2304]
def k0_off721 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v19858 : Index := Scalar.indexCast v37
  let c288_6033 : Index := 288#32
  let c2432_6034 : Index := 2432#32
  ![v19858.toNat, 288, 2432]
def k0_off722 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20121 : Index := Scalar.indexCast v37
  let c288_6105 : Index := 288#32
  let c2560_6106 : Index := 2560#32
  ![v20121.toNat, 288, 2560]
def k0_off723 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20126 : Index := Scalar.indexCast v37
  let c288_6109 : Index := 288#32
  let c2688_6110 : Index := 2688#32
  ![v20126.toNat, 288, 2688]
def k0_off724 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20131 : Index := Scalar.indexCast v37
  let c288_6113 : Index := 288#32
  let c2816_6114 : Index := 2816#32
  ![v20131.toNat, 288, 2816]
def k0_off725 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20136 : Index := Scalar.indexCast v37
  let c288_6117 : Index := 288#32
  let c2944_6118 : Index := 2944#32
  ![v20136.toNat, 288, 2944]
def k0_off726 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20399 : Index := Scalar.indexCast v37
  let c288_6189 : Index := 288#32
  let c3072_6190 : Index := 3072#32
  ![v20399.toNat, 288, 3072]
def k0_off727 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20404 : Index := Scalar.indexCast v37
  let c288_6193 : Index := 288#32
  let c3200_6194 : Index := 3200#32
  ![v20404.toNat, 288, 3200]
def k0_off728 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20409 : Index := Scalar.indexCast v37
  let c288_6197 : Index := 288#32
  let c3328_6198 : Index := 3328#32
  ![v20409.toNat, 288, 3328]
def k0_off729 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20414 : Index := Scalar.indexCast v37
  let c288_6201 : Index := 288#32
  let c3456_6202 : Index := 3456#32
  ![v20414.toNat, 288, 3456]
def k0_off730 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20771 : Index := Scalar.indexCast v37
  let c320_6307 : Index := 320#32
  let c0_6308 : Index := 0#32
  ![v20771.toNat, 320, 0]
def k0_off731 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20776 : Index := Scalar.indexCast v37
  let c320_6311 : Index := 320#32
  let c128_6312 : Index := 128#32
  ![v20776.toNat, 320, 128]
def k0_off732 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20781 : Index := Scalar.indexCast v37
  let c320_6315 : Index := 320#32
  let c256_6316 : Index := 256#32
  ![v20781.toNat, 320, 256]
def k0_off733 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v20786 : Index := Scalar.indexCast v37
  let c320_6319 : Index := 320#32
  let c384_6320 : Index := 384#32
  ![v20786.toNat, 320, 384]
def k0_off734 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21049 : Index := Scalar.indexCast v37
  let c320_6391 : Index := 320#32
  let c512_6392 : Index := 512#32
  ![v21049.toNat, 320, 512]
def k0_off735 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21054 : Index := Scalar.indexCast v37
  let c320_6395 : Index := 320#32
  let c640_6396 : Index := 640#32
  ![v21054.toNat, 320, 640]
def k0_off736 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21059 : Index := Scalar.indexCast v37
  let c320_6399 : Index := 320#32
  let c768_6400 : Index := 768#32
  ![v21059.toNat, 320, 768]
def k0_off737 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21064 : Index := Scalar.indexCast v37
  let c320_6403 : Index := 320#32
  let c896_6404 : Index := 896#32
  ![v21064.toNat, 320, 896]
def k0_off738 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21327 : Index := Scalar.indexCast v37
  let c320_6475 : Index := 320#32
  let c1024_6476 : Index := 1024#32
  ![v21327.toNat, 320, 1024]
def k0_off739 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21332 : Index := Scalar.indexCast v37
  let c320_6479 : Index := 320#32
  let c1152_6480 : Index := 1152#32
  ![v21332.toNat, 320, 1152]
def k0_off740 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21337 : Index := Scalar.indexCast v37
  let c320_6483 : Index := 320#32
  let c1280_6484 : Index := 1280#32
  ![v21337.toNat, 320, 1280]
def k0_off741 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21342 : Index := Scalar.indexCast v37
  let c320_6487 : Index := 320#32
  let c1408_6488 : Index := 1408#32
  ![v21342.toNat, 320, 1408]
def k0_off742 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21605 : Index := Scalar.indexCast v37
  let c320_6559 : Index := 320#32
  let c1536_6560 : Index := 1536#32
  ![v21605.toNat, 320, 1536]
def k0_off743 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21610 : Index := Scalar.indexCast v37
  let c320_6563 : Index := 320#32
  let c1664_6564 : Index := 1664#32
  ![v21610.toNat, 320, 1664]
def k0_off744 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21615 : Index := Scalar.indexCast v37
  let c320_6567 : Index := 320#32
  let c1792_6568 : Index := 1792#32
  ![v21615.toNat, 320, 1792]
def k0_off745 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21620 : Index := Scalar.indexCast v37
  let c320_6571 : Index := 320#32
  let c1920_6572 : Index := 1920#32
  ![v21620.toNat, 320, 1920]
def k0_off746 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21883 : Index := Scalar.indexCast v37
  let c320_6643 : Index := 320#32
  let c2048_6644 : Index := 2048#32
  ![v21883.toNat, 320, 2048]
def k0_off747 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21888 : Index := Scalar.indexCast v37
  let c320_6647 : Index := 320#32
  let c2176_6648 : Index := 2176#32
  ![v21888.toNat, 320, 2176]
def k0_off748 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21893 : Index := Scalar.indexCast v37
  let c320_6651 : Index := 320#32
  let c2304_6652 : Index := 2304#32
  ![v21893.toNat, 320, 2304]
def k0_off749 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v21898 : Index := Scalar.indexCast v37
  let c320_6655 : Index := 320#32
  let c2432_6656 : Index := 2432#32
  ![v21898.toNat, 320, 2432]
def k0_off750 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22161 : Index := Scalar.indexCast v37
  let c320_6727 : Index := 320#32
  let c2560_6728 : Index := 2560#32
  ![v22161.toNat, 320, 2560]
def k0_off751 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22166 : Index := Scalar.indexCast v37
  let c320_6731 : Index := 320#32
  let c2688_6732 : Index := 2688#32
  ![v22166.toNat, 320, 2688]
def k0_off752 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22171 : Index := Scalar.indexCast v37
  let c320_6735 : Index := 320#32
  let c2816_6736 : Index := 2816#32
  ![v22171.toNat, 320, 2816]
def k0_off753 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22176 : Index := Scalar.indexCast v37
  let c320_6739 : Index := 320#32
  let c2944_6740 : Index := 2944#32
  ![v22176.toNat, 320, 2944]
def k0_off754 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22439 : Index := Scalar.indexCast v37
  let c320_6811 : Index := 320#32
  let c3072_6812 : Index := 3072#32
  ![v22439.toNat, 320, 3072]
def k0_off755 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22444 : Index := Scalar.indexCast v37
  let c320_6815 : Index := 320#32
  let c3200_6816 : Index := 3200#32
  ![v22444.toNat, 320, 3200]
def k0_off756 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22449 : Index := Scalar.indexCast v37
  let c320_6819 : Index := 320#32
  let c3328_6820 : Index := 3328#32
  ![v22449.toNat, 320, 3328]
def k0_off757 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22454 : Index := Scalar.indexCast v37
  let c320_6823 : Index := 320#32
  let c3456_6824 : Index := 3456#32
  ![v22454.toNat, 320, 3456]
def k0_off758 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22811 : Index := Scalar.indexCast v37
  let c352_6929 : Index := 352#32
  let c0_6930 : Index := 0#32
  ![v22811.toNat, 352, 0]
def k0_off759 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22816 : Index := Scalar.indexCast v37
  let c352_6933 : Index := 352#32
  let c128_6934 : Index := 128#32
  ![v22816.toNat, 352, 128]
def k0_off760 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22821 : Index := Scalar.indexCast v37
  let c352_6937 : Index := 352#32
  let c256_6938 : Index := 256#32
  ![v22821.toNat, 352, 256]
def k0_off761 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v22826 : Index := Scalar.indexCast v37
  let c352_6941 : Index := 352#32
  let c384_6942 : Index := 384#32
  ![v22826.toNat, 352, 384]
def k0_off762 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23089 : Index := Scalar.indexCast v37
  let c352_7013 : Index := 352#32
  let c512_7014 : Index := 512#32
  ![v23089.toNat, 352, 512]
def k0_off763 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23094 : Index := Scalar.indexCast v37
  let c352_7017 : Index := 352#32
  let c640_7018 : Index := 640#32
  ![v23094.toNat, 352, 640]
def k0_off764 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23099 : Index := Scalar.indexCast v37
  let c352_7021 : Index := 352#32
  let c768_7022 : Index := 768#32
  ![v23099.toNat, 352, 768]
def k0_off765 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23104 : Index := Scalar.indexCast v37
  let c352_7025 : Index := 352#32
  let c896_7026 : Index := 896#32
  ![v23104.toNat, 352, 896]
def k0_off766 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23367 : Index := Scalar.indexCast v37
  let c352_7097 : Index := 352#32
  let c1024_7098 : Index := 1024#32
  ![v23367.toNat, 352, 1024]
def k0_off767 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23372 : Index := Scalar.indexCast v37
  let c352_7101 : Index := 352#32
  let c1152_7102 : Index := 1152#32
  ![v23372.toNat, 352, 1152]
def k0_off768 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23377 : Index := Scalar.indexCast v37
  let c352_7105 : Index := 352#32
  let c1280_7106 : Index := 1280#32
  ![v23377.toNat, 352, 1280]
def k0_off769 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23382 : Index := Scalar.indexCast v37
  let c352_7109 : Index := 352#32
  let c1408_7110 : Index := 1408#32
  ![v23382.toNat, 352, 1408]
def k0_off770 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23645 : Index := Scalar.indexCast v37
  let c352_7181 : Index := 352#32
  let c1536_7182 : Index := 1536#32
  ![v23645.toNat, 352, 1536]
def k0_off771 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23650 : Index := Scalar.indexCast v37
  let c352_7185 : Index := 352#32
  let c1664_7186 : Index := 1664#32
  ![v23650.toNat, 352, 1664]
def k0_off772 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23655 : Index := Scalar.indexCast v37
  let c352_7189 : Index := 352#32
  let c1792_7190 : Index := 1792#32
  ![v23655.toNat, 352, 1792]
def k0_off773 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23660 : Index := Scalar.indexCast v37
  let c352_7193 : Index := 352#32
  let c1920_7194 : Index := 1920#32
  ![v23660.toNat, 352, 1920]
def k0_off774 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23923 : Index := Scalar.indexCast v37
  let c352_7265 : Index := 352#32
  let c2048_7266 : Index := 2048#32
  ![v23923.toNat, 352, 2048]
def k0_off775 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23928 : Index := Scalar.indexCast v37
  let c352_7269 : Index := 352#32
  let c2176_7270 : Index := 2176#32
  ![v23928.toNat, 352, 2176]
def k0_off776 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23933 : Index := Scalar.indexCast v37
  let c352_7273 : Index := 352#32
  let c2304_7274 : Index := 2304#32
  ![v23933.toNat, 352, 2304]
def k0_off777 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v23938 : Index := Scalar.indexCast v37
  let c352_7277 : Index := 352#32
  let c2432_7278 : Index := 2432#32
  ![v23938.toNat, 352, 2432]
def k0_off778 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24201 : Index := Scalar.indexCast v37
  let c352_7349 : Index := 352#32
  let c2560_7350 : Index := 2560#32
  ![v24201.toNat, 352, 2560]
def k0_off779 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24206 : Index := Scalar.indexCast v37
  let c352_7353 : Index := 352#32
  let c2688_7354 : Index := 2688#32
  ![v24206.toNat, 352, 2688]
def k0_off780 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24211 : Index := Scalar.indexCast v37
  let c352_7357 : Index := 352#32
  let c2816_7358 : Index := 2816#32
  ![v24211.toNat, 352, 2816]
def k0_off781 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24216 : Index := Scalar.indexCast v37
  let c352_7361 : Index := 352#32
  let c2944_7362 : Index := 2944#32
  ![v24216.toNat, 352, 2944]
def k0_off782 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24479 : Index := Scalar.indexCast v37
  let c352_7433 : Index := 352#32
  let c3072_7434 : Index := 3072#32
  ![v24479.toNat, 352, 3072]
def k0_off783 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24484 : Index := Scalar.indexCast v37
  let c352_7437 : Index := 352#32
  let c3200_7438 : Index := 3200#32
  ![v24484.toNat, 352, 3200]
def k0_off784 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24489 : Index := Scalar.indexCast v37
  let c352_7441 : Index := 352#32
  let c3328_7442 : Index := 3328#32
  ![v24489.toNat, 352, 3328]
def k0_off785 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24494 : Index := Scalar.indexCast v37
  let c352_7445 : Index := 352#32
  let c3456_7446 : Index := 3456#32
  ![v24494.toNat, 352, 3456]
def k0_off786 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24859 : Index := Scalar.indexCast v37
  let c384_7559 : Index := 384#32
  let c0_7560 : Index := 0#32
  ![v24859.toNat, 384, 0]
def k0_off787 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24864 : Index := Scalar.indexCast v37
  let c384_7563 : Index := 384#32
  let c128_7564 : Index := 128#32
  ![v24864.toNat, 384, 128]
def k0_off788 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24869 : Index := Scalar.indexCast v37
  let c384_7567 : Index := 384#32
  let c256_7568 : Index := 256#32
  ![v24869.toNat, 384, 256]
def k0_off789 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v24874 : Index := Scalar.indexCast v37
  let c384_7571 : Index := 384#32
  let c384_7572 : Index := 384#32
  ![v24874.toNat, 384, 384]
def k0_off790 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25137 : Index := Scalar.indexCast v37
  let c384_7643 : Index := 384#32
  let c512_7644 : Index := 512#32
  ![v25137.toNat, 384, 512]
def k0_off791 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25142 : Index := Scalar.indexCast v37
  let c384_7647 : Index := 384#32
  let c640_7648 : Index := 640#32
  ![v25142.toNat, 384, 640]
def k0_off792 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25147 : Index := Scalar.indexCast v37
  let c384_7651 : Index := 384#32
  let c768_7652 : Index := 768#32
  ![v25147.toNat, 384, 768]
def k0_off793 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25152 : Index := Scalar.indexCast v37
  let c384_7655 : Index := 384#32
  let c896_7656 : Index := 896#32
  ![v25152.toNat, 384, 896]
def k0_off794 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25415 : Index := Scalar.indexCast v37
  let c384_7727 : Index := 384#32
  let c1024_7728 : Index := 1024#32
  ![v25415.toNat, 384, 1024]
def k0_off795 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25420 : Index := Scalar.indexCast v37
  let c384_7731 : Index := 384#32
  let c1152_7732 : Index := 1152#32
  ![v25420.toNat, 384, 1152]
def k0_off796 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25425 : Index := Scalar.indexCast v37
  let c384_7735 : Index := 384#32
  let c1280_7736 : Index := 1280#32
  ![v25425.toNat, 384, 1280]
def k0_off797 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25430 : Index := Scalar.indexCast v37
  let c384_7739 : Index := 384#32
  let c1408_7740 : Index := 1408#32
  ![v25430.toNat, 384, 1408]
def k0_off798 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25693 : Index := Scalar.indexCast v37
  let c384_7811 : Index := 384#32
  let c1536_7812 : Index := 1536#32
  ![v25693.toNat, 384, 1536]
def k0_off799 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25698 : Index := Scalar.indexCast v37
  let c384_7815 : Index := 384#32
  let c1664_7816 : Index := 1664#32
  ![v25698.toNat, 384, 1664]
def k0_off800 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25703 : Index := Scalar.indexCast v37
  let c384_7819 : Index := 384#32
  let c1792_7820 : Index := 1792#32
  ![v25703.toNat, 384, 1792]
def k0_off801 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25708 : Index := Scalar.indexCast v37
  let c384_7823 : Index := 384#32
  let c1920_7824 : Index := 1920#32
  ![v25708.toNat, 384, 1920]
def k0_off802 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25971 : Index := Scalar.indexCast v37
  let c384_7895 : Index := 384#32
  let c2048_7896 : Index := 2048#32
  ![v25971.toNat, 384, 2048]
def k0_off803 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25976 : Index := Scalar.indexCast v37
  let c384_7899 : Index := 384#32
  let c2176_7900 : Index := 2176#32
  ![v25976.toNat, 384, 2176]
def k0_off804 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25981 : Index := Scalar.indexCast v37
  let c384_7903 : Index := 384#32
  let c2304_7904 : Index := 2304#32
  ![v25981.toNat, 384, 2304]
def k0_off805 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v25986 : Index := Scalar.indexCast v37
  let c384_7907 : Index := 384#32
  let c2432_7908 : Index := 2432#32
  ![v25986.toNat, 384, 2432]
def k0_off806 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26249 : Index := Scalar.indexCast v37
  let c384_7979 : Index := 384#32
  let c2560_7980 : Index := 2560#32
  ![v26249.toNat, 384, 2560]
def k0_off807 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26254 : Index := Scalar.indexCast v37
  let c384_7983 : Index := 384#32
  let c2688_7984 : Index := 2688#32
  ![v26254.toNat, 384, 2688]
def k0_off808 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26259 : Index := Scalar.indexCast v37
  let c384_7987 : Index := 384#32
  let c2816_7988 : Index := 2816#32
  ![v26259.toNat, 384, 2816]
def k0_off809 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26264 : Index := Scalar.indexCast v37
  let c384_7991 : Index := 384#32
  let c2944_7992 : Index := 2944#32
  ![v26264.toNat, 384, 2944]
def k0_off810 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26527 : Index := Scalar.indexCast v37
  let c384_8063 : Index := 384#32
  let c3072_8064 : Index := 3072#32
  ![v26527.toNat, 384, 3072]
def k0_off811 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26532 : Index := Scalar.indexCast v37
  let c384_8067 : Index := 384#32
  let c3200_8068 : Index := 3200#32
  ![v26532.toNat, 384, 3200]
def k0_off812 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26537 : Index := Scalar.indexCast v37
  let c384_8071 : Index := 384#32
  let c3328_8072 : Index := 3328#32
  ![v26537.toNat, 384, 3328]
def k0_off813 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26542 : Index := Scalar.indexCast v37
  let c384_8075 : Index := 384#32
  let c3456_8076 : Index := 3456#32
  ![v26542.toNat, 384, 3456]
def k0_off814 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26899 : Index := Scalar.indexCast v37
  let c416_8181 : Index := 416#32
  let c0_8182 : Index := 0#32
  ![v26899.toNat, 416, 0]
def k0_off815 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26904 : Index := Scalar.indexCast v37
  let c416_8185 : Index := 416#32
  let c128_8186 : Index := 128#32
  ![v26904.toNat, 416, 128]
def k0_off816 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26909 : Index := Scalar.indexCast v37
  let c416_8189 : Index := 416#32
  let c256_8190 : Index := 256#32
  ![v26909.toNat, 416, 256]
def k0_off817 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v26914 : Index := Scalar.indexCast v37
  let c416_8193 : Index := 416#32
  let c384_8194 : Index := 384#32
  ![v26914.toNat, 416, 384]
def k0_off818 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27177 : Index := Scalar.indexCast v37
  let c416_8265 : Index := 416#32
  let c512_8266 : Index := 512#32
  ![v27177.toNat, 416, 512]
def k0_off819 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27182 : Index := Scalar.indexCast v37
  let c416_8269 : Index := 416#32
  let c640_8270 : Index := 640#32
  ![v27182.toNat, 416, 640]
def k0_off820 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27187 : Index := Scalar.indexCast v37
  let c416_8273 : Index := 416#32
  let c768_8274 : Index := 768#32
  ![v27187.toNat, 416, 768]
def k0_off821 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27192 : Index := Scalar.indexCast v37
  let c416_8277 : Index := 416#32
  let c896_8278 : Index := 896#32
  ![v27192.toNat, 416, 896]
def k0_off822 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27455 : Index := Scalar.indexCast v37
  let c416_8349 : Index := 416#32
  let c1024_8350 : Index := 1024#32
  ![v27455.toNat, 416, 1024]
def k0_off823 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27460 : Index := Scalar.indexCast v37
  let c416_8353 : Index := 416#32
  let c1152_8354 : Index := 1152#32
  ![v27460.toNat, 416, 1152]
def k0_off824 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27465 : Index := Scalar.indexCast v37
  let c416_8357 : Index := 416#32
  let c1280_8358 : Index := 1280#32
  ![v27465.toNat, 416, 1280]
def k0_off825 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27470 : Index := Scalar.indexCast v37
  let c416_8361 : Index := 416#32
  let c1408_8362 : Index := 1408#32
  ![v27470.toNat, 416, 1408]
def k0_off826 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27733 : Index := Scalar.indexCast v37
  let c416_8433 : Index := 416#32
  let c1536_8434 : Index := 1536#32
  ![v27733.toNat, 416, 1536]
def k0_off827 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27738 : Index := Scalar.indexCast v37
  let c416_8437 : Index := 416#32
  let c1664_8438 : Index := 1664#32
  ![v27738.toNat, 416, 1664]
def k0_off828 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27743 : Index := Scalar.indexCast v37
  let c416_8441 : Index := 416#32
  let c1792_8442 : Index := 1792#32
  ![v27743.toNat, 416, 1792]
def k0_off829 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v27748 : Index := Scalar.indexCast v37
  let c416_8445 : Index := 416#32
  let c1920_8446 : Index := 1920#32
  ![v27748.toNat, 416, 1920]
def k0_off830 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28011 : Index := Scalar.indexCast v37
  let c416_8517 : Index := 416#32
  let c2048_8518 : Index := 2048#32
  ![v28011.toNat, 416, 2048]
def k0_off831 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28016 : Index := Scalar.indexCast v37
  let c416_8521 : Index := 416#32
  let c2176_8522 : Index := 2176#32
  ![v28016.toNat, 416, 2176]
def k0_off832 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28021 : Index := Scalar.indexCast v37
  let c416_8525 : Index := 416#32
  let c2304_8526 : Index := 2304#32
  ![v28021.toNat, 416, 2304]
def k0_off833 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28026 : Index := Scalar.indexCast v37
  let c416_8529 : Index := 416#32
  let c2432_8530 : Index := 2432#32
  ![v28026.toNat, 416, 2432]
def k0_off834 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28289 : Index := Scalar.indexCast v37
  let c416_8601 : Index := 416#32
  let c2560_8602 : Index := 2560#32
  ![v28289.toNat, 416, 2560]
def k0_off835 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28294 : Index := Scalar.indexCast v37
  let c416_8605 : Index := 416#32
  let c2688_8606 : Index := 2688#32
  ![v28294.toNat, 416, 2688]
def k0_off836 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28299 : Index := Scalar.indexCast v37
  let c416_8609 : Index := 416#32
  let c2816_8610 : Index := 2816#32
  ![v28299.toNat, 416, 2816]
def k0_off837 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28304 : Index := Scalar.indexCast v37
  let c416_8613 : Index := 416#32
  let c2944_8614 : Index := 2944#32
  ![v28304.toNat, 416, 2944]
def k0_off838 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28567 : Index := Scalar.indexCast v37
  let c416_8685 : Index := 416#32
  let c3072_8686 : Index := 3072#32
  ![v28567.toNat, 416, 3072]
def k0_off839 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28572 : Index := Scalar.indexCast v37
  let c416_8689 : Index := 416#32
  let c3200_8690 : Index := 3200#32
  ![v28572.toNat, 416, 3200]
def k0_off840 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28577 : Index := Scalar.indexCast v37
  let c416_8693 : Index := 416#32
  let c3328_8694 : Index := 3328#32
  ![v28577.toNat, 416, 3328]
def k0_off841 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28582 : Index := Scalar.indexCast v37
  let c416_8697 : Index := 416#32
  let c3456_8698 : Index := 3456#32
  ![v28582.toNat, 416, 3456]
def k0_off842 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28939 : Index := Scalar.indexCast v37
  let c448_8803 : Index := 448#32
  let c0_8804 : Index := 0#32
  ![v28939.toNat, 448, 0]
def k0_off843 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28944 : Index := Scalar.indexCast v37
  let c448_8807 : Index := 448#32
  let c128_8808 : Index := 128#32
  ![v28944.toNat, 448, 128]
def k0_off844 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28949 : Index := Scalar.indexCast v37
  let c448_8811 : Index := 448#32
  let c256_8812 : Index := 256#32
  ![v28949.toNat, 448, 256]
def k0_off845 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v28954 : Index := Scalar.indexCast v37
  let c448_8815 : Index := 448#32
  let c384_8816 : Index := 384#32
  ![v28954.toNat, 448, 384]
def k0_off846 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29217 : Index := Scalar.indexCast v37
  let c448_8887 : Index := 448#32
  let c512_8888 : Index := 512#32
  ![v29217.toNat, 448, 512]
def k0_off847 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29222 : Index := Scalar.indexCast v37
  let c448_8891 : Index := 448#32
  let c640_8892 : Index := 640#32
  ![v29222.toNat, 448, 640]
def k0_off848 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29227 : Index := Scalar.indexCast v37
  let c448_8895 : Index := 448#32
  let c768_8896 : Index := 768#32
  ![v29227.toNat, 448, 768]
def k0_off849 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29232 : Index := Scalar.indexCast v37
  let c448_8899 : Index := 448#32
  let c896_8900 : Index := 896#32
  ![v29232.toNat, 448, 896]
def k0_off850 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29495 : Index := Scalar.indexCast v37
  let c448_8971 : Index := 448#32
  let c1024_8972 : Index := 1024#32
  ![v29495.toNat, 448, 1024]
def k0_off851 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29500 : Index := Scalar.indexCast v37
  let c448_8975 : Index := 448#32
  let c1152_8976 : Index := 1152#32
  ![v29500.toNat, 448, 1152]
def k0_off852 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29505 : Index := Scalar.indexCast v37
  let c448_8979 : Index := 448#32
  let c1280_8980 : Index := 1280#32
  ![v29505.toNat, 448, 1280]
def k0_off853 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29510 : Index := Scalar.indexCast v37
  let c448_8983 : Index := 448#32
  let c1408_8984 : Index := 1408#32
  ![v29510.toNat, 448, 1408]
def k0_off854 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29773 : Index := Scalar.indexCast v37
  let c448_9055 : Index := 448#32
  let c1536_9056 : Index := 1536#32
  ![v29773.toNat, 448, 1536]
def k0_off855 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29778 : Index := Scalar.indexCast v37
  let c448_9059 : Index := 448#32
  let c1664_9060 : Index := 1664#32
  ![v29778.toNat, 448, 1664]
def k0_off856 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29783 : Index := Scalar.indexCast v37
  let c448_9063 : Index := 448#32
  let c1792_9064 : Index := 1792#32
  ![v29783.toNat, 448, 1792]
def k0_off857 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v29788 : Index := Scalar.indexCast v37
  let c448_9067 : Index := 448#32
  let c1920_9068 : Index := 1920#32
  ![v29788.toNat, 448, 1920]
def k0_off858 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30051 : Index := Scalar.indexCast v37
  let c448_9139 : Index := 448#32
  let c2048_9140 : Index := 2048#32
  ![v30051.toNat, 448, 2048]
def k0_off859 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30056 : Index := Scalar.indexCast v37
  let c448_9143 : Index := 448#32
  let c2176_9144 : Index := 2176#32
  ![v30056.toNat, 448, 2176]
def k0_off860 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30061 : Index := Scalar.indexCast v37
  let c448_9147 : Index := 448#32
  let c2304_9148 : Index := 2304#32
  ![v30061.toNat, 448, 2304]
def k0_off861 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30066 : Index := Scalar.indexCast v37
  let c448_9151 : Index := 448#32
  let c2432_9152 : Index := 2432#32
  ![v30066.toNat, 448, 2432]
def k0_off862 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30329 : Index := Scalar.indexCast v37
  let c448_9223 : Index := 448#32
  let c2560_9224 : Index := 2560#32
  ![v30329.toNat, 448, 2560]
def k0_off863 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30334 : Index := Scalar.indexCast v37
  let c448_9227 : Index := 448#32
  let c2688_9228 : Index := 2688#32
  ![v30334.toNat, 448, 2688]
def k0_off864 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30339 : Index := Scalar.indexCast v37
  let c448_9231 : Index := 448#32
  let c2816_9232 : Index := 2816#32
  ![v30339.toNat, 448, 2816]
def k0_off865 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30344 : Index := Scalar.indexCast v37
  let c448_9235 : Index := 448#32
  let c2944_9236 : Index := 2944#32
  ![v30344.toNat, 448, 2944]
def k0_off866 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30607 : Index := Scalar.indexCast v37
  let c448_9307 : Index := 448#32
  let c3072_9308 : Index := 3072#32
  ![v30607.toNat, 448, 3072]
def k0_off867 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30612 : Index := Scalar.indexCast v37
  let c448_9311 : Index := 448#32
  let c3200_9312 : Index := 3200#32
  ![v30612.toNat, 448, 3200]
def k0_off868 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30617 : Index := Scalar.indexCast v37
  let c448_9315 : Index := 448#32
  let c3328_9316 : Index := 3328#32
  ![v30617.toNat, 448, 3328]
def k0_off869 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30622 : Index := Scalar.indexCast v37
  let c448_9319 : Index := 448#32
  let c3456_9320 : Index := 3456#32
  ![v30622.toNat, 448, 3456]
def k0_off870 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30979 : Index := Scalar.indexCast v37
  let c480_9426 : Index := 480#32
  let c0_9427 : Index := 0#32
  ![v30979.toNat, 480, 0]
def k0_off871 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30984 : Index := Scalar.indexCast v37
  let c480_9430 : Index := 480#32
  let c128_9431 : Index := 128#32
  ![v30984.toNat, 480, 128]
def k0_off872 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30989 : Index := Scalar.indexCast v37
  let c480_9434 : Index := 480#32
  let c256_9435 : Index := 256#32
  ![v30989.toNat, 480, 256]
def k0_off873 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v30994 : Index := Scalar.indexCast v37
  let c480_9438 : Index := 480#32
  let c384_9439 : Index := 384#32
  ![v30994.toNat, 480, 384]
def k0_off874 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31257 : Index := Scalar.indexCast v37
  let c480_9510 : Index := 480#32
  let c512_9511 : Index := 512#32
  ![v31257.toNat, 480, 512]
def k0_off875 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31262 : Index := Scalar.indexCast v37
  let c480_9514 : Index := 480#32
  let c640_9515 : Index := 640#32
  ![v31262.toNat, 480, 640]
def k0_off876 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31267 : Index := Scalar.indexCast v37
  let c480_9518 : Index := 480#32
  let c768_9519 : Index := 768#32
  ![v31267.toNat, 480, 768]
def k0_off877 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31272 : Index := Scalar.indexCast v37
  let c480_9522 : Index := 480#32
  let c896_9523 : Index := 896#32
  ![v31272.toNat, 480, 896]
def k0_off878 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31535 : Index := Scalar.indexCast v37
  let c480_9594 : Index := 480#32
  let c1024_9595 : Index := 1024#32
  ![v31535.toNat, 480, 1024]
def k0_off879 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31540 : Index := Scalar.indexCast v37
  let c480_9598 : Index := 480#32
  let c1152_9599 : Index := 1152#32
  ![v31540.toNat, 480, 1152]
def k0_off880 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31545 : Index := Scalar.indexCast v37
  let c480_9602 : Index := 480#32
  let c1280_9603 : Index := 1280#32
  ![v31545.toNat, 480, 1280]
def k0_off881 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31550 : Index := Scalar.indexCast v37
  let c480_9606 : Index := 480#32
  let c1408_9607 : Index := 1408#32
  ![v31550.toNat, 480, 1408]
def k0_off882 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31813 : Index := Scalar.indexCast v37
  let c480_9678 : Index := 480#32
  let c1536_9679 : Index := 1536#32
  ![v31813.toNat, 480, 1536]
def k0_off883 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31818 : Index := Scalar.indexCast v37
  let c480_9682 : Index := 480#32
  let c1664_9683 : Index := 1664#32
  ![v31818.toNat, 480, 1664]
def k0_off884 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31823 : Index := Scalar.indexCast v37
  let c480_9686 : Index := 480#32
  let c1792_9687 : Index := 1792#32
  ![v31823.toNat, 480, 1792]
def k0_off885 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v31828 : Index := Scalar.indexCast v37
  let c480_9690 : Index := 480#32
  let c1920_9691 : Index := 1920#32
  ![v31828.toNat, 480, 1920]
def k0_off886 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32091 : Index := Scalar.indexCast v37
  let c480_9762 : Index := 480#32
  let c2048_9763 : Index := 2048#32
  ![v32091.toNat, 480, 2048]
def k0_off887 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32096 : Index := Scalar.indexCast v37
  let c480_9766 : Index := 480#32
  let c2176_9767 : Index := 2176#32
  ![v32096.toNat, 480, 2176]
def k0_off888 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32101 : Index := Scalar.indexCast v37
  let c480_9770 : Index := 480#32
  let c2304_9771 : Index := 2304#32
  ![v32101.toNat, 480, 2304]
def k0_off889 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32106 : Index := Scalar.indexCast v37
  let c480_9774 : Index := 480#32
  let c2432_9775 : Index := 2432#32
  ![v32106.toNat, 480, 2432]
def k0_off890 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32369 : Index := Scalar.indexCast v37
  let c480_9846 : Index := 480#32
  let c2560_9847 : Index := 2560#32
  ![v32369.toNat, 480, 2560]
def k0_off891 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32374 : Index := Scalar.indexCast v37
  let c480_9850 : Index := 480#32
  let c2688_9851 : Index := 2688#32
  ![v32374.toNat, 480, 2688]
def k0_off892 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32379 : Index := Scalar.indexCast v37
  let c480_9854 : Index := 480#32
  let c2816_9855 : Index := 2816#32
  ![v32379.toNat, 480, 2816]
def k0_off893 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32384 : Index := Scalar.indexCast v37
  let c480_9858 : Index := 480#32
  let c2944_9859 : Index := 2944#32
  ![v32384.toNat, 480, 2944]
def k0_off894 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32647 : Index := Scalar.indexCast v37
  let c480_9930 : Index := 480#32
  let c3072_9931 : Index := 3072#32
  ![v32647.toNat, 480, 3072]
def k0_off895 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32652 : Index := Scalar.indexCast v37
  let c480_9934 : Index := 480#32
  let c3200_9935 : Index := 3200#32
  ![v32652.toNat, 480, 3200]
def k0_off896 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32657 : Index := Scalar.indexCast v37
  let c480_9938 : Index := 480#32
  let c3328_9939 : Index := 3328#32
  ![v32657.toNat, 480, 3328]
def k0_off897 (i : grid0.Coords) : Fin 3 → Nat :=
  let arg0 : BitVec 32 := BitVec.ofNat 32 (i 0).val
  let c2_i32_2 : BitVec 32 := 2#32
  let c0_i32_3 : BitVec 32 := 0#32
  let v28 : BitVec 1 := Scalar.cmpi .eq c2_i32_2 c0_i32_3
  let c1_i32_4 : BitVec 32 := 1#32
  let v29 : BitVec 32 := Scalar.select v28 c1_i32_4 c2_i32_2
  let v30 : BitVec 32 := Scalar.remsi arg0 v29
  let c0_i32_6 : BitVec 32 := 0#32
  let v32 : BitVec 1 := Scalar.cmpi .slt v30 c0_i32_6
  let c0_i32_7 : BitVec 32 := 0#32
  let v33 : BitVec 1 := Scalar.cmpi .slt v29 c0_i32_7
  let v34 : BitVec 1 := Scalar.xori v32 v33
  let c0_i32_5 : BitVec 32 := 0#32
  let v31 : BitVec 1 := Scalar.cmpi .ne v30 c0_i32_5
  let v35 : BitVec 1 := Scalar.andi v34 v31
  let v36 : BitVec 32 := Scalar.addi v30 v29
  let v37 : BitVec 32 := Scalar.select v35 v36 v30
  let v32662 : Index := Scalar.indexCast v37
  let c480_9942 : Index := 480#32
  let c3456_9943 : Index := 3456#32
  ![v32662.toNat, 480, 3456]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let c0_i32_0 : BitVec 32 := 0#32
  ![v0.toNat, c0_i32.toNat]

abbrev stage0_0 : Fin 1 → Memref sig .tc .vmem S1920x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1920x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x112 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FReferenceIdeal.lean ====
abbrev S1920x3584 : Shape := ⟨2, ![1920, 3584]⟩
abbrev S18944x3584 : Shape := ⟨2, ![18944, 3584]⟩
abbrev S1920x18944 : Shape := ⟨2, ![1920, 18944]⟩
abbrev S18944x112 : Shape := ⟨2, ![18944, 112]⟩
abbrev S18944x112x32 : Shape := ⟨3, ![18944, 112, 32]⟩
abbrev S18944x112x1 : Shape := ⟨3, ![18944, 112, 1]⟩

abbrev nBuf : Space → Nat
  | .hbm => 5
  | .vmem => 5
  | .smem => 0
  | _ => 0

abbrev bufTy : (tb : Table) → Fin (tcTables nBuf tb) → BufTy
  | .hbm, ⟨0, _⟩ => ⟨S1920x3584, .bf16⟩
  | .hbm, ⟨1, _⟩ => ⟨S18944x3584, .bf16⟩
  | .hbm, ⟨2, _⟩ => ⟨S1920x18944, .bf16⟩
  | .hbm, ⟨3, _⟩ => ⟨S18944x3584, .fp8e4m3⟩
  | .hbm, ⟨4, _⟩ => ⟨S18944x112, .i8⟩
  | .local _ .vmem, ⟨0, _⟩ => ⟨S1920x3584, .bf16⟩
  | .local _ .vmem, ⟨1, _⟩ => ⟨S18944x3584, .bf16⟩
  | .local _ .vmem, ⟨2, _⟩ => ⟨S1920x18944, .bf16⟩
  | .local _ .vmem, ⟨3, _⟩ => ⟨S18944x3584, .fp8e4m3⟩
  | .local _ .vmem, ⟨4, _⟩ => ⟨S18944x112, .i8⟩
  | _, _ => ⟨S1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x112 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.XquantFrame.lean ====
/- The frame of `x_quant` (the program on bits): the run ends, is free of races, and leaves its argument as it was. Nothing of what
   the outputs hold is named here. -/
module

public import proofs.«01_k».proof.Proof.Gen.Xquant.Launch
public import proofs.«01_k».proof.Proof.Gen.Xquant.Skeleton
public import proofs.«01_k».proof.Proof.Gen.Xquant.Loops
public import proofs.«01_k».proof.Proof.Gen.Xquant.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Xquant.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Xquant Cert.Xquant.Gen

section

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Xquant`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePost.arr_in h c 0 rfl).trans ((hA c 0).trans (V_main_arg0 m c))) h

/-! ## The kernel body on any staging memrefs: a subtype the run finds -/

/-- Each window's current staging memref at point `t`, spelled as the pipeline passes it (`bodyAt0`), and its wholeness. -/
abbrev ms0_0 (t : Fin cfg0.N) : Memref sig .tc .vmem S640x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x3584 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x112 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x20x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x3584 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x3584 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S24x3584 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end

section

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (1, 2, 3, 4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S640x3584 .bf16) (harg1 : arg1.IsWhole) (arg2 : Memref sig .tc .vmem S640x3584 .fp8e4m3) (harg2 : arg2.IsWhole) (arg3 : Memref sig .tc .vmem S640x112 .i8) (harg3 : arg3.IsWhole) (arg4 : Memref sig .tc .vmem S640x3584 .fp8e4m3) (harg4 : arg4.IsWhole) (arg5 : Memref sig .tc .vmem S1x20x3584 .i8) (harg5 : arg5.IsWhole) (arg6 : Memref sig .tc .vmem S640x3584 .bf16) (harg6 : arg6.IsWhole) (arg7 : Memref sig .tc .vmem S640x3584 .bf16) (harg7 : arg7.IsWhole) (arg8 : Memref sig .tc .vmem S24x3584 .i32) (harg8 : arg8.IsWhole)
    (x0 : Vec F S640x3584 .bf16) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_x_quant i arg1 harg1 arg2 harg2 arg3 harg3 arg4 harg4 arg5 harg5 arg6 harg6 arg7 harg7 arg8 harg8) K := by
    intro E K
    simp only [cc0_x_quant_eq_skeleton]; unfold cc0_x_quant_skel
    simp only [k0_part82_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0
    sl_exec
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

end

section

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (1, 2, 3, 4, 5, 6): nothing reads what the kernel leaves in them, so nothing
    of it is named (Lib/Pipeline/Dat.lean `Dat.toRForget`). -/
def forgets0 : Fin 7 → Bool := fun w => w.val == 1 || w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t)) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 1, 2, 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- THE FRAME: `Cert.quiescent_Xquant`'s statement (Defs.lean) at any `F` — Proof.lean cites it at `Bits`:
    `theorem Cert.Proof.claim : Cert.Claim := ⟨Cert.Xquant.Gen.facts, fun m ρ _ => Cert.Xquant.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end

end Cert.Xquant.Forget

end
-- ==== Proof.XquantIdealFrame.lean ====
/- The frame of `x_quant` (the program over the reals): the run ends, is free of races, and leaves its argument as it was. Nothing of what
   the outputs hold is named here. -/
module

public import proofs.«01_k».proof.Proof.Gen.XquantIdeal.Launch
public import proofs.«01_k».proof.Proof.Gen.XquantIdeal.Skeleton
public import proofs.«01_k».proof.Proof.Gen.XquantIdeal.Loops
public import proofs.«01_k».proof.Proof.Gen.XquantIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.XquantIdeal.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.XquantIdeal Cert.XquantIdeal.Gen

section

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_XquantIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePost.arr_in h c 0 rfl).trans ((hA c 0).trans (V_main_arg0 m c))) h

/-! ## The kernel body on any staging memrefs: a subtype the run finds -/

/-- Each window's current staging memref at point `t`, spelled as the pipeline passes it (`bodyAt0`), and its wholeness. -/
abbrev ms0_0 (t : Fin cfg0.N) : Memref sig .tc .vmem S640x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x3584 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x112 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x20x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x3584 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x3584 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S24x3584 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end

section

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (1, 2, 3, 4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S640x3584 .bf16) (harg1 : arg1.IsWhole) (arg2 : Memref sig .tc .vmem S640x3584 .fp8e4m3) (harg2 : arg2.IsWhole) (arg3 : Memref sig .tc .vmem S640x112 .i8) (harg3 : arg3.IsWhole) (arg4 : Memref sig .tc .vmem S640x3584 .fp8e4m3) (harg4 : arg4.IsWhole) (arg5 : Memref sig .tc .vmem S1x20x3584 .i8) (harg5 : arg5.IsWhole) (arg6 : Memref sig .tc .vmem S640x3584 .bf16) (harg6 : arg6.IsWhole) (arg7 : Memref sig .tc .vmem S640x3584 .bf16) (harg7 : arg7.IsWhole) (arg8 : Memref sig .tc .vmem S24x3584 .i32) (harg8 : arg8.IsWhole)
    (x0 : Vec F S640x3584 .bf16) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_x_quant i arg1 harg1 arg2 harg2 arg3 harg3 arg4 harg4 arg5 harg5 arg6 harg6 arg7 harg7 arg8 harg8) K := by
    intro E K
    simp only [cc0_x_quant_eq_skeleton]; unfold cc0_x_quant_skel
    simp only [k0_part82_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0
    sl_exec
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

end

section

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (1, 2, 3, 4, 5, 6): nothing reads what the kernel leaves in them, so nothing
    of it is named (Lib/Pipeline/Dat.lean `Dat.toRForget`). -/
def forgets0 : Fin 7 → Bool := fun w => w.val == 1 || w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t)) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 1, 2, 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- THE FRAME: `Cert.quiescent_XquantIdeal`'s statement (Defs.lean) at any `F` — Proof.lean cites it at `Bits`:
    `theorem Cert.Proof.claim : Cert.Claim := ⟨Cert.XquantIdeal.Gen.facts, fun m ρ _ => Cert.XquantIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end

end Cert.XquantIdeal.Forget

end
-- ==== Proof.Program.lean ====
/- The body of the weight-gradient kernel, written once over what it stores.

   The printed body spells out sixty strips of 32 rows, fifteen groups of four strips and seven column
   blocks of the product. Here each of the three is one definition with an index, and the body is a run over
   a list of them. The values that a strip computes are parameters (`Pay`), so that one proof about the memory
   serves the program on bits and the program over the reals. -/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.Lib.Affine
public import Idealize.ShloMosaic.Lib.Decide
public import Idealize.ShloMosaic.Lib.Exec

@[expose] public section

noncomputable section

namespace Cert.Wgrad

open Idealize.ShloMosaic Idealize.SL.Sem

abbrev S1920x3584 : Shape := ⟨2, ![1920, 3584]⟩
abbrev S1920x512 : Shape := ⟨2, ![1920, 512]⟩
abbrev S512x3584 : Shape := ⟨2, ![512, 3584]⟩
abbrev S3x20x512 : Shape := ⟨3, ![3, 20, 512]⟩
abbrev S2x512x1920 : Shape := ⟨3, ![2, 512, 1920]⟩
abbrev S3x24x512 : Shape := ⟨3, ![3, 24, 512]⟩
abbrev S32x512 : Shape := ⟨2, ![32, 512]⟩
abbrev S16x512 : Shape := ⟨2, ![16, 512]⟩
abbrev S8x512 : Shape := ⟨2, ![8, 512]⟩
abbrev S1x512 : Shape := ⟨2, ![1, 512]⟩
abbrev S1x1x512 : Shape := ⟨3, ![1, 1, 512]⟩
abbrev S128x512 : Shape := ⟨2, ![128, 512]⟩
abbrev S512x128 : Shape := ⟨2, ![512, 128]⟩
abbrev S1x512x128 : Shape := ⟨3, ![1, 512, 128]⟩
abbrev S1x20x512 : Shape := ⟨3, ![1, 20, 512]⟩
abbrev S20x512 : Shape := ⟨2, ![20, 512]⟩
abbrev S1x512x1920 : Shape := ⟨3, ![1, 512, 1920]⟩
abbrev S512x1920 : Shape := ⟨2, ![512, 1920]⟩
abbrev S512x512 : Shape := ⟨2, ![512, 512]⟩

/-! ## Where the strips, groups and column blocks lie -/

theorem strip_inb : ∀ q : Fin 60, ∀ a, (![32 * q.val, 0] : Fin 2 → Nat) a + S32x512.size a ≤ S1920x512.size a := by
  decide
theorem strip_slices : ∀ q : Fin 60, S1920x512.Slices ![32 * q.val, 0] S32x512 := by decide
theorem strip_packed : ∀ q : Fin 60,
    (Rect.unit (s := S1920x512) ![32 * q.val, 0] S32x512.size (strip_inb q)).PackedRows (EltTy.packing .fp8e4m3) := by
  decide
theorem word_inb : ∀ q : Fin 60, ∀ a,
    (![q.val / 20, q.val % 20, 0] : Fin 3 → Nat) a + S1x1x512.size a ≤ S3x24x512.size a := by decide
theorem dot_inb : ∀ j : Fin 7, ∀ a, (![0, 512 * j.val] : Fin 2 → Nat) a + S1920x512.size a ≤ S1920x3584.size a := by
  decide
theorem out_inb : ∀ j : Fin 7, ∀ a, (![0, 512 * j.val] : Fin 2 → Nat) a + S512x512.size a ≤ S512x3584.size a := by
  decide
theorem words_inb : ∀ b : Fin 3, ∀ a, (![b.val, 0, 0] : Fin 3 → Nat) a + S1x20x512.size a ≤ S3x24x512.size a := by decide
theorem bytes_inb : ∀ b : Fin 3, ∀ a, (![b.val, 0, 0] : Fin 3 → Nat) a + S1x20x512.size a ≤ S3x20x512.size a := by decide
theorem bytes_packed : ∀ b : Fin 3,
    (Rect.unit (s := S3x20x512) ![b.val, 0, 0] S1x20x512.size (bytes_inb b)).PackedRows (EltTy.packing .i8) := by decide

theorem group_inb : ∀ (m : Fin 2) (r : Fin 15) (a : Fin 3),
    (![m.val, 0, 128 * r.val] : Fin 3 → Nat) a + S1x512x128.size a ≤ S2x512x1920.size a := by decide
theorem half_inb : ∀ (m : Fin 2) (a : Fin 3),
    (![m.val, 0, 0] : Fin 3 → Nat) a + S1x512x1920.size a ≤ S2x512x1920.size a := by decide

theorem whole_inb : ∀ a, (![0, 0] : Fin 2 → Nat) a + S1920x512.size a ≤ S1920x512.size a := by decide
theorem pos_S1920x512 : 0 < S1920x512.numel := by decide
theorem pos_S32x512 : 0 < S32x512.numel := by decide
theorem pos_S1x1x512 : 0 < S1x1x512.numel := by decide
theorem pos_S1x512x128 : 0 < S1x512x128.numel := by decide
theorem pos_S1x20x512 : 0 < S1x20x512.numel := by decide
theorem pos_S1x512x1920 : 0 < S1x512x1920.numel := by decide
theorem pos_S512x512 : 0 < S512x512.numel := by decide
theorem slices_S8x512_S1x512 : S8x512.Slices ![0, 0] S1x512 := by decide
theorem casts_S1x512 : S1x512.ShapeCasts S1x1x512 := by decide
theorem concats_S128x512 : Shape.Concatenates [S32x512, S32x512, S32x512, S32x512] S128x512 0 := by decide
theorem transposes_S512x128 : S128x512.Transposes [1, 0] S512x128 := by decide
theorem casts_S512x128 : S512x128.ShapeCasts S1x512x128 := by decide
theorem casts_S1x20x512 : S1x20x512.ShapeCasts S20x512 := by decide
theorem casts_S20x512 : S20x512.ShapeCasts S1x20x512 := by decide
theorem lt_8_32 : 8 < 32 := by decide
theorem casts_S1x512x1920 : S1x512x1920.ShapeCasts S512x1920 := by decide
theorem dot_wf : DotDims.WF S512x1920 S1920x512 S512x512 [1] [0] [0] [1] [] [] := by decide

/-- The product of a block: its 1920 rows are summed over. -/
def dotDims : DotDims S512x1920 S1920x512 S512x512 where
  lhsContracting := [1]
  rhsContracting := [0]
  lhsNonContracting := [0]
  rhsNonContracting := [1]
  lhsBatch := []
  rhsBatch := []
  wf := dot_wf

variable {F : FTy → Type} [FloatOps F]

/-- What a strip computes of its 32 rows `v` and their powers of two `p`. -/
structure Pay (F : FTy → Type) where
  /-- The codes. -/
  codes : FVec F S32x512 .bf16 → FVec F S32x512 .bf16 → FVec F S32x512 .fp8e4m3
  /-- The codes times their scale. -/
  wide : FVec F S32x512 .bf16 → FVec F S32x512 .bf16 → FVec F S32x512 .bf16
  /-- The word that holds the scale's exponent. -/
  word : FVec F S32x512 .bf16 → IVec S8x512 32

/-- Strip `q` of a block. -/
def stripOf {e : FTy} (P : FVec F S1920x512 e) (q : Fin 60) : FVec F S32x512 e :=
  extractStridedSlice S32x512 ![32 * q.val, 0] P (strip_slices q)

/-- A strip's row of words. -/
def wordRow (w : IVec S8x512 32) : IVec S1x1x512 32 :=
  shapeCast S1x1x512 (extractStridedSlice S1x512 ![0, 0] w slices_S8x512_S1x512) casts_S1x512

/-- Four widened strips, transposed. -/
def group (w0 w1 w2 w3 : FVec F S32x512 .bf16) : FVec F S1x512x128 .bf16 :=
  shapeCast S1x512x128
    (transpose S512x128 [1, 0]
      (concatenate S128x512 0 [⟨S32x512, w0⟩, ⟨S32x512, w1⟩, ⟨S32x512, w2⟩, ⟨S32x512, w3⟩] concats_S128x512)
      transposes_S512x128) casts_S512x128

/-- The scale bytes of twenty rows of words. -/
def bytes (w : Vec F S1x20x512 .i32) : IVec S1x20x512 8 :=
  shapeCast S1x20x512
    (trunci 8
      (andi (subi (shrsi (shapeCast S20x512 w casts_S1x20x512) (broadcast S20x512 7#32)) (broadcast S20x512 8#32))
        (broadcast S20x512 255#32)) lt_8_32) casts_S20x512

/-- One column block of the product. -/
def product (w : Vec F S1x512x1920 .bf16) (x : Vec F S1920x512 .bf16) : FVec F S512x512 .f32 :=
  matmul dotDims none (shapeCast S512x1920 w casts_S1x512x1920 : FVec F S512x1920 .bf16) x
    (constant S512x512 .f32 0x00000000#32)

variable {nD : Nat} {τ : Topo} {sig : RefSig} {Λ : Labels}

section Body

variable (K : Pay F)
  (a1 : Memref sig .tc .vmem S1920x512 .bf16) (a2 : Memref sig .tc .vmem S1920x3584 .bf16)
  (a3 : Memref sig .tc .vmem S512x3584 .f32)
  (a4 : Memref sig .tc .vmem S1920x512 .fp8e4m3) (h4 : a4.IsWhole)
  (a5 : Memref sig .tc .vmem S3x20x512 .i8) (h5 : a5.IsWhole)
  (a6 : Memref sig .tc .vmem S2x512x1920 .bf16) (h6 : a6.IsWhole)
  (a7 : Memref sig .tc .vmem S3x24x512 .i32)

/-- Quantise strip `q`: store its codes and its row of words, and give its widened codes. -/
def strip (P : FVec F S1920x512 .bf16) (q : Fin 60) :
    Prog (TpuEff nD τ sig (Elt F) Λ .tc) (FVec F S32x512 .bf16) := do
  let v : Vec F S32x512 .bf16 ← Prog.lift (.load a1
    (Rect.unit (s := S1920x512) ![32 * q.val, 0] S32x512.size (strip_inb q)).toLoadRect (View.loadsAt_vmem pos_S32x512))
  let _ : Vec F S32x512 .fp8e4m3 ← Prog.lift (.load a4
    (Rect.unit (s := S1920x512) ![32 * q.val, 0] S32x512.size (strip_inb q)).toLoadRect (View.loadsAt_vmem pos_S32x512))
  Prog.lift (.store a4 (Rect.unit (s := S1920x512) ![32 * q.val, 0] S32x512.size (strip_inb q))
    (K.codes v (stripOf P q)) Finset.univ
    (View.stores_vmem pos_S32x512 (h4.storeExact_slice rfl _ (strip_packed q)) (fun _ => rfl)) (.inl rfl))
  let _ : Vec F S1x1x512 .i32 ← Prog.lift (.load a7
    (Rect.unit (s := S3x24x512) ![q.val / 20, q.val % 20, 0] S1x1x512.size (word_inb q)).toLoadRect
    (View.loadsAt_vmem pos_S1x1x512))
  Prog.lift (.store a7 (Rect.unit (s := S3x24x512) ![q.val / 20, q.val % 20, 0] S1x1x512.size (word_inb q))
    (wordRow (K.word (stripOf P q))) Finset.univ (View.stores_vmem_bits_univ pos_S1x1x512 rfl) (.inl rfl))
  pure (K.wide v (stripOf P q))

/-- Strip `k` of the four of group `r`. -/
abbrev fourth (r : Fin 15) (k : Fin 4) : Fin 60 := ⟨4 * r.val + k.val, by omega⟩

variable (off : Fin 15 → Fin 3 → Nat) (hoff : ∀ r a, off r a + S1x512x128.size a ≤ S2x512x1920.size a)
  (hpk : ∀ r, (Rect.unit (s := S2x512x1920) (off r) S1x512x128.size (hoff r)).PackedRows (EltTy.packing .bf16))
  (doff : Fin 3 → Nat) (hdoff : ∀ a, doff a + S1x512x1920.size a ≤ S2x512x1920.size a)

/-- Quantise group `r`: four strips, then their widened codes transposed into the scratch. -/
def rows (P : FVec F S1920x512 .bf16) (r : Fin 15) : Prog (TpuEff nD τ sig (Elt F) Λ .tc) PUnit := do
  let w0 ← strip K a1 a4 h4 a7 P (fourth r 0)
  let w1 ← strip K a1 a4 h4 a7 P (fourth r 1)
  let w2 ← strip K a1 a4 h4 a7 P (fourth r 2)
  let w3 ← strip K a1 a4 h4 a7 P (fourth r 3)
  let _ : Vec F S1x512x128 .bf16 ← Prog.lift (.load a6
    (Rect.unit (s := S2x512x1920) (off r) S1x512x128.size (hoff r)).toLoadRect (View.loadsAt_vmem pos_S1x512x128))
  Prog.lift (.store a6 (Rect.unit (s := S2x512x1920) (off r) S1x512x128.size (hoff r)) (group w0 w1 w2 w3) Finset.univ
    (View.stores_vmem pos_S1x512x128 (h6.storeExact_slice rfl _ (hpk r)) (fun _ => rfl)) (.inl rfl))

/-- Column block `j` of the product of the block in the scratch's other half. -/
def dot (j : Fin 7) : Prog (TpuEff nD τ sig (Elt F) Λ .tc) PUnit := do
  let w : Vec F S1x512x1920 .bf16 ← Prog.lift (.load a6
    (Rect.unit (s := S2x512x1920) doff S1x512x1920.size hdoff).toLoadRect (View.loadsAt_vmem pos_S1x512x1920))
  let x : Vec F S1920x512 .bf16 ← Prog.lift (.load a2
    (Rect.unit (s := S1920x3584) ![0, 512 * j.val] S1920x512.size (dot_inb j)).toLoadRect (View.loadsAt_vmem pos_S1920x512))
  let _ : Vec F S512x512 .f32 ← Prog.lift (.load a3
    (Rect.unit (s := S512x3584) ![0, 512 * j.val] S512x512.size (out_inb j)).toLoadRect (View.loadsAt_vmem pos_S512x512))
  Prog.lift (.store a3 (Rect.unit (s := S512x3584) ![0, 512 * j.val] S512x512.size (out_inb j)) (product w x) Finset.univ
    (View.stores_vmem_bits_univ pos_S512x512 rfl) (.inl rfl))

/-- Turn the words of 20 strips into scale bytes. -/
def finish1 (b : Fin 3) : Prog (TpuEff nD τ sig (Elt F) Λ .tc) PUnit := do
  let w : Vec F S1x20x512 .i32 ← Prog.lift (.load a7
    (Rect.unit (s := S3x24x512) ![b.val, 0, 0] S1x20x512.size (words_inb b)).toLoadRect (View.loadsAt_vmem pos_S1x20x512))
  let _ : Vec F S1x20x512 .i8 ← Prog.lift (.load a5
    (Rect.unit (s := S3x20x512) ![b.val, 0, 0] S1x20x512.size (bytes_inb b)).toLoadRect (View.loadsAt_vmem pos_S1x20x512))
  Prog.lift (.store a5 (Rect.unit (s := S3x20x512) ![b.val, 0, 0] S1x20x512.size (bytes_inb b)) (bytes w) Finset.univ
    (View.stores_vmem pos_S1x20x512 (h5.storeExact_slice rfl _ (bytes_packed b)) (fun _ => rfl)) (.inl rfl))

/-- All the scale bytes. -/
def finish : Prog (TpuEff nD τ sig (Elt F) Λ .tc) PUnit := do
  finish1 a5 h5 a7 0
  finish1 a5 h5 a7 1
  finish1 a5 h5 a7 2

/-- Some groups in order, and then `k`. -/
def runRows (P : FVec F S1920x512 .bf16) (k : Prog (TpuEff nD τ sig (Elt F) Λ .tc) PUnit) :
    List (Fin 15) → Prog (TpuEff nD τ sig (Elt F) Λ .tc) PUnit
  | [] => k
  | r :: rs => rows K a1 a4 h4 a6 h6 a7 off hoff hpk P r >>= fun _ => runRows P k rs

/-- Column blocks of the product, each followed by the groups quantised after it, and then `k`. -/
def runSteps (P : FVec F S1920x512 .bf16) (k : Prog (TpuEff nD τ sig (Elt F) Λ .tc) PUnit) :
    List (Fin 7 × List (Fin 15)) → Prog (TpuEff nD τ sig (Elt F) Λ .tc) PUnit
  | [] => k
  | s :: ss => dot a2 a3 a6 doff hdoff s.1 >>= fun _ =>
      runRows K a1 a4 h4 a6 h6 a7 off hoff hpk P (runSteps P k ss) s.2

/-- The first grid point quantises its block. -/
def first (P : FVec F S1920x512 .bf16) : Prog (TpuEff nD τ sig (Elt F) Λ .tc) PUnit :=
  runRows K a1 a4 h4 a6 h6 a7 off hoff hpk P (finish a5 h5 a7) [0, 1, 2, 3, 4, 5, 6, 7, 8, 9, 10, 11, 12, 13, 14]

/-- The steps of a later grid point. -/
abbrev steps : List (Fin 7 × List (Fin 15)) :=
  [(0, [0, 1]), (1, [2, 3]), (2, [4, 5]), (3, [6, 7]), (4, [8, 9]), (5, [10, 11]), (6, [12, 13, 14])]

/-- A later grid point multiplies the block before and quantises its own in between. -/
def later (P : FVec F S1920x512 .bf16) : Prog (TpuEff nD τ sig (Elt F) Λ .tc) PUnit :=
  runSteps K a1 a2 a3 a4 h4 a6 h6 a7 off hoff hpk doff hdoff P (finish a5 h5 a7) steps

end Body

end Cert.Wgrad
-- ==== Proof.Payload.lean ====
/- What the kernel computes of a block: the powers of two of its elements, and of each strip of 32 rows the
   codes, the widened codes and the word of the scale. The exchange of neighbouring rows in the maximum is a
   parameter, since the program on bits does it on packed words and the program over the reals on rows. -/
module

public import proofs.«01_k».proof.Proof.Program

@[expose] public section

noncomputable section

namespace Cert.Wgrad

open Idealize.ShloMosaic Idealize.SL.Sem

theorem slices_lo : S32x512.Slices ![0, 0] S16x512 := by decide
theorem slices_hi : S32x512.Slices ![16, 0] S16x512 := by decide
theorem rotates_S16x512 : S16x512.Rotates 0 none := by decide
theorem concats_S32x512 : Shape.Concatenates [S16x512, S16x512] S32x512 0 := by decide
theorem lt_fp8_bf16 : FTy.bits .fp8e4m3 < FTy.bits .bf16 := by decide
theorem slices_S8x512 : S16x512.Slices ![0, 0] S8x512 := by decide
theorem lt_bf16_f32 : FTy.bits .bf16 < FTy.bits .f32 := by decide
theorem pairs_S16x512 : S16x512.Bitcasts 16 S8x512 32 := by decide
theorem unpairs_S16x512 : S8x512.Bitcasts 32 S16x512 16 := by decide

section

variable {F : FTy → Type} [FloatOps F]

/-- One step of the search for a power of two: multiply by `c` unless that passes `a`. -/
def climb (a p : FVec F S1920x512 .bf16) (c : BitVec 16) : FVec F S1920x512 .bf16 :=
  let q := mulf p (broadcast S1920x512 (Scalar.ofBits .bf16 c : F .bf16))
  select (cmpf .olt a q) p q

/-- The largest power of two at most the magnitude of each element, zero for the subnormal ones. -/
def powers (v : FVec F S1920x512 .bf16) : FVec F S1920x512 .bf16 :=
  let a := absf v
  let least : FVec F S1920x512 .bf16 := broadcast S1920x512 (Scalar.ofBits .bf16 0x0080#16 : F .bf16)
  let p := climb a (climb a (climb a (climb a (climb a (climb a (climb a (climb a (climb a least
    0x5F80#16) 0x5F80#16) 0x5F80#16) 0x4F80#16) 0x4780#16) 0x4380#16) 0x4180#16) 0x4080#16) 0x4000#16
  select (cmpf .olt a least) (broadcast S1920x512 (Scalar.ofBits .bf16 0x0000#16 : F .bf16)) p

/-- The maximum with the rows `n` above. -/
def spread (n : BitVec 32) (m : FVec F S16x512 .bf16) : FVec F S16x512 .bf16 :=
  maximumf m (dynamicRotate 0 n none m rotates_S16x512)

/-- The maximum of a strip's 32 rows, on every one of 16 rows; 256 where it is zero. -/
def stripMax (swap : FVec F S16x512 .bf16 → FVec F S16x512 .bf16) (p : FVec F S32x512 .bf16) : FVec F S16x512 .bf16 :=
  let m0 := maximumf (extractStridedSlice S16x512 ![0, 0] p slices_lo) (extractStridedSlice S16x512 ![16, 0] p slices_hi)
  let m3 := spread 2#32 (spread 4#32 (spread 8#32 m0))
  let m := maximumf m3 (swap m3)
  select (cmpf .oeq m (broadcast S16x512 (Scalar.ofBits .bf16 0x0000#16 : F .bf16)))
    (broadcast S16x512 (Scalar.ofBits .bf16 0x4380#16 : F .bf16)) m

/-- The power of two that a strip is scaled by, on each of its 32 rows. -/
def scaleOf (m : FVec F S16x512 .bf16) : FVec F S32x512 .bf16 :=
  let t := maximumf m (broadcast S16x512 (Scalar.ofBits .bf16 0x0380#16 : F .bf16))
  concatenate S32x512 0 [⟨S16x512, t⟩, ⟨S16x512, t⟩] concats_S32x512

/-- The codes of a strip at its scale. -/
def codesOf (v t : FVec F S32x512 .bf16) : FVec F S32x512 .fp8e4m3 :=
  truncf .fp8e4m3
    (minimumf (broadcast S32x512 (Scalar.ofBits .bf16 0x43E0#16 : F .bf16))
      (maximumf (broadcast S32x512 (Scalar.ofBits .bf16 0xC3E0#16 : F .bf16))
        (mulf v (divf (broadcast S32x512 (Scalar.ofBits .bf16 0x4380#16 : F .bf16)) t)))) lt_fp8_bf16

/-- The word of a strip's scale: 128 times the exponent, offset by 127. -/
def wordOf (m : FVec F S16x512 .bf16) : IVec S8x512 32 :=
  shli (fptosi 32 (addf
    (divf (log (extf .f32 (extractStridedSlice S8x512 ![0, 0] m slices_S8x512) lt_bf16_f32))
      (log (broadcast S8x512 (Scalar.ofBits .f32 0x40000000#32 : F .f32))))
    (broadcast S8x512 (Scalar.ofBits .f32 0x42FF0000#32 : F .f32)))) (broadcast S8x512 7#32)

/-- What a strip computes, by the exchange of neighbouring rows. -/
def payOf (swap : FVec F S16x512 .bf16 → FVec F S16x512 .bf16) : Pay F where
  codes v p := codesOf v (scaleOf (stripMax swap p))
  wide v p := mulf (extf .bf16 (codesOf v (scaleOf (stripMax swap p))) lt_fp8_bf16)
    (mulf (scaleOf (stripMax swap p)) (broadcast S32x512 (Scalar.ofBits .bf16 0x3B80#16 : F .bf16)))
  word p := wordOf (stripMax swap p)

/-- Neighbouring rows exchanged, as the program over the reals does it. -/
def swapRows (m : FVec F S16x512 .bf16) : FVec F S16x512 .bf16 :=
  interleaveRows S16x512 (rowsOfParity 1 S8x512 m pairs_S16x512) (rowsOfParity 0 S8x512 m pairs_S16x512) pairs_S16x512

end

/-- Neighbouring rows exchanged, as the program on bits does it: the halves of each packed word. -/
def swapWords {F : FTy → Type} [BitOps F] (m : FVec F S16x512 .bf16) : FVec F S16x512 .bf16 :=
  let w : IVec S8x512 32 := bitcast S8x512 32 (bitcastToInt m) pairs_S16x512
  bitcastToFloat .bf16 (bitcast S16x512 16 (ori (shrui w (broadcast S8x512 16#32)) (shli w (broadcast S8x512 16#32)))
    unpairs_S16x512)

end Cert.Wgrad
-- ==== Proof.Numbers.lean ====
/- Powers of two among the extended reals: the constants of the two programs, the search for the largest power of
   two at most a number, and the exponent of a block of 32 numbers. -/
module

public import Idealize.ShloMosaic.PureOps.Ideal
public import Mathlib.Analysis.SpecialFunctions.Log.Basic
public import Mathlib.Tactic.NormNum
public import Mathlib.Tactic.Linarith
public import Mathlib.Tactic.Positivity

@[expose] public section

noncomputable section

namespace Cert.Wgrad

open Idealize.ShloMosaic

/-- A power of two. -/
def two (k : ℤ) : EReal := (((2 : ℝ) ^ k : ℝ) : EReal)

theorem two_mul_two (i j : ℤ) : two i * two j = two (i + j) := by
  unfold two
  rw [← EReal.coe_mul, ← zpow_add₀ (by norm_num)]

theorem two_pos (k : ℤ) : 0 < two k := EReal.coe_pos.2 (by positivity)

theorem two_ne_zero (k : ℤ) : two k ≠ 0 := (two_pos k).ne'

theorem two_inv (k : ℤ) : (two k)⁻¹ = two (-k) := by
  unfold two
  rw [← EReal.coe_inv, zpow_neg]

theorem div_two (i j : ℤ) : Ideal.div (two i) (two j) = two (i - j) := by
  unfold Ideal.div
  rw [if_neg (two_ne_zero j), two_inv, two_mul_two, sub_eq_add_neg]

theorem two_le {i j : ℤ} (h : i ≤ j) : two i ≤ two j :=
  EReal.coe_le_coe_iff.2 (zpow_le_zpow_right₀ (by norm_num) h)

/-! ## The constants -/

/-- The value of a pattern that is neither zero, subnormal, infinite nor a NaN, by its three fields. -/
theorem ieee_of {e m w : ℕ} {b : BitVec w} (neg : Bool) (ex fr : ℕ) (hn : (b.extractLsb' (e + m) 1 == 1#1) = neg)
    (hx : (b.extractLsb' m e).toNat = ex) (hf : (b.extractLsb' 0 m).toNat = fr) (h1 : ex ≠ 2 ^ e - 1) (h0 : ex ≠ 0)
    {r : ℝ} (h : (if neg then -1 else 1) * ((2 ^ m + fr : ℕ) : ℝ) * (2 : ℝ) ^ ((ex : ℤ) - (2 ^ (e - 1) - 1) - m) = r) :
    Ideal.ieee e m b = (r : EReal) := by
  subst h
  unfold Ideal.ieee
  simp only [hn, hx, hf, if_neg h1, if_neg h0]

theorem bf16_least : Ideal.ofBits .bf16 0x0080#16 = two (-126) :=
  ieee_of (e := 8) (m := 7) (b := 0x0080#16) false 1 0 (by decide) (by decide) (by decide) (by decide) (by decide) (by norm_num)
theorem bf16_64 : Ideal.ofBits .bf16 0x5F80#16 = two 64 :=
  ieee_of (e := 8) (m := 7) (b := 0x5F80#16) false 191 0 (by decide) (by decide) (by decide) (by decide) (by decide) (by norm_num)
theorem bf16_32 : Ideal.ofBits .bf16 0x4F80#16 = two 32 :=
  ieee_of (e := 8) (m := 7) (b := 0x4F80#16) false 159 0 (by decide) (by decide) (by decide) (by decide) (by decide) (by norm_num)
theorem bf16_16 : Ideal.ofBits .bf16 0x4780#16 = two 16 :=
  ieee_of (e := 8) (m := 7) (b := 0x4780#16) false 143 0 (by decide) (by decide) (by decide) (by decide) (by decide) (by norm_num)
theorem bf16_8 : Ideal.ofBits .bf16 0x4380#16 = two 8 :=
  ieee_of (e := 8) (m := 7) (b := 0x4380#16) false 135 0 (by decide) (by decide) (by decide) (by decide) (by decide) (by norm_num)
theorem bf16_4 : Ideal.ofBits .bf16 0x4180#16 = two 4 :=
  ieee_of (e := 8) (m := 7) (b := 0x4180#16) false 131 0 (by decide) (by decide) (by decide) (by decide) (by decide) (by norm_num)
theorem bf16_2 : Ideal.ofBits .bf16 0x4080#16 = two 2 :=
  ieee_of (e := 8) (m := 7) (b := 0x4080#16) false 129 0 (by decide) (by decide) (by decide) (by decide) (by decide) (by norm_num)
theorem bf16_1 : Ideal.ofBits .bf16 0x4000#16 = two 1 :=
  ieee_of (e := 8) (m := 7) (b := 0x4000#16) false 128 0 (by decide) (by decide) (by decide) (by decide) (by decide) (by norm_num)
theorem bf16_floor : Ideal.ofBits .bf16 0x0380#16 = two (-120) :=
  ieee_of (e := 8) (m := 7) (b := 0x0380#16) false 7 0 (by decide) (by decide) (by decide) (by decide) (by decide) (by norm_num)
theorem bf16_down : Ideal.ofBits .bf16 0x3B80#16 = two (-8) :=
  ieee_of (e := 8) (m := 7) (b := 0x3B80#16) false 119 0 (by decide) (by decide) (by decide) (by decide) (by decide) (by norm_num)
theorem bf16_zero : Ideal.ofBits .bf16 0x0000#16 = 0 := by
  unfold Ideal.ofBits Ideal.ieee
  dsimp only
  rw [if_neg (by decide), if_pos (by decide)]
  norm_num
theorem bf16_max : Ideal.ofBits .bf16 0x43E0#16 = ((448 : ℝ) : EReal) :=
  ieee_of (e := 8) (m := 7) (b := 0x43E0#16) false 135 96 (by decide) (by decide) (by decide) (by decide) (by decide) (by norm_num)
theorem bf16_min : Ideal.ofBits .bf16 0xC3E0#16 = ((-448 : ℝ) : EReal) :=
  ieee_of (e := 8) (m := 7) (b := 0xC3E0#16) true 135 96 (by decide) (by decide) (by decide) (by decide) (by decide) (by norm_num)
theorem f32_max : Ideal.ofBits .f32 0x43E00000#32 = ((448 : ℝ) : EReal) :=
  ieee_of (e := 8) (m := 23) (b := 0x43E00000#32) false 135 6291456 (by decide) (by decide) (by decide) (by decide) (by decide) (by norm_num)
theorem f32_min : Ideal.ofBits .f32 0xC3E00000#32 = ((-448 : ℝ) : EReal) :=
  ieee_of (e := 8) (m := 23) (b := 0xC3E00000#32) true 135 6291456 (by decide) (by decide) (by decide) (by decide) (by decide) (by norm_num)
theorem f32_zero : Ideal.ofBits .f32 0x00000000#32 = 0 := by
  unfold Ideal.ofBits Ideal.ieee
  dsimp only
  rw [if_neg (by decide), if_pos (by decide)]
  norm_num
theorem f32_two : Ideal.ofBits .f32 0x40000000#32 = ((2 : ℝ) : EReal) :=
  ieee_of (e := 8) (m := 23) (b := 0x40000000#32) false 128 0 (by decide) (by decide) (by decide) (by decide) (by decide) (by norm_num)
theorem f32_eight : Ideal.ofBits .f32 0x41000000#32 = ((8 : ℝ) : EReal) :=
  ieee_of (e := 8) (m := 23) (b := 0x41000000#32) false 130 0 (by decide) (by decide) (by decide) (by decide) (by decide) (by norm_num)
theorem f32_bias : Ideal.ofBits .f32 0x42FF0000#32 = ((127.5 : ℝ) : EReal) :=
  ieee_of (e := 8) (m := 23) (b := 0x42FF0000#32) false 133 8323072 (by decide) (by decide) (by decide) (by decide) (by decide) (by norm_num)
theorem f32_bot : Ideal.ofBits .f32 0xFF800000#32 = ⊥ := by
  unfold Ideal.ofBits Ideal.ieee
  dsimp only
  rw [if_pos (by decide), if_pos (by decide), if_pos (by decide)]
theorem f32_low : Ideal.ofBits .f32 0x04000000#32 = two (-119) :=
  ieee_of (e := 8) (m := 23) (b := 0x04000000#32) false 8 0 (by decide) (by decide) (by decide) (by decide) (by decide) (by norm_num)
theorem f32_high : Ideal.ofBits .f32 0x7F7F0000#32 = ((255 * 2 ^ (120 : ℤ) : ℝ) : EReal) :=
  ieee_of (e := 8) (m := 23) (b := 0x7F7F0000#32) false 254 8323072 (by decide) (by decide) (by decide) (by decide) (by decide) (by norm_num)

/-! ## The search -/

/-- One step of the search: multiply by `c` unless that passes `a`. -/
def up (a p c : EReal) : EReal := if a < p * c then p else p * c

theorem up_spec {a : ℝ} {i s n : ℤ} (hs : s ≤ n) (h : (2 : ℝ) ^ i ≤ a ∧ a < (2 : ℝ) ^ (i + (s + n))) :
    ∃ j, up a (two i) (two s) = two j ∧ (2 : ℝ) ^ j ≤ a ∧ a < (2 : ℝ) ^ (j + n) := by
  unfold up
  rw [two_mul_two]
  by_cases c : (a : EReal) < two (i + s)
  · rw [if_pos c]
    refine ⟨i, rfl, h.1, lt_of_lt_of_le (EReal.coe_lt_coe_iff.1 c) ?_⟩
    exact zpow_le_zpow_right₀ (by norm_num) (by omega)
  · rw [if_neg c]
    exact ⟨i + s, rfl, EReal.coe_le_coe_iff.1 (not_lt.1 c), by rw [add_assoc]; exact h.2⟩

/-- The largest power of two at most `a`, zero below the least. -/
def power (a : EReal) : EReal :=
  if a < two (-126) then 0
  else up a (up a (up a (up a (up a (up a (up a (up a (up a (two (-126)) (two 64)) (two 64)) (two 64)) (two 32))
    (two 16)) (two 8)) (two 4)) (two 2)) (two 1)

/-- The exponent of a positive number. -/
def HasExp (a : ℝ) (k : ℤ) : Prop := (2 : ℝ) ^ k ≤ a ∧ a < (2 : ℝ) ^ (k + 1)

theorem HasExp.pos {a : ℝ} {k : ℤ} (h : HasExp a k) : 0 < a := lt_of_lt_of_le (by positivity) h.1

theorem exists_hasExp {a : ℝ} (h : 0 < a) : ∃ k, HasExp a k := exists_mem_Ico_zpow h (by norm_num)

theorem HasExp.le {a b : ℝ} {i j : ℤ} (ha : HasExp a i) (hb : HasExp b j) (h : a ≤ b) : i ≤ j := by
  have : (2 : ℝ) ^ i < (2 : ℝ) ^ (j + 1) := lt_of_le_of_lt (ha.1.trans h) hb.2
  have := (zpow_lt_zpow_iff_right₀ (by norm_num : (1 : ℝ) < 2)).1 this
  omega

theorem HasExp.unique {a : ℝ} {i j : ℤ} (hi : HasExp a i) (hj : HasExp a j) : i = j :=
  le_antisymm (hi.le hj le_rfl) (hj.le hi le_rfl)

theorem power_low {a : EReal} (h : a < two (-126)) : power a = 0 := if_pos h

theorem power_of {a : ℝ} {k : ℤ} (h : HasExp a k) (hl : -126 ≤ k) (hh : k ≤ 127) : power a = two k := by
  have h0 : (2 : ℝ) ^ (-126 : ℤ) ≤ a := le_trans (zpow_le_zpow_right₀ (by norm_num) hl) h.1
  have h1 : a < (2 : ℝ) ^ (-126 + (64 + 192) : ℤ) :=
    lt_of_lt_of_le h.2 (zpow_le_zpow_right₀ (by norm_num) (by omega))
  have c : ¬ ((a : EReal) < two (-126)) := not_lt.2 (EReal.coe_le_coe_iff.2 h0)
  unfold power
  rw [if_neg c]
  obtain ⟨j1, e1, b1⟩ := up_spec (n := 192) (by norm_num) ⟨h0, h1⟩
  obtain ⟨j2, e2, b2⟩ := up_spec (s := 64) (n := 128) (by norm_num) b1
  obtain ⟨j3, e3, b3⟩ := up_spec (s := 64) (n := 64) (by norm_num) b2
  obtain ⟨j4, e4, b4⟩ := up_spec (s := 32) (n := 32) (by norm_num) b3
  obtain ⟨j5, e5, b5⟩ := up_spec (s := 16) (n := 16) (by norm_num) b4
  obtain ⟨j6, e6, b6⟩ := up_spec (s := 8) (n := 8) (by norm_num) b5
  obtain ⟨j7, e7, b7⟩ := up_spec (s := 4) (n := 4) (by norm_num) b6
  obtain ⟨j8, e8, b8⟩ := up_spec (s := 2) (n := 2) (by norm_num) b7
  obtain ⟨j9, e9, b9⟩ := up_spec (s := 1) (n := 1) (by norm_num) b8
  rw [e1, e2, e3, e4, e5, e6, e7, e8, e9]
  exact congrArg two (HasExp.unique b9 h)

/-! ## Logarithms and exponentials -/

theorem log_two_pos : 0 < Real.log 2 := Real.log_pos (by norm_num)

theorem HasExp.floor {a : ℝ} {k : ℤ} (h : HasExp a k) : ⌊Real.log a / Real.log 2⌋ = k := by
  rw [Int.floor_eq_iff]
  have e : ∀ i : ℤ, Real.log ((2 : ℝ) ^ i) = i * Real.log 2 := fun i => Real.log_zpow 2 i
  constructor
  · rw [le_div_iff₀ log_two_pos, ← e]
    exact Real.log_le_log (by positivity) h.1
  · rw [div_lt_iff₀ log_two_pos, show ((k : ℝ) + 1) = ((k + 1 : ℤ) : ℝ) by push_cast; rfl, ← e]
    exact Real.log_lt_log h.pos h.2

theorem div_coe {a b : ℝ} (h : b ≠ 0) : Ideal.div (a : EReal) (b : EReal) = ((a / b : ℝ) : EReal) := by
  unfold Ideal.div
  rw [if_neg (EReal.coe_ne_zero.2 h), ← EReal.coe_inv, ← EReal.coe_mul, div_eq_mul_inv]

theorem log_coe {a : ℝ} (h : 0 < a) : Ideal.log (a : EReal) = ((Real.log a : ℝ) : EReal) := by
  show (if a ≤ 0 then ⊥ else (Real.log a : EReal)) = _
  rw [if_neg (not_le.2 h)]

theorem exp2_int (k : ℤ) : Ideal.exp2 (((k : ℝ) : EReal)) = two k := by
  show ((Real.rpow 2 (k : ℝ) : ℝ) : EReal) = _
  unfold two
  exact congrArg _ (Real.rpow_intCast 2 k)

/-- The logarithm to base two of a power of two. -/
theorem log_two_zpow (k : ℤ) : Ideal.div (Ideal.log (two k)) (Ideal.log ((2 : ℝ) : EReal)) = ((k : ℝ) : EReal) := by
  unfold two
  rw [log_coe (by positivity), log_coe (by norm_num), div_coe log_two_pos.ne', Real.log_zpow,
    mul_div_assoc, div_self log_two_pos.ne', mul_one]

/-- The floor of the logarithm to base two. -/
theorem floor_log {a : ℝ} {k : ℤ} (h : HasExp a k) :
    Ideal.liftRound Int.floor (Ideal.div (Ideal.log (a : EReal)) (Ideal.log ((2 : ℝ) : EReal))) = ((k : ℝ) : EReal) := by
  rw [log_coe h.pos, log_coe (by norm_num), div_coe log_two_pos.ne']
  show ((((⌊Real.log a / Real.log 2⌋ : ℤ) : ℝ)) : EReal) = _
  rw [h.floor]

/-! ## Integers -/

theorem fptosi_of {r : ℝ} {k : ℤ} (h : ⌊r⌋ = k) (h0 : 0 ≤ r) (hh : k ≤ 1000) : Ideal.fptosi 32 (r : EReal) = BitVec.ofInt 32 k := by
  have hk : 0 ≤ k := h ▸ Int.floor_nonneg.2 h0
  show BitVec.ofInt 32 (max _ (min _ (if 0 ≤ r then ⌊r⌋ else ⌈r⌉))) = _
  rw [if_pos h0, h]
  congr 1
  norm_num
  omega

theorem fptosi_int {k : ℤ} (hl : -1000 ≤ k) (hh : k ≤ 1000) : Ideal.fptosi 32 (((k : ℝ)) : EReal) = BitVec.ofInt 32 k := by
  show BitVec.ofInt 32 (max _ (min _ (if 0 ≤ (k : ℝ) then ⌊(k : ℝ)⌋ else ⌈(k : ℝ)⌉))) = _
  rw [Int.floor_intCast, Int.ceil_intCast, ite_self]
  congr 1
  norm_num
  omega

end Cert.Wgrad
-- ==== Proof.Block.lean ====
/- The quantiser of a block of 32 numbers over the reals, and that the kernel's strips compute it.

   The exponent `k` of a block is that of its largest magnitude, 8 for a block of zeros. Its codes are the numbers times
   `2^(8-k)`, cut at 448, its widened codes those times `2^(k-8)`, its scale byte `k + 119`. -/
module

public import proofs.«01_k».proof.Proof.Payload
public import proofs.«01_k».proof.Proof.Numbers
public import Idealize.ShloMosaic.Lib.Pointwise

@[expose] public section

noncomputable section

namespace Cert.Wgrad

open Idealize.ShloMosaic

/-! ## The quantiser -/

/-- The magnitude of a number. -/
def mag (x : EReal) : EReal := max x (-x)

/-- The largest magnitude of a block. -/
def top (f : Fin 32 → EReal) : EReal := Finset.univ.sup fun i => mag (f i)

/-- The exponent of a block. -/
def BlockExp (f : Fin 32 → EReal) (k : ℤ) : Prop :=
  (top f = 0 ∧ k = 8) ∨ ∃ a : ℝ, top f = (a : EReal) ∧ HasExp a k ∧ -119 ≤ k ∧ k ≤ 127

theorem BlockExp.bounds {f : Fin 32 → EReal} {k : ℤ} (h : BlockExp f k) : -119 ≤ k ∧ k ≤ 127 := by
  rcases h with ⟨_, h⟩ | ⟨_, _, _, h⟩ <;> omega

/-- A number's code. -/
def code (k : ℤ) (x : EReal) : EReal := min ((448 : ℝ) : EReal) (max ((-448 : ℝ) : EReal) (x * two (8 - k)))

/-- A number's widened code. -/
def widened (k : ℤ) (x : EReal) : EReal := code k x * two (k - 8)

/-- A block's scale byte. -/
def scaleByte (k : ℤ) : BitVec 8 := BitVec.ofInt 8 (k + 119)

theorem mag_nonneg (x : EReal) : 0 ≤ mag x := by
  unfold mag
  rcases le_total 0 x with h | h
  · exact le_max_of_le_left h
  · exact le_max_of_le_right (EReal.neg_nonneg.2 h)

theorem mag_le_top (f : Fin 32 → EReal) (i : Fin 32) : mag (f i) ≤ top f :=
  Finset.le_sup (f := fun i => mag (f i)) (Finset.mem_univ i)

theorem exists_top (f : Fin 32 → EReal) : ∃ i, mag (f i) = top f := by
  obtain ⟨i, _, h⟩ := Finset.exists_mem_eq_sup Finset.univ ⟨0, Finset.mem_univ _⟩ fun i => mag (f i)
  exact ⟨i, h.symm⟩

/-- The power of two of a number below `a` is at most that of `a`. -/
theorem power_le {a : ℝ} {k : ℤ} (h : HasExp a k) (hl : -126 ≤ k) (hh : k ≤ 127) {x : EReal} (h0 : 0 ≤ x) (hx : x ≤ a) :
    power x ≤ two k := by
  have hb : x ≠ ⊥ := ne_of_gt (lt_of_lt_of_le EReal.bot_lt_zero h0)
  have ht : x ≠ ⊤ := ne_of_lt (lt_of_le_of_lt hx (EReal.coe_lt_top a))
  lift x to ℝ using ⟨ht, hb⟩
  by_cases c : (x : EReal) < two (-126)
  · rw [power_low c]; exact (two_pos k).le
  · have hx0 : (2 : ℝ) ^ (-126 : ℤ) ≤ x := EReal.coe_le_coe_iff.1 (not_lt.1 c)
    obtain ⟨j, hj⟩ := exists_hasExp (lt_of_lt_of_le (by positivity) hx0)
    have hjk : j ≤ k := hj.le h (EReal.coe_le_coe_iff.1 hx)
    have hj0 : -126 ≤ j := by
      have := (zpow_lt_zpow_iff_right₀ (by norm_num : (1 : ℝ) < 2)).1 (lt_of_le_of_lt hx0 hj.2)
      omega
    rw [power_of hj hj0 (by omega)]
    exact two_le hjk

/-- The largest of a block's powers of two, and 256 in the place of zero, is the block's. -/
theorem sup_power {f : Fin 32 → EReal} {k : ℤ} (h : BlockExp f k) :
    (if (Finset.univ.sup fun i => power (mag (f i))) = 0 then two 8 else Finset.univ.sup fun i => power (mag (f i)))
      = two k := by
  rcases h with ⟨h, rfl⟩ | ⟨a, h, ha, hl, hh⟩
  · have e : ∀ i, power (mag (f i)) = 0 := fun i =>
      power_low (lt_of_le_of_lt (h ▸ mag_le_top f i) (two_pos _))
    have s : (Finset.univ.sup fun i => power (mag (f i))) = 0 := by
      simp only [e]
      exact Finset.sup_const ⟨(0 : Fin 32), Finset.mem_univ _⟩ _
    rw [if_pos s]
  · have s : (Finset.univ.sup fun i => power (mag (f i))) = two k := by
      refine le_antisymm (Finset.sup_le fun i _ => power_le ha (by omega) hh (mag_nonneg _) (h ▸ mag_le_top f i)) ?_
      obtain ⟨i, hi⟩ := exists_top f
      rw [← power_of ha (by omega) hh, ← h, ← hi]
      exact Finset.le_sup (f := fun i => power (mag (f i))) (Finset.mem_univ i)
    rw [s, if_neg (two_ne_zero k)]

/-! ## The powers of two of a block's elements -/

theorem climb_apply (a p : FVec Ideal S1920x512 .bf16) (c : BitVec 16) (y : S1920x512.Idx) :
    climb a p c y = up (a y) (p y) (Ideal.ofBits .bf16 c) := by
  pointwise [climb, up]

theorem powers_apply (v : FVec Ideal S1920x512 .bf16) (y : S1920x512.Idx) : powers v y = power (mag (v y)) := by
  have e : ∀ (a b c d : FVec Ideal S1920x512 .bf16), select (cmpf .olt a b) c d y = if a y < b y then c y else d y := by
    intros; pointwise
  unfold powers power
  simp only [e, climb_apply]
  rw [← bf16_least, ← bf16_64, ← bf16_32, ← bf16_16, ← bf16_8, ← bf16_4, ← bf16_2, ← bf16_1, ← bf16_zero]
  rfl

/-! ## The maximum of a strip -/

theorem spread_apply (n : BitVec 32) (m : FVec Ideal S16x512 .bf16) (r : Fin 16) (l : Fin 512) :
    spread n m (ix2 r l) = max (m (ix2 r l)) (m (ix2 ⟨(r.val + 16 - n.toNat % 16) % 16, by omega⟩ l)) := by
  pointwise [spread]

theorem swapRows_apply (m : FVec Ideal S16x512 .bf16) (r : Fin 16) (l : Fin 512) :
    swapRows m (ix2 r l) = m (ix2 ⟨if r.val % 2 = 0 then r.val + 1 else r.val - 1, by split <;> omega⟩ l) := by
  pointwise [swapRows]
  have h := r.isLt
  by_cases c : r.val % 2 = 0
  · simp only [if_pos c]
    congr 2; apply Fin.ext; simp only; omega
  · simp only [if_neg c]
    congr 2; apply Fin.ext; simp only; omega

/-- The four exchanges leave the maximum of all the rows on each of 16 rows. -/
theorem rows_le (m : FVec Ideal S16x512 .bf16) (l : Fin 512) (z : EReal) (r : Fin 16) :
    max (spread 2#32 (spread 4#32 (spread 8#32 m)) (ix2 r l)) (swapRows (spread 2#32 (spread 4#32 (spread 8#32 m))) (ix2 r l)) ≤ z
      ↔ ∀ q : Fin 16, m (ix2 q l) ≤ z := by
  have h1 : ∀ r : Fin 16, spread 8#32 m (ix2 r l) ≤ z ↔ ∀ q : Fin 16, q.val % 8 = r.val % 8 → m (ix2 q l) ≤ z := fun r => by
    rw [spread_apply, max_le_iff]
    constructor
    · rintro ⟨a, b⟩ q hq
      by_cases c : q.val = r.val
      · have : q = r := Fin.ext c
        rwa [this]
      · have : q = ⟨(r.val + 16 - (8#32).toNat % 16) % 16, by omega⟩ :=
          Fin.ext (by show q.val = (r.val + 16 - 8) % 16; omega)
        rwa [this]
    · exact fun h => ⟨h _ rfl, h _ (by show ((r.val + 16 - 8) % 16) % 8 = _; omega)⟩
  have h2 : ∀ r : Fin 16, spread 4#32 (spread 8#32 m) (ix2 r l) ≤ z ↔ ∀ q : Fin 16, q.val % 4 = r.val % 4 → m (ix2 q l) ≤ z := fun r => by
    rw [spread_apply, max_le_iff, h1, h1]
    constructor
    · rintro ⟨a, b⟩ q hq
      by_cases c : q.val % 8 = r.val % 8
      · exact a q c
      · exact b q (by show _ = ((r.val + 16 - 4) % 16) % 8; omega)
    · exact fun h => ⟨fun q hq => h q (by omega), fun q hq => h q (by
        change _ = ((r.val + 16 - 4) % 16) % 8 at hq; omega)⟩
  have h3 : ∀ r : Fin 16, spread 2#32 (spread 4#32 (spread 8#32 m)) (ix2 r l) ≤ z
      ↔ ∀ q : Fin 16, q.val % 2 = r.val % 2 → m (ix2 q l) ≤ z := fun r => by
    rw [spread_apply, max_le_iff, h2, h2]
    constructor
    · rintro ⟨a, b⟩ q hq
      by_cases c : q.val % 4 = r.val % 4
      · exact a q c
      · exact b q (by show _ = ((r.val + 16 - 2) % 16) % 4; omega)
    · exact fun h => ⟨fun q hq => h q (by omega), fun q hq => h q (by
        change _ = ((r.val + 16 - 2) % 16) % 4 at hq; omega)⟩
  rw [swapRows_apply, max_le_iff, h3, h3]
  constructor
  · rintro ⟨a, b⟩ q
    by_cases c : q.val % 2 = r.val % 2
    · exact a q c
    · refine b q ?_
      show _ = (if r.val % 2 = 0 then r.val + 1 else r.val - 1) % 2
      split <;> omega
  · exact fun h => ⟨fun q _ => h q, fun q _ => h q⟩

theorem stripMax_apply (p : FVec Ideal S32x512 .bf16) (r : Fin 16) (l : Fin 512) :
    stripMax swapRows p (ix2 r l)
      = if (Finset.univ.sup fun i : Fin 32 => p (ix2 i l)) = 0 then two 8 else Finset.univ.sup fun i : Fin 32 => p (ix2 i l) := by
  have e : ∀ (a b c d : FVec Ideal S16x512 .bf16) (y : S16x512.Idx),
      select (cmpf .oeq a b) c d y = if a y = b y then c y else d y := by
    intros; pointwise
  have h : maximumf (spread 2#32 (spread 4#32 (spread 8#32 (maximumf (extractStridedSlice S16x512 ![0, 0] p slices_lo)
        (extractStridedSlice S16x512 ![16, 0] p slices_hi)))))
      (swapRows (spread 2#32 (spread 4#32 (spread 8#32 (maximumf (extractStridedSlice S16x512 ![0, 0] p slices_lo)
        (extractStridedSlice S16x512 ![16, 0] p slices_hi)))))) (ix2 r l) = Finset.univ.sup fun i : Fin 32 => p (ix2 i l) := by
    refine eq_of_forall_ge_iff fun z => (rows_le _ l z r).trans ?_
    rw [Finset.sup_le_iff]
    have e1 : ∀ q : Fin 16, maximumf (extractStridedSlice S16x512 ![0, 0] p slices_lo)
        (extractStridedSlice S16x512 ![16, 0] p slices_hi) (ix2 q l)
          = max (p (ix2 ⟨q.val, by omega⟩ l)) (p (ix2 ⟨16 + q.val, by omega⟩ l)) := by
      intro q; pointwise
    simp only [e1, max_le_iff]
    constructor
    · intro h i _
      by_cases c : i.val < 16
      · exact (h ⟨i.val, c⟩).1
      · have := (h ⟨i.val - 16, by omega⟩).2
        have e : (⟨16 + (i.val - 16), by omega⟩ : Fin 32) = i := Fin.ext (by show 16 + (i.val - 16) = _; omega)
        rwa [e] at this
    · exact fun h q => ⟨h _ (Finset.mem_univ _), h _ (Finset.mem_univ _)⟩
  unfold stripMax
  simp only [e]
  rw [h, ← bf16_8, ← bf16_zero]
  rfl

/-! ## A strip -/

section
variable (v p : FVec Ideal S32x512 .bf16) (l : Fin 512) {k : ℤ} (h : BlockExp (fun i => v (ix2 i l)) k)
  (hp : ∀ i, p (ix2 i l) = power (mag (v (ix2 i l))))
include h hp

theorem stripMax_eq (r : Fin 16) : stripMax swapRows p (ix2 r l) = two k := by
  rw [stripMax_apply]
  simp only [hp]
  exact sup_power h

theorem scaleOf_eq (i : Fin 32) : scaleOf (stripMax swapRows p) (ix2 i l) = two k := by
  have hk := h.bounds
  pointwise [scaleOf]
  simp only [stripMax_eq v p l h hp, bf16_floor]
  rw [max_eq_left (two_le (by omega))]
  exact ite_self _

theorem codes_eq (i : Fin 32) : (payOf swapRows).codes v p (ix2 i l) = code k (v (ix2 i l)) := by
  show codesOf v (scaleOf (stripMax swapRows p)) (ix2 i l) = _
  pointwise [codesOf]
  rw [scaleOf_eq v p l h hp, bf16_8, div_two, bf16_max, bf16_min]
  rfl

theorem wide_eq (i : Fin 32) : (payOf swapRows).wide v p (ix2 i l) = widened k (v (ix2 i l)) := by
  show (codesOf v (scaleOf (stripMax swapRows p)) (ix2 i l) : EReal)
    * (scaleOf (stripMax swapRows p) (ix2 i l) * Ideal.ofBits .bf16 0x3B80#16) = _
  rw [scaleOf_eq v p l h hp, bf16_down, two_mul_two]
  exact congrArg (· * two (k - 8)) (codes_eq v p l h hp i)

theorem word_eq (r : Fin 8) : (payOf swapRows).word p (ix2 r l) = IntOp.shli .vector (BitVec.ofInt 32 (k + 127)) 7#32 := by
  have hk := h.bounds
  show wordOf (stripMax swapRows p) (ix2 r l) = _
  pointwise [wordOf]
  rw [stripMax_eq v p l h hp, f32_two, log_two_zpow, f32_bias, ← EReal.coe_add]
  refine congrArg (fun w => IntOp.shli .vector w 7#32) (fptosi_of ?_ ?_ (by omega))
  · rw [Int.floor_eq_iff]
    push_cast
    constructor <;> linarith
  · have : (-119 : ℝ) ≤ (k : ℝ) := by exact_mod_cast hk.1
    linarith
end

/-- The scale byte that a word stands for. -/
theorem byte_of_word : ∀ n : Fin 256, BitVec.setWidth 8 (IntOp.andi (IntOp.subi (IntOp.shrsi .vector
    (IntOp.shli .vector (BitVec.ofNat 32 n.val) 7#32) 7#32) 8#32) 255#32) = BitVec.ofInt 8 ((n.val : ℤ) - 8) := by
  decide +kernel

end Cert.Wgrad
-- ==== Proof.XResult.lean ====
/- The six results of the activation quantiser over the reals, as functions of the activations `X`, the exponents `ER` of
   their blocks of 32 columns and the exponents `EC` of their blocks of 32 rows: in each direction the codes, the scale
   bytes and the widened codes. -/
module

public import proofs.«01_k».proof.Proof.Block

@[expose] public section

noncomputable section

namespace Cert.Xq

open Idealize.ShloMosaic
open Cert.Wgrad (BlockExp code widened scaleByte)

abbrev S1920x3584 : Shape := ⟨2, ![1920, 3584]⟩
abbrev S1920x112 : Shape := ⟨2, ![1920, 112]⟩
abbrev S3x20x3584 : Shape := ⟨3, ![3, 20, 3584]⟩

variable (X : FVec Ideal S1920x3584 .bf16) (ER : Fin 1920 → Fin 112 → ℤ) (EC : Fin 60 → Fin 3584 → ℤ)

/-- `ER` are the exponents of the blocks of 32 columns. -/
def ExpsR : Prop := ∀ a b, BlockExp (fun i => X (ix2 a ⟨32 * b.val + i.val, by omega⟩)) (ER a b)

/-- `EC` are the exponents of the blocks of 32 rows. -/
def ExpsC : Prop := ∀ b n, BlockExp (fun i => X (ix2 ⟨32 * b.val + i.val, by omega⟩ n)) (EC b n)

/-- The block of 32 columns of an element. -/
def blockR (y : S1920x3584.Idx) : Fin 112 := ⟨(y 1).val / 32, by have := (y 1).isLt; change _ < 3584 at this; omega⟩
/-- The block of 32 rows of an element. -/
def blockC (y : S1920x3584.Idx) : Fin 60 := ⟨(y 0).val / 32, by have := (y 0).isLt; change _ < 1920 at this; omega⟩

/-- The codes of the rows. -/
def codesR : FVec Ideal S1920x3584 .fp8e4m3 := fun y => code (ER (y 0) (blockR y)) (X y)
/-- The scale bytes of the rows. -/
def bytesR : IVec S1920x112 8 := fun y => scaleByte (ER (y 0) (y 1))
/-- The widened codes of the rows. -/
def wideR : FVec Ideal S1920x3584 .bf16 := fun y => widened (ER (y 0) (blockR y)) (X y)
/-- The codes of the columns. -/
def codesC : FVec Ideal S1920x3584 .fp8e4m3 := fun y => code (EC (blockC y) (y 1)) (X y)
/-- The scale bytes of the columns. -/
def bytesC : IVec S3x20x3584 8 := fun y =>
  scaleByte (EC ⟨20 * (y 0).val + (y 1).val, by
    have := (y 0).isLt; have := (y 1).isLt; change (y 0).val < 3 at *; change (y 1).val < 20 at *; omega⟩ (y 2))
/-- The widened codes of the columns. -/
def wideC : FVec Ideal S1920x3584 .bf16 := fun y => widened (EC (blockC y) (y 1)) (X y)

end Cert.Xq
-- ==== Proof.FResult.lean ====
/- The three results of the forward product over the reals, as functions of the other operand `X`, the weights `W` and the
   exponents `E` of the blocks of 32 columns of the weights: the product, the codes and the scale bytes. -/
module

public import proofs.«01_k».proof.Proof.XResult

@[expose] public section

noncomputable section

namespace Cert.Fp

open Idealize.ShloMosaic
open Cert.Wgrad (BlockExp code widened scaleByte)

abbrev S18944x3584 : Shape := ⟨2, ![18944, 3584]⟩
abbrev S18944x112 : Shape := ⟨2, ![18944, 112]⟩
abbrev S1920x18944 : Shape := ⟨2, ![1920, 18944]⟩

variable (X : FVec Ideal Xq.S1920x3584 .bf16) (W : FVec Ideal S18944x3584 .bf16) (E : Fin 18944 → Fin 112 → ℤ)

/-- `E` are the exponents of the blocks of 32 columns. -/
def Exps : Prop := ∀ a b, BlockExp (fun i => W (ix2 a ⟨32 * b.val + i.val, by omega⟩)) (E a b)

/-- The codes of the weights. -/
def codesAll : FVec Ideal S18944x3584 .fp8e4m3 := fun y =>
  code (E (y 0) ⟨(y 1).val / 32, by have := (y 1).isLt; change _ < 3584 at this; omega⟩) (W y)
/-- The scale bytes of the weights. -/
def bytesAll : IVec S18944x112 8 := fun y => scaleByte (E (y 0) (y 1))
/-- The product of the other operand with the widened codes. -/
def prodAll : FVec Ideal S1920x18944 .bf16 := fun y =>
  ∑ n : Fin 3584, (X (ix2 (y 0) n) * widened (E (y 1) ⟨n.val / 32, by omega⟩) (W (ix2 (y 1) n)) : EReal)

end Cert.Fp
-- ==== Proof.Result.lean ====
/- The three results over the reals, as functions of the gradients `X`, the exponents `E` of their blocks and the other
   operand `Y`: the codes, the scale bytes, and the product of the widened codes, transposed, with `Y`. -/
module

public import proofs.«01_k».proof.Proof.Block

@[expose] public section

noncomputable section

namespace Cert.Wgrad

open Idealize.ShloMosaic

abbrev S1920x18944 : Shape := ⟨2, ![1920, 18944]⟩
abbrev S3x20x18944 : Shape := ⟨3, ![3, 20, 18944]⟩
abbrev S18944x3584 : Shape := ⟨2, ![18944, 3584]⟩

variable (X : FVec Ideal S1920x18944 .bf16) (E : Fin 60 → Fin 18944 → ℤ) (Y : FVec Ideal S1920x3584 .bf16)

/-- `E` are the exponents of the blocks of 32 rows. -/
def Exps : Prop := ∀ b n, BlockExp (fun i => X (ix2 ⟨32 * b.val + i.val, by omega⟩ n)) (E b n)

/-- The codes. -/
def codesAll : FVec Ideal S1920x18944 .fp8e4m3 := fun y =>
  code (E ⟨(y 0).val / 32, by have := (y 0).isLt; change _ < 1920 at this; omega⟩ (y 1)) (X y)

/-- The scale bytes. -/
def bytesAll : IVec S3x20x18944 8 := fun y =>
  scaleByte (E ⟨20 * (y 0).val + (y 1).val, by
    have := (y 0).isLt; have := (y 1).isLt; change (y 0).val < 3 at *; change (y 1).val < 20 at *; omega⟩ (y 2))

/-- The product. -/
def gradAll : FVec Ideal S18944x3584 .f32 := fun y =>
  ∑ a : Fin 1920, (widened (E ⟨a.val / 32, by omega⟩ (y 0)) (X (ix2 a (y 0))) * Y (ix2 a (y 1)) : EReal)

end Cert.Wgrad
-- ==== Proof.Range.lean ====
/- The precondition, read: every block of 32 gradients has an exponent. -/
module

public import proofs.«01_k».proof.Proof.Result
public import proofs.«01_k».proof.Pre_in_range
public import Idealize.ShloMosaic.Lib.ReduceAll

@[expose] public section

set_option maxRecDepth 16384

noncomputable section

namespace Cert.Pre_in_range.Hand

open Idealize.ShloMosaic
open Cert.Pre_in_range Cert.Pre_in_range.Facts
open Cert.Wgrad (two BlockExp Exps top mag HasExp)

/-- A block is in range when its largest magnitude is zero or between `2^(-119)` and the largest number of the type. -/
theorem blockExp_of {f : Fin 32 → EReal} (h : top f = 0 ∨ (two (-119) ≤ top f ∧ top f ≤ ((255 * 2 ^ (120 : ℤ) : ℝ) : EReal))) :
    ∃ k, BlockExp f k := by
  rcases h with h | ⟨hl, hh⟩
  · exact ⟨8, Or.inl ⟨h, rfl⟩⟩
  · have ht : top f ≠ ⊤ := ne_of_lt (lt_of_le_of_lt hh (EReal.coe_lt_top _))
    have hb : top f ≠ ⊥ := ne_of_gt (lt_of_lt_of_le (EReal.bot_lt_coe _) hl)
    lift top f to ℝ using ⟨ht, hb⟩ with a ha
    unfold two at hl
    rw [EReal.coe_le_coe_iff] at hl hh
    obtain ⟨k, hk⟩ := Wgrad.exists_hasExp (lt_of_lt_of_le (by positivity) hl)
    refine ⟨k, Or.inr ⟨a, ha.symm, hk, ?_, ?_⟩⟩
    · have := lt_of_le_of_lt hl hk.2
      have := (zpow_lt_zpow_iff_right₀ (by norm_num : (1 : ℝ) < 2)).1 this
      omega
    · have h2 : (2 : ℝ) ^ k < 2 ^ (128 : ℤ) := lt_of_le_of_lt (hk.1.trans hh) (by norm_num)
      have := (zpow_lt_zpow_iff_right₀ (by norm_num : (1 : ℝ) < 2)).1 h2
      omega

theorem within {s : Shape} (v a b d : FVec Ideal s .f32) (i : s.Idx)
    (h : ori (cmpf .oeq v a) (andi (cmpf .oge v b) (cmpf .ole v d)) i = 1#1) : v i = a i ∨ (b i ≤ v i ∧ v i ≤ d i) := by
  have e : ori (cmpf .oeq v a) (andi (cmpf .oge v b) (cmpf .ole v d)) i
      = IntOp.ori (BitVec.ofBool (decide (v i = a i)))
          (IntOp.andi (BitVec.ofBool (decide (b i ≤ v i))) (BitVec.ofBool (decide (v i ≤ d i)))) := by
    pointwise
  rw [e] at h
  by_cases h1 : v i = a i
  · exact Or.inl h1
  by_cases h2 : b i ≤ v i
  · by_cases h3 : v i ≤ d i
    · exact Or.inr ⟨h2, h3⟩
    · rw [decide_eq_false h1, decide_eq_false h3] at h
      exfalso
      revert h
      cases decide (b i ≤ v i) <;> decide
  · rw [decide_eq_false h1, decide_eq_false h2] at h
    exfalso
    revert h
    cases decide (v i ≤ d i) <;> decide

variable [Cert.Pre_in_range.Facts]

theorem tops (v : FVec Ideal S60x32x18944 .f32) (z : FVec Ideal S_ .f32) (b : Fin 60) (n : Fin 18944) :
    Host.reduce FloatOps.maximumf v z reducesTo_S60x32x18944_S60x18944_d1 h_S_ (ix2 b n)
      = Finset.fold max (z (Shape.Idx.first h_S_)) (fun i => v (ix3 b i n)) Finset.univ := by
  pointwise

theorem blocks (v : FVec Ideal S1920x18944 .f32) (b : Fin 60) (i : Fin 32) (n : Fin 18944) :
    shapeCast S60x32x18944 v shapeCasts_S1920x18944_S60x32x18944 (ix3 b i n) = v (ix2 ⟨32 * b.val + i.val, by omega⟩ n) := by
  pointwise
  exact congrArg (fun r => v (ix2 r n)) (Fin.ext (by show b.val * 32 + i.val = 32 * b.val + i.val; omega))

/-- Under the precondition every block has an exponent. -/
theorem exists_exps (X : FVec Ideal S1920x18944 .bf16) (Y : FVec Ideal S1920x3584 .bf16) (h : fn X Y = fun _ => 1#1) :
    ∃ E, Exps X E := by
  have hb : ∀ (b : Fin 60) (n : Fin 18944), ∃ k, BlockExp (fun i => X (ix2 ⟨32 * b.val + i.val, by omega⟩ n)) k := fun b n => by
    refine blockExp_of ?_
    have h0 := congrFun h (Shape.Idx.first h_S_)
    have : Subsingleton S_.Idx := ⟨fun a b => funext fun i => nomatch i⟩
    dsimp only [fn] at h0
    have h1 := within _ _ _ _ _ (Host.reduce_andi_all _ _ _ _ _ h0 (ix2 b n))
    rw [tops] at h1
    have e : (fun i : Fin 32 => shapeCast S60x32x18944 (Host.absf (extf .f32 X bitsLt_bf16_f32)) shapeCasts_S1920x18944_S60x32x18944 (ix3 b i n))
        = fun i => mag (X (ix2 ⟨32 * b.val + i.val, by omega⟩ n)) := funext fun i => blocks _ b i n
    rw [e] at h1
    have e1 : Finset.fold max (constant (F := Ideal) S_ .f32 0xFF800000#32 (Shape.Idx.first h_S_))
        (fun i : Fin 32 => mag (X (ix2 ⟨32 * b.val + i.val, by omega⟩ n))) Finset.univ
          = top (fun i => X (ix2 ⟨32 * b.val + i.val, by omega⟩ n)) := by
      show Finset.fold max (Ideal.ofBits .f32 0xFF800000#32) _ _ = _
      rw [Wgrad.f32_bot]
      rfl
    rw [e1] at h1
    rw [← Wgrad.f32_low, ← Wgrad.f32_high, ← Wgrad.f32_zero]
    exact h1
  choose E hE using hb
  exact ⟨E, hE⟩

end Cert.Pre_in_range.Hand
-- ==== Proof.FRange.lean ====
/- The precondition of the forward product, read: every block of 32 columns of the weights has an exponent. -/
module

public import proofs.«01_k».proof.Proof.FResult
public import proofs.«01_k».proof.Proof.Range
public import proofs.«01_k».proof.Pre_w_in_range
public import Idealize.ShloMosaic.Lib.ReduceAll

@[expose] public section

set_option maxRecDepth 16384

noncomputable section

namespace Cert.Pre_w_in_range.Hand

open Idealize.ShloMosaic
open Cert.Pre_w_in_range Cert.Pre_w_in_range.Facts
open Cert.Wgrad (BlockExp top mag)
open Cert.Pre_in_range.Hand (blockExp_of within)

variable [Cert.Pre_w_in_range.Facts]

theorem tops (v : FVec Ideal S18944x112x32 .f32) (z : FVec Ideal S_ .f32) (a : Fin 18944) (b : Fin 112) :
    Host.reduce FloatOps.maximumf v z reducesTo_S18944x112x32_S18944x112_d2 h_S_ (ix2 a b)
      = Finset.fold max (z (Shape.Idx.first h_S_)) (fun i => v (ix3 a b i)) Finset.univ := by
  pointwise

theorem blocks (v : FVec Ideal S18944x3584 .f32) (a : Fin 18944) (b : Fin 112) (i : Fin 32) :
    shapeCast S18944x112x32 v shapeCasts_S18944x3584_S18944x112x32 (ix3 a b i) = v (ix2 a ⟨32 * b.val + i.val, by omega⟩) := by
  pointwise
  exact congrArg (fun r => v (ix2 a r)) (Fin.ext (by show b.val * 32 + i.val = 32 * b.val + i.val; omega))

/-- The largest magnitude of a block of 32. -/
theorem fold_top (f : Fin 32 → EReal) :
    Finset.fold max (constant (F := Ideal) S_ .f32 0xFF800000#32 (Shape.Idx.first h_S_)) (fun i => mag (f i)) Finset.univ = top f := by
  show Finset.fold max (Ideal.ofBits .f32 0xFF800000#32) _ _ = _
  rw [Wgrad.f32_bot]
  rfl

/-- Under the precondition every block has an exponent. -/
theorem exists_exps (X : FVec Ideal S1920x3584 .bf16) (W : FVec Ideal S18944x3584 .bf16) (h : fn X W = fun _ => 1#1) :
    ∃ E, Fp.Exps W E := by
  have : Subsingleton S_.Idx := ⟨fun a b => funext fun i => nomatch i⟩
  have h0 := congrFun h (Shape.Idx.first h_S_)
  dsimp only [fn] at h0
  have r : ∀ (a : Fin 18944) (b : Fin 112), ∃ k, BlockExp (fun i => W (ix2 a ⟨32 * b.val + i.val, by omega⟩)) k := fun a b => by
    refine blockExp_of ?_
    have h1 := within _ _ _ _ _ (Host.reduce_andi_all _ _ _ _ _ h0 (ix2 a b))
    rw [tops] at h1
    have e : (fun i : Fin 32 => shapeCast S18944x112x32 (Host.absf (extf .f32 W bitsLt_bf16_f32)) shapeCasts_S18944x3584_S18944x112x32 (ix3 a b i))
        = fun i => mag (W (ix2 a ⟨32 * b.val + i.val, by omega⟩)) := funext fun i => blocks _ a b i
    rw [e, fold_top (fun i => W (ix2 a ⟨32 * b.val + i.val, by omega⟩))] at h1
    rw [← Wgrad.f32_low, ← Wgrad.f32_high, ← Wgrad.f32_zero]
    exact h1
  choose E hE using r
  exact ⟨E, hE⟩

end Cert.Pre_w_in_range.Hand
-- ==== Proof.ValueReference.lean ====
/- What the reference's three result arrays hold after a run over the reals: it is one grid point on whole arrays, so each
   array holds the body's payload of the arguments, read here element by element. -/
module

public import proofs.«01_k».proof.Proof.Result
public import proofs.«01_k».proof.Proof.Gen.ReferenceIdeal.Frame
public import Idealize.ShloMosaic.Lib.Pipeline.Value

@[expose] public section

set_option maxRecDepth 16384

noncomputable section

namespace Cert.ReferenceIdeal.Hand

open Idealize.ShloMosaic Idealize.ShloMosaic.TcCoe
open Idealize.SL.Sem
open Idealize.ShloMosaic.Pipeline (Dat Cfg Window)
open Cert.ReferenceIdeal Cert.ReferenceIdeal.Gen Cert.ReferenceIdeal.Facts
open Cert.Wgrad (two BlockExp Exps code widened scaleByte top mag HasExp)

/-! ## Single operations -/

theorem select_oeq {s : Shape} (a b c d : FVec Ideal s .f32) (y : s.Idx) :
    select (cmpf .oeq a b) c d y = if a y = b y then c y else d y := by
  pointwise

theorem expo_of {s : Shape} (v : FVec Ideal s .f32) (y : s.Idx) :
    select (cmpf .oeq v (broadcast s (Scalar.ofBits .f32 0x00000000#32 : Ideal .f32))) (broadcast s (Scalar.ofBits .f32 0x00000000#32 : Ideal .f32))
      (subf (floor (divf (log v) (log (broadcast s (Scalar.ofBits .f32 0x40000000#32 : Ideal .f32)))))
        (broadcast s (Scalar.ofBits .f32 0x41000000#32 : Ideal .f32))) y
      = if v y = Ideal.ofBits .f32 0x00000000#32 then Ideal.ofBits .f32 0x00000000#32
        else Ideal.liftRound Int.floor (Ideal.div (Ideal.log (v y)) (Ideal.log (Ideal.ofBits .f32 0x40000000#32)))
          - Ideal.ofBits .f32 0x41000000#32 :=
  select_oeq _ _ _ _ _

theorem code_of {s : Shape} (v : FVec Ideal s .f32) (z : FVec Ideal s .f32) (h : FTy.bits .fp8e4m3 < FTy.bits .f32) (y : s.Idx) :
    truncf .fp8e4m3 (minimumf (broadcast s (Scalar.ofBits .f32 0x43E00000#32 : Ideal .f32))
      (maximumf (broadcast s (Scalar.ofBits .f32 0xC3E00000#32 : Ideal .f32)) (mulf v z))) h y
      = min (Ideal.ofBits .f32 0x43E00000#32) (max (Ideal.ofBits .f32 0xC3E00000#32) (v y * z y)) := rfl

theorem factor_of {s : Shape} (v : FVec Ideal s .f32) (y : s.Idx) :
    exp2 (subf (broadcast s (Scalar.ofBits .f32 0x00000000#32 : Ideal .f32)) v) y
      = Ideal.exp2 (Ideal.ofBits .f32 0x00000000#32 - v y) := rfl

theorem tops (v : FVec Ideal S60x32x18944 .f32) (b : Fin 60) (n : Fin 18944) :
    shapeCast S60x1x18944 (multiReduction .maximumf [1] S60x18944 v 0xFF800000#32 reduces_S60x32x18944_S60x18944 (.inl rfl) rfl)
      shapeCasts_S60x18944_S60x1x18944 (ix3 b 0 n) = Finset.fold max (Ideal.ofBits .f32 0xFF800000#32) (fun i => v (ix3 b i n)) Finset.univ := by
  pointwise

theorem joined (v : FVec Ideal S60x32x18944 .fp8e4m3) (i : Fin 1920) (n : Fin 18944) :
    shapeCast S1920x18944 v shapeCasts_S60x32x18944_S1920x18944 (ix2 i n) = v (ix3 ⟨i.val / 32, by omega⟩ ⟨i.val % 32, by omega⟩ n) := by
  pointwise

theorem repeated (v : FVec Ideal S60x1x18944 .f32) (b : Fin 60) (i : Fin 32) (n : Fin 18944) :
    broadcastTo S60x32x18944 v broadcasts_S60x1x18944_S60x32x18944 (ix3 b i n) = v (ix3 b 0 n) := by
  pointwise

theorem narrow_nat : ∀ n : Fin 256, BitVec.setWidth 8 (BitVec.ofInt 32 ((n.val : ℤ) - 127) + 127#32) = BitVec.ofInt 8 n.val := by
  decide +kernel
theorem widen_nat : ∀ n : Fin 256, (IntOp.subi (BitVec.setWidth 32 (BitVec.ofInt 8 n.val)) 127#32).toInt = (n.val : ℤ) - 127 := by
  decide +kernel

theorem byte_narrow {k : ℤ} (hl : -119 ≤ k) (hh : k ≤ 127) : BitVec.setWidth 8 (BitVec.ofInt 32 (k - 8) + 127#32) = scaleByte k := by
  have h := narrow_nat ⟨(k + 119).toNat, by omega⟩
  simp only [Int.toNat_of_nonneg (show 0 ≤ k + 119 by omega)] at h
  rwa [show k + 119 - 127 = k - 8 by ring] at h

theorem byte_widen {k : ℤ} (hl : -119 ≤ k) (hh : k ≤ 127) : (IntOp.subi (BitVec.setWidth 32 (scaleByte k)) 127#32).toInt = k - 8 := by
  have h := widen_nat ⟨(k + 119).toNat, by omega⟩
  simp only [Int.toNat_of_nonneg (show 0 ≤ k + 119 by omega)] at h
  rwa [show k + 119 - 127 = k - 8 by ring] at h

/-! ## The payloads -/

theorem zero2 : (![0, 0] : Fin 2 → Nat) = fun _ => 0 := funext fun a => by fin_cases a <;> rfl
theorem zero3 : (![0, 0, 0] : Fin 3 → Nat) = fun _ => 0 := funext fun a => by fin_cases a <;> rfl

section
variable (X : FVec Ideal S1920x18944 .bf16)

theorem blocks_apply (b : Fin 60) (i : Fin 32) (n : Fin 18944) :
    k0_pay3 (F := Ideal) X (ix3 b i n) = X (ix2 ⟨32 * b.val + i.val, by omega⟩ n) := by
  pointwise [k0_pay3]
  exact congrArg (fun r => X (ix2 r n)) (Fin.ext (by show b.val * 32 + i.val = 32 * b.val + i.val; omega))

theorem exponent_def (b : Fin 60) (n : Fin 18944) :
    k0_pay4 (F := Ideal) X (ix3 b 0 n) = if top (fun i => X (ix2 ⟨32 * b.val + i.val, by omega⟩ n)) = Ideal.ofBits .f32 0x00000000#32
      then Ideal.ofBits .f32 0x00000000#32
      else Ideal.liftRound Int.floor (Ideal.div (Ideal.log (top (fun i => X (ix2 ⟨32 * b.val + i.val, by omega⟩ n))))
        (Ideal.log (Ideal.ofBits .f32 0x40000000#32))) - Ideal.ofBits .f32 0x41000000#32 := by
  have ht : (shapeCast S60x1x18944 (multiReduction .maximumf [1] S60x18944 (absf (k0_pay3 (F := Ideal) X)) 0xFF800000#32
      reduces_S60x32x18944_S60x18944 (.inl rfl) rfl) shapeCasts_S60x18944_S60x1x18944 : FVec Ideal S60x1x18944 .f32) (ix3 b 0 n)
        = top (fun i => X (ix2 ⟨32 * b.val + i.val, by omega⟩ n)) := by
    rw [tops, Wgrad.f32_bot]
    have e : (fun i : Fin 32 => absf (k0_pay3 (F := Ideal) X) (ix3 b i n))
        = fun i => mag (X (ix2 ⟨32 * b.val + i.val, by omega⟩ n)) := funext fun i => congrArg mag (blocks_apply X b i n)
    rw [e]
    rfl
  unfold k0_pay4
  refine (expo_of _ _).trans ?_
  rw [ht]

variable (E : Fin 60 → Fin 18944 → ℤ) (hE : Exps X E)
include hE

theorem exponent_apply (b : Fin 60) (n : Fin 18944) : k0_pay4 (F := Ideal) X (ix3 b 0 n) = (((E b n - 8 : ℤ) : ℝ) : EReal) := by
  rw [exponent_def, Wgrad.f32_zero, Wgrad.f32_two, Wgrad.f32_eight]
  rcases hE b n with ⟨h, hk⟩ | ⟨a, h, ha, hk⟩
  · rw [if_pos h, hk]
    norm_num
  · rw [h, if_neg (by rw [EReal.coe_eq_zero]; exact ha.pos.ne'), Wgrad.floor_log ha, ← EReal.coe_sub]
    norm_num

theorem codes_apply (i : Fin 1920) (n : Fin 18944) :
    k0_pay5 (F := Ideal) X (ix2 i n) = code (E ⟨i.val / 32, by omega⟩ n) (X (ix2 i n)) := by
  have h : k0_pay5 (F := Ideal) X (ix2 i n)
      = min (Ideal.ofBits .f32 0x43E00000#32) (max (Ideal.ofBits .f32 0xC3E00000#32)
          (k0_pay3 (F := Ideal) X (ix3 ⟨i.val / 32, by omega⟩ ⟨i.val % 32, by omega⟩ n)
            * Ideal.exp2 (Ideal.ofBits .f32 0x00000000#32 - k0_pay4 (F := Ideal) X (ix3 ⟨i.val / 32, by omega⟩ 0 n)))) := by
    unfold k0_pay5
    refine (joined _ i n).trans ?_
    refine (code_of _ _ _ _).trans ?_
    rw [repeated, factor_of]
  have hi : (⟨32 * (i.val / 32) + i.val % 32, by omega⟩ : Fin 1920) = i := Fin.ext (by show 32 * (i.val / 32) + i.val % 32 = i.val; omega)
  have hx : (0 : EReal) - (((E ⟨i.val / 32, by omega⟩ n - 8 : ℤ) : ℝ) : EReal) = (((8 - E ⟨i.val / 32, by omega⟩ n : ℤ) : ℝ) : EReal) := by
    rw [← EReal.coe_zero, ← EReal.coe_sub]
    congr 1
    push_cast
    ring
  rw [h, blocks_apply, exponent_apply X E hE, Wgrad.f32_max, Wgrad.f32_min, Wgrad.f32_zero, hx, Wgrad.exp2_int]
  show code _ (X (ix2 ⟨32 * (i.val / 32) + i.val % 32, by omega⟩ n)) = _
  rw [hi]

theorem bytes_apply (b : Fin 60) (n : Fin 18944) : k0_pay6 (F := Ideal) X (ix2 b n) = scaleByte (E b n) := by
  have hk := (hE b n).bounds
  pointwise [k0_pay6]
  rw [exponent_apply X E hE]
  show BitVec.setWidth 8 (Ideal.fptosi 32 (((E b n - 8 : ℤ) : ℝ) : EReal) + 127#32) = _
  rw [Wgrad.fptosi_int (by omega) (by omega)]
  exact byte_narrow (by omega) (by omega)

/-- The byte read back as an exponent. -/
theorem scale_apply (b : Fin 60) (n : Fin 18944) :
    (FloatOps.exp2 (FloatOps.sitofp FTy.f32 (IntOp.subi (BitVec.setWidth 32 (scaleByte (E b n))) 127#32)) : Ideal .f32) = two (E b n - 8) := by
  have hk := (hE b n).bounds
  show Ideal.exp2 ((((IntOp.subi (BitVec.setWidth 32 (scaleByte (E b n))) 127#32).toInt : ℤ) : ℝ) : EReal) = _
  rw [byte_widen (by omega) (by omega), Wgrad.exp2_int]

theorem wide_apply (i : Fin 1920) (n : Fin 18944) :
    k0_pay7 (F := Ideal) X (ix2 i n) = widened (E ⟨i.val / 32, by omega⟩ n) (X (ix2 i n)) := by
  pointwise [k0_pay7]
  rw [codes_apply X E hE, bytes_apply X E hE, scale_apply X E hE]
  rfl

theorem grad_apply (Y : FVec Ideal S1920x3584 .bf16) (r : Fin 18944) (n : Fin 3584) :
    k0_pay1 (F := Ideal) (k0_pay7 (F := Ideal) X) Y (constant S18944x3584 .f32 0x00000000#32) (ix2 r n)
      = Wgrad.gradAll X E Y (ix2 r n) := by
  have h : ∀ W : FVec Ideal S1920x18944 .bf16, k0_pay1 (F := Ideal) W Y (constant S18944x3584 .f32 0x00000000#32) (ix2 r n)
      = ∑ a : Fin 1920, (W (ix2 a r) * Y (ix2 a n) : EReal) := by
    intro W
    pointwise [k0_pay1]
  rw [h]
  refine Finset.sum_congr rfl fun a _ => ?_
  rw [wide_apply X E hE]
  rfl

/-! ## The body's results -/

variable (Y : FVec Ideal S1920x3584 .bf16)

theorem out_2 : out0_2 (F := Ideal) X Y = Wgrad.gradAll X E Y := by
  unfold out0_2
  rw [View.canon_unit_zero zero2, View.ld_unit_zero zero2, View.ld_unit_zero zero2]
  funext (j : S18944x3584.Idx)
  obtain ⟨r, n, rfl⟩ : ∃ (r : Fin 18944) (n : Fin 3584), j = ix2 r n := ⟨j 0, j 1, eq_ix2 j⟩
  exact grad_apply X E hE Y r n

theorem out_3 : out0_3 (F := Ideal) X Y = Wgrad.codesAll X E := by
  unfold out0_3
  rw [View.canon_unit_zero zero2, View.ld_unit_zero zero2]
  funext (j : S1920x18944.Idx)
  obtain ⟨a, n, rfl⟩ : ∃ (a : Fin 1920) (n : Fin 18944), j = ix2 a n := ⟨j 0, j 1, eq_ix2 j⟩
  exact codes_apply X E hE a n

theorem out_4 : out0_4 (F := Ideal) X Y = Wgrad.bytesAll E := by
  unfold out0_4
  rw [View.canon_unit_zero zero3, View.ld_unit_zero zero2]
  funext (j : S3x20x18944.Idx)
  obtain ⟨b, q, n, rfl⟩ : ∃ (b : Fin 3) (q : Fin 20) (n : Fin 18944), j = ix3 b q n := ⟨j 0, j 1, j 2, eq_ix3 j⟩
  have h : ∀ w : IVec S60x18944 8, k0_pay2 w (ix3 b q n) = w (ix2 ⟨20 * b.val + q.val, by omega⟩ n) := by
    intro w
    pointwise [k0_pay2]
    exact congrArg (fun r => w (ix2 r n)) (Fin.ext (by show b.val * 20 + q.val = 20 * b.val + q.val; omega))
  exact (h _).trans (bytes_apply X E hE _ n)

end

/-! ## The arrays -/

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N,
    win0_4.index t (0 : Fin 3) = 0 ∧ win0_4.index t (1 : Fin 3) = 0 ∧ win0_4.index t (2 : Fin 3) = 0 :=
  (by decide +kernel : ∀ t : Fin grid0.N, _)

theorem emb_0 (t : Fin cfg0.N) (j : S1920x18944.Idx) : ((cfg0.win 0).blk t).view.emb j = j := by
  obtain ⟨e0, e1⟩ := index_0 t
  funext i; apply Fin.ext
  match i with
  | ⟨0, _⟩ => show win0_0.index t (0 : Fin 2) * 1920 + 1 * (j 0).val = (j 0).val; omega
  | ⟨1, _⟩ => show win0_0.index t (1 : Fin 2) * 18944 + 1 * (j 1).val = (j 1).val; omega

theorem emb_1 (t : Fin cfg0.N) (j : S1920x3584.Idx) : ((cfg0.win 1).blk t).view.emb j = j := by
  obtain ⟨e0, e1⟩ := index_1 t
  funext i; apply Fin.ext
  match i with
  | ⟨0, _⟩ => show win0_1.index t (0 : Fin 2) * 1920 + 1 * (j 0).val = (j 0).val; omega
  | ⟨1, _⟩ => show win0_1.index t (1 : Fin 2) * 3584 + 1 * (j 1).val = (j 1).val; omega

theorem emb_2 (t : Fin cfg0.N) (j : S18944x3584.Idx) : ((cfg0.win 2).blk t).view.emb j = j := by
  obtain ⟨e0, e1⟩ := index_2 t
  funext i; apply Fin.ext
  match i with
  | ⟨0, _⟩ => show win0_2.index t (0 : Fin 2) * 18944 + 1 * (j 0).val = (j 0).val; omega
  | ⟨1, _⟩ => show win0_2.index t (1 : Fin 2) * 3584 + 1 * (j 1).val = (j 1).val; omega

theorem emb_3 (t : Fin cfg0.N) (j : S1920x18944.Idx) : ((cfg0.win 3).blk t).view.emb j = j := by
  obtain ⟨e0, e1⟩ := index_3 t
  funext i; apply Fin.ext
  match i with
  | ⟨0, _⟩ => show win0_3.index t (0 : Fin 2) * 1920 + 1 * (j 0).val = (j 0).val; omega
  | ⟨1, _⟩ => show win0_3.index t (1 : Fin 2) * 18944 + 1 * (j 1).val = (j 1).val; omega

theorem emb_4 (t : Fin cfg0.N) (j : S3x20x18944.Idx) : ((cfg0.win 4).blk t).view.emb j = j := by
  obtain ⟨e0, e1, e2⟩ := index_4 t
  funext i; apply Fin.ext
  match i with
  | ⟨0, _⟩ => show win0_4.index t (0 : Fin 3) * 3 + 1 * (j 0).val = (j 0).val; omega
  | ⟨1, _⟩ => show win0_4.index t (1 : Fin 3) * 20 + 1 * (j 1).val = (j 1).val; omega
  | ⟨2, _⟩ => show win0_4.index t (2 : Fin 3) * 18944 + 1 * (j 2).val = (j 2).val; omega

section
variable (m : (ℓ : Loc nD τ sig) → Buf (Elt Ideal) ℓ) (c : Dev nD)

/-- The gradients. -/
abbrev grads : FVec Ideal S1920x18944 .bf16 := m ((c : Thread nD τ).loc main_arg0)
/-- The other operand. -/
abbrev other : FVec Ideal S1920x3584 .bf16 := m ((c : Thread nD τ).loc main_arg1)

theorem block_0 (t : Fin cfg0.N) : iblk m c 0 t = grads m c := by
  funext j; show V m c main_arg0 (((cfg0.win 0).blk t).view.emb j) = V m c main_arg0 j; rw [emb_0]

theorem block_1 (t : Fin cfg0.N) : iblk m c 1 t = other m c := by
  funext j; show V m c main_arg1 (((cfg0.win 1).blk t).view.emb j) = V m c main_arg1 j; rw [emb_1]

variable (E : Fin 60 → Fin 18944 → ℤ) (hE : Exps (grads m c) E)
include hE

/-- The one point. -/
abbrev only : Fin cfg0.N := ⟨0, by decide⟩

theorem final_2 : (dats m 0 c).arrAt 2 cfg0.N = Wgrad.gradAll (grads m c) E (other m c) :=
  (dats m 0 c).arrAt_eq_of_cover 2 _ (fun t _ => by
    show (cfg0.win 2).cut (grid0.coords t) ((dats m 0 c).after 2 t) = _
    rw [after0_2, block_0, block_1, out_2 _ E hE]
    funext j
    show Wgrad.gradAll (grads m c) E (other m c) j = Wgrad.gradAll (grads m c) E (other m c) (((cfg0.win 2).blk t).view.emb j)
    rw [emb_2]) fun i => ⟨only, flush0_2 _, by
      have h := ((cfg0.win 2).blk only).view.emb_mem_set i; rwa [emb_2] at h⟩

theorem final_3 : (dats m 0 c).arrAt 3 cfg0.N = Wgrad.codesAll (grads m c) E :=
  (dats m 0 c).arrAt_eq_of_cover 3 _ (fun t _ => by
    show (cfg0.win 3).cut (grid0.coords t) ((dats m 0 c).after 3 t) = _
    rw [after0_3, block_0, block_1, out_3 _ E hE]
    funext j
    show Wgrad.codesAll (grads m c) E j = Wgrad.codesAll (grads m c) E (((cfg0.win 3).blk t).view.emb j)
    rw [emb_3]) fun i => ⟨only, flush0_3 _, by
      have h := ((cfg0.win 3).blk only).view.emb_mem_set i; rwa [emb_3] at h⟩

theorem final_4 : (dats m 0 c).arrAt 4 cfg0.N = Wgrad.bytesAll E :=
  (dats m 0 c).arrAt_eq_of_cover 4 _ (fun t _ => by
    show (cfg0.win 4).cut (grid0.coords t) ((dats m 0 c).after 4 t) = _
    rw [after0_4, block_0, block_1, out_4 _ E hE]
    funext j
    show Wgrad.bytesAll E j = Wgrad.bytesAll E (((cfg0.win 4).blk t).view.emb j)
    rw [emb_4]) fun i => ⟨only, flush0_4 _, by
      have h := ((cfg0.win 4).blk only).view.emb_mem_set i; rwa [emb_4] at h⟩

end

variable (m : (ℓ : Loc nD τ sig) → Buf (Elt Ideal) ℓ) (ρ : Dev nD → PrngReg)

/-- The run, read at its results: the three functions of the arguments, and the arguments unchanged. -/
theorem run_value (E : Dev nD → Fin 60 → Fin 18944 → ℤ) (hE : ∀ c, Exps (grads m c) (E c)) :
    θ_run defs (onTc (τ := τ) (main (F := Ideal))) ⟨m, fun _ => 0, ρ⟩ (fun r => ∀ c : Dev nD,
      r.2.mem ((c : Thread nD τ).loc main_v0_0) = Wgrad.gradAll (grads m c) (E c) (other m c)
      ∧ r.2.mem ((c : Thread nD τ).loc main_v0_1) = Wgrad.codesAll (grads m c) (E c)
      ∧ r.2.mem ((c : Thread nD τ).loc main_v0_2) = Wgrad.bytesAll (E c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h c).1 2).trans (final_2 m c (E c) (hE c)),
      ((h c).1 3).trans (final_3 m c (E c) (hE c)), ((h c).1 4).trans (final_4 m c (E c) (hE c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.ReferenceIdeal.Hand
-- ==== Proof.XValueReference.lean ====
/- What the activation quantiser's reference leaves in its six result arrays after a run over the reals: it is one grid
   point on whole arrays, so each array holds the body's payload of the argument, read here element by element. -/
module

public import proofs.«01_k».proof.Proof.XResult
public import proofs.«01_k».proof.Proof.ValueReference
public import proofs.«01_k».proof.Proof.Gen.XReferenceIdeal.Frame
public import Idealize.ShloMosaic.Lib.Pipeline.Value

@[expose] public section

set_option maxRecDepth 16384

noncomputable section

namespace Cert.XReferenceIdeal.Hand

open Idealize.ShloMosaic Idealize.ShloMosaic.TcCoe
open Idealize.SL.Sem
open Idealize.ShloMosaic.Pipeline (Dat Cfg Window)
open Cert.XReferenceIdeal Cert.XReferenceIdeal.Gen Cert.XReferenceIdeal.Facts
open Cert.Wgrad (two BlockExp code widened scaleByte top mag HasExp)
open Cert.Xq (ExpsR ExpsC)
open Cert.ReferenceIdeal.Hand (expo_of code_of factor_of byte_narrow byte_widen zero2 zero3)

/-! ## Single operations -/

/-- The exponent of the scale of a block with the exponent `k`. -/
theorem expo_val {s : Shape} (v : FVec Ideal s .f32) (y : s.Idx) {f : Fin 32 → EReal} {k : ℤ} (hv : v y = top f) (h : BlockExp f k) :
    select (cmpf .oeq v (broadcast s (Scalar.ofBits .f32 0x00000000#32 : Ideal .f32))) (broadcast s (Scalar.ofBits .f32 0x00000000#32 : Ideal .f32))
      (subf (floor (divf (log v) (log (broadcast s (Scalar.ofBits .f32 0x40000000#32 : Ideal .f32)))))
        (broadcast s (Scalar.ofBits .f32 0x41000000#32 : Ideal .f32))) y = (((k - 8 : ℤ) : ℝ) : EReal) := by
  refine (expo_of _ _).trans ?_
  rw [hv, Wgrad.f32_zero, Wgrad.f32_two, Wgrad.f32_eight]
  rcases h with ⟨h, hk⟩ | ⟨a, h, ha, hk⟩
  · rw [if_pos h, hk]
    norm_num
  · rw [h, if_neg (by rw [EReal.coe_eq_zero]; exact ha.pos.ne'), Wgrad.floor_log ha, ← EReal.coe_sub]
    norm_num

/-- The factor of a block with the exponent `k`. -/
theorem factor_val (k : ℤ) : Ideal.exp2 (Ideal.ofBits .f32 0x00000000#32 - (((k - 8 : ℤ) : ℝ) : EReal)) = two (8 - k) := by
  have hx : (0 : EReal) - (((k - 8 : ℤ) : ℝ) : EReal) = (((8 - k : ℤ) : ℝ) : EReal) := by
    rw [← EReal.coe_zero, ← EReal.coe_sub]
    congr 1
    push_cast
    ring
  rw [Wgrad.f32_zero, hx, Wgrad.exp2_int]

theorem byte_val {k : ℤ} (h : -119 ≤ k ∧ k ≤ 127) :
    BitVec.setWidth 8 (Ideal.fptosi 32 (((k - 8 : ℤ) : ℝ) : EReal) + 127#32) = scaleByte k := by
  rw [Wgrad.fptosi_int (by omega) (by omega)]
  exact byte_narrow (by omega) (by omega)

/-- The byte read back as a scale. -/
theorem scale_val {k : ℤ} (h : -119 ≤ k ∧ k ≤ 127) :
    (FloatOps.exp2 (FloatOps.sitofp FTy.f32 (IntOp.subi (BitVec.setWidth 32 (scaleByte k)) 127#32)) : Ideal .f32) = two (k - 8) := by
  show Ideal.exp2 ((((IntOp.subi (BitVec.setWidth 32 (scaleByte k)) 127#32).toInt : ℤ) : ℝ) : EReal) = _
  rw [byte_widen (by omega) (by omega), Wgrad.exp2_int]

theorem topsR (v : FVec Ideal S1920x112x32 .f32) (a : Fin 1920) (b : Fin 112) :
    shapeCast S1920x112x1 (multiReduction .maximumf [2] S1920x112 v 0xFF800000#32 reduces_S1920x112x32_S1920x112 (.inl rfl) rfl)
      shapeCasts_S1920x112_S1920x112x1 (ix3 a b 0) = Finset.fold max (Ideal.ofBits .f32 0xFF800000#32) (fun i => v (ix3 a b i)) Finset.univ := by
  pointwise

theorem topsC (v : FVec Ideal S60x32x3584 .f32) (b : Fin 60) (n : Fin 3584) :
    shapeCast S60x1x3584 (multiReduction .maximumf [1] S60x3584 v 0xFF800000#32 reduces_S60x32x3584_S60x3584 (.inl rfl) rfl)
      shapeCasts_S60x3584_S60x1x3584 (ix3 b 0 n) = Finset.fold max (Ideal.ofBits .f32 0xFF800000#32) (fun i => v (ix3 b i n)) Finset.univ := by
  pointwise

theorem joinedR (v : FVec Ideal S1920x112x32 .fp8e4m3) (a : Fin 1920) (n : Fin 3584) :
    shapeCast S1920x3584 v shapeCasts_S1920x112x32_S1920x3584 (ix2 a n) = v (ix3 a ⟨n.val / 32, by omega⟩ ⟨n.val % 32, by omega⟩) := by
  pointwise

theorem joinedC (v : FVec Ideal S60x32x3584 .fp8e4m3) (i : Fin 1920) (n : Fin 3584) :
    shapeCast S1920x3584 v shapeCasts_S60x32x3584_S1920x3584 (ix2 i n) = v (ix3 ⟨i.val / 32, by omega⟩ ⟨i.val % 32, by omega⟩ n) := by
  pointwise

theorem repeatedR (v : FVec Ideal S1920x112x1 .f32) (a : Fin 1920) (b : Fin 112) (i : Fin 32) :
    broadcastTo S1920x112x32 v broadcasts_S1920x112x1_S1920x112x32 (ix3 a b i) = v (ix3 a b 0) := by
  pointwise

theorem repeatedC (v : FVec Ideal S60x1x3584 .f32) (b : Fin 60) (i : Fin 32) (n : Fin 3584) :
    broadcastTo S60x32x3584 v broadcasts_S60x1x3584_S60x32x3584 (ix3 b i n) = v (ix3 b 0 n) := by
  pointwise

/-! ## The payloads -/

section
variable (X : FVec Ideal S1920x3584 .bf16)

theorem blocksR_apply (a : Fin 1920) (b : Fin 112) (i : Fin 32) :
    k0_pay3 (F := Ideal) X (ix3 a b i) = X (ix2 a ⟨32 * b.val + i.val, by omega⟩) := by
  pointwise [k0_pay3, k0_pay2]
  exact congrArg (fun r => X (ix2 a r)) (Fin.ext (by show b.val * 32 + i.val = 32 * b.val + i.val; omega))

theorem blocksC_apply (b : Fin 60) (i : Fin 32) (n : Fin 3584) :
    k0_pay7 (F := Ideal) X (ix3 b i n) = X (ix2 ⟨32 * b.val + i.val, by omega⟩ n) := by
  pointwise [k0_pay7, k0_pay2]
  exact congrArg (fun r => X (ix2 r n)) (Fin.ext (by show b.val * 32 + i.val = 32 * b.val + i.val; omega))

/-- The exponents of the columns' scales. -/
abbrev expC : FVec Ideal S60x1x3584 .f32 := k0_pay12 (k0_pay9 (F := Ideal) X) (k0_pay10 (F := Ideal) X) (k0_pay11 (F := Ideal))
/-- The codes of the columns. -/
abbrev codC : FVec Ideal S1920x3584 .fp8e4m3 :=
  k0_pay13 (k0_pay7 (F := Ideal) X) (k0_pay9 (F := Ideal) X) (k0_pay10 (F := Ideal) X) (k0_pay11 (F := Ideal))
/-- The scale bytes of the columns. -/
abbrev bytC : IVec S60x3584 8 := k0_pay14 (k0_pay9 (F := Ideal) X) (k0_pay10 (F := Ideal) X) (k0_pay11 (F := Ideal))

section
variable (ER : Fin 1920 → Fin 112 → ℤ) (hR : ExpsR X ER)
include hR

theorem expR_apply (a : Fin 1920) (b : Fin 112) : k0_pay4 (F := Ideal) X (ix3 a b 0) = (((ER a b - 8 : ℤ) : ℝ) : EReal) := by
  have ht : (shapeCast S1920x112x1 (multiReduction .maximumf [2] S1920x112 (absf (k0_pay3 (F := Ideal) X)) 0xFF800000#32
      reduces_S1920x112x32_S1920x112 (.inl rfl) rfl) shapeCasts_S1920x112_S1920x112x1 : FVec Ideal S1920x112x1 .f32) (ix3 a b 0)
        = top (fun i => X (ix2 a ⟨32 * b.val + i.val, by omega⟩)) := by
    rw [topsR, Wgrad.f32_bot]
    have e : (fun i : Fin 32 => absf (k0_pay3 (F := Ideal) X) (ix3 a b i))
        = fun i => mag (X (ix2 a ⟨32 * b.val + i.val, by omega⟩)) := funext fun i => congrArg mag (blocksR_apply X a b i)
    rw [e]
    rfl
  unfold k0_pay4
  exact expo_val _ _ ht (hR a b)

theorem codesR_apply (a : Fin 1920) (n : Fin 3584) :
    k0_pay5 (F := Ideal) X (ix2 a n) = code (ER a ⟨n.val / 32, by omega⟩) (X (ix2 a n)) := by
  have h : k0_pay5 (F := Ideal) X (ix2 a n)
      = min (Ideal.ofBits .f32 0x43E00000#32) (max (Ideal.ofBits .f32 0xC3E00000#32)
          (k0_pay3 (F := Ideal) X (ix3 a ⟨n.val / 32, by omega⟩ ⟨n.val % 32, by omega⟩)
            * Ideal.exp2 (Ideal.ofBits .f32 0x00000000#32 - k0_pay4 (F := Ideal) X (ix3 a ⟨n.val / 32, by omega⟩ 0)))) := by
    unfold k0_pay5
    refine (joinedR _ a n).trans ?_
    refine (code_of _ _ _ _).trans ?_
    rw [repeatedR, factor_of]
  have hn : (⟨32 * (n.val / 32) + n.val % 32, by omega⟩ : Fin 3584) = n := Fin.ext (by show 32 * (n.val / 32) + n.val % 32 = n.val; omega)
  rw [h, blocksR_apply, expR_apply X ER hR, factor_val, Wgrad.f32_max, Wgrad.f32_min]
  show code _ (X (ix2 a ⟨32 * (n.val / 32) + n.val % 32, by omega⟩)) = _
  rw [hn]

theorem bytesR_apply (a : Fin 1920) (b : Fin 112) : k0_pay6 (F := Ideal) X (ix2 a b) = scaleByte (ER a b) := by
  pointwise [k0_pay6]
  rw [expR_apply X ER hR]
  exact byte_val (hR a b).bounds

theorem wideR_apply (a : Fin 1920) (n : Fin 3584) :
    k0_pay16 (k0_pay5 (F := Ideal) X) (k0_pay6 (F := Ideal) X) (ix2 a n) = widened (ER a ⟨n.val / 32, by omega⟩) (X (ix2 a n)) := by
  pointwise [k0_pay16]
  rw [codesR_apply X ER hR, bytesR_apply X ER hR, scale_val (hR _ _).bounds]
  rfl

theorem out_1 : out0_1 (F := Ideal) X = Xq.codesR X ER := by
  unfold_out out0_1
  rw [View.canon_unit_zero zero2, View.ld_unit_zero zero2]
  funext (j : S1920x3584.Idx)
  obtain ⟨a, n, rfl⟩ : ∃ (a : Fin 1920) (n : Fin 3584), j = ix2 a n := ⟨j 0, j 1, eq_ix2 j⟩
  exact codesR_apply X ER hR a n

theorem out_2 : out0_2 (F := Ideal) X = Xq.bytesR ER := by
  unfold_out out0_2
  rw [View.canon_unit_zero zero2, View.ld_unit_zero zero2]
  funext (j : S1920x112.Idx)
  obtain ⟨a, n, rfl⟩ : ∃ (a : Fin 1920) (n : Fin 112), j = ix2 a n := ⟨j 0, j 1, eq_ix2 j⟩
  exact bytesR_apply X ER hR a n

theorem out_5 : out0_5 (F := Ideal) X = Xq.wideR X ER := by
  unfold_out out0_5
  rw [View.canon_unit_zero zero2, View.ld_unit_zero zero2]
  funext (j : S1920x3584.Idx)
  obtain ⟨a, n, rfl⟩ : ∃ (a : Fin 1920) (n : Fin 3584), j = ix2 a n := ⟨j 0, j 1, eq_ix2 j⟩
  exact wideR_apply X ER hR a n

end

section
variable (EC : Fin 60 → Fin 3584 → ℤ) (hC : ExpsC X EC)
include hC

theorem expC_apply (b : Fin 60) (n : Fin 3584) : expC X (ix3 b 0 n) = (((EC b n - 8 : ℤ) : ℝ) : EReal) := by
  have ht : k0_pay8 (F := Ideal) X (ix3 b 0 n) = top (fun i => X (ix2 ⟨32 * b.val + i.val, by omega⟩ n)) := by
    unfold k0_pay8
    refine (topsC _ b n).trans ?_
    rw [Wgrad.f32_bot]
    have e : (fun i : Fin 32 => absf (k0_pay7 (F := Ideal) X) (ix3 b i n))
        = fun i => mag (X (ix2 ⟨32 * b.val + i.val, by omega⟩ n)) := funext fun i => congrArg mag (blocksC_apply X b i n)
    rw [e]
    rfl
  unfold expC k0_pay12 k0_pay9 k0_pay10 k0_pay11
  exact expo_val _ _ ht (hC b n)

theorem codesC_apply (i : Fin 1920) (n : Fin 3584) :
    codC X (ix2 i n) = code (EC ⟨i.val / 32, by omega⟩ n) (X (ix2 i n)) := by
  have h : codC X (ix2 i n)
      = min (Ideal.ofBits .f32 0x43E00000#32) (max (Ideal.ofBits .f32 0xC3E00000#32)
          (k0_pay7 (F := Ideal) X (ix3 ⟨i.val / 32, by omega⟩ ⟨i.val % 32, by omega⟩ n)
            * Ideal.exp2 (Ideal.ofBits .f32 0x00000000#32 - expC X (ix3 ⟨i.val / 32, by omega⟩ 0 n)))) := by
    unfold codC k0_pay13
    refine (joinedC _ i n).trans ?_
    refine (code_of _ _ _ _).trans ?_
    rw [repeatedC, factor_of]
  have hi : (⟨32 * (i.val / 32) + i.val % 32, by omega⟩ : Fin 1920) = i := Fin.ext (by show 32 * (i.val / 32) + i.val % 32 = i.val; omega)
  rw [h, blocksC_apply, expC_apply X EC hC, factor_val, Wgrad.f32_max, Wgrad.f32_min]
  show code _ (X (ix2 ⟨32 * (i.val / 32) + i.val % 32, by omega⟩ n)) = _
  rw [hi]

theorem bytesC_apply (b : Fin 60) (n : Fin 3584) : bytC X (ix2 b n) = scaleByte (EC b n) := by
  have e : bytC X (ix2 b n) = BitVec.setWidth 8 (Ideal.fptosi 32 (expC X (ix3 b 0 n)) + 127#32) := by
    unfold bytC k0_pay14 expC
    generalize k0_pay12 (k0_pay9 (F := Ideal) X) (k0_pay10 (F := Ideal) X) (k0_pay11 (F := Ideal)) = w
    pointwise
    rfl
  rw [e, expC_apply X EC hC]
  exact byte_val (hC b n).bounds

theorem wideC_apply (i : Fin 1920) (n : Fin 3584) :
    k0_pay1 (codC X) (k0_pay17 (k0_pay9 (F := Ideal) X) (k0_pay10 (F := Ideal) X) (k0_pay11 (F := Ideal))) 127#32 (ix2 i n)
      = widened (EC ⟨i.val / 32, by omega⟩ n) (X (ix2 i n)) := by
  have e : ∀ (W : FVec Ideal S1920x3584 .fp8e4m3) (B : IVec S60x3584 8),
      k0_pay1 W (extui 32 B natLt_8_32) 127#32 (ix2 i n)
        = W (ix2 i n) * (FloatOps.exp2 (FloatOps.sitofp FTy.f32 (IntOp.subi (BitVec.setWidth 32 (B (ix2 ⟨i.val / 32, by omega⟩ n))) 127#32)) : Ideal .f32) := by
    intro W B
    pointwise [k0_pay1]
  unfold k0_pay17
  refine (e _ _).trans ?_
  rw [codesC_apply X EC hC]
  have hb := bytesC_apply X EC hC ⟨i.val / 32, by omega⟩ n
  unfold bytC at hb
  rw [hb, scale_val (hC _ _).bounds]
  rfl

theorem out_3 : out0_3 (F := Ideal) X = Xq.codesC X EC := by
  unfold_out out0_3
  rw [View.canon_unit_zero zero2, View.ld_unit_zero zero2]
  funext (j : S1920x3584.Idx)
  obtain ⟨a, n, rfl⟩ : ∃ (a : Fin 1920) (n : Fin 3584), j = ix2 a n := ⟨j 0, j 1, eq_ix2 j⟩
  exact codesC_apply X EC hC a n

theorem out_4 : out0_4 (F := Ideal) X = Xq.bytesC EC := by
  unfold_out out0_4
  rw [View.canon_unit_zero zero3, View.ld_unit_zero zero2]
  funext (j : S3x20x3584.Idx)
  obtain ⟨b, q, n, rfl⟩ : ∃ (b : Fin 3) (q : Fin 20) (n : Fin 3584), j = ix3 b q n := ⟨j 0, j 1, j 2, eq_ix3 j⟩
  have h : ∀ w : IVec S60x3584 8, shapeCast S3x20x3584 w shapeCasts_S60x3584_S3x20x3584 (ix3 b q n)
      = w (ix2 ⟨20 * b.val + q.val, by omega⟩ n) := by
    intro w
    pointwise
    exact congrArg (fun r => w (ix2 r n)) (Fin.ext (by show b.val * 20 + q.val = 20 * b.val + q.val; omega))
  unfold k0_pay15
  exact (h _).trans (bytesC_apply X EC hC _ n)

theorem out_6 : out0_6 (F := Ideal) X = Xq.wideC X EC := by
  unfold_out out0_6
  rw [View.canon_unit_zero zero2, View.ld_unit_zero zero2]
  funext (j : S1920x3584.Idx)
  obtain ⟨a, n, rfl⟩ : ∃ (a : Fin 1920) (n : Fin 3584), j = ix2 a n := ⟨j 0, j 1, eq_ix2 j⟩
  exact wideC_apply X EC hC a n

end

end

/-! ## The arrays -/

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)

theorem emb_0 (t : Fin cfg0.N) (j : S1920x3584.Idx) : ((cfg0.win 0).blk t).view.emb j = j := by
  obtain ⟨e0, e1⟩ := index_0 t
  funext i; apply Fin.ext
  match i with
  | ⟨0, _⟩ => show win0_0.index t (0 : Fin 2) * 1920 + 1 * (j 0).val = (j 0).val; omega
  | ⟨1, _⟩ => show win0_0.index t (1 : Fin 2) * 3584 + 1 * (j 1).val = (j 1).val; omega

theorem emb_1 (t : Fin cfg0.N) (j : S1920x3584.Idx) : ((cfg0.win 1).blk t).view.emb j = j := by
  obtain ⟨e0, e1⟩ := index_1 t
  funext i; apply Fin.ext
  match i with
  | ⟨0, _⟩ => show win0_1.index t (0 : Fin 2) * 1920 + 1 * (j 0).val = (j 0).val; omega
  | ⟨1, _⟩ => show win0_1.index t (1 : Fin 2) * 3584 + 1 * (j 1).val = (j 1).val; omega

theorem emb_2 (t : Fin cfg0.N) (j : S1920x112.Idx) : ((cfg0.win 2).blk t).view.emb j = j := by
  obtain ⟨e0, e1⟩ := index_2 t
  funext i; apply Fin.ext
  match i with
  | ⟨0, _⟩ => show win0_2.index t (0 : Fin 2) * 1920 + 1 * (j 0).val = (j 0).val; omega
  | ⟨1, _⟩ => show win0_2.index t (1 : Fin 2) * 112 + 1 * (j 1).val = (j 1).val; omega

theorem emb_3 (t : Fin cfg0.N) (j : S1920x3584.Idx) : ((cfg0.win 3).blk t).view.emb j = j := by
  obtain ⟨e0, e1⟩ := index_3 t
  funext i; apply Fin.ext
  match i with
  | ⟨0, _⟩ => show win0_3.index t (0 : Fin 2) * 1920 + 1 * (j 0).val = (j 0).val; omega
  | ⟨1, _⟩ => show win0_3.index t (1 : Fin 2) * 3584 + 1 * (j 1).val = (j 1).val; omega

theorem emb_4 (t : Fin cfg0.N) (j : S3x20x3584.Idx) : ((cfg0.win 4).blk t).view.emb j = j := by
  obtain ⟨e0, e1, e2⟩ := index_4 t
  funext i; apply Fin.ext
  match i with
  | ⟨0, _⟩ => show win0_4.index t (0 : Fin 3) * 3 + 1 * (j 0).val = (j 0).val; omega
  | ⟨1, _⟩ => show win0_4.index t (1 : Fin 3) * 20 + 1 * (j 1).val = (j 1).val; omega
  | ⟨2, _⟩ => show win0_4.index t (2 : Fin 3) * 3584 + 1 * (j 2).val = (j 2).val; omega

theorem emb_5 (t : Fin cfg0.N) (j : S1920x3584.Idx) : ((cfg0.win 5).blk t).view.emb j = j := by
  obtain ⟨e0, e1⟩ := index_5 t
  funext i; apply Fin.ext
  match i with
  | ⟨0, _⟩ => show win0_5.index t (0 : Fin 2) * 1920 + 1 * (j 0).val = (j 0).val; omega
  | ⟨1, _⟩ => show win0_5.index t (1 : Fin 2) * 3584 + 1 * (j 1).val = (j 1).val; omega

theorem emb_6 (t : Fin cfg0.N) (j : S1920x3584.Idx) : ((cfg0.win 6).blk t).view.emb j = j := by
  obtain ⟨e0, e1⟩ := index_6 t
  funext i; apply Fin.ext
  match i with
  | ⟨0, _⟩ => show win0_6.index t (0 : Fin 2) * 1920 + 1 * (j 0).val = (j 0).val; omega
  | ⟨1, _⟩ => show win0_6.index t (1 : Fin 2) * 3584 + 1 * (j 1).val = (j 1).val; omega

section
variable (m : (ℓ : Loc nD τ sig) → Buf (Elt Ideal) ℓ) (c : Dev nD)

/-- The activations. -/
abbrev acts : FVec Ideal S1920x3584 .bf16 := m ((c : Thread nD τ).loc main_arg0)

theorem block_0 (t : Fin cfg0.N) : iblk m c 0 t = acts m c := by
  funext j; show V m c main_arg0 (((cfg0.win 0).blk t).view.emb j) = V m c main_arg0 j; rw [emb_0]

/-- The one point. -/
abbrev only : Fin cfg0.N := ⟨0, by decide⟩

variable (ER : Fin 1920 → Fin 112 → ℤ) (hR : ExpsR (acts m c) ER) (EC : Fin 60 → Fin 3584 → ℤ) (hC : ExpsC (acts m c) EC)

include hR in
theorem final_1 : (dats m 0 c).arrAt 1 cfg0.N = Xq.codesR (acts m c) ER :=
  (dats m 0 c).arrAt_eq_of_cover 1 _ (fun t _ => by
    show (cfg0.win 1).cut (grid0.coords t) ((dats m 0 c).after 1 t) = _
    rw [after0_1, block_0, out_1 _ ER hR]
    funext j
    show Xq.codesR (acts m c) ER j = Xq.codesR (acts m c) ER (((cfg0.win 1).blk t).view.emb j)
    rw [emb_1]) fun i => ⟨only, flush0_1 _, by
      have h := ((cfg0.win 1).blk only).view.emb_mem_set i; rwa [emb_1] at h⟩

include hR in
theorem final_2 : (dats m 0 c).arrAt 2 cfg0.N = Xq.bytesR ER :=
  (dats m 0 c).arrAt_eq_of_cover 2 _ (fun t _ => by
    show (cfg0.win 2).cut (grid0.coords t) ((dats m 0 c).after 2 t) = _
    rw [after0_2, block_0, out_2 _ ER hR]
    funext j
    show Xq.bytesR ER j = Xq.bytesR ER (((cfg0.win 2).blk t).view.emb j)
    rw [emb_2]) fun i => ⟨only, flush0_2 _, by
      have h := ((cfg0.win 2).blk only).view.emb_mem_set i; rwa [emb_2] at h⟩

include hC in
theorem final_3 : (dats m 0 c).arrAt 3 cfg0.N = Xq.codesC (acts m c) EC :=
  (dats m 0 c).arrAt_eq_of_cover 3 _ (fun t _ => by
    show (cfg0.win 3).cut (grid0.coords t) ((dats m 0 c).after 3 t) = _
    rw [after0_3, block_0, out_3 _ EC hC]
    funext j
    show Xq.codesC (acts m c) EC j = Xq.codesC (acts m c) EC (((cfg0.win 3).blk t).view.emb j)
    rw [emb_3]) fun i => ⟨only, flush0_3 _, by
      have h := ((cfg0.win 3).blk only).view.emb_mem_set i; rwa [emb_3] at h⟩

include hC in
theorem final_4 : (dats m 0 c).arrAt 4 cfg0.N = Xq.bytesC EC :=
  (dats m 0 c).arrAt_eq_of_cover 4 _ (fun t _ => by
    show (cfg0.win 4).cut (grid0.coords t) ((dats m 0 c).after 4 t) = _
    rw [after0_4, block_0, out_4 _ EC hC]
    funext j
    show Xq.bytesC EC j = Xq.bytesC EC (((cfg0.win 4).blk t).view.emb j)
    rw [emb_4]) fun i => ⟨only, flush0_4 _, by
      have h := ((cfg0.win 4).blk only).view.emb_mem_set i; rwa [emb_4] at h⟩

include hR in
theorem final_5 : (dats m 0 c).arrAt 5 cfg0.N = Xq.wideR (acts m c) ER :=
  (dats m 0 c).arrAt_eq_of_cover 5 _ (fun t _ => by
    show (cfg0.win 5).cut (grid0.coords t) ((dats m 0 c).after 5 t) = _
    rw [after0_5, block_0, out_5 _ ER hR]
    funext j
    show Xq.wideR (acts m c) ER j = Xq.wideR (acts m c) ER (((cfg0.win 5).blk t).view.emb j)
    rw [emb_5]) fun i => ⟨only, flush0_5 _, by
      have h := ((cfg0.win 5).blk only).view.emb_mem_set i; rwa [emb_5] at h⟩

include hC in
theorem final_6 : (dats m 0 c).arrAt 6 cfg0.N = Xq.wideC (acts m c) EC :=
  (dats m 0 c).arrAt_eq_of_cover 6 _ (fun t _ => by
    show (cfg0.win 6).cut (grid0.coords t) ((dats m 0 c).after 6 t) = _
    rw [after0_6, block_0, out_6 _ EC hC]
    funext j
    show Xq.wideC (acts m c) EC j = Xq.wideC (acts m c) EC (((cfg0.win 6).blk t).view.emb j)
    rw [emb_6]) fun i => ⟨only, flush0_6 _, by
      have h := ((cfg0.win 6).blk only).view.emb_mem_set i; rwa [emb_6] at h⟩

end

variable (m : (ℓ : Loc nD τ sig) → Buf (Elt Ideal) ℓ) (ρ : Dev nD → PrngReg)

/-- The run, read at its results: the six functions of the argument, and the argument unchanged. -/
theorem run_value (ER : Dev nD → Fin 1920 → Fin 112 → ℤ) (hR : ∀ c, ExpsR (acts m c) (ER c))
    (EC : Dev nD → Fin 60 → Fin 3584 → ℤ) (hC : ∀ c, ExpsC (acts m c) (EC c)) :
    θ_run defs (onTc (τ := τ) (main (F := Ideal))) ⟨m, fun _ => 0, ρ⟩ (fun r => ∀ c : Dev nD,
      r.2.mem ((c : Thread nD τ).loc main_v0_0) = Xq.codesR (acts m c) (ER c)
      ∧ r.2.mem ((c : Thread nD τ).loc main_v0_1) = Xq.bytesR (ER c)
      ∧ r.2.mem ((c : Thread nD τ).loc main_v0_2) = Xq.codesC (acts m c) (EC c)
      ∧ r.2.mem ((c : Thread nD τ).loc main_v0_3) = Xq.bytesC (EC c)
      ∧ r.2.mem ((c : Thread nD τ).loc main_v0_4) = Xq.wideR (acts m c) (ER c)
      ∧ r.2.mem ((c : Thread nD τ).loc main_v0_5) = Xq.wideC (acts m c) (EC c)
      ∧ r.2.mem ((c : Thread nD τ).loc main_arg0) = m ((c : Thread nD τ).loc main_arg0)) :=
  (θ_run defs _ _).mono (fun _ h c => ⟨((h c).1 1).trans (final_1 m c (ER c) (hR c)),
      ((h c).1 2).trans (final_2 m c (ER c) (hR c)), ((h c).1 3).trans (final_3 m c (EC c) (hC c)),
      ((h c).1 4).trans (final_4 m c (EC c) (hC c)), ((h c).1 5).trans (final_5 m c (ER c) (hR c)),
      ((h c).1 6).trans (final_6 m c (EC c) (hC c)),
      ((h c).1 0).trans (((dats m 0 c).arrAt_in 0 rfl _).trans ((A_eq m c 0).trans (V_main_arg0 m c)))⟩)
    (run_main m ρ)

end Cert.XReferenceIdeal.Hand
-- ==== Proof.FValueReference.lean ====
/- What the forward product's reference leaves in its three result arrays after a run over the reals: it is one grid point
   on whole arrays, so each array holds the body's payload of the arguments, read here element by element. -/
module

public import proofs.«01_k».proof.Proof.FResult
public import proofs.«01_k».proof.Proof.XValueReference
public import proofs.«01_k».proof.Proof.Gen.FReferenceIdeal.Frame
public import Idealize.ShloMosaic.Lib.Pipeline.Value

@[expose] public section

set_option maxRecDepth 16384

noncomputable section

namespace Cert.FReferenceIdeal.Hand

open Idealize.ShloMosaic Idealize.ShloMosaic.TcCoe
open Idealize.SL.Sem
open Idealize.ShloMosaic.Pipeline (Dat Cfg Window)
open Cert.FReferenceIdeal Cert.FReferenceIdeal.Gen Cert.FReferenceIdeal.Facts
open Cert.Wgrad (code widened scaleByte top mag)
open Cert.ReferenceIdeal.Hand (code_of factor_of zero2)
open Cert.XReferenceIdeal.Hand (expo_val factor_val byte_val scale_val)

/-! ## Single operations -/

theorem tops (v : FVec Ideal S18944x112x32 .f32) (a : Fin 18944) (b : Fin 112) :
    shapeCast S18944x112x1 (multiReduction .maximumf [2] S18944x112 v 0xFF800000#32 reduces_S18944x112x32_S18944x112 (.inl rfl) rfl)
      shapeCasts_S18944x112_S18944x112x1 (ix3 a b 0) = Finset.fold max (Ideal.ofBits .f32 0xFF800000#32) (fun i => v (ix3 a b i)) Finset.univ := by
  pointwise

theorem joined (v : FVec Ideal S18944x112x32 .fp8e4m3) (a : Fin 18944) (n : Fin 3584) :
    shapeCast S18944x3584 v shapeCasts_S18944x112x32_S18944x3584 (ix2 a n) = v (ix3 a ⟨n.val / 32, by omega⟩ ⟨n.val % 32, by omega⟩) := by
  pointwise

theorem repeated (v : FVec Ideal S18944x112x1 .f32) (a : Fin 18944) (b : Fin 112) (i : Fin 32) :
    broadcastTo S18944x112x32 v broadcasts_S18944x112x1_S18944x112x32 (ix3 a b i) = v (ix3 a b 0) := by
  pointwise

/-! ## The payloads -/

section
variable (W : FVec Ideal S18944x3584 .bf16)

theorem blocks_apply (a : Fin 18944) (b : Fin 112) (i : Fin 32) :
    k0_pay2 (F := Ideal) W (ix3 a b i) = W (ix2 a ⟨32 * b.val + i.val, by omega⟩) := by
  pointwise [k0_pay2]
  exact congrArg (fun r => W (ix2 a r)) (Fin.ext (by show b.val * 32 + i.val = 32 * b.val + i.val; omega))

variable (E : Fin 18944 → Fin 112 → ℤ) (hE : Fp.Exps W E)
include hE

theorem exponent_apply (a : Fin 18944) (b : Fin 112) : k0_pay3 (F := Ideal) W (ix3 a b 0) = (((E a b - 8 : ℤ) : ℝ) : EReal) := by
  have ht : (shapeCast S18944x112x1 (multiReduction .maximumf [2] S18944x112 (absf (k0_pay2 (F := Ideal) W)) 0xFF800000#32
      reduces_S18944x112x32_S18944x112 (.inl rfl) rfl) shapeCasts_S18944x112_S18944x112x1 : FVec Ideal S18944x112x1 .f32) (ix3 a b 0)
        = top (fun i => W (ix2 a ⟨32 * b.val + i.val, by omega⟩)) := by
    rw [tops, Wgrad.f32_bot]
    have e : (fun i : Fin 32 => absf (k0_pay2 (F := Ideal) W) (ix3 a b i))
        = fun i => mag (W (ix2 a ⟨32 * b.val + i.val, by omega⟩)) := funext fun i => congrArg mag (blocks_apply W a b i)
    rw [e]
    rfl
  unfold k0_pay3
  exact expo_val _ _ ht (hE a b)

theorem codes_apply (a : Fin 18944) (n : Fin 3584) :
    k0_pay4 (F := Ideal) W (ix2 a n) = code (E a ⟨n.val / 32, by omega⟩) (W (ix2 a n)) := by
  have h : k0_pay4 (F := Ideal) W (ix2 a n)
      = min (Ideal.ofBits .f32 0x43E00000#32) (max (Ideal.ofBits .f32 0xC3E00000#32)
          (k0_pay2 (F := Ideal) W (ix3 a ⟨n.val / 32, by omega⟩ ⟨n.val % 32, by omega⟩)
            * Ideal.exp2 (Ideal.ofBits .f32 0x00000000#32 - k0_pay3 (F := Ideal) W (ix3 a ⟨n.val / 32, by omega⟩ 0)))) := by
    unfold k0_pay4
    refine (joined _ a n).trans ?_
    refine (code_of _ _ _ _).trans ?_
    rw [repeated, factor_of]
  have hn : (⟨32 * (n.val / 32) + n.val % 32, by omega⟩ : Fin 3584) = n := Fin.ext (by show 32 * (n.val / 32) + n.val % 32 = n.val; omega)
  rw [h, blocks_apply, exponent_apply W E hE, factor_val, Wgrad.f32_max, Wgrad.f32_min]
  show code _ (W (ix2 a ⟨32 * (n.val / 32) + n.val % 32, by omega⟩)) = _
  rw [hn]

theorem bytes_apply (a : Fin 18944) (b : Fin 112) : k0_pay5 (F := Ideal) W (ix2 a b) = scaleByte (E a b) := by
  pointwise [k0_pay5]
  rw [exponent_apply W E hE]
  exact byte_val (hE a b).bounds

theorem scale_apply (a : Fin 18944) (b : Fin 112) : k0_pay6 (F := Ideal) W (ix2 a b) = Wgrad.two (E a b - 8) := by
  pointwise [k0_pay6]
  rw [bytes_apply W E hE, scale_val (hE _ _).bounds]

/-! ## The body's results -/

variable (X : FVec Ideal S1920x3584 .bf16)

theorem prod_apply (r : Fin 1920) (l : Fin 18944) :
    k0_pay1 (F := Ideal) (k0_pay6 (F := Ideal) W) (k0_pay7 (F := Ideal) W) X (ix2 r l) = Fp.prodAll X W E (ix2 r l) := by
  have h : ∀ (s : FVec Ideal S18944x112 .bf16) (C : FVec Ideal S18944x3584 .bf16), k0_pay1 (F := Ideal) s C X (ix2 r l)
      = ∑ n : Fin 3584, (X (ix2 r n) * (C (ix2 l n) * s (ix2 l ⟨n.val / 32, by omega⟩)) : EReal) := by
    intro s C
    pointwise [k0_pay1]
  rw [h]
  refine Finset.sum_congr rfl fun n _ => ?_
  have hc : k0_pay7 (F := Ideal) W (ix2 l n) = code (E l ⟨n.val / 32, by omega⟩) (W (ix2 l n)) := codes_apply W E hE l n
  rw [hc, scale_apply W E hE]
  rfl

theorem out_2 : out0_2 (F := Ideal) X W = Fp.prodAll X W E := by
  unfold out0_2
  rw [View.canon_unit_zero zero2, View.ld_unit_zero zero2, View.ld_unit_zero zero2]
  funext (j : S1920x18944.Idx)
  obtain ⟨r, l, rfl⟩ : ∃ (r : Fin 1920) (l : Fin 18944), j = ix2 r l := ⟨j 0, j 1, eq_ix2 j⟩
  exact prod_apply W E hE X r l

theorem out_3 : out0_3 (F := Ideal) X W = Fp.codesAll W E := by
  unfold out0_3
  rw [View.canon_unit_zero zero2, View.ld_unit_zero zero2]
  funext (j : S18944x3584.Idx)
  obtain ⟨a, n, rfl⟩ : ∃ (a : Fin 18944) (n : Fin 3584), j = ix2 a n := ⟨j 0, j 1, eq_ix2 j⟩
  exact codes_apply W E hE a n

theorem out_4 : out0_4 (F := Ideal) X W = Fp.bytesAll E := by
  unfold out0_4
  rw [View.canon_unit_zero zero2, View.ld_unit_zero zero2]
  funext (j : S18944x112.Idx)
  obtain ⟨a, b, rfl⟩ : ∃ (a : Fin 18944) (b : Fin 112), j = ix2 a b := ⟨j 0, j 1, eq_ix2 j⟩
  exact bytes_apply W E hE a b

end

/-! ## The arrays -/

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)

theorem emb_0 (t : Fin cfg0.N) (j : S1920x3584.Idx) : ((cfg0.win 0).blk t).view.emb j = j := by
  obtain ⟨e0, e1⟩ := index_0 t
  funext i; apply Fin.ext
  match i with
  | ⟨0, _⟩ => show win0_0.index t (0 : Fin 2) * 1920 + 1 * (j 0).val = (j 0).val; omega
  | ⟨1, _⟩ => show win0_0.index t (1 : Fin 2) * 3584 + 1 * (j 1).val = (j 1).val; omega

theorem emb_1 (t : Fin cfg0.N) (j : S18944x3584.Idx) : ((cfg0.win 1).blk t).view.emb j = j := by
  obtain ⟨e0, e1⟩ := index_1 t
  funext i; apply Fin.ext
  match i with
  | ⟨0, _⟩ => show win0_1.index t (0 : Fin 2) * 18944 + 1 * (j 0).val = (j 0).val; omega
  | ⟨1, _⟩ => show win0_1.index t (1 : Fin 2) * 3584 + 1 * (j 1).val = (j 1).val; omega

theorem emb_2 (t : Fin cfg0.N) (j : S1920x18944.Idx) : ((cfg0.win 2).blk t).view.emb j = j := by
  obtain ⟨e0, e1⟩ := index_2 t
  funext i; apply Fin.ext
  match i with
  | ⟨0, _⟩ => show win0_2.index t (0 : Fin 2) * 1920 + 1 * (j 0).val = (j 0).val; omega
  | ⟨1, _⟩ => show win0_2.index t (1 : Fin 2) * 18944 + 1 * (j 1).val = (j 1).val; omega

theorem emb_3 (t : Fin cfg0.N) (j : S18944x3584.Idx) : ((cfg0.win 3).blk t).view.emb j = j := by
  obtain ⟨e0, e1⟩ := index_3 t
  funext i; apply Fin.ext
  match i with
  | ⟨0, _⟩ => show win0_3.index t (0 : Fin 2) * 18944 + 1 * (j 0).val = (j 0).val; omega
  | ⟨1, _⟩ => show win0_3.index t (1 : Fin 2) * 3584 + 1 * (j 1).val = (j 1).val; omega

theorem emb_4 (t : Fin cfg0.N) (j : S18944x112.Idx) : ((cfg0.win 4).blk t).view.emb j = j := by
  obtain ⟨e0, e1⟩ := index_4 t
  funext i; apply Fin.ext
  match i with
  | ⟨0, _⟩ => show win0_4.index t (0 : Fin 2) * 18944 + 1 * (j 0).val = (j 0).val; omega
  | ⟨1, _⟩ => show win0_4.index t (1 : Fin 2) * 112 + 1 * (j 1).val = (j 1).val; omega

section
variable (m : (ℓ : Loc nD τ sig) → Buf (Elt Ideal) ℓ) (c : Dev nD)

/-- The other operand. -/
abbrev other : FVec Ideal S1920x3584 .bf16 := m ((c : Thread nD τ).loc main_arg0)
/-- The weights. -/
abbrev weights : FVec Ideal S18944x3584 .bf16 := m ((c : Thread nD τ).loc main_arg1)

theorem block_0 (t : Fin cfg0.N) : iblk m c 0 t = other m c := by
  funext j; show V m c main_arg0 (((cfg0.win 0).blk t).view.emb j) = V m c main_arg0 j; rw [emb_0]
theorem block_1 (t : Fin cfg0.N) : iblk m c 1 t = weights m c := by
  funext j; show V m c main_arg1 (((cfg0.win 1).blk t).view.emb j) = V m c main_arg1 j; rw [emb_1]

/-- The one point. -/
abbrev only : Fin cfg0.N := ⟨0, by decide⟩

variable (E : Fin 18944 → Fin 112 → ℤ) (hE : Fp.Exps (weights m c) E)
include hE

theorem final_2 : (dats m 0 c).arrAt 2 cfg0.N = Fp.prodAll (other m c) (weights m c) E :=
  (dats m 0 c).arrAt_eq_of_cover 2 _ (fun t _ => by
    show (cfg0.win 2).cut (grid0.coords t) ((dats m 0 c).after 2 t) = _
    rw [after0_2, block_0, block_1, out_2 _ E hE]
    funext j
    show Fp.prodAll (other m c) (weights m c) E j = Fp.prodAll (other m c) (weights m c) E (((cfg0.win 2).blk t).view.emb j)
    rw [emb_2]) fun i => ⟨only, flush0_2 _, by
      have h := ((cfg0.win 2).blk only).view.emb_mem_set i; rwa [emb_2] at h⟩

theorem final_3 : (dats m 0 c).arrAt 3 cfg0.N = Fp.codesAll (weights m c) E :=
  (dats m 0 c).arrAt_eq_of_cover 3 _ (fun t _ => by
    show (cfg0.win 3).cut (grid0.coords t) ((dats m 0 c).after 3 t) = _
    rw [after0_3, block_0, block_1, out_3 _ E hE]
    funext j
    show Fp.codesAll (weights m c) E j = Fp.codesAll (weights m c) E (((cfg0.win 3).blk t).view.emb j)
    rw [emb_3]) fun i => ⟨only, flush0_3 _, by
      have h := ((cfg0.win 3).blk only).view.emb_mem_set i; rwa [emb_3] at h⟩

theorem final_4 : (dats m 0 c).arrAt 4 cfg0.N = Fp.bytesAll E :=
  (dats m 0 c).arrAt_eq_of_cover 4 _ (fun t _ => by
    show (cfg0.win 4).cut (grid0.coords t) ((dats m 0 c).after 4 t) = _
    rw [after0_4, block_0, block_1, out_4 _ E hE]
    funext j
    show Fp.bytesAll E j = Fp.bytesAll E (((cfg0.win 4).blk t).view.emb j)
    rw [emb_4]) fun i => ⟨only, flush0_4 _, by
      have h := ((cfg0.win 4).blk only).view.emb_mem_set i; rwa [emb_4] at h⟩

end

variable (m : (ℓ : Loc nD τ sig) → Buf (Elt Ideal) ℓ) (ρ : Dev nD → PrngReg)

/-- The run, read at its results: the three functions of the arguments, and the arguments unchanged. -/
theorem run_value (E : Dev nD → Fin 18944 → Fin 112 → ℤ) (hE : ∀ c, Fp.Exps (weights m c) (E c)) :
    θ_run defs (onTc (τ := τ) (main (F := Ideal))) ⟨m, fun _ => 0, ρ⟩ (fun r => ∀ c : Dev nD,
      r.2.mem ((c : Thread nD τ).loc main_v0_0) = Fp.prodAll (other m c) (weights m c) (E c)
      ∧ r.2.mem ((c : Thread nD τ).loc main_v0_1) = Fp.codesAll (weights m c) (E c)
      ∧ r.2.mem ((c : Thread nD τ).loc main_v0_2) = Fp.bytesAll (E c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h c).1 2).trans (final_2 m c (E c) (hE c)),
      ((h c).1 3).trans (final_3 m c (E c) (hE c)), ((h c).1 4).trans (final_4 m c (E c) (hE c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.FReferenceIdeal.Hand
-- ==== Proof.XProgram.lean ====
/- The body of the activation quantiser, written once over what it stores.

   The printed body spells out, for each of twenty blocks of 32 rows, seven groups of 512 columns and in each group four
   tiles of 128 columns. Here each is one definition with an index. A tile's row maxima are taken in the lanes: three
   exchanges between lanes merge the four tiles, so that a lane ends with the maximum of one block of 32 columns. -/
module

public import proofs.«01_k».proof.Proof.Payload

@[expose] public section

noncomputable section

namespace Cert.Xq

open Idealize.ShloMosaic Idealize.SL.Sem
open Cert.Wgrad (S32x512 S16x512 S8x512 S1x512 slices_S8x512_S1x512 lt_fp8_bf16 lt_bf16_f32 lt_8_32 pos_S32x512 payOf swapRows)

abbrev S640x3584 : Shape := ⟨2, ![640, 3584]⟩
abbrev S640x112 : Shape := ⟨2, ![640, 112]⟩
abbrev S24x3584 : Shape := ⟨2, ![24, 3584]⟩
abbrev S20x3584 : Shape := ⟨2, ![20, 3584]⟩
abbrev S1x20x3584 : Shape := ⟨3, ![1, 20, 3584]⟩
abbrev S32x128 : Shape := ⟨2, ![32, 128]⟩
abbrev S16x128 : Shape := ⟨2, ![16, 128]⟩
abbrev S16x128x1 : Shape := ⟨3, ![16, 128, 1]⟩
abbrev S32x112 : Shape := ⟨2, ![32, 112]⟩

theorem pos_S32x128 : 0 < S32x128.numel := by decide
theorem pos_S32x112 : 0 < S32x112.numel := by decide
theorem pos_S1x512 : 0 < S1x512.numel := by decide
theorem pos_S20x3584 : 0 < S20x3584.numel := by decide
theorem pos_S1x20x3584 : 0 < S1x20x3584.numel := by decide
theorem tile_slices : ∀ c : Fin 4, S32x512.Slices ![0, 128 * c.val] S32x128 := by decide
theorem half_slices : ∀ h : Fin 2, S32x128.Slices ![16 * h.val, 0] S16x128 := by decide
theorem iota_wf : S16x128.Iotas .tc 32 [1] := by decide
theorem casts_lane : S16x128.ShapeCasts S16x128x1 := by decide
theorem casts_lane' : S16x128x1.ShapeCasts S16x128 := by decide
theorem concats_S32x128 : Shape.Concatenates [S16x128, S16x128] S32x128 0 := by decide
theorem slices_S32x112 : S32x128.Slices ![0, 0] S32x112 := by decide
theorem casts_S1x512 : S1x512.ShapeCasts S1x512 := by decide
theorem casts_bytes : S20x3584.ShapeCasts S1x20x3584 := by decide
theorem words_inb : ∀ a, (![0, 0] : Fin 2 → Nat) a + S20x3584.size a ≤ S24x3584.size a := by decide
theorem bytes_inb : ∀ a, (![0, 0, 0] : Fin 3 → Nat) a + S1x20x3584.size a ≤ S1x20x3584.size a := by decide
theorem bytes_packed : (Rect.unit (s := S1x20x3584) ![0, 0, 0] S1x20x3584.size bytes_inb).PackedRows (EltTy.packing .i8) := by
  decide

variable {F : FTy → Type} [FloatOps F]

/-! ## The powers of two of a group -/

/-- One step of the search for a power of two: multiply by `c` unless that passes `a`. -/
def climb (a p : FVec F S32x512 .bf16) (c : BitVec 16) : FVec F S32x512 .bf16 :=
  let q := mulf p (broadcast S32x512 (Scalar.ofBits .bf16 c : F .bf16))
  select (cmpf .olt a q) p q

/-- The largest power of two at most the magnitude of each element, zero for the subnormal ones. -/
def powers (v : FVec F S32x512 .bf16) : FVec F S32x512 .bf16 :=
  let a := absf v
  let least : FVec F S32x512 .bf16 := broadcast S32x512 (Scalar.ofBits .bf16 0x0080#16 : F .bf16)
  let p := climb a (climb a (climb a (climb a (climb a (climb a (climb a (climb a (climb a least
    0x5F80#16) 0x5F80#16) 0x5F80#16) 0x4F80#16) 0x4780#16) 0x4380#16) 0x4180#16) 0x4080#16) 0x4000#16
  select (cmpf .olt a least) (broadcast S32x512 (Scalar.ofBits .bf16 0x0000#16 : F .bf16)) p

/-! ## Lanes -/

/-- The number of each lane. -/
def lane : IVec S16x128 32 := iota .tc S16x128 32 [1] iota_wf

/-- Each lane takes the value of the lane that `idx` names. -/
def take (m : FVec F S16x128 .bf16) (idx : IVec S16x128 32) : FVec F S16x128 .bf16 :=
  truncf .bf16 (dynamicGather 1 (extf .f32 m lt_bf16_f32)
    (shapeCast S16x128 (shapeCast S16x128x1
      (select (cmpi .slt idx (broadcast S16x128 0#32)) (addi idx (broadcast S16x128 128#32)) idx) casts_lane) casts_lane')
    : FVec F S16x128 .f32) lt_bf16_f32

/-- Is a bit of the lane's number set? -/
def bit (n : BitVec 32) : IVec S16x128 1 := cmpi .ne (andi lane (broadcast S16x128 n)) (broadcast S16x128 0#32)

/-- The lanes with the bit `n` clear end with the maximum of `a` over the lane and the one that differs in that bit,
    the lanes with the bit set with that of `b`. -/
def merge (a b : FVec F S16x128 .bf16) (n : BitVec 32) : FVec F S16x128 .bf16 :=
  maximumf (select (bit n) b a) (take (select (bit n) a b) (xori lane (broadcast S16x128 n)))

/-- The maximum over the lane and the one that differs in the bit `n`. -/
def fold (m : FVec F S16x128 .bf16) (n : BitVec 32) : FVec F S16x128 .bf16 :=
  maximumf m (take m (xori lane (broadcast S16x128 n)))

/-- Tile `c` of a group. -/
def tileOf {e : FTy} (v : FVec F S32x512 e) (c : Fin 4) : FVec F S32x128 e :=
  extractStridedSlice S32x128 ![0, 128 * c.val] v (tile_slices c)

/-- Half `h` of the rows of a tile. -/
def halfOf (p : FVec F S32x128 .bf16) (h : Fin 2) : FVec F S16x128 .bf16 :=
  extractStridedSlice S16x128 ![16 * h.val, 0] p (half_slices h)

/-- The maximum of the powers over each block of 32 columns, for half `h` of the rows: lane `l` holds that of block
    `l / 32` of one of the four tiles; 256 where it is zero. -/
def laneMax (p : FVec F S32x512 .bf16) (h : Fin 2) : FVec F S16x128 .bf16 :=
  let m01 := merge (halfOf (tileOf p 0) h) (halfOf (tileOf p 1) h) 16#32
  let m23 := merge (halfOf (tileOf p 2) h) (halfOf (tileOf p 3) h) 16#32
  let m := fold (fold (fold (merge m01 m23 8#32) 4#32) 2#32) 1#32
  select (cmpf .oeq m (broadcast S16x128 (Scalar.ofBits .bf16 0x0000#16 : F .bf16)))
    (broadcast S16x128 (Scalar.ofBits .bf16 0x4380#16 : F .bf16)) m

/-- The lane that holds tile `c`'s maximum of a lane's block. -/
def src (c : Fin 4) : IVec S16x128 32 :=
  addi (addi (andi lane (broadcast S16x128 96#32)) (broadcast S16x128 ((![0#32, 16#32, 0#32, 16#32] : Fin 4 → BitVec 32) c)))
    (broadcast S16x128 ((![0#32, 0#32, 8#32, 8#32] : Fin 4 → BitVec 32) c))

/-- The least scale. -/
def floorOf (m : FVec F S16x128 .bf16) : FVec F S16x128 .bf16 :=
  maximumf m (broadcast S16x128 (Scalar.ofBits .bf16 0x0380#16 : F .bf16))

/-- The power of two that each element of tile `c` is scaled by. -/
def scaleTile (p : FVec F S32x512 .bf16) (c : Fin 4) : FVec F S32x128 .bf16 :=
  concatenate S32x128 0 [⟨S16x128, take (floorOf (laneMax p 0)) (src c)⟩, ⟨S16x128, take (floorOf (laneMax p 1)) (src c)⟩]
    concats_S32x128

/-- The codes of a tile at its scales. -/
def tileCodes (v t : FVec F S32x128 .bf16) : FVec F S32x128 .fp8e4m3 :=
  truncf .fp8e4m3
    (minimumf (broadcast S32x128 (Scalar.ofBits .bf16 0x43E0#16 : F .bf16))
      (maximumf (broadcast S32x128 (Scalar.ofBits .bf16 0xC3E0#16 : F .bf16))
        (mulf v (divf (broadcast S32x128 (Scalar.ofBits .bf16 0x4380#16 : F .bf16)) t)))) lt_fp8_bf16

/-- The codes of a tile times their scales. -/
def tileWide (v t : FVec F S32x128 .bf16) : FVec F S32x128 .bf16 :=
  mulf (extf .bf16 (tileCodes v t) lt_fp8_bf16) (mulf t (broadcast S32x128 (Scalar.ofBits .bf16 0x3B80#16 : F .bf16)))

/-- The lane that holds the maximum of block `l` of all the columns, when group `g`'s maxima stand in the lanes that are
    `g` modulo 8. -/
def compact : IVec S16x128 32 :=
  let b n : IVec S16x128 32 := broadcast S16x128 n
  let l := subi lane (b 0#32)
  andi (addi (addi (addi (muli (andi l (b 3#32)) (b 32#32)) (muli (andi (shrsi l (b 2#32)) (b 1#32)) (b 16#32)))
    (muli (andi (shrsi l (b 3#32)) (b 1#32)) (b 8#32))) (andi (shrsi l (b 4#32)) (b 7#32))) (b 127#32)

/-- Is a lane `n` modulo 8? -/
def isGroup (n : BitVec 32) : IVec S16x128 1 :=
  cmpi .eq (andi lane (broadcast S16x128 7#32)) (broadcast S16x128 n)

/-- The words of the scales of all the blocks of columns: 128 times the exponent, offset by 127. -/
def rowWord (m0 m1 m2 m3 m4 m5 m6 : FVec F S16x128 .bf16) : IVec S16x128 32 :=
  let m := select (isGroup 6#32) m6 (select (isGroup 5#32) m5 (select (isGroup 4#32) m4 (select (isGroup 3#32) m3
    (select (isGroup 2#32) m2 (select (isGroup 1#32) m1 m0)))))
  shli (fptosi 32 (addf (divf (log (extf .f32 (take m compact) lt_bf16_f32))
    (log (broadcast S16x128 (Scalar.ofBits .f32 0x40000000#32 : F .f32))))
    (broadcast S16x128 (Scalar.ofBits .f32 0x42FF0000#32 : F .f32)))) (broadcast S16x128 7#32)

/-- The scale bytes of 32 rows. -/
def rowBytes (w0 w1 : IVec S16x128 32) : IVec S32x112 8 :=
  trunci 8 (extractStridedSlice S32x112 ![0, 0]
    (andi (subi (shrsi (concatenate S32x128 0 [⟨S16x128, w0⟩, ⟨S16x128, w1⟩] concats_S32x128 : IVec S32x128 32)
      (broadcast S32x128 7#32)) (broadcast S32x128 8#32)) (broadcast S32x128 255#32)) slices_S32x112) lt_8_32

/-- The scale bytes of twenty blocks of rows. -/
def colBytes (w : Vec F S20x3584 .i32) : IVec S20x3584 8 :=
  trunci 8 (andi (subi (shrsi (w : IVec S20x3584 32) (broadcast S20x3584 7#32)) (broadcast S20x3584 8#32))
    (broadcast S20x3584 255#32)) lt_8_32

/-- The row of words of a group's columns. -/
def wordRow (p : FVec F S32x512 .bf16) : IVec S1x512 32 :=
  shapeCast S1x512 (extractStridedSlice S1x512 ![0, 0] ((payOf (F := F) swapRows).word p) slices_S8x512_S1x512) casts_S1x512

/-- Where one block of 32 rows stores. -/
structure Offs where
  /-- The groups. -/
  g : Fin 7 → Fin 2 → Nat
  g_inb : ∀ q a, g q a + S32x512.size a ≤ S640x3584.size a
  g_fp8 : ∀ q, (Rect.unit (s := S640x3584) (g q) S32x512.size (g_inb q)).PackedRows (EltTy.packing .fp8e4m3)
  g_bf16 : ∀ q, (Rect.unit (s := S640x3584) (g q) S32x512.size (g_inb q)).PackedRows (EltTy.packing .bf16)
  /-- The tiles. -/
  t : Fin 7 → Fin 4 → Fin 2 → Nat
  t_inb : ∀ q c a, t q c a + S32x128.size a ≤ S640x3584.size a
  t_fp8 : ∀ q c, (Rect.unit (s := S640x3584) (t q c) S32x128.size (t_inb q c)).PackedRows (EltTy.packing .fp8e4m3)
  t_bf16 : ∀ q c, (Rect.unit (s := S640x3584) (t q c) S32x128.size (t_inb q c)).PackedRows (EltTy.packing .bf16)
  /-- The words of the columns' scales. -/
  w : Fin 7 → Fin 2 → Nat
  w_inb : ∀ q a, w q a + S1x512.size a ≤ S24x3584.size a
  /-- The bytes of the rows' scales. -/
  s : Fin 2 → Nat
  s_inb : ∀ a, s a + S32x112.size a ≤ S640x112.size a
  s_i8 : (Rect.unit (s := S640x112) s S32x112.size s_inb).PackedRows (EltTy.packing .i8)

variable {nD : Nat} {τ : Topo} {sig : RefSig} {Λ : Labels}

section Body

variable
  (a1 : Memref sig .tc .vmem S640x3584 .bf16)
  (a2 : Memref sig .tc .vmem S640x3584 .fp8e4m3) (h2 : a2.IsWhole)
  (a3 : Memref sig .tc .vmem S640x112 .i8) (h3 : a3.IsWhole)
  (a4 : Memref sig .tc .vmem S640x3584 .fp8e4m3) (h4 : a4.IsWhole)
  (a5 : Memref sig .tc .vmem S1x20x3584 .i8) (h5 : a5.IsWhole)
  (a6 : Memref sig .tc .vmem S640x3584 .bf16) (h6 : a6.IsWhole)
  (a7 : Memref sig .tc .vmem S640x3584 .bf16) (h7 : a7.IsWhole)
  (a8 : Memref sig .tc .vmem S24x3584 .i32)
  (o : Offs)

/-- Quantise the rows of tile `c` of group `q`. -/
def tile (q : Fin 7) (c : Fin 4) (v : FVec F S32x512 .bf16) : Prog (TpuEff nD τ sig (Elt F) Λ .tc) PUnit := do
  let _ : Vec F S32x128 .fp8e4m3 ← Prog.lift (.load a2
    (Rect.unit (s := S640x3584) (o.t q c) S32x128.size (o.t_inb q c)).toLoadRect (View.loadsAt_vmem pos_S32x128))
  Prog.lift (.store a2 (Rect.unit (s := S640x3584) (o.t q c) S32x128.size (o.t_inb q c))
    (tileCodes (tileOf v c) (scaleTile (powers v) c)) Finset.univ
    (View.stores_vmem pos_S32x128 (h2.storeExact_slice rfl _ (o.t_fp8 q c)) (fun _ => rfl)) (.inl rfl))
  let _ : Vec F S32x128 .bf16 ← Prog.lift (.load a6
    (Rect.unit (s := S640x3584) (o.t q c) S32x128.size (o.t_inb q c)).toLoadRect (View.loadsAt_vmem pos_S32x128))
  Prog.lift (.store a6 (Rect.unit (s := S640x3584) (o.t q c) S32x128.size (o.t_inb q c))
    (tileWide (tileOf v c) (scaleTile (powers v) c)) Finset.univ
    (View.stores_vmem pos_S32x128 (h6.storeExact_slice rfl _ (o.t_bf16 q c)) (fun _ => rfl)) (.inl rfl))

/-- Quantise the columns of group `q`. -/
def cols (q : Fin 7) (v : FVec F S32x512 .bf16) : Prog (TpuEff nD τ sig (Elt F) Λ .tc) PUnit := do
  let _ : Vec F S32x512 .fp8e4m3 ← Prog.lift (.load a4
    (Rect.unit (s := S640x3584) (o.g q) S32x512.size (o.g_inb q)).toLoadRect (View.loadsAt_vmem pos_S32x512))
  Prog.lift (.store a4 (Rect.unit (s := S640x3584) (o.g q) S32x512.size (o.g_inb q))
    ((payOf swapRows).codes v (powers v)) Finset.univ
    (View.stores_vmem pos_S32x512 (h4.storeExact_slice rfl _ (o.g_fp8 q)) (fun _ => rfl)) (.inl rfl))
  let _ : Vec F S32x512 .bf16 ← Prog.lift (.load a7
    (Rect.unit (s := S640x3584) (o.g q) S32x512.size (o.g_inb q)).toLoadRect (View.loadsAt_vmem pos_S32x512))
  Prog.lift (.store a7 (Rect.unit (s := S640x3584) (o.g q) S32x512.size (o.g_inb q))
    ((payOf swapRows).wide v (powers v)) Finset.univ
    (View.stores_vmem pos_S32x512 (h7.storeExact_slice rfl _ (o.g_bf16 q)) (fun _ => rfl)) (.inl rfl))
  let _ : Vec F S1x512 .i32 ← Prog.lift (.load a8
    (Rect.unit (s := S24x3584) (o.w q) S1x512.size (o.w_inb q)).toLoadRect (View.loadsAt_vmem pos_S1x512))
  Prog.lift (.store a8 (Rect.unit (s := S24x3584) (o.w q) S1x512.size (o.w_inb q))
    (wordRow (powers v)) Finset.univ (View.stores_vmem_bits_univ pos_S1x512 rfl) (.inl rfl))

/-- Load group `q`. -/
def fetch (q : Fin 7) : Prog (TpuEff nD τ sig (Elt F) Λ .tc) (Vec F S32x512 .bf16) :=
  Prog.lift (.load a1 (Rect.unit (s := S640x3584) (o.g q) S32x512.size (o.g_inb q)).toLoadRect
    (View.loadsAt_vmem pos_S32x512))

/-- Quantise group `q`, and give its elements. -/
def group (q : Fin 7) : Prog (TpuEff nD τ sig (Elt F) Λ .tc) (FVec F S32x512 .bf16) := do
  let v : Vec F S32x512 .bf16 ← fetch a1 o q
  tile a2 h2 a6 h6 o q 0 v
  tile a2 h2 a6 h6 o q 1 v
  tile a2 h2 a6 h6 o q 2 v
  tile a2 h2 a6 h6 o q 3 v
  cols a4 h4 a7 h7 a8 o q v
  pure v

/-- The scale bytes of the rows of a block. -/
def bytesOf (v0 v1 v2 v3 v4 v5 v6 : FVec F S32x512 .bf16) : IVec S32x112 8 :=
  rowBytes
    (rowWord (laneMax (powers v0) 0) (laneMax (powers v1) 0) (laneMax (powers v2) 0) (laneMax (powers v3) 0)
      (laneMax (powers v4) 0) (laneMax (powers v5) 0) (laneMax (powers v6) 0))
    (rowWord (laneMax (powers v0) 1) (laneMax (powers v1) 1) (laneMax (powers v2) 1) (laneMax (powers v3) 1)
      (laneMax (powers v4) 1) (laneMax (powers v5) 1) (laneMax (powers v6) 1))

/-- Store the scale bytes of the rows of a block. -/
def putBytes (b : IVec S32x112 8) : Prog (TpuEff nD τ sig (Elt F) Λ .tc) PUnit := do
  let _ : Vec F S32x112 .i8 ← Prog.lift (.load a3
    (Rect.unit (s := S640x112) o.s S32x112.size o.s_inb).toLoadRect (View.loadsAt_vmem pos_S32x112))
  Prog.lift (.store a3 (Rect.unit (s := S640x112) o.s S32x112.size o.s_inb) b Finset.univ
    (View.stores_vmem pos_S32x112 (h3.storeExact_slice rfl _ o.s_i8) (fun _ => rfl)) (.inl rfl))

/-- One block of 32 rows. -/
def trip : Prog (TpuEff nD τ sig (Elt F) Λ .tc) PUnit := do
  let v0 ← group a1 a2 h2 a4 h4 a6 h6 a7 h7 a8 o 0
  let v1 ← group a1 a2 h2 a4 h4 a6 h6 a7 h7 a8 o 1
  let v2 ← group a1 a2 h2 a4 h4 a6 h6 a7 h7 a8 o 2
  let v3 ← group a1 a2 h2 a4 h4 a6 h6 a7 h7 a8 o 3
  let v4 ← group a1 a2 h2 a4 h4 a6 h6 a7 h7 a8 o 4
  let v5 ← group a1 a2 h2 a4 h4 a6 h6 a7 h7 a8 o 5
  let v6 ← group a1 a2 h2 a4 h4 a6 h6 a7 h7 a8 o 6
  putBytes a3 h3 o (bytesOf v0 v1 v2 v3 v4 v5 v6)

/-- Turn the words of the columns' scales into bytes. -/
def readWords : Prog (TpuEff nD τ sig (Elt F) Λ .tc) (IVec S20x3584 8) := do
  let w : Vec F S20x3584 .i32 ← Prog.lift (.load a8
    (Rect.unit (s := S24x3584) ![0, 0] S20x3584.size words_inb).toLoadRect (View.loadsAt_vmem pos_S20x3584))
  pure (colBytes w)

/-- Store the scale bytes of the columns. -/
def putCols (b : IVec S20x3584 8) : Prog (TpuEff nD τ sig (Elt F) Λ .tc) PUnit := do
  let _ : Vec F S1x20x3584 .i8 ← Prog.lift (.load a5
    (Rect.unit (s := S1x20x3584) ![0, 0, 0] S1x20x3584.size bytes_inb).toLoadRect (View.loadsAt_vmem pos_S1x20x3584))
  Prog.lift (.store a5 (Rect.unit (s := S1x20x3584) ![0, 0, 0] S1x20x3584.size bytes_inb)
    (shapeCast S1x20x3584 b casts_bytes : IVec S1x20x3584 8) Finset.univ
    (View.stores_vmem pos_S1x20x3584 (h5.storeExact_slice rfl _ bytes_packed) (fun _ => rfl)) (.inl rfl))

end Body

end Cert.Xq
-- ==== Proof.FProgram.lean ====
/- The body of the forward product, written once over what it stores.

   The printed body spells out sixteen strips of 32 rows of the weights, seven groups of 512 columns in each strip, four
   tiles of 128 columns in each group, and four row blocks of the product. Here each is one definition with an index.
   The exchange of lanes is that of the activation quantiser, on f32 rows. -/
module

public import proofs.«01_k».proof.Proof.XProgram

@[expose] public section

noncomputable section

namespace Cert.Fp

open Idealize.ShloMosaic Idealize.SL.Sem
open Cert.Wgrad (S1920x3584 S1920x512 S512x3584 S32x512 lt_bf16_f32 pos_S32x512)
open Cert.Xq (S32x128 S16x128 S16x128x1 S32x112 pos_S32x128 pos_S32x112 tile_slices half_slices casts_lane casts_lane'
  concats_S32x128 lane bit compact isGroup src tileOf tileCodes tileWide rowBytes)

abbrev S512x112 : Shape := ⟨2, ![512, 112]⟩
abbrev S2x512x3584 : Shape := ⟨3, ![2, 512, 3584]⟩
abbrev S1x512x3584 : Shape := ⟨3, ![1, 512, 3584]⟩
abbrev S1x32x128 : Shape := ⟨3, ![1, 32, 128]⟩
abbrev S480x3584 : Shape := ⟨2, ![480, 3584]⟩
abbrev S480x512 : Shape := ⟨2, ![480, 512]⟩

/-! ## Where the strips, groups, tiles and row blocks lie -/

theorem group_inb : ∀ (b : Fin 16) (g : Fin 7) (a : Fin 2),
    (![32 * b.val, 512 * g.val] : Fin 2 → Nat) a + S32x512.size a ≤ S512x3584.size a := by decide
theorem group_slices : ∀ (b : Fin 16) (g : Fin 7), S512x3584.Slices ![32 * b.val, 512 * g.val] S32x512 := by decide
theorem tile_inb : ∀ (b : Fin 16) (g : Fin 7) (c : Fin 4) (a : Fin 2),
    (![32 * b.val, 512 * g.val + 128 * c.val] : Fin 2 → Nat) a + S32x128.size a ≤ S512x3584.size a := by decide +kernel
theorem tile_packed : ∀ (b : Fin 16) (g : Fin 7) (c : Fin 4),
    (Rect.unit (s := S512x3584) ![32 * b.val, 512 * g.val + 128 * c.val] S32x128.size (tile_inb b g c)).PackedRows
      (EltTy.packing .fp8e4m3) := by decide +kernel
theorem bytes_inb : ∀ (b : Fin 16) (a : Fin 2), (![32 * b.val, 0] : Fin 2 → Nat) a + S32x112.size a ≤ S512x112.size a := by
  decide
theorem bytes_packed : ∀ b : Fin 16,
    (Rect.unit (s := S512x112) ![32 * b.val, 0] S32x112.size (bytes_inb b)).PackedRows (EltTy.packing .i8) := by decide
theorem rows_inb : ∀ (j : Fin 4) (a : Fin 2), (![480 * j.val, 0] : Fin 2 → Nat) a + S480x3584.size a ≤ S1920x3584.size a := by
  decide
theorem out_inb : ∀ (j : Fin 4) (a : Fin 2), (![480 * j.val, 0] : Fin 2 → Nat) a + S480x512.size a ≤ S1920x512.size a := by
  decide
theorem out_packed : ∀ j : Fin 4,
    (Rect.unit (s := S1920x512) ![480 * j.val, 0] S480x512.size (out_inb j)).PackedRows (EltTy.packing .bf16) := by decide
theorem keep_inb : ∀ (m : Fin 2) (b : Fin 16) (g : Fin 7) (c : Fin 4) (a : Fin 3),
    (![m.val, 32 * b.val, 512 * g.val + 128 * c.val] : Fin 3 → Nat) a + S1x32x128.size a ≤ S2x512x3584.size a := by
  decide +kernel
theorem keep_packed : ∀ (m : Fin 2) (b : Fin 16) (g : Fin 7) (c : Fin 4),
    (Rect.unit (s := S2x512x3584) ![m.val, 32 * b.val, 512 * g.val + 128 * c.val] S1x32x128.size
      (keep_inb m b g c)).PackedRows (EltTy.packing .bf16) := by decide +kernel
theorem half_inb : ∀ (m : Fin 2) (a : Fin 3),
    (![m.val, 0, 0] : Fin 3 → Nat) a + S1x512x3584.size a ≤ S2x512x3584.size a := by decide
theorem whole_inb : ∀ a, (![0, 0] : Fin 2 → Nat) a + S512x3584.size a ≤ S512x3584.size a := by decide
theorem pos_S512x3584 : 0 < S512x3584.numel := by decide
theorem pos_S1x32x128 : 0 < S1x32x128.numel := by decide
theorem pos_S480x3584 : 0 < S480x3584.numel := by decide
theorem pos_S480x512 : 0 < S480x512.numel := by decide
theorem pos_S1x512x3584 : 0 < S1x512x3584.numel := by decide
theorem casts_tile : S32x128.ShapeCasts S1x32x128 := by decide
theorem casts_half : S1x512x3584.ShapeCasts S512x3584 := by decide
theorem dot_wf : DotDims.WF S480x3584 S512x3584 S480x512 [1] [1] [0] [0] [] [] := by decide

/-- The product of a block of rows: the 3584 columns are summed over. -/
def dotDims : DotDims S480x3584 S512x3584 S480x512 where
  lhsContracting := [1]
  rhsContracting := [1]
  lhsNonContracting := [0]
  rhsNonContracting := [0]
  lhsBatch := []
  rhsBatch := []
  wf := dot_wf

variable {F : FTy → Type} [FloatOps F]

/-! ## What a strip computes -/

/-- One step of the search for a power of two: multiply by `c` unless that passes `a`. -/
def climb (a p : FVec F S512x3584 .bf16) (c : BitVec 16) : FVec F S512x3584 .bf16 :=
  let q := mulf p (broadcast S512x3584 (Scalar.ofBits .bf16 c : F .bf16))
  select (cmpf .olt a q) p q

/-- The largest power of two at most the magnitude of each element, zero for the subnormal ones. -/
def powers (v : FVec F S512x3584 .bf16) : FVec F S512x3584 .f32 :=
  let a := absf v
  let least : FVec F S512x3584 .bf16 := broadcast S512x3584 (Scalar.ofBits .bf16 0x0080#16 : F .bf16)
  let p := climb a (climb a (climb a (climb a (climb a (climb a (climb a (climb a (climb a least
    0x5F80#16) 0x5F80#16) 0x5F80#16) 0x4F80#16) 0x4780#16) 0x4380#16) 0x4180#16) 0x4080#16) 0x4000#16
  extf .f32 (select (cmpf .olt a least) (broadcast S512x3584 (Scalar.ofBits .bf16 0x0000#16 : F .bf16)) p) lt_bf16_f32

/-- The powers of two of group `g` of strip `b`. -/
def groupOf (P : FVec F S512x3584 .f32) (b : Fin 16) (g : Fin 7) : FVec F S32x512 .f32 :=
  extractStridedSlice S32x512 ![32 * b.val, 512 * g.val] P (group_slices b g)

/-- Each lane takes the value of the lane that `idx` names. -/
def take (m : FVec F S16x128 .f32) (idx : IVec S16x128 32) : FVec F S16x128 .f32 :=
  dynamicGather 1 m (shapeCast S16x128 (shapeCast S16x128x1 idx casts_lane) casts_lane')

/-- The lanes with the bit `n` clear end with the maximum of `a` over the lane and the one that differs in that bit,
    the lanes with the bit set with that of `b`. -/
def merge (a b : FVec F S16x128 .f32) (n : BitVec 32) : FVec F S16x128 .f32 :=
  maximumf (select (bit n) b a) (take (select (bit n) a b) (xori lane (broadcast S16x128 n)))

/-- The maximum over the lane and the one that differs in the bit `n`. -/
def fold (m : FVec F S16x128 .f32) (n : BitVec 32) : FVec F S16x128 .f32 :=
  maximumf m (take m (xori lane (broadcast S16x128 n)))

/-- Half `h` of the rows of a tile. -/
def halfOf (p : FVec F S32x128 .f32) (h : Fin 2) : FVec F S16x128 .f32 :=
  extractStridedSlice S16x128 ![16 * h.val, 0] p (half_slices h)

/-- The maximum of the powers over each block of 32 columns, for half `h` of the rows; 256 where it is zero. -/
def laneMax (p : FVec F S32x512 .f32) (h : Fin 2) : FVec F S16x128 .f32 :=
  let m01 := merge (halfOf (tileOf p 0) h) (halfOf (tileOf p 1) h) 16#32
  let m23 := merge (halfOf (tileOf p 2) h) (halfOf (tileOf p 3) h) 16#32
  let m := fold (fold (fold (merge m01 m23 8#32) 4#32) 2#32) 1#32
  select (cmpf .oeq m (broadcast S16x128 (Scalar.ofBits .f32 0x00000000#32 : F .f32)))
    (broadcast S16x128 (Scalar.ofBits .f32 0x43800000#32 : F .f32)) m

/-- The least scale. -/
def floorOf (m : FVec F S16x128 .f32) : FVec F S16x128 .f32 :=
  maximumf m (broadcast S16x128 (Scalar.ofBits .f32 0x03800000#32 : F .f32))

/-- The power of two that each element of tile `c` is scaled by. -/
def scaleTile (p : FVec F S32x512 .f32) (c : Fin 4) : FVec F S32x128 .bf16 :=
  truncf .bf16 (concatenate S32x128 0 [⟨S16x128, take (floorOf (laneMax p 0)) (src c)⟩,
    ⟨S16x128, take (floorOf (laneMax p 1)) (src c)⟩] concats_S32x128 : FVec F S32x128 .f32) lt_bf16_f32

/-- The words of the scales of all the blocks of columns: 128 times the exponent, offset by 127. -/
def rowWord (m0 m1 m2 m3 m4 m5 m6 : FVec F S16x128 .f32) : IVec S16x128 32 :=
  let m := select (isGroup 6#32) m6 (select (isGroup 5#32) m5 (select (isGroup 4#32) m4 (select (isGroup 3#32) m3
    (select (isGroup 2#32) m2 (select (isGroup 1#32) m1 m0)))))
  shli (fptosi 32 (addf (divf (log (take m compact))
    (log (broadcast S16x128 (Scalar.ofBits .f32 0x40000000#32 : F .f32))))
    (broadcast S16x128 (Scalar.ofBits .f32 0x42FF0000#32 : F .f32)))) (broadcast S16x128 7#32)

/-- The words of half `h` of the rows of strip `b`. -/
def stripWord (P : FVec F S512x3584 .f32) (b : Fin 16) (h : Fin 2) : IVec S16x128 32 :=
  rowWord (laneMax (groupOf P b 0) h) (laneMax (groupOf P b 1) h) (laneMax (groupOf P b 2) h) (laneMax (groupOf P b 3) h)
    (laneMax (groupOf P b 4) h) (laneMax (groupOf P b 5) h) (laneMax (groupOf P b 6) h)

/-- The scale bytes of strip `b`. -/
def stripBytes (P : FVec F S512x3584 .f32) (b : Fin 16) : IVec S32x112 8 := rowBytes (stripWord P b 0) (stripWord P b 1)

/-- A tile of widened codes as it is kept. -/
def kept (w : FVec F S32x128 .bf16) : FVec F S1x32x128 .bf16 := shapeCast S1x32x128 w casts_tile

/-- One row block of the product. -/
def product (x : Vec F S480x3584 .bf16) (w : Vec F S1x512x3584 .bf16) : FVec F S480x512 .bf16 :=
  truncf .bf16 (matmul dotDims none x (shapeCast S512x3584 w casts_half : FVec F S512x3584 .bf16)
    (constant S480x512 .f32 0x00000000#32) : FVec F S480x512 .f32) lt_bf16_f32

variable {nD : Nat} {τ : Topo} {sig : RefSig} {Λ : Labels}

section Body

variable
  (a1 : Memref sig .tc .vmem S1920x3584 .bf16) (a2 : Memref sig .tc .vmem S512x3584 .bf16)
  (a3 : Memref sig .tc .vmem S1920x512 .bf16) (h3 : a3.IsWhole)
  (a4 : Memref sig .tc .vmem S512x3584 .fp8e4m3) (h4 : a4.IsWhole)
  (a5 : Memref sig .tc .vmem S512x112 .i8) (h5 : a5.IsWhole)
  (a6 : Memref sig .tc .vmem S2x512x3584 .bf16) (h6 : a6.IsWhole)
  (off : Fin 16 → Fin 7 → Fin 4 → Fin 3 → Nat)
  (hoff : ∀ b g c a, off b g c a + S1x32x128.size a ≤ S2x512x3584.size a)
  (hpk : ∀ b g c, (Rect.unit (s := S2x512x3584) (off b g c) S1x32x128.size (hoff b g c)).PackedRows (EltTy.packing .bf16))
  (doff : Fin 3 → Nat) (hdoff : ∀ a, doff a + S1x512x3584.size a ≤ S2x512x3584.size a)

/-- Quantise tile `c` of group `g` of strip `b`: store its codes and keep its widened codes. -/
def tile (P : FVec F S512x3584 .f32) (b : Fin 16) (g : Fin 7) (c : Fin 4) (v : FVec F S32x512 .bf16) :
    Prog (TpuEff nD τ sig (Elt F) Λ .tc) PUnit := do
  let _ : Vec F S32x128 .fp8e4m3 ← Prog.lift (.load a4
    (Rect.unit (s := S512x3584) ![32 * b.val, 512 * g.val + 128 * c.val] S32x128.size (tile_inb b g c)).toLoadRect
    (View.loadsAt_vmem pos_S32x128))
  Prog.lift (.store a4 (Rect.unit (s := S512x3584) ![32 * b.val, 512 * g.val + 128 * c.val] S32x128.size (tile_inb b g c))
    (tileCodes (tileOf v c) (scaleTile (groupOf P b g) c)) Finset.univ
    (View.stores_vmem pos_S32x128 (h4.storeExact_slice rfl _ (tile_packed b g c)) (fun _ => rfl)) (.inl rfl))
  let _ : Vec F S1x32x128 .bf16 ← Prog.lift (.load a6
    (Rect.unit (s := S2x512x3584) (off b g c) S1x32x128.size (hoff b g c)).toLoadRect (View.loadsAt_vmem pos_S1x32x128))
  Prog.lift (.store a6 (Rect.unit (s := S2x512x3584) (off b g c) S1x32x128.size (hoff b g c))
    (kept (tileWide (tileOf v c) (scaleTile (groupOf P b g) c))) Finset.univ
    (View.stores_vmem pos_S1x32x128 (h6.storeExact_slice rfl _ (hpk b g c)) (fun _ => rfl)) (.inl rfl))

/-- Quantise group `g` of strip `b`. -/
def group (P : FVec F S512x3584 .f32) (b : Fin 16) (g : Fin 7) : Prog (TpuEff nD τ sig (Elt F) Λ .tc) PUnit := do
  let v : Vec F S32x512 .bf16 ← Prog.lift (.load a2
    (Rect.unit (s := S512x3584) ![32 * b.val, 512 * g.val] S32x512.size (group_inb b g)).toLoadRect
    (View.loadsAt_vmem pos_S32x512))
  tile a4 h4 a6 h6 off hoff hpk P b g 0 v
  tile a4 h4 a6 h6 off hoff hpk P b g 1 v
  tile a4 h4 a6 h6 off hoff hpk P b g 2 v
  tile a4 h4 a6 h6 off hoff hpk P b g 3 v

/-- Store the scale bytes of strip `b`. -/
def putBytes (P : FVec F S512x3584 .f32) (b : Fin 16) : Prog (TpuEff nD τ sig (Elt F) Λ .tc) PUnit := do
  let _ : Vec F S32x112 .i8 ← Prog.lift (.load a5
    (Rect.unit (s := S512x112) ![32 * b.val, 0] S32x112.size (bytes_inb b)).toLoadRect (View.loadsAt_vmem pos_S32x112))
  Prog.lift (.store a5 (Rect.unit (s := S512x112) ![32 * b.val, 0] S32x112.size (bytes_inb b)) (stripBytes P b) Finset.univ
    (View.stores_vmem pos_S32x112 (h5.storeExact_slice rfl _ (bytes_packed b)) (fun _ => rfl)) (.inl rfl))

/-- Some groups of strip `b` in order, and then `k`. -/
def runGroups (P : FVec F S512x3584 .f32) (b : Fin 16) (k : Prog (TpuEff nD τ sig (Elt F) Λ .tc) PUnit) :
    List (Fin 7) → Prog (TpuEff nD τ sig (Elt F) Λ .tc) PUnit
  | [] => k
  | g :: gs => group a2 a4 h4 a6 h6 off hoff hpk P b g >>= fun _ => runGroups P b k gs

/-- All the groups of a strip, in order. -/
abbrev allGroups : List (Fin 7) := [0, 1, 2, 3, 4, 5, 6]

/-- Some strips in order, and then `k`. -/
def runStrips (P : FVec F S512x3584 .f32) (k : Prog (TpuEff nD τ sig (Elt F) Λ .tc) PUnit) :
    List (Fin 16) → Prog (TpuEff nD τ sig (Elt F) Λ .tc) PUnit
  | [] => k
  | b :: bs => runGroups a2 a4 h4 a6 h6 off hoff hpk P b (putBytes a5 h5 P b >>= fun _ => runStrips P k bs) allGroups

/-- Row block `j` of the product with the block in the scratch's other half. -/
def dot (j : Fin 4) : Prog (TpuEff nD τ sig (Elt F) Λ .tc) PUnit := do
  let x : Vec F S480x3584 .bf16 ← Prog.lift (.load a1
    (Rect.unit (s := S1920x3584) ![480 * j.val, 0] S480x3584.size (rows_inb j)).toLoadRect (View.loadsAt_vmem pos_S480x3584))
  let w : Vec F S1x512x3584 .bf16 ← Prog.lift (.load a6
    (Rect.unit (s := S2x512x3584) doff S1x512x3584.size hdoff).toLoadRect (View.loadsAt_vmem pos_S1x512x3584))
  let _ : Vec F S480x512 .bf16 ← Prog.lift (.load a3
    (Rect.unit (s := S1920x512) ![480 * j.val, 0] S480x512.size (out_inb j)).toLoadRect (View.loadsAt_vmem pos_S480x512))
  Prog.lift (.store a3 (Rect.unit (s := S1920x512) ![480 * j.val, 0] S480x512.size (out_inb j)) (product x w) Finset.univ
    (View.stores_vmem pos_S480x512 (h3.storeExact_slice rfl _ (out_packed j)) (fun _ => rfl)) (.inl rfl))

/-- Row blocks of the product, each followed by the strips quantised after it, and then `k`. -/
def runSteps (P : FVec F S512x3584 .f32) (k : Prog (TpuEff nD τ sig (Elt F) Λ .tc) PUnit) :
    List (Fin 4 × List (Fin 16)) → Prog (TpuEff nD τ sig (Elt F) Λ .tc) PUnit
  | [] => k
  | s :: ss => dot a1 a3 h3 a6 doff hdoff s.1 >>= fun _ =>
      runStrips a2 a4 h4 a5 h5 a6 h6 off hoff hpk P (runSteps P k ss) s.2

/-- All the strips, in order. -/
abbrev allStrips : List (Fin 16) := [0, 1, 2, 3, 4, 5, 6, 7, 8, 9, 10, 11, 12, 13, 14, 15]

/-- The steps of a later grid point. -/
abbrev steps : List (Fin 4 × List (Fin 16)) :=
  [(0, [0, 1, 2, 3]), (1, [4, 5, 6, 7]), (2, [8, 9, 10, 11]), (3, [12, 13, 14, 15])]

/-- The first grid point quantises its block. -/
def first (P : FVec F S512x3584 .f32) : Prog (TpuEff nD τ sig (Elt F) Λ .tc) PUnit :=
  runStrips a2 a4 h4 a5 h5 a6 h6 off hoff hpk P (pure ⟨⟩) allStrips

/-- A later grid point multiplies with the block before and quantises its own in between. -/
def later (P : FVec F S512x3584 .f32) : Prog (TpuEff nD τ sig (Elt F) Λ .tc) PUnit :=
  runSteps a1 a2 a3 h3 a4 h4 a5 h5 a6 h6 off hoff hpk doff hdoff P (pure ⟨⟩) steps

end Body

end Cert.Fp
-- ==== Proof.FBody.lean ====
/- The printed body of the forward product is the body of `FProgram`. -/
module

public import proofs.«01_k».proof.Proof.FProgram
public import proofs.«01_k».proof.Proof.Gen.FpropIdeal
public import Idealize.ShloMosaic.Lib.Tactic

@[expose] public section

set_option maxRecDepth 100000

noncomputable section

namespace Cert.FpropIdeal.Hand

open Idealize.ShloMosaic Idealize.SL.Sem
open Cert.FpropIdeal Cert.FpropIdeal.Facts Cert.FpropIdeal.Facts₀

variable {F : FTy → Type} [FloatOps F]

/-- The half of the scratch that a grid point fills, as the body computes it. -/
def slotOf (i : grid0.Coords) : Nat := k0_off1 i 0

/-- Where a grid point keeps its tiles. -/
def off (i : grid0.Coords) (b : Fin 16) (g : Fin 7) (c : Fin 4) : Fin 3 → Nat :=
  ![slotOf i, 32 * b.val, 512 * g.val + 128 * c.val]

theorem slotOf_eq : ∀ i : grid0.Coords, slotOf i = (i 0).val % 2 := by decide +kernel
theorem off_eq (i : grid0.Coords) (b : Fin 16) (g : Fin 7) (c : Fin 4) :
    off i b g c = ![(i 0).val % 2, 32 * b.val, 512 * g.val + 128 * c.val] := by rw [off, slotOf_eq]
theorem doff_eq : ∀ (i : grid0.Coords), k0_off449 i = ![1 - (i 0).val % 2, 0, 0] := by decide +kernel

theorem inb_of {o : Fin 3 → Nat} {m : Fin 2} {b : Fin 16} {g : Fin 7} {c : Fin 4}
    (h : o = ![m.val, 32 * b.val, 512 * g.val + 128 * c.val]) (a : Fin 3) : o a + S1x32x128.size a ≤ S2x512x3584.size a := by
  subst h; exact Fp.keep_inb m b g c a
theorem packed_of {o : Fin 3 → Nat} {m : Fin 2} {b : Fin 16} {g : Fin 7} {c : Fin 4}
    (h : o = ![m.val, 32 * b.val, 512 * g.val + 128 * c.val]) (hb : ∀ a, o a + S1x32x128.size a ≤ S2x512x3584.size a) :
    (Rect.unit (s := S2x512x3584) o S1x32x128.size hb).PackedRows (EltTy.packing .bf16) := by
  subst h; exact Fp.keep_packed m b g c

/-- The half that a grid point fills. -/
abbrev halfAt (i : grid0.Coords) : Fin 2 := ⟨(i 0).val % 2, Nat.mod_lt _ (by decide)⟩

theorem off_inb (i : grid0.Coords) (b : Fin 16) (g : Fin 7) (c : Fin 4) (a : Fin 3) :
    off i b g c a + S1x32x128.size a ≤ S2x512x3584.size a := inb_of (m := halfAt i) (off_eq i b g c) a
theorem off_packed (i : grid0.Coords) (b : Fin 16) (g : Fin 7) (c : Fin 4) :
    (Rect.unit (s := S2x512x3584) (off i b g c) S1x32x128.size (off_inb i b g c)).PackedRows (EltTy.packing .bf16) :=
  packed_of (m := halfAt i) (off_eq i b g c) _

section
variable (i : grid0.Coords) (arg1 : Memref sig .tc .vmem S1920x3584 .bf16) (harg1 : arg1.IsWhole)
  (arg2 : Memref sig .tc .vmem S512x3584 .bf16) (harg2 : arg2.IsWhole)
  (arg3 : Memref sig .tc .vmem S1920x512 .bf16) (harg3 : arg3.IsWhole)
  (arg4 : Memref sig .tc .vmem S512x3584 .fp8e4m3) (harg4 : arg4.IsWhole)
  (arg5 : Memref sig .tc .vmem S512x112 .i8) (harg5 : arg5.IsWhole)
  (arg6 : Memref sig .tc .vmem S2x512x3584 .bf16) (harg6 : arg6.IsWhole)

/-- The body as a run over strips, groups, tiles and row blocks. -/
def body : Prog (TpuEff nD τ sig (Elt F) Λ₀ .tc) PUnit := do
  let v : Vec F S512x3584 .bf16 ← Prog.lift (.load arg2
    (Rect.unit (s := S512x3584) ![0, 0] S512x3584.size Fp.whole_inb).toLoadRect (View.loadsAt_vmem Fp.pos_S512x3584))
  if k0_h1 : k0_cond1 i = 1#1 then do
    Fp.first arg2 arg4 harg4 arg5 harg5 arg6 harg6 (off i) (off_inb i) (off_packed i) (Fp.powers v)
    pure ⟨⟩
  else do
    pure ⟨⟩
  if k0_h2 : k0_cond2 i = 1#1 then do
    Fp.later arg1 arg2 arg3 harg3 arg4 harg4 arg5 harg5 arg6 harg6 (off i) (off_inb i) (off_packed i)
      (k0_off449 i) (Gen.k0_off449_inb i k0_h2) (Fp.powers v)
    pure ⟨⟩
  else do
    pure ⟨⟩
  pure ⟨⟩

theorem body_eq : cc0_fprop (F := F) i arg1 harg1 arg2 harg2 arg3 harg3 arg4 harg4 arg5 harg5 arg6 harg6
    = body i arg1 arg2 arg3 harg3 arg4 harg4 arg5 harg5 arg6 harg6 := by
  sl_kernel_rfl

end

end Cert.FpropIdeal.Hand
-- ==== Proof.FSteps.lean ====
/- The body of the forward product as a function of what its buffers hold.

   Each store of the body is a `put` over a window of its buffer. So each piece of the body (a tile, a group, a strip, a
   row block of the product) is a function from the contents of the buffers to their contents, and the whole body is the
   composition of these functions. -/
module

public import proofs.«01_k».proof.Proof.FProgram
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Fp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Cert.Wgrad (S1920x3584 S1920x512 S512x3584 S32x512 lt_bf16_f32 pos_S32x512)
open Cert.Xq (S32x128 S16x128 S16x128x1 S32x112 pos_S32x128 pos_S32x112 tileOf tileCodes tileWide)

variable {F : FTy → Type} [FloatOps F]

/-- What the buffers that the body writes hold. -/
structure Mem (F : FTy → Type) where
  /-- The product. -/
  out : Vec F S1920x512 .bf16
  /-- The codes. -/
  codes : Vec F S512x3584 .fp8e4m3
  /-- The scale bytes. -/
  bytes : Vec F S512x112 .i8
  /-- The scratch with two halves of widened codes. -/
  wide : Vec F S2x512x3584 .bf16

/-- The elements of group `g` of strip `b`. -/
def groupRows (W : Vec F S512x3584 .bf16) (b : Fin 16) (g : Fin 7) : FVec F S32x512 .bf16 :=
  window W ![32 * b.val, 512 * g.val] S32x512.size (group_inb b g)

/-- A tile's codes. -/
def codesAt (W : Vec F S512x3584 .bf16) (P : FVec F S512x3584 .f32) (b : Fin 16) (g : Fin 7) (c : Fin 4) :
    FVec F S32x128 .fp8e4m3 := tileCodes (tileOf (groupRows W b g) c) (scaleTile (groupOf P b g) c)

/-- A tile's widened codes. -/
def wideAt (W : Vec F S512x3584 .bf16) (P : FVec F S512x3584 .f32) (b : Fin 16) (g : Fin 7) (c : Fin 4) :
    FVec F S1x32x128 .bf16 := kept (tileWide (tileOf (groupRows W b g) c) (scaleTile (groupOf P b g) c))

/-- The contents after a tile. -/
def tileStep (W : Vec F S512x3584 .bf16) (P : FVec F S512x3584 .f32) (off : Fin 16 → Fin 7 → Fin 4 → Fin 3 → Nat)
    (b : Fin 16) (g : Fin 7) (c : Fin 4) (s : Mem F) : Mem F :=
  { s with
    codes := put s.codes ![32 * b.val, 512 * g.val + 128 * c.val] S32x128.size (codesAt W P b g c)
    wide := put s.wide (off b g c) S1x32x128.size (wideAt W P b g c) }

/-- The contents after a group. -/
def groupStep (W : Vec F S512x3584 .bf16) (P : FVec F S512x3584 .f32) (off : Fin 16 → Fin 7 → Fin 4 → Fin 3 → Nat)
    (b : Fin 16) (g : Fin 7) (s : Mem F) : Mem F :=
  tileStep W P off b g 3 (tileStep W P off b g 2 (tileStep W P off b g 1 (tileStep W P off b g 0 s)))

/-- The contents after the scale bytes of a strip. -/
def bytesStep (P : FVec F S512x3584 .f32) (b : Fin 16) (s : Mem F) : Mem F :=
  { s with bytes := put s.bytes ![32 * b.val, 0] S32x112.size (stripBytes P b) }

/-- The contents after a row block of the product. -/
def dotStep (X : Vec F S1920x3584 .bf16) (doff : Fin 3 → Nat) (hdoff : ∀ a, doff a + S1x512x3584.size a ≤ S2x512x3584.size a)
    (j : Fin 4) (s : Mem F) : Mem F :=
  { s with
    out := put s.out ![480 * j.val, 0] S480x512.size
      (product (window X ![480 * j.val, 0] S480x3584.size (rows_inb j)) (window s.wide doff S1x512x3584.size hdoff)) }

/-- The contents after some groups of a strip. -/
def runGroupsStep (W : Vec F S512x3584 .bf16) (P : FVec F S512x3584 .f32) (off : Fin 16 → Fin 7 → Fin 4 → Fin 3 → Nat)
    (b : Fin 16) : List (Fin 7) → Mem F → Mem F
  | [], s => s
  | g :: gs, s => runGroupsStep W P off b gs (groupStep W P off b g s)

/-- The contents after some strips. -/
def runStripsStep (W : Vec F S512x3584 .bf16) (P : FVec F S512x3584 .f32) (off : Fin 16 → Fin 7 → Fin 4 → Fin 3 → Nat) :
    List (Fin 16) → Mem F → Mem F
  | [], s => s
  | b :: bs, s => runStripsStep W P off bs (bytesStep P b (runGroupsStep W P off b allGroups s))

/-- The contents after some steps. -/
def runStepsStep (X : Vec F S1920x3584 .bf16) (W : Vec F S512x3584 .bf16) (P : FVec F S512x3584 .f32)
    (off : Fin 16 → Fin 7 → Fin 4 → Fin 3 → Nat) (doff : Fin 3 → Nat)
    (hdoff : ∀ a, doff a + S1x512x3584.size a ≤ S2x512x3584.size a) : List (Fin 4 × List (Fin 16)) → Mem F → Mem F
  | [], s => s
  | p :: ps, s => runStepsStep X W P off doff hdoff ps (runStripsStep W P off p.2 (dotStep X doff hdoff p.1 s))

variable {nD : Nat} {τ : Topo} {sig : RefSig} {Λ : Labels}

local notation "𝕄" => MT nD τ sig Unit (Elt F) ℕ (UR sig nD τ) ℕ

section Body

variable (defs : Defs nD τ sig (Elt F) Λ) (c : Dev nD) (E : Set ℕ)
  (a1 : Memref sig .tc .vmem S1920x3584 .bf16) (a2 : Memref sig .tc .vmem S512x3584 .bf16)
  (a3 : Memref sig .tc .vmem S1920x512 .bf16) (h3 : a3.IsWhole)
  (a4 : Memref sig .tc .vmem S512x3584 .fp8e4m3) (h4 : a4.IsWhole)
  (a5 : Memref sig .tc .vmem S512x112 .i8) (h5 : a5.IsWhole)
  (a6 : Memref sig .tc .vmem S2x512x3584 .bf16) (h6 : a6.IsWhole)

/-- The buffers at given contents. -/
def held (X : Vec F S1920x3584 .bf16) (W : Vec F S512x3584 .bf16) (s : Mem F) : sProp 𝕄 :=
  iprop(owns (c : Thread nD τ) a1 fullShare X ∗ owns (c : Thread nD τ) a2 fullShare W
    ∗ owns (c : Thread nD τ) a3 fullShare s.out ∗ owns (c : Thread nD τ) a4 fullShare s.codes
    ∗ owns (c : Thread nD τ) a5 fullShare s.bytes ∗ owns (c : Thread nD τ) a6 fullShare s.wide)

variable (X : Vec F S1920x3584 .bf16) (W : Vec F S512x3584 .bf16) (P : FVec F S512x3584 .f32)

/-- The load of the whole block. -/
theorem load_run (s : Mem F) (k : Vec F S512x3584 .bf16 → sProp 𝕄) :
    iprop(held c a1 a2 a3 a4 a5 a6 X W s ∗ (held c a1 a2 a3 a4 a5 a6 X W s -∗ k W))
      ⊢ wp frame (wpE defs Variants.none c none) E (Prog.lift (.load a2
          (Rect.unit (s := S512x3584) ![0, 0] S512x3584.size whole_inb).toLoadRect (View.loadsAt_vmem pos_S512x3584))) k := by
  unfold held owns
  iintro ⟨⟨H1, ⟨%f2, %hf2, H2⟩, H⟩, Hk⟩
  sl_exec
  sl_step
  rw [View.readAt_full a2.view f2 whole_inb, hf2]
  iapply Hk
  isplitl [H1]; · iexact H1
  isplitl [H2]
  · iexists f2; isplitr; · ipureintro; exact hf2
    iexact H2
  iexact H

/-- The load of a group. -/
theorem fetch_run (b : Fin 16) (g : Fin 7) (s : Mem F) (k : Vec F S32x512 .bf16 → sProp 𝕄) :
    iprop(held c a1 a2 a3 a4 a5 a6 X W s ∗ (held c a1 a2 a3 a4 a5 a6 X W s -∗ k (groupRows W b g)))
      ⊢ wp frame (wpE defs Variants.none c none) E (Prog.lift (.load a2
          (Rect.unit (s := S512x3584) ![32 * b.val, 512 * g.val] S32x512.size (group_inb b g)).toLoadRect
          (View.loadsAt_vmem pos_S32x512))) k := by
  unfold held owns groupRows
  iintro ⟨⟨H1, ⟨%f2, %hf2, H2⟩, H⟩, Hk⟩
  sl_exec
  sl_step
  subst hf2
  rw [View.readAt_unit a2.view f2 (group_inb b g) rfl (group_inb b g)]
  iapply Hk
  isplitl [H1]; · iexact H1
  isplitl [H2]
  · iexists f2; isplitr; · ipureintro; rfl
    iexact H2
  iexact H

/-- A piece of the body in front of the rest. -/
theorem run_bind {α β : Type} {p : Prog (TpuEff nD τ sig (Elt F) Λ .tc) α} {rest : α → Prog (TpuEff nD τ sig (Elt F) Λ .tc) β}
    {s s' : Mem F} {v : α} {R : sProp 𝕄} {Q : β → sProp 𝕄}
    (hp : ∀ k : α → sProp 𝕄, iprop(held c a1 a2 a3 a4 a5 a6 X W s ∗ (held c a1 a2 a3 a4 a5 a6 X W s' -∗ k v))
      ⊢ wp frame (wpE defs Variants.none c none) E p k)
    (hk : iprop(held c a1 a2 a3 a4 a5 a6 X W s' ∗ R) ⊢ wp frame (wpE defs Variants.none c none) E (rest v) Q) :
    iprop(held c a1 a2 a3 a4 a5 a6 X W s ∗ R) ⊢ wp frame (wpE defs Variants.none c none) E (p >>= rest) Q := by
  rw [wp_bind]
  refine BIBase.Entails.trans ?_ (hp _)
  iintro ⟨H, HR⟩
  isplitl [H]
  · iexact H
  iintro H'
  iapply hk
  isplitl [H']
  · iexact H'
  iexact HR

theorem dot_run (doff : Fin 3 → Nat) (hdoff : ∀ a, doff a + S1x512x3584.size a ≤ S2x512x3584.size a) (j : Fin 4) (s : Mem F)
    (k : PUnit → sProp 𝕄) :
    iprop(held c a1 a2 a3 a4 a5 a6 X W s ∗ (held c a1 a2 a3 a4 a5 a6 X W (dotStep X doff hdoff j s) -∗ k ⟨⟩))
      ⊢ wp frame (wpE defs Variants.none c none) E (dot a1 a3 h3 a6 doff hdoff j) k := by
  unfold held dot owns
  iintro ⟨⟨⟨%f1, %hf1, H1⟩, H2, ⟨%f3, %hf3, H3⟩, H4, H5, ⟨%f6, %hf6, H6⟩⟩, Hk⟩
  sl_exec
  sl_step
  subst hf1
  iapply Hk
  isplitl [H1]
  · iexists f1; isplitr; · ipureintro; rfl
    iexact H1
  isplitl [H2]; · iexact H2
  isplitl [H3]
  · iexists _; isplitr
    swap; · iexact H3
    ipureintro
    exact (View.read_writes_cons_put _ _ _ _ _ rfl).trans (by
      rw [View.writes_nil, hf3, View.readAt_unit a6.view f6 hdoff rfl hdoff, hf6]; rfl)
  isplitl [H4]; · iexact H4
  isplitl [H5]; · iexact H5
  iexists f6; isplitr; · ipureintro; exact hf6
  iexact H6

theorem bytes_run (b : Fin 16) (s : Mem F) (k : PUnit → sProp 𝕄) :
    iprop(held c a1 a2 a3 a4 a5 a6 X W s ∗ (held c a1 a2 a3 a4 a5 a6 X W (bytesStep P b s) -∗ k ⟨⟩))
      ⊢ wp frame (wpE defs Variants.none c none) E (putBytes a5 h5 P b) k := by
  unfold held putBytes owns
  iintro ⟨⟨H1, H2, H3, H4, ⟨%f5, %hf5, H5⟩, H6⟩, Hk⟩
  sl_exec
  sl_step
  iapply Hk
  isplitl [H1]; · iexact H1
  isplitl [H2]; · iexact H2
  isplitl [H3]; · iexact H3
  isplitl [H4]; · iexact H4
  isplitl [H5]
  · iexists _; isplitr
    swap; · iexact H5
    ipureintro
    exact (View.read_writes_cons_put _ _ _ _ _ rfl).trans (by rw [View.writes_nil, hf5]; rfl)
  iexact H6

variable (off : Fin 16 → Fin 7 → Fin 4 → Fin 3 → Nat)
  (hoff : ∀ b g c a, off b g c a + S1x32x128.size a ≤ S2x512x3584.size a)
  (hpk : ∀ b g c, (Rect.unit (s := S2x512x3584) (off b g c) S1x32x128.size (hoff b g c)).PackedRows (EltTy.packing .bf16))
  (doff : Fin 3 → Nat) (hdoff : ∀ a, doff a + S1x512x3584.size a ≤ S2x512x3584.size a)

theorem tile_run (b : Fin 16) (g : Fin 7) (q : Fin 4) (s : Mem F) (k : PUnit → sProp 𝕄) :
    iprop(held c a1 a2 a3 a4 a5 a6 X W s ∗ (held c a1 a2 a3 a4 a5 a6 X W (tileStep W P off b g q s) -∗ k ⟨⟩))
      ⊢ wp frame (wpE defs Variants.none c none) E (tile a4 h4 a6 h6 off hoff hpk P b g q (groupRows W b g)) k := by
  unfold held tile owns
  iintro ⟨⟨H1, H2, H3, ⟨%f4, %hf4, H4⟩, H5, ⟨%f6, %hf6, H6⟩⟩, Hk⟩
  sl_exec
  sl_step
  iapply Hk
  isplitl [H1]; · iexact H1
  isplitl [H2]; · iexact H2
  isplitl [H3]; · iexact H3
  isplitl [H4]
  · iexists _; isplitr
    swap; · iexact H4
    ipureintro
    exact (View.read_writes_cons_put _ _ _ _ _ rfl).trans (by rw [View.writes_nil, hf4]; rfl)
  isplitl [H5]; · iexact H5
  iexists _; isplitr
  swap; · iexact H6
  ipureintro
  exact (View.read_writes_cons_put _ _ _ _ _ rfl).trans (by rw [View.writes_nil, hf6]; rfl)

theorem group_run (b : Fin 16) (g : Fin 7) (s : Mem F) (k : PUnit → sProp 𝕄) :
    iprop(held c a1 a2 a3 a4 a5 a6 X W s ∗ (held c a1 a2 a3 a4 a5 a6 X W (groupStep W P off b g s) -∗ k ⟨⟩))
      ⊢ wp frame (wpE defs Variants.none c none) E (group a2 a4 h4 a6 h6 off hoff hpk P b g) k := by
  unfold group
  exact run_bind _ _ _ _ _ _ _ _ _ _ _ (fetch_run _ _ _ _ _ _ _ _ _ _ _ b g s) <|
    run_bind _ _ _ _ _ _ _ _ _ _ _ (tile_run _ _ _ _ _ _ _ h4 _ _ h6 _ _ _ off hoff hpk b g 0 s) <|
    run_bind _ _ _ _ _ _ _ _ _ _ _ (tile_run _ _ _ _ _ _ _ h4 _ _ h6 _ _ _ off hoff hpk b g 1 _) <|
    run_bind _ _ _ _ _ _ _ _ _ _ _ (tile_run _ _ _ _ _ _ _ h4 _ _ h6 _ _ _ off hoff hpk b g 2 _) <|
    tile_run _ _ _ _ _ _ _ h4 _ _ h6 _ _ _ off hoff hpk b g 3 _ k

theorem runGroups_run (rest : Prog (TpuEff nD τ sig (Elt F) Λ .tc) PUnit) (R : sProp 𝕄) (Q : PUnit → sProp 𝕄)
    (b : Fin 16) (gs : List (Fin 7)) : ∀ (s : Mem F),
    (iprop(held c a1 a2 a3 a4 a5 a6 X W (runGroupsStep W P off b gs s) ∗ R)
      ⊢ wp frame (wpE defs Variants.none c none) E rest Q) →
    iprop(held c a1 a2 a3 a4 a5 a6 X W s ∗ R)
      ⊢ wp frame (wpE defs Variants.none c none) E (runGroups a2 a4 h4 a6 h6 off hoff hpk P b rest gs) Q := by
  induction gs with
  | nil => exact fun s h => h
  | cons g gs ih =>
    exact fun s h => run_bind _ _ _ _ _ _ _ _ _ _ _ (group_run _ _ _ _ _ _ _ h4 _ _ h6 _ _ _ off hoff hpk b g s) (ih _ h)

theorem runStrips_run (rest : Prog (TpuEff nD τ sig (Elt F) Λ .tc) PUnit) (R : sProp 𝕄) (Q : PUnit → sProp 𝕄)
    (bs : List (Fin 16)) : ∀ (s : Mem F),
    (iprop(held c a1 a2 a3 a4 a5 a6 X W (runStripsStep W P off bs s) ∗ R)
      ⊢ wp frame (wpE defs Variants.none c none) E rest Q) →
    iprop(held c a1 a2 a3 a4 a5 a6 X W s ∗ R)
      ⊢ wp frame (wpE defs Variants.none c none) E (runStrips a2 a4 h4 a5 h5 a6 h6 off hoff hpk P rest bs) Q := by
  induction bs with
  | nil => exact fun s h => h
  | cons b bs ih =>
    exact fun s h => runGroups_run _ _ _ _ _ _ _ h4 _ _ h6 _ _ _ off hoff hpk _ _ _ b allGroups s
      (run_bind _ _ _ _ _ _ _ _ _ _ _ (bytes_run _ _ _ _ _ _ _ _ h5 _ _ _ _ b _) (ih _ h))

theorem runSteps_run (rest : Prog (TpuEff nD τ sig (Elt F) Λ .tc) PUnit) (R : sProp 𝕄) (Q : PUnit → sProp 𝕄)
    (ps : List (Fin 4 × List (Fin 16))) : ∀ (s : Mem F),
    (iprop(held c a1 a2 a3 a4 a5 a6 X W (runStepsStep X W P off doff hdoff ps s) ∗ R)
      ⊢ wp frame (wpE defs Variants.none c none) E rest Q) →
    iprop(held c a1 a2 a3 a4 a5 a6 X W s ∗ R)
      ⊢ wp frame (wpE defs Variants.none c none) E
        (runSteps a1 a2 a3 h3 a4 h4 a5 h5 a6 h6 off hoff hpk doff hdoff P rest ps) Q := by
  induction ps with
  | nil => exact fun s h => h
  | cons p ps ih =>
    exact fun s h => run_bind _ _ _ _ _ _ _ _ _ _ _ (dot_run _ _ _ _ _ _ h3 _ _ _ _ _ doff hdoff p.1 s)
      (runStrips_run _ _ _ _ _ _ _ h4 _ h5 _ h6 _ _ _ off hoff hpk _ _ _ p.2 _ (ih _ h))

/-- The contents after the first grid point. -/
def firstStep (s : Mem F) : Mem F := runStripsStep W P off allStrips s

/-- The contents after a later grid point. -/
def laterStep (s : Mem F) : Mem F := runStepsStep X W P off doff hdoff steps s

/-- Nothing more to do. -/
theorem done_run (s : Mem F) (k : PUnit → sProp 𝕄) :
    iprop(held c a1 a2 a3 a4 a5 a6 X W s ∗ (held c a1 a2 a3 a4 a5 a6 X W s -∗ k ⟨⟩))
      ⊢ wp frame (wpE defs Variants.none c none) E (pure ⟨⟩) k := by
  iintro ⟨H, Hk⟩
  sl_step
  iapply Hk
  iexact H

theorem first_run (s : Mem F) (k : PUnit → sProp 𝕄) :
    iprop(held c a1 a2 a3 a4 a5 a6 X W s ∗ (held c a1 a2 a3 a4 a5 a6 X W (firstStep W P off s) -∗ k ⟨⟩))
      ⊢ wp frame (wpE defs Variants.none c none) E (first a2 a4 h4 a5 h5 a6 h6 off hoff hpk P) k := by
  unfold first
  exact runStrips_run _ _ _ _ _ _ _ h4 _ h5 _ h6 _ _ _ off hoff hpk _ _ _ _ s (done_run _ _ _ _ _ _ _ _ _ _ _ _ k)

theorem later_run (s : Mem F) (k : PUnit → sProp 𝕄) :
    iprop(held c a1 a2 a3 a4 a5 a6 X W s ∗ (held c a1 a2 a3 a4 a5 a6 X W (laterStep X W P off doff hdoff s) -∗ k ⟨⟩))
      ⊢ wp frame (wpE defs Variants.none c none) E
        (later a1 a2 a3 h3 a4 h4 a5 h5 a6 h6 off hoff hpk doff hdoff P) k := by
  unfold later
  exact runSteps_run _ _ _ _ _ _ h3 _ h4 _ h5 _ h6 _ _ _ off hoff hpk doff hdoff _ _ _ _ s
    (done_run _ _ _ _ _ _ _ _ _ _ _ _ k)

end Body

end Cert.Fp
-- ==== Proof.Steps.lean ====
/- The kernel's body as a function of what its buffers hold.

   Each store of the body is a `put` over a window of its buffer. So each piece of the body (a strip, a group, a
   column block of the product, the scale bytes) is a function from the contents of the buffers to their contents,
   and the whole body is the composition of these functions. -/
module

public import proofs.«01_k».proof.Proof.Program
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F]

/-- What the buffers that the body writes hold. -/
structure Mem (F : FTy → Type) where
  /-- The product. -/
  out : Vec F S512x3584 .f32
  /-- The codes. -/
  codes : Vec F S1920x512 .fp8e4m3
  /-- The scale bytes. -/
  bytes : Vec F S3x20x512 .i8
  /-- The scratch with two halves of widened codes. -/
  wide : Vec F S2x512x1920 .bf16
  /-- The scratch of words. -/
  words : Vec F S3x24x512 .i32

/-- The rows of a strip. -/
def stripRows (X : Vec F S1920x512 .bf16) (q : Fin 60) : FVec F S32x512 .bf16 :=
  window X ![32 * q.val, 0] S32x512.size (strip_inb q)

/-- The contents after a strip. -/
def stripStep (K : Pay F) (X : Vec F S1920x512 .bf16) (P : FVec F S1920x512 .bf16) (q : Fin 60) (s : Mem F) : Mem F :=
  { s with
    codes := put s.codes ![32 * q.val, 0] S32x512.size (K.codes (stripRows X q) (stripOf P q))
    words := put s.words ![q.val / 20, q.val % 20, 0] S1x1x512.size (wordRow (K.word (stripOf P q))) }

/-- A strip's widened codes. -/
def stripWide (K : Pay F) (X : Vec F S1920x512 .bf16) (P : FVec F S1920x512 .bf16) (q : Fin 60) : FVec F S32x512 .bf16 :=
  K.wide (stripRows X q) (stripOf P q)

/-- A group's widened codes, transposed. -/
def groupWide (K : Pay F) (X : Vec F S1920x512 .bf16) (P : FVec F S1920x512 .bf16) (r : Fin 15) : FVec F S1x512x128 .bf16 :=
  group (stripWide K X P (fourth r 0)) (stripWide K X P (fourth r 1)) (stripWide K X P (fourth r 2))
    (stripWide K X P (fourth r 3))

/-- The contents after a group. -/
def rowsStep (K : Pay F) (X : Vec F S1920x512 .bf16) (P : FVec F S1920x512 .bf16) (off : Fin 15 → Fin 3 → Nat) (r : Fin 15)
    (s : Mem F) : Mem F :=
  let s' := stripStep K X P (fourth r 3) (stripStep K X P (fourth r 2) (stripStep K X P (fourth r 1)
    (stripStep K X P (fourth r 0) s)))
  { s' with wide := put s'.wide (off r) S1x512x128.size (groupWide K X P r) }

/-- The contents after a column block of the product. -/
def dotStep (Y : Vec F S1920x3584 .bf16) (doff : Fin 3 → Nat) (hdoff : ∀ a, doff a + S1x512x1920.size a ≤ S2x512x1920.size a)
    (j : Fin 7) (s : Mem F) : Mem F :=
  { s with
    out := put s.out ![0, 512 * j.val] S512x512.size
      (product (window s.wide doff S1x512x1920.size hdoff) (window Y ![0, 512 * j.val] S1920x512.size (dot_inb j))) }

/-- The contents after the scale bytes of 20 strips. -/
def finish1Step (b : Fin 3) (s : Mem F) : Mem F :=
  { s with
    bytes := put s.bytes ![b.val, 0, 0] S1x20x512.size
      (bytes (window s.words ![b.val, 0, 0] S1x20x512.size (words_inb b))) }

/-- The contents after all the scale bytes. -/
def finishStep (s : Mem F) : Mem F := finish1Step 2 (finish1Step 1 (finish1Step 0 s))

/-- The contents after some groups. -/
def runRowsStep (K : Pay F) (X : Vec F S1920x512 .bf16) (P : FVec F S1920x512 .bf16) (off : Fin 15 → Fin 3 → Nat) :
    List (Fin 15) → Mem F → Mem F
  | [], s => s
  | r :: rs, s => runRowsStep K X P off rs (rowsStep K X P off r s)

/-- The contents after some steps. -/
def runStepsStep (K : Pay F) (X : Vec F S1920x512 .bf16) (Y : Vec F S1920x3584 .bf16) (P : FVec F S1920x512 .bf16)
    (off : Fin 15 → Fin 3 → Nat) (doff : Fin 3 → Nat) (hdoff : ∀ a, doff a + S1x512x1920.size a ≤ S2x512x1920.size a) :
    List (Fin 7 × List (Fin 15)) → Mem F → Mem F
  | [], s => s
  | p :: ps, s => runStepsStep K X Y P off doff hdoff ps (runRowsStep K X P off p.2 (dotStep Y doff hdoff p.1 s))

variable {nD : Nat} {τ : Topo} {sig : RefSig} {Λ : Labels}

local notation "𝕄" => MT nD τ sig Unit (Elt F) ℕ (UR sig nD τ) ℕ

section Body

variable (defs : Defs nD τ sig (Elt F) Λ) (c : Dev nD) (E : Set ℕ)
  (K : Pay F)
  (a1 : Memref sig .tc .vmem S1920x512 .bf16) (a2 : Memref sig .tc .vmem S1920x3584 .bf16)
  (a3 : Memref sig .tc .vmem S512x3584 .f32)
  (a4 : Memref sig .tc .vmem S1920x512 .fp8e4m3) (h4 : a4.IsWhole)
  (a5 : Memref sig .tc .vmem S3x20x512 .i8) (h5 : a5.IsWhole)
  (a6 : Memref sig .tc .vmem S2x512x1920 .bf16) (h6 : a6.IsWhole)
  (a7 : Memref sig .tc .vmem S3x24x512 .i32)

/-- The buffers at given contents. -/
def held (X : Vec F S1920x512 .bf16) (Y : Vec F S1920x3584 .bf16) (s : Mem F) : sProp 𝕄 :=
  iprop(owns (c : Thread nD τ) a1 fullShare X ∗ owns (c : Thread nD τ) a2 fullShare Y
    ∗ owns (c : Thread nD τ) a3 fullShare s.out ∗ owns (c : Thread nD τ) a4 fullShare s.codes
    ∗ owns (c : Thread nD τ) a5 fullShare s.bytes ∗ owns (c : Thread nD τ) a6 fullShare s.wide
    ∗ owns (c : Thread nD τ) a7 fullShare s.words)

variable (X : Vec F S1920x512 .bf16) (Y : Vec F S1920x3584 .bf16) (P : FVec F S1920x512 .bf16)

/-- The load of the whole block. -/
theorem load_run (s : Mem F) (k : Vec F S1920x512 .bf16 → sProp 𝕄) :
    iprop(held c a1 a2 a3 a4 a5 a6 a7 X Y s ∗ (held c a1 a2 a3 a4 a5 a6 a7 X Y s -∗ k X))
      ⊢ wp frame (wpE defs Variants.none c none) E (Prog.lift (.load a1
          (Rect.unit (s := S1920x512) ![0, 0] S1920x512.size whole_inb).toLoadRect (View.loadsAt_vmem pos_S1920x512))) k := by
  unfold held owns
  iintro ⟨⟨⟨%f1, %hf1, H1⟩, H⟩, Hk⟩
  sl_exec
  sl_step
  rw [View.readAt_full a1.view f1 whole_inb, hf1]
  iapply Hk
  isplitl [H1]
  · iexists f1; isplitr; · ipureintro; exact hf1
    iexact H1
  iexact H

theorem strip_run (q : Fin 60) (s : Mem F) (k : FVec F S32x512 .bf16 → sProp 𝕄) :
    iprop(held c a1 a2 a3 a4 a5 a6 a7 X Y s
        ∗ (held c a1 a2 a3 a4 a5 a6 a7 X Y (stripStep K X P q s) -∗ k (stripWide K X P q)))
      ⊢ wp frame (wpE defs Variants.none c none) E (strip K a1 a4 h4 a7 P q) k := by
  unfold held strip owns stripWide stripRows
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  subst hf1
  rw [View.readAt_unit a1.view f1 (strip_inb q) rfl (strip_inb q)]
  iapply Hk
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    exact (View.read_writes_cons_put _ _ _ _ _ rfl).trans (by rw [View.writes_nil, hf4]; rfl)
  isplitl [H5]
  · iexists f5; isplitr; · ipureintro; exact hf5
    iexact H5
  isplitl [H6]
  · iexists f6; isplitr; · ipureintro; exact hf6
    iexact H6
  iexists _; isplitr
  swap; · iexact H7
  ipureintro
  exact (View.read_writes_cons_put _ _ _ _ _ rfl).trans (by rw [View.writes_nil, hf7]; rfl)

/-- A piece of the body in front of the rest. -/
theorem run_bind {α β : Type} {p : Prog (TpuEff nD τ sig (Elt F) Λ .tc) α} {rest : α → Prog (TpuEff nD τ sig (Elt F) Λ .tc) β}
    {s s' : Mem F} {v : α} {R : sProp 𝕄} {Q : β → sProp 𝕄}
    (hp : ∀ k : α → sProp 𝕄, iprop(held c a1 a2 a3 a4 a5 a6 a7 X Y s ∗ (held c a1 a2 a3 a4 a5 a6 a7 X Y s' -∗ k v))
      ⊢ wp frame (wpE defs Variants.none c none) E p k)
    (hk : iprop(held c a1 a2 a3 a4 a5 a6 a7 X Y s' ∗ R) ⊢ wp frame (wpE defs Variants.none c none) E (rest v) Q) :
    iprop(held c a1 a2 a3 a4 a5 a6 a7 X Y s ∗ R) ⊢ wp frame (wpE defs Variants.none c none) E (p >>= rest) Q := by
  rw [wp_bind]
  refine BIBase.Entails.trans ?_ (hp _)
  iintro ⟨H, HR⟩
  isplitl [H]
  · iexact H
  iintro H'
  iapply hk
  isplitl [H']
  · iexact H'
  iexact HR

theorem dot_run (doff : Fin 3 → Nat) (hdoff : ∀ a, doff a + S1x512x1920.size a ≤ S2x512x1920.size a) (j : Fin 7) (s : Mem F)
    (k : PUnit → sProp 𝕄) :
    iprop(held c a1 a2 a3 a4 a5 a6 a7 X Y s ∗ (held c a1 a2 a3 a4 a5 a6 a7 X Y (dotStep Y doff hdoff j s) -∗ k ⟨⟩))
      ⊢ wp frame (wpE defs Variants.none c none) E (dot a2 a3 a6 doff hdoff j) k := by
  unfold held dot owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  subst hf2
  iapply Hk
  isplitl [H1]
  · iexists f1; isplitr; · ipureintro; exact hf1
    iexact H1
  isplitl [H2]
  · iexists f2; isplitr; · ipureintro; rfl
    iexact H2
  isplitl [H3]
  · iexists _; isplitr
    swap; · iexact H3
    ipureintro
    exact (View.read_writes_cons_put _ _ _ _ _ rfl).trans (by
      rw [View.writes_nil, hf3, View.readAt_unit a6.view f6 hdoff rfl hdoff, hf6]; rfl)
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  iexists f7; isplitr; · ipureintro; exact hf7
  iexact H7

theorem finish1_run (b : Fin 3) (s : Mem F) (k : PUnit → sProp 𝕄) :
    iprop(held c a1 a2 a3 a4 a5 a6 a7 X Y s ∗ (held c a1 a2 a3 a4 a5 a6 a7 X Y (finish1Step b s) -∗ k ⟨⟩))
      ⊢ wp frame (wpE defs Variants.none c none) E (finish1 (F := F) a5 h5 a7 b) k := by
  unfold held finish1 owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr
    swap; · iexact H5
    ipureintro
    exact (View.read_writes_cons_put _ _ _ _ _ rfl).trans (by
      rw [View.writes_nil, hf5, View.readAt_unit a7.view f7 (words_inb b) rfl (words_inb b), hf7]; rfl)
  isplitl [H6]
  · iexists f6; isplitr; · ipureintro; exact hf6
    iexact H6
  iexists f7; isplitr; · ipureintro; exact hf7
  iexact H7

theorem finish_run (s : Mem F) (k : PUnit → sProp 𝕄) :
    iprop(held c a1 a2 a3 a4 a5 a6 a7 X Y s ∗ (held c a1 a2 a3 a4 a5 a6 a7 X Y (finishStep s) -∗ k ⟨⟩))
      ⊢ wp frame (wpE defs Variants.none c none) E (finish (F := F) a5 h5 a7) k := by
  unfold finish
  exact run_bind _ _ _ _ _ _ _ _ _ _ _ _ (finish1_run _ _ _ _ _ _ _ _ h5 _ _ _ _ 0 s) <|
    run_bind _ _ _ _ _ _ _ _ _ _ _ _ (finish1_run _ _ _ _ _ _ _ _ h5 _ _ _ _ 1 _) <|
    finish1_run _ _ _ _ _ _ _ _ h5 _ _ _ _ 2 _ _

variable (off : Fin 15 → Fin 3 → Nat) (hoff : ∀ r a, off r a + S1x512x128.size a ≤ S2x512x1920.size a)
  (hpk : ∀ r, (Rect.unit (s := S2x512x1920) (off r) S1x512x128.size (hoff r)).PackedRows (EltTy.packing .bf16))
  (doff : Fin 3 → Nat) (hdoff : ∀ a, doff a + S1x512x1920.size a ≤ S2x512x1920.size a)

/-- The store of a group's widened codes. -/
theorem keep_run (r : Fin 15) (w : FVec F S1x512x128 .bf16) (s : Mem F) (k : PUnit → sProp 𝕄) :
    iprop(held c a1 a2 a3 a4 a5 a6 a7 X Y s
        ∗ (held c a1 a2 a3 a4 a5 a6 a7 X Y { s with wide := put s.wide (off r) S1x512x128.size w } -∗ k ⟨⟩))
      ⊢ wp frame (wpE defs Variants.none c none) E (do
          let _ : Vec F S1x512x128 .bf16 ← Prog.lift (.load a6
            (Rect.unit (s := S2x512x1920) (off r) S1x512x128.size (hoff r)).toLoadRect (View.loadsAt_vmem pos_S1x512x128))
          Prog.lift (.store a6 (Rect.unit (s := S2x512x1920) (off r) S1x512x128.size (hoff r)) w Finset.univ
            (View.stores_vmem pos_S1x512x128 (h6.storeExact_slice rfl _ (hpk r)) (fun _ => rfl)) (.inl rfl))) k := by
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    exact (View.read_writes_cons_put _ _ _ _ _ rfl).trans (by rw [View.writes_nil, hf6])
  iexists f7; isplitr; · ipureintro; exact hf7
  iexact H7

theorem rows_run (r : Fin 15) (s : Mem F) (k : PUnit → sProp 𝕄) :
    iprop(held c a1 a2 a3 a4 a5 a6 a7 X Y s ∗ (held c a1 a2 a3 a4 a5 a6 a7 X Y (rowsStep K X P off r s) -∗ k ⟨⟩))
      ⊢ wp frame (wpE defs Variants.none c none) E (rows K a1 a4 h4 a6 h6 a7 off hoff hpk P r) k := by
  unfold rows
  exact run_bind _ _ _ _ _ _ _ _ _ _ _ _ (strip_run _ _ _ _ _ _ _ _ h4 _ _ _ _ _ _ (fourth r 0) s) <|
    run_bind _ _ _ _ _ _ _ _ _ _ _ _ (strip_run _ _ _ _ _ _ _ _ h4 _ _ _ _ _ _ (fourth r 1) _) <|
    run_bind _ _ _ _ _ _ _ _ _ _ _ _ (strip_run _ _ _ _ _ _ _ _ h4 _ _ _ _ _ _ (fourth r 2) _) <|
    run_bind _ _ _ _ _ _ _ _ _ _ _ _ (strip_run _ _ _ _ _ _ _ _ h4 _ _ _ _ _ _ (fourth r 3) _) <|
    keep_run _ _ _ _ _ _ _ _ _ h6 _ _ _ off hoff hpk r _ _ k

theorem runRows_run (rest : Prog (TpuEff nD τ sig (Elt F) Λ .tc) PUnit) (R : sProp 𝕄) (Q : PUnit → sProp 𝕄)
    (rs : List (Fin 15)) : ∀ (s : Mem F),
    (iprop(held c a1 a2 a3 a4 a5 a6 a7 X Y (runRowsStep K X P off rs s) ∗ R)
      ⊢ wp frame (wpE defs Variants.none c none) E rest Q) →
    iprop(held c a1 a2 a3 a4 a5 a6 a7 X Y s ∗ R)
      ⊢ wp frame (wpE defs Variants.none c none) E (runRows K a1 a4 h4 a6 h6 a7 off hoff hpk P rest rs) Q := by
  induction rs with
  | nil => exact fun s h => h
  | cons r rs ih =>
    exact fun s h => run_bind _ _ _ _ _ _ _ _ _ _ _ _ (rows_run _ _ _ _ _ _ _ _ h4 _ _ h6 _ _ _ _ off hoff hpk r s) (ih _ h)

theorem runSteps_run (rest : Prog (TpuEff nD τ sig (Elt F) Λ .tc) PUnit) (R : sProp 𝕄) (Q : PUnit → sProp 𝕄)
    (ps : List (Fin 7 × List (Fin 15))) : ∀ (s : Mem F),
    (iprop(held c a1 a2 a3 a4 a5 a6 a7 X Y (runStepsStep K X Y P off doff hdoff ps s) ∗ R)
      ⊢ wp frame (wpE defs Variants.none c none) E rest Q) →
    iprop(held c a1 a2 a3 a4 a5 a6 a7 X Y s ∗ R)
      ⊢ wp frame (wpE defs Variants.none c none) E
        (runSteps K a1 a2 a3 a4 h4 a6 h6 a7 off hoff hpk doff hdoff P rest ps) Q := by
  induction ps with
  | nil => exact fun s h => h
  | cons p ps ih =>
    exact fun s h => run_bind _ _ _ _ _ _ _ _ _ _ _ _ (dot_run _ _ _ _ _ _ _ _ _ _ _ _ doff hdoff p.1 s)
      (runRows_run _ _ _ _ _ _ _ _ h4 _ _ h6 _ _ _ _ off hoff hpk _ _ _ _ _ (ih _ h))

/-- All groups, in order. -/
abbrev allRows : List (Fin 15) := [0, 1, 2, 3, 4, 5, 6, 7, 8, 9, 10, 11, 12, 13, 14]

/-- The contents after the first grid point. -/
def firstStep (s : Mem F) : Mem F := finishStep (runRowsStep K X P off allRows s)

/-- The contents after a later grid point. -/
def laterStep (s : Mem F) : Mem F := finishStep (runStepsStep K X Y P off doff hdoff steps s)

theorem first_run (s : Mem F) (k : PUnit → sProp 𝕄) :
    iprop(held c a1 a2 a3 a4 a5 a6 a7 X Y s ∗ (held c a1 a2 a3 a4 a5 a6 a7 X Y (firstStep K X P off s) -∗ k ⟨⟩))
      ⊢ wp frame (wpE defs Variants.none c none) E (first K a1 a4 h4 a5 h5 a6 h6 a7 off hoff hpk P) k := by
  unfold first
  exact runRows_run _ _ _ _ _ _ _ _ h4 _ _ h6 _ _ _ _ off hoff hpk _ _ _ _ s (finish_run _ _ _ _ _ _ _ _ h5 _ _ _ _ _ k)

theorem later_run (s : Mem F) (k : PUnit → sProp 𝕄) :
    iprop(held c a1 a2 a3 a4 a5 a6 a7 X Y s ∗ (held c a1 a2 a3 a4 a5 a6 a7 X Y (laterStep K X Y P off doff hdoff s) -∗ k ⟨⟩))
      ⊢ wp frame (wpE defs Variants.none c none) E
        (later K a1 a2 a3 a4 h4 a5 h5 a6 h6 a7 off hoff hpk doff hdoff P) k := by
  unfold later
  exact runSteps_run _ _ _ _ _ _ _ _ h4 _ _ h6 _ _ _ _ off hoff hpk doff hdoff _ _ _ _ s
    (finish_run _ _ _ _ _ _ _ _ h5 _ _ _ _ _ k)

end Body

end Cert.Wgrad
-- ==== Proof.Contents.lean ====
/- What the buffers hold after the body of a grid point.

   Whatever they held before: the codes' buffer holds the codes of the whole block, the scale bytes' buffer its
   bytes, one half of the scratch its widened codes, and the product's buffer the product of the other half. -/
module

public import proofs.«01_k».proof.Proof.Steps
public import Idealize.ShloMosaic.Lib.Pointwise.Index

@[expose] public section

set_option maxRecDepth 16384

noncomputable section

namespace Cert.Wgrad

open Idealize.ShloMosaic
open VecWindow (window put)

/-- Inside the window, a `put` reads the payload. -/
theorem put_hit {α : Type} {s : Shape} (x : s.Idx → α) (off size : Fin s.rank → ℕ) (w : ((a : Fin s.rank) → Fin (size a)) → α)
    (y : s.Idx) (z : (a : Fin s.rank) → Fin (size a)) (h : ∀ a, (y a).val = off a + (z a).val) : put x off size w y = w z := by
  have h' : ∀ a, off a ≤ (y a).val ∧ (y a).val < off a + size a := fun a => by have := (z a).isLt; have := h a; omega
  refine (dif_pos h').trans (congrArg w (funext fun a => Fin.ext ?_))
  show (y a).val - off a = (z a).val
  have := h a; omega

/-- Outside the window on some axis, a `put` reads what was there. -/
theorem put_miss {α : Type} {s : Shape} (x : s.Idx → α) (off size : Fin s.rank → ℕ) (w : ((a : Fin s.rank) → Fin (size a)) → α)
    (y : s.Idx) (a : Fin s.rank) (h : (y a).val < off a ∨ off a + size a ≤ (y a).val) : put x off size w y = x y :=
  dif_neg fun h' => by have := h' a; omega

variable {F : FTy → Type} [FloatOps F]
  (K : Pay F) (X : Vec F S1920x512 .bf16) (Y : Vec F S1920x3584 .bf16) (P : FVec F S1920x512 .bf16)

/-- The strip of a row. -/
def stripAt (y : S1920x512.Idx) : Fin 60 := ⟨(y 0).val / 32, by have := (y 0).isLt; change _ < 1920 at this; omega⟩

/-- The codes of a block. -/
def codesBlock : Vec F S1920x512 .fp8e4m3 := fun y =>
  K.codes (stripRows X (stripAt y)) (stripOf P (stripAt y)) (ix2 ⟨(y 0).val % 32, by omega⟩ (y 1))

/-- The words of the twenty strips `20 b …`. -/
def wordsPart (b : Fin 3) : Vec F S1x20x512 .i32 := fun z =>
  wordRow (K.word (stripOf P ⟨20 * b.val + (z 1).val, by have := (z 1).isLt; change _ < 20 at this; omega⟩)) (ix3 0 0 (z 2))

/-- The scale bytes of a block. -/
def bytesBlock : Vec F S3x20x512 .i8 := fun y => bytes (F := F) (wordsPart K P (y 0)) (ix3 0 (y 1) (y 2))

/-- The group of a column of the transposed block. -/
def groupAt (y : S1x512x1920.Idx) : Fin 15 := ⟨(y 2).val / 128, by have := (y 2).isLt; change _ < 1920 at this; omega⟩

/-- The widened codes of a block, transposed. -/
def wideBlock : Vec F S1x512x1920 .bf16 := fun y =>
  groupWide K X P (groupAt y) (ix3 0 (y 1) ⟨(y 2).val % 128, by omega⟩)

/-- Column block `j` of the other operand. -/
def colBlock (j : Fin 7) : Vec F S1920x512 .bf16 := window Y ![0, 512 * j.val] S1920x512.size (dot_inb j)

/-- The product of a block of widened codes, transposed, with the other operand. -/
def outBlock (W : Vec F S1x512x1920 .bf16) : Vec F S512x3584 .f32 := fun y =>
  product W (colBlock Y ⟨(y 1).val / 512, by have := (y 1).isLt; change _ < 3584 at this; omega⟩)
    (ix2 (y 0) ⟨(y 1).val % 512, by omega⟩)

/-- A half of the scratch. -/
def half (S : Vec F S2x512x1920 .bf16) (m : Fin 2) : Vec F S1x512x1920 .bf16 :=
  window S ![m.val, 0, 0] S1x512x1920.size (half_inb m)

/-- The twenty rows of words that one block of scale bytes is made of. -/
def wordsOf (S : Vec F S3x24x512 .i32) (b : Fin 3) : Vec F S1x20x512 .i32 :=
  window S ![b.val, 0, 0] S1x20x512.size (words_inb b)

/-! ## A strip -/

theorem stripStep_codes (q : Fin 60) (s : Mem F) (y : S1920x512.Idx) :
    (stripStep K X P q s).codes y = if (y 0).val / 32 = q.val then codesBlock K X P y else s.codes y := by
  have h0 : (y 0).val < 1920 := (y 0).isLt
  have h1 : (y 1).val < 512 := (y 1).isLt
  show put s.codes _ _ _ y = _
  split
  · next h =>
    have hq : stripAt y = q := Fin.ext h
    refine (put_hit (s := S1920x512) _ _ S32x512.size _ _ (ix2 (n0 := 32) (n1 := 512) ⟨(y 0).val % 32, by omega⟩ (y 1)) fun a => ?_).trans ?_
    · match a with
      | ⟨0, _⟩ => show (y 0).val = 32 * q.val + (y 0).val % 32; omega
      | ⟨1, _⟩ => show (y 1).val = 0 + (y 1).val; omega
    · unfold codesBlock; rw [hq]
  · next h => exact put_miss _ _ _ _ _ 0 (show (y 0).val < 32 * q.val ∨ 32 * q.val + 32 ≤ (y 0).val by omega)

theorem stripStep_words (q : Fin 60) (s : Mem F) (b : Fin 3) (z : S1x20x512.Idx) :
    wordsOf (stripStep K X P q s).words b z
      = if 20 * b.val + (z 1).val = q.val then wordsPart K P b z
        else wordsOf s.words b z := by
  have h0 : (z 0).val < 1 := (z 0).isLt
  have h1 : (z 1).val < 20 := (z 1).isLt
  have h2 : (z 2).val < 512 := (z 2).isLt
  show put s.words _ _ _ ((Rect.unit (s := S3x24x512) ![b.val, 0, 0] S1x20x512.size (words_inb b)).emb z) = _
  split
  · next h =>
    refine (put_hit (s := S3x24x512) _ _ S1x1x512.size _ _ (ix3 (n0 := 1) (n1 := 1) (n2 := 512) 0 0 (z 2)) fun a => ?_).trans ?_
    · match a with
      | ⟨0, _⟩ => show b.val + 1 * (z 0).val = q.val / 20 + 0; omega
      | ⟨1, _⟩ => show 0 + 1 * (z 1).val = q.val % 20 + 0; omega
      | ⟨2, _⟩ => show 0 + 1 * (z 2).val = 0 + (z 2).val; omega
    · unfold wordsPart
      have hq : (⟨20 * b.val + (z 1).val, by omega⟩ : Fin 60) = q := Fin.ext h
      rw [hq]
  · next h =>
    have hn : ¬ (b.val = q.val / 20 ∧ (z 1).val = q.val % 20) := by omega
    by_cases hb : b.val = q.val / 20
    · exact put_miss _ _ _ _ _ 1 (show 0 + 1 * (z 1).val < q.val % 20 ∨ q.val % 20 + 1 ≤ 0 + 1 * (z 1).val by omega)
    · exact put_miss _ _ _ _ _ 0 (show b.val + 1 * (z 0).val < q.val / 20 ∨ q.val / 20 + 1 ≤ b.val + 1 * (z 0).val by omega)

/-! ## A group -/

theorem rowsStep_codes (off : Fin 15 → Fin 3 → Nat) (r : Fin 15) (s : Mem F) (y : S1920x512.Idx) :
    (rowsStep K X P off r s).codes y = if (y 0).val / 128 = r.val then codesBlock K X P y else s.codes y := by
  show (stripStep K X P (fourth r 3) _).codes y = _
  simp only [stripStep_codes]
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  simp only [e0, e1, e2, e3]
  split_ifs <;> first | rfl | omega

theorem rowsStep_words (off : Fin 15 → Fin 3 → Nat) (r : Fin 15) (s : Mem F) (b : Fin 3) (z : S1x20x512.Idx) :
    wordsOf (rowsStep K X P off r s).words b z
      = if (20 * b.val + (z 1).val) / 4 = r.val then wordsPart K P b z
        else wordsOf s.words b z := by
  show wordsOf (stripStep K X P (fourth r 3) _).words b z = _
  simp only [stripStep_words]
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  simp only [e0, e1, e2, e3]
  split_ifs <;> first | rfl | omega

variable (m : Fin 2) (off : Fin 15 → Fin 3 → Nat) (hoff : ∀ r, off r = ![m.val, 0, 128 * r.val])

include hoff in
theorem rowsStep_wide (r : Fin 15) (s : Mem F) (z : S1x512x1920.Idx) :
    half (rowsStep K X P off r s).wide m z
      = if (z 2).val / 128 = r.val then wideBlock K X P z else half s.wide m z := by
  have h0 : (z 0).val < 1 := (z 0).isLt
  have h1 : (z 1).val < 512 := (z 1).isLt
  have h2 : (z 2).val < 1920 := (z 2).isLt
  show put s.wide (off r) _ _ ((Rect.unit (s := S2x512x1920) ![m.val, 0, 0] S1x512x1920.size (half_inb m)).emb z) = _
  rw [hoff]
  split
  · next h =>
    have hr : groupAt z = r := Fin.ext h
    refine (put_hit (s := S2x512x1920) _ _ S1x512x128.size _ _ (ix3 (n0 := 1) (n1 := 512) (n2 := 128) 0 (z 1) ⟨(z 2).val % 128, by omega⟩) fun a => ?_).trans ?_
    · match a with
      | ⟨0, _⟩ => show m.val + 1 * (z 0).val = m.val + 0; omega
      | ⟨1, _⟩ => show 0 + 1 * (z 1).val = 0 + (z 1).val; omega
      | ⟨2, _⟩ => show 0 + 1 * (z 2).val = 128 * r.val + (z 2).val % 128; omega
    · unfold wideBlock; rw [hr]
  · next h =>
    exact put_miss _ _ _ _ _ 2 (show 0 + 1 * (z 2).val < 128 * r.val ∨ 128 * r.val + 128 ≤ 0 + 1 * (z 2).val by omega)

include hoff in
theorem rowsStep_other (m' : Fin 2) (hm : m' ≠ m) (r : Fin 15) (s : Mem F) :
    half (rowsStep K X P off r s).wide m' = half s.wide m' := by
  funext z
  have h0 : (z 0).val < 1 := (z 0).isLt
  have hm' : m'.val ≠ m.val := fun h => hm (Fin.ext h)
  show put s.wide (off r) _ _ ((Rect.unit (s := S2x512x1920) ![m'.val, 0, 0] S1x512x1920.size (half_inb m')).emb z) = _
  rw [hoff]
  exact put_miss _ _ _ _ _ 0 (show m'.val + 1 * (z 0).val < m.val ∨ m.val + 1 ≤ m'.val + 1 * (z 0).val by omega)

/-! ## Some groups -/

theorem runRows_codes (rs : List (Fin 15)) : ∀ (s : Mem F) (y : S1920x512.Idx) (r : Fin 15), (y 0).val / 128 = r.val →
    (runRowsStep K X P off rs s).codes y = if r ∈ rs then codesBlock K X P y else s.codes y := by
  induction rs with
  | nil => intros; rfl
  | cons r' rs ih =>
    intro s y r hr
    show (runRowsStep K X P off rs _).codes y = _
    rw [ih _ y r hr, rowsStep_codes, hr]
    by_cases h : r ∈ rs
    · rw [if_pos h, if_pos (List.mem_cons_of_mem _ h)]
    · rw [if_neg h]
      by_cases h' : r = r'
      · subst h'; rw [if_pos rfl, if_pos List.mem_cons_self]
      · rw [if_neg (fun e => h' (Fin.ext e)), if_neg (by simp [h, h'])]

theorem runRows_words (rs : List (Fin 15)) (b : Fin 3) (z : S1x20x512.Idx) (r : Fin 15)
    (hr : (20 * b.val + (z 1).val) / 4 = r.val) : ∀ (s : Mem F),
    wordsOf (runRowsStep K X P off rs s).words b z
      = if r ∈ rs then wordsPart K P b z else wordsOf s.words b z := by
  induction rs with
  | nil => intros; rfl
  | cons r' rs ih =>
    intro s
    show wordsOf (runRowsStep K X P off rs _).words b z = _
    rw [ih, rowsStep_words, hr]
    by_cases h : r ∈ rs
    · rw [if_pos h, if_pos (List.mem_cons_of_mem _ h)]
    · rw [if_neg h]
      by_cases h' : r = r'
      · subst h'; rw [if_pos rfl, if_pos List.mem_cons_self]
      · rw [if_neg (fun e => h' (Fin.ext e)), if_neg (by simp [h, h'])]

include hoff in
theorem runRows_wide (rs : List (Fin 15)) (z : S1x512x1920.Idx) : ∀ (s : Mem F),
    half (runRowsStep K X P off rs s).wide m z = if groupAt z ∈ rs then wideBlock K X P z else half s.wide m z := by
  induction rs with
  | nil => intros; rfl
  | cons r' rs ih =>
    intro s
    show half (runRowsStep K X P off rs _).wide m z = _
    rw [ih, rowsStep_wide K X P m off hoff]
    by_cases h : groupAt z ∈ rs
    · rw [if_pos h, if_pos (List.mem_cons_of_mem _ h)]
    · rw [if_neg h]
      by_cases h' : groupAt z = r'
      · rw [if_pos (show (z 2).val / 128 = r'.val from congrArg Fin.val h'), if_pos (h' ▸ List.mem_cons_self)]
      · rw [if_neg (fun e : (z 2).val / 128 = r'.val => h' (Fin.ext e)), if_neg (by simp [h, h'])]

include hoff in
theorem runRows_other (m' : Fin 2) (hm : m' ≠ m) (rs : List (Fin 15)) : ∀ (s : Mem F),
    half (runRowsStep K X P off rs s).wide m' = half s.wide m' := by
  induction rs with
  | nil => intros; rfl
  | cons r' rs ih => exact fun s => (ih _).trans (rowsStep_other K X P m off hoff m' hm r' s)

theorem runRows_out (rs : List (Fin 15)) : ∀ (s : Mem F), (runRowsStep K X P off rs s).out = s.out := by
  induction rs with
  | nil => intros; rfl
  | cons r' rs ih => exact fun s => (ih _).trans rfl

/-! ## Some steps -/

variable (m' : Fin 2) (hm : m' ≠ m) (doff : Fin 3 → Nat)
  (hdoff : ∀ a, doff a + S1x512x1920.size a ≤ S2x512x1920.size a) (hd : doff = ![m'.val, 0, 0])

include hd in
theorem dotStep_out (j : Fin 7) (s : Mem F) (y : S512x3584.Idx) :
    (dotStep Y doff hdoff j s).out y
      = if (y 1).val / 512 = j.val then outBlock Y (half s.wide m') y else s.out y := by
  subst hd
  have h0 : (y 0).val < 512 := (y 0).isLt
  have h1 : (y 1).val < 3584 := (y 1).isLt
  show put s.out ![0, 512 * j.val] _ _ y = _
  split
  · next h =>
    refine (put_hit (s := S512x3584) _ _ S512x512.size _ _ (ix2 (n0 := 512) (n1 := 512) (y 0) ⟨(y 1).val % 512, by omega⟩) fun a => ?_).trans ?_
    · match a with
      | ⟨0, _⟩ => show (y 0).val = 0 + (y 0).val; omega
      | ⟨1, _⟩ => show (y 1).val = 512 * j.val + (y 1).val % 512; omega
    · have hj : (⟨(y 1).val / 512, by omega⟩ : Fin 7) = j := Fin.ext h
      unfold outBlock; rw [hj]; rfl
  · next h =>
    exact put_miss _ _ _ _ _ 1 (show (y 1).val < 512 * j.val ∨ 512 * j.val + 512 ≤ (y 1).val by omega)

theorem runSteps_codes (ps : List (Fin 7 × List (Fin 15))) : ∀ (s : Mem F) (y : S1920x512.Idx) (r : Fin 15),
    (y 0).val / 128 = r.val →
    (runStepsStep K X Y P off doff hdoff ps s).codes y
      = if r ∈ ps.flatMap (·.2) then codesBlock K X P y else s.codes y := by
  induction ps with
  | nil => intros; rfl
  | cons p ps ih =>
    intro s y r hr
    show (runStepsStep K X Y P off doff hdoff ps _).codes y = _
    rw [ih _ y r hr, runRows_codes K X P off p.2 _ y r hr]
    simp only [List.flatMap_cons, List.mem_append]
    by_cases h : r ∈ ps.flatMap (·.2)
    · rw [if_pos h, if_pos (.inr h)]
    · rw [if_neg h]
      by_cases h' : r ∈ p.2
      · rw [if_pos h', if_pos (.inl h')]
      · rw [if_neg h', if_neg (by simp only [h, h', or_self, not_false_eq_true])]; rfl

theorem runSteps_words (ps : List (Fin 7 × List (Fin 15))) (b : Fin 3) (z : S1x20x512.Idx) (r : Fin 15)
    (hr : (20 * b.val + (z 1).val) / 4 = r.val) : ∀ (s : Mem F),
    wordsOf (runStepsStep K X Y P off doff hdoff ps s).words b z
      = if r ∈ ps.flatMap (·.2) then wordsPart K P b z else wordsOf s.words b z := by
  induction ps with
  | nil => intros; rfl
  | cons p ps ih =>
    intro s
    show wordsOf (runStepsStep K X Y P off doff hdoff ps _).words b z = _
    rw [ih, runRows_words K X P off p.2 b z r hr]
    simp only [List.flatMap_cons, List.mem_append]
    by_cases h : r ∈ ps.flatMap (·.2)
    · rw [if_pos h, if_pos (.inr h)]
    · rw [if_neg h]
      by_cases h' : r ∈ p.2
      · rw [if_pos h', if_pos (.inl h')]
      · rw [if_neg h', if_neg (by simp only [h, h', or_self, not_false_eq_true])]; rfl

include hoff in
theorem runSteps_wide (ps : List (Fin 7 × List (Fin 15))) (z : S1x512x1920.Idx) : ∀ (s : Mem F),
    half (runStepsStep K X Y P off doff hdoff ps s).wide m z
      = if groupAt z ∈ ps.flatMap (·.2) then wideBlock K X P z else half s.wide m z := by
  induction ps with
  | nil => intros; rfl
  | cons p ps ih =>
    intro s
    show half (runStepsStep K X Y P off doff hdoff ps _).wide m z = _
    rw [ih, runRows_wide K X P m off hoff]
    simp only [List.flatMap_cons, List.mem_append]
    by_cases h : groupAt z ∈ ps.flatMap (·.2)
    · rw [if_pos h, if_pos (.inr h)]
    · rw [if_neg h]
      by_cases h' : groupAt z ∈ p.2
      · rw [if_pos h', if_pos (.inl h')]
      · rw [if_neg h', if_neg (by simp only [h, h', or_self, not_false_eq_true])]; rfl

include hoff hm hd in
theorem runSteps_out (ps : List (Fin 7 × List (Fin 15))) (y : S512x3584.Idx) (j : Fin 7) (hj : (y 1).val / 512 = j.val) :
    ∀ (s : Mem F), (runStepsStep K X Y P off doff hdoff ps s).out y
      = if j ∈ ps.map (·.1) then outBlock Y (half s.wide m') y else s.out y := by
  induction ps with
  | nil => intros; rfl
  | cons p ps ih =>
    intro s
    show (runStepsStep K X Y P off doff hdoff ps _).out y = _
    rw [ih, runRows_other K X P m off hoff m' hm, runRows_out, dotStep_out Y m' doff hdoff hd, hj]
    have e : half (dotStep Y doff hdoff p.1 s).wide m' = half s.wide m' := rfl
    rw [e]
    by_cases h : j ∈ ps.map (·.1)
    · rw [if_pos h, List.map_cons, if_pos (List.mem_cons_of_mem _ h)]
    · rw [if_neg h, List.map_cons]
      by_cases h' : j = p.1
      · rw [if_pos (congrArg Fin.val h'), if_pos (h' ▸ List.mem_cons_self)]
      · rw [if_neg (fun e => h' (Fin.ext e)), if_neg (by simp only [List.mem_cons, h, h', or_self, not_false_eq_true])]

/-! ## The scale bytes -/

theorem finish1_bytes (b : Fin 3) (s : Mem F) (y : S3x20x512.Idx) :
    (finish1Step b s).bytes y = if (y 0).val = b.val then bytes (F := F) (wordsOf s.words b) (ix3 0 (y 1) (y 2)) else s.bytes y := by
  have h0 : (y 0).val < 3 := (y 0).isLt
  show put s.bytes ![b.val, 0, 0] _ _ y = _
  split
  · next h =>
    refine put_hit (s := S3x20x512) _ _ S1x20x512.size _ _ (ix3 (n0 := 1) (n1 := 20) (n2 := 512) 0 (y 1) (y 2)) fun a => ?_
    match a with
      | ⟨0, _⟩ => show (y 0).val = b.val + 0; omega
      | ⟨1, _⟩ => show (y 1).val = 0 + (y 1).val; omega
      | ⟨2, _⟩ => show (y 2).val = 0 + (y 2).val; omega
  · next h =>
    exact put_miss _ _ _ _ _ 0 (show (y 0).val < b.val ∨ b.val + 1 ≤ (y 0).val by omega)

theorem finish_bytes (s : Mem F) (h : ∀ b, wordsOf s.words b = wordsPart K P b) : (finishStep s).bytes = bytesBlock K P := by
  funext y
  have h0 : (y 0).val < 3 := (y 0).isLt
  have e : ∀ b, (y 0).val = b.val → bytes (F := F) (wordsOf s.words b) (ix3 0 (y 1) (y 2)) = bytesBlock K P y := fun b hb => by
    have hy : y 0 = b := Fin.ext hb
    unfold bytesBlock
    rw [h, hy]
  show (finish1Step 2 _).bytes y = _
  rw [finish1_bytes, finish1_bytes, finish1_bytes]
  split
  · next h2 => exact e 2 h2
  split
  · next h1 => exact e 1 h1
  exact (if_pos (show (y 0).val = 0 by
    next h2 h1 =>
      have h2' : (y 0).val ≠ 2 := h2
      have h1' : (y 0).val ≠ 1 := h1
      omega)).trans (e 0 (by
    next h2 h1 =>
      show (y 0).val = 0
      have h2' : (y 0).val ≠ 2 := h2
      have h1' : (y 0).val ≠ 1 := h1
      omega))

/-! ## A grid point -/

theorem mem_allRows : ∀ r : Fin 15, r ∈ allRows := by decide
theorem mem_steps : ∀ r : Fin 15, r ∈ (steps.flatMap (·.2)) := by decide
theorem mem_dots : ∀ j : Fin 7, j ∈ (steps.map (·.1)) := by decide

theorem first_codes (s : Mem F) : (firstStep K X P off s).codes = codesBlock K X P := by
  funext y
  have h0 : (y 0).val < 1920 := (y 0).isLt
  exact (runRows_codes K X P off allRows s y ⟨(y 0).val / 128, by omega⟩ rfl).trans (if_pos (mem_allRows _))

theorem first_bytes (s : Mem F) : (firstStep K X P off s).bytes = bytesBlock K P := by
  refine finish_bytes K P _ fun b => funext fun z => ?_
  have h1 : (z 1).val < 20 := (z 1).isLt
  exact (runRows_words K X P off allRows b z ⟨(20 * b.val + (z 1).val) / 4, by omega⟩ rfl s).trans (if_pos (mem_allRows _))

include hoff in
theorem first_wide (s : Mem F) : half (firstStep K X P off s).wide m = wideBlock K X P := by
  funext z
  exact (runRows_wide K X P m off hoff allRows z s).trans (if_pos (mem_allRows _))

theorem first_out (s : Mem F) : (firstStep K X P off s).out = s.out := runRows_out K X P off allRows s

theorem later_codes (s : Mem F) : (laterStep K X Y P off doff hdoff s).codes = codesBlock K X P := by
  funext y
  have h0 : (y 0).val < 1920 := (y 0).isLt
  exact (runSteps_codes K X Y P off doff hdoff steps s y ⟨(y 0).val / 128, by omega⟩ rfl).trans (if_pos (mem_steps _))

theorem later_bytes (s : Mem F) : (laterStep K X Y P off doff hdoff s).bytes = bytesBlock K P := by
  refine finish_bytes K P _ fun b => funext fun z => ?_
  have h1 : (z 1).val < 20 := (z 1).isLt
  exact (runSteps_words K X Y P off doff hdoff steps b z ⟨(20 * b.val + (z 1).val) / 4, by omega⟩ rfl s).trans
    (if_pos (mem_steps _))

include hoff in
theorem later_wide (s : Mem F) : half (laterStep K X Y P off doff hdoff s).wide m = wideBlock K X P := by
  funext z
  exact (runSteps_wide K X Y P m off hoff doff hdoff steps z s).trans (if_pos (mem_steps _))

include hoff hm hd in
theorem later_out (s : Mem F) : (laterStep K X Y P off doff hdoff s).out = outBlock Y (half s.wide m') := by
  funext y
  have h1 : (y 1).val < 3584 := (y 1).isLt
  exact (runSteps_out K X Y P m off hoff m' hm doff hdoff hd steps y ⟨(y 1).val / 512, by omega⟩ rfl s).trans
    (if_pos (mem_dots _))

end Cert.Wgrad
-- ==== Proof.FContents.lean ====
/- What the buffers of the forward product hold after the body of a grid point.

   Whatever they held before: the codes' buffer holds the codes of the whole block, the scale bytes' buffer its bytes,
   one half of the scratch its widened codes, and the product's buffer the product with the other half. -/
module

public import proofs.«01_k».proof.Proof.FSteps
public import proofs.«01_k».proof.Proof.Contents

@[expose] public section

set_option maxRecDepth 16384

noncomputable section

namespace Cert.Fp

open Idealize.ShloMosaic
open VecWindow (window put)
open Cert.Wgrad (S1920x3584 S1920x512 S512x3584 S32x512 put_hit put_miss)
open Cert.Xq (S32x128 S16x128 S16x128x1 S32x112)

variable {F : FTy → Type} [FloatOps F]
  (X : Vec F S1920x3584 .bf16) (W : Vec F S512x3584 .bf16) (P : FVec F S512x3584 .f32)

/-- The strip of a row. -/
def stripAt (n : ℕ) : Fin 16 := ⟨n / 32 % 16, by omega⟩
/-- The group of a column. -/
def groupAt (n : ℕ) : Fin 7 := ⟨n / 512 % 7, by omega⟩
/-- The tile of a column in its group. -/
def tileAt (n : ℕ) : Fin 4 := ⟨n / 128 % 4, by omega⟩

/-- The codes of a block. -/
def codesBlock : Vec F S512x3584 .fp8e4m3 := fun y =>
  codesAt W P (stripAt (y 0).val) (groupAt (y 1).val) (tileAt (y 1).val)
    (ix2 ⟨(y 0).val % 32, by omega⟩ ⟨(y 1).val % 128, by omega⟩)

/-- The widened codes of a block. -/
def wideBlock : Vec F S1x512x3584 .bf16 := fun y =>
  wideAt W P (stripAt (y 1).val) (groupAt (y 2).val) (tileAt (y 2).val)
    (ix3 0 ⟨(y 1).val % 32, by omega⟩ ⟨(y 2).val % 128, by omega⟩)

/-- The scale bytes of a block. -/
def bytesBlock : Vec F S512x112 .i8 := fun y =>
  stripBytes P (stripAt (y 0).val) (ix2 ⟨(y 0).val % 32, by omega⟩ (y 1))

/-- Row block `j` of the other operand. -/
def rowBlock (j : Fin 4) : Vec F S480x3584 .bf16 := window X ![480 * j.val, 0] S480x3584.size (rows_inb j)

/-- The product of the other operand with a block of widened codes. -/
def outBlock (H : Vec F S1x512x3584 .bf16) : Vec F S1920x512 .bf16 := fun y =>
  product (rowBlock X ⟨(y 0).val / 480, by have := (y 0).isLt; change _ < 1920 at this; omega⟩) H
    (ix2 ⟨(y 0).val % 480, by omega⟩ (y 1))

/-- A half of the scratch. -/
def half (S : Vec F S2x512x3584 .bf16) (m : Fin 2) : Vec F S1x512x3584 .bf16 :=
  window S ![m.val, 0, 0] S1x512x3584.size (half_inb m)

variable (m : Fin 2) (off : Fin 16 → Fin 7 → Fin 4 → Fin 3 → Nat)
  (hoff : ∀ b g c, off b g c = ![m.val, 32 * b.val, 512 * g.val + 128 * c.val])

/-! ## A tile -/

theorem tileStep_codes (b : Fin 16) (g : Fin 7) (c : Fin 4) (s : Mem F) (y : S512x3584.Idx) :
    (tileStep W P off b g c s).codes y
      = if (y 0).val / 32 = b.val ∧ (y 1).val / 128 = 4 * g.val + c.val then codesBlock W P y else s.codes y := by
  have h0 : (y 0).val < 512 := (y 0).isLt
  have h1 : (y 1).val < 3584 := (y 1).isLt
  show put s.codes _ _ _ y = _
  split
  · next h =>
    obtain ⟨hb, hc⟩ := h
    have eb : stripAt (y 0).val = b := Fin.ext (show (y 0).val / 32 % 16 = b.val by omega)
    have eg : groupAt (y 1).val = g := Fin.ext (show (y 1).val / 512 % 7 = g.val by omega)
    have ec : tileAt (y 1).val = c := Fin.ext (show (y 1).val / 128 % 4 = c.val by omega)
    refine (put_hit (s := S512x3584) _ _ S32x128.size _ _
      (ix2 (n0 := 32) (n1 := 128) ⟨(y 0).val % 32, by omega⟩ ⟨(y 1).val % 128, by omega⟩) fun a => ?_).trans ?_
    · match a with
      | ⟨0, _⟩ => show (y 0).val = 32 * b.val + (y 0).val % 32; omega
      | ⟨1, _⟩ => show (y 1).val = 512 * g.val + 128 * c.val + (y 1).val % 128; omega
    · unfold codesBlock; rw [eb, eg, ec]
  · next h =>
    by_cases hb : (y 0).val / 32 = b.val
    · have hc : ¬ (y 1).val / 128 = 4 * g.val + c.val := fun e => h ⟨hb, e⟩
      exact put_miss _ _ _ _ _ 1 (show (y 1).val < 512 * g.val + 128 * c.val
        ∨ 512 * g.val + 128 * c.val + 128 ≤ (y 1).val by omega)
    · exact put_miss _ _ _ _ _ 0 (show (y 0).val < 32 * b.val ∨ 32 * b.val + 32 ≤ (y 0).val by omega)

include hoff in
theorem tileStep_wide (b : Fin 16) (g : Fin 7) (c : Fin 4) (s : Mem F) (z : S1x512x3584.Idx) :
    half (tileStep W P off b g c s).wide m z
      = if (z 1).val / 32 = b.val ∧ (z 2).val / 128 = 4 * g.val + c.val then wideBlock W P z else half s.wide m z := by
  have h0 : (z 0).val < 1 := (z 0).isLt
  have h1 : (z 1).val < 512 := (z 1).isLt
  have h2 : (z 2).val < 3584 := (z 2).isLt
  show put s.wide (off b g c) _ _ ((Rect.unit (s := S2x512x3584) ![m.val, 0, 0] S1x512x3584.size (half_inb m)).emb z) = _
  rw [hoff]
  split
  · next h =>
    obtain ⟨hb, hc⟩ := h
    have eb : stripAt (z 1).val = b := Fin.ext (show (z 1).val / 32 % 16 = b.val by omega)
    have eg : groupAt (z 2).val = g := Fin.ext (show (z 2).val / 512 % 7 = g.val by omega)
    have ec : tileAt (z 2).val = c := Fin.ext (show (z 2).val / 128 % 4 = c.val by omega)
    refine (put_hit (s := S2x512x3584) _ _ S1x32x128.size _ _
      (ix3 (n0 := 1) (n1 := 32) (n2 := 128) 0 ⟨(z 1).val % 32, by omega⟩ ⟨(z 2).val % 128, by omega⟩) fun a => ?_).trans ?_
    · match a with
      | ⟨0, _⟩ => show m.val + 1 * (z 0).val = m.val + 0; omega
      | ⟨1, _⟩ => show 0 + 1 * (z 1).val = 32 * b.val + (z 1).val % 32; omega
      | ⟨2, _⟩ => show 0 + 1 * (z 2).val = 512 * g.val + 128 * c.val + (z 2).val % 128; omega
    · unfold wideBlock; rw [eb, eg, ec]
  · next h =>
    by_cases hb : (z 1).val / 32 = b.val
    · have hc : ¬ (z 2).val / 128 = 4 * g.val + c.val := fun e => h ⟨hb, e⟩
      exact put_miss _ _ _ _ _ 2 (show 0 + 1 * (z 2).val < 512 * g.val + 128 * c.val
        ∨ 512 * g.val + 128 * c.val + 128 ≤ 0 + 1 * (z 2).val by omega)
    · exact put_miss _ _ _ _ _ 1 (show 0 + 1 * (z 1).val < 32 * b.val ∨ 32 * b.val + 32 ≤ 0 + 1 * (z 1).val by omega)

include hoff in
theorem tileStep_other (m' : Fin 2) (hm : m' ≠ m) (b : Fin 16) (g : Fin 7) (c : Fin 4) (s : Mem F) :
    half (tileStep W P off b g c s).wide m' = half s.wide m' := by
  funext z
  have h0 : (z 0).val < 1 := (z 0).isLt
  have hm' : m'.val ≠ m.val := fun h => hm (Fin.ext h)
  show put s.wide (off b g c) _ _ ((Rect.unit (s := S2x512x3584) ![m'.val, 0, 0] S1x512x3584.size (half_inb m')).emb z) = _
  rw [hoff]
  exact put_miss _ _ _ _ _ 0 (show m'.val + 1 * (z 0).val < m.val ∨ m.val + 1 ≤ m'.val + 1 * (z 0).val by omega)

/-! ## A group -/

theorem e0 : ((0 : Fin 4) : ℕ) = 0 := rfl
theorem e1 : ((1 : Fin 4) : ℕ) = 1 := rfl
theorem e2 : ((2 : Fin 4) : ℕ) = 2 := rfl
theorem e3 : ((3 : Fin 4) : ℕ) = 3 := rfl

theorem groupStep_codes (b : Fin 16) (g : Fin 7) (s : Mem F) (y : S512x3584.Idx) :
    (groupStep W P off b g s).codes y
      = if (y 0).val / 32 = b.val ∧ (y 1).val / 512 = g.val then codesBlock W P y else s.codes y := by
  show (tileStep W P off b g 3 _).codes y = _
  simp only [tileStep_codes, e0, e1, e2, e3]
  split_ifs <;> first | rfl | omega

include hoff in
theorem groupStep_wide (b : Fin 16) (g : Fin 7) (s : Mem F) (z : S1x512x3584.Idx) :
    half (groupStep W P off b g s).wide m z
      = if (z 1).val / 32 = b.val ∧ (z 2).val / 512 = g.val then wideBlock W P z else half s.wide m z := by
  show half (tileStep W P off b g 3 _).wide m z = _
  simp only [tileStep_wide W P m off hoff, e0, e1, e2, e3]
  split_ifs <;> first | rfl | omega

include hoff in
theorem groupStep_other (m' : Fin 2) (hm : m' ≠ m) (b : Fin 16) (g : Fin 7) (s : Mem F) :
    half (groupStep W P off b g s).wide m' = half s.wide m' := by
  show half (tileStep W P off b g 3 _).wide m' = _
  simp only [tileStep_other W P m off hoff m' hm]

/-! ## A strip -/

theorem runGroups_codes (b : Fin 16) (gs : List (Fin 7)) (y : S512x3584.Idx) (g : Fin 7) (hg : (y 1).val / 512 = g.val) :
    ∀ (s : Mem F), (runGroupsStep W P off b gs s).codes y
      = if (y 0).val / 32 = b.val ∧ g ∈ gs then codesBlock W P y else s.codes y := by
  induction gs with
  | nil => intro s; rw [if_neg (fun h => List.not_mem_nil h.2)]; rfl
  | cons g' gs ih =>
    intro s
    show (runGroupsStep W P off b gs _).codes y = _
    rw [ih, groupStep_codes, hg]
    by_cases hb : (y 0).val / 32 = b.val
    · by_cases h : g ∈ gs
      · rw [if_pos ⟨hb, h⟩, if_pos ⟨hb, List.mem_cons_of_mem _ h⟩]
      · rw [if_neg fun e => h e.2]
        by_cases h' : g = g'
        · subst h'; rw [if_pos ⟨hb, rfl⟩, if_pos ⟨hb, List.mem_cons_self⟩]
        · rw [if_neg (fun e => h' (Fin.ext e.2)), if_neg (by simp [h, h'])]
    · rw [if_neg fun e => hb e.1, if_neg fun e => hb e.1, if_neg fun e => hb e.1]

include hoff in
theorem runGroups_wide (b : Fin 16) (gs : List (Fin 7)) (z : S1x512x3584.Idx) (g : Fin 7) (hg : (z 2).val / 512 = g.val) :
    ∀ (s : Mem F), half (runGroupsStep W P off b gs s).wide m z
      = if (z 1).val / 32 = b.val ∧ g ∈ gs then wideBlock W P z else half s.wide m z := by
  induction gs with
  | nil => intro s; rw [if_neg (fun h => List.not_mem_nil h.2)]; rfl
  | cons g' gs ih =>
    intro s
    show half (runGroupsStep W P off b gs _).wide m z = _
    rw [ih, groupStep_wide W P m off hoff, hg]
    by_cases hb : (z 1).val / 32 = b.val
    · by_cases h : g ∈ gs
      · rw [if_pos ⟨hb, h⟩, if_pos ⟨hb, List.mem_cons_of_mem _ h⟩]
      · rw [if_neg fun e => h e.2]
        by_cases h' : g = g'
        · subst h'; rw [if_pos ⟨hb, rfl⟩, if_pos ⟨hb, List.mem_cons_self⟩]
        · rw [if_neg (fun e => h' (Fin.ext e.2)), if_neg (by simp [h, h'])]
    · rw [if_neg fun e => hb e.1, if_neg fun e => hb e.1, if_neg fun e => hb e.1]

include hoff in
theorem runGroups_other (m' : Fin 2) (hm : m' ≠ m) (b : Fin 16) (gs : List (Fin 7)) : ∀ (s : Mem F),
    half (runGroupsStep W P off b gs s).wide m' = half s.wide m' := by
  induction gs with
  | nil => intros; rfl
  | cons g gs ih => exact fun s => (ih _).trans (groupStep_other W P m off hoff m' hm b g s)

theorem runGroups_out (b : Fin 16) (gs : List (Fin 7)) : ∀ (s : Mem F), (runGroupsStep W P off b gs s).out = s.out := by
  induction gs with
  | nil => intros; rfl
  | cons g gs ih => exact fun s => (ih _).trans rfl

theorem runGroups_bytes (b : Fin 16) (gs : List (Fin 7)) : ∀ (s : Mem F),
    (runGroupsStep W P off b gs s).bytes = s.bytes := by
  induction gs with
  | nil => intros; rfl
  | cons g gs ih => exact fun s => (ih _).trans rfl

theorem mem_allGroups : ∀ g : Fin 7, g ∈ allGroups := by decide

theorem bytesStep_out (b : Fin 16) (s : Mem F) : (bytesStep P b s).out = s.out := rfl
theorem bytesStep_codes (b : Fin 16) (s : Mem F) : (bytesStep P b s).codes = s.codes := rfl
theorem bytesStep_wide (b : Fin 16) (s : Mem F) : (bytesStep P b s).wide = s.wide := rfl

/-- The contents after a strip. -/
def stripStep (b : Fin 16) (s : Mem F) : Mem F := bytesStep P b (runGroupsStep W P off b allGroups s)

theorem stripStep_codes (b : Fin 16) (s : Mem F) (y : S512x3584.Idx) :
    (stripStep W P off b s).codes y = if (y 0).val / 32 = b.val then codesBlock W P y else s.codes y := by
  have h1 : (y 1).val < 3584 := (y 1).isLt
  unfold stripStep
  rw [bytesStep_codes]
  refine (runGroups_codes W P off b allGroups y ⟨(y 1).val / 512, by omega⟩ rfl s).trans ?_
  by_cases hb : (y 0).val / 32 = b.val
  · rw [if_pos ⟨hb, mem_allGroups _⟩, if_pos hb]
  · rw [if_neg fun e => hb e.1, if_neg hb]

include hoff in
theorem stripStep_wide (b : Fin 16) (s : Mem F) (z : S1x512x3584.Idx) :
    half (stripStep W P off b s).wide m z = if (z 1).val / 32 = b.val then wideBlock W P z else half s.wide m z := by
  have h2 : (z 2).val < 3584 := (z 2).isLt
  unfold stripStep
  rw [bytesStep_wide]
  refine (runGroups_wide W P m off hoff b allGroups z ⟨(z 2).val / 512, by omega⟩ rfl s).trans ?_
  by_cases hb : (z 1).val / 32 = b.val
  · rw [if_pos ⟨hb, mem_allGroups _⟩, if_pos hb]
  · rw [if_neg fun e => hb e.1, if_neg hb]

include hoff in
theorem stripStep_other (m' : Fin 2) (hm : m' ≠ m) (b : Fin 16) (s : Mem F) :
    half (stripStep W P off b s).wide m' = half s.wide m' := by
  unfold stripStep
  rw [bytesStep_wide]
  exact runGroups_other W P m off hoff m' hm b allGroups s

theorem stripStep_out (b : Fin 16) (s : Mem F) : (stripStep W P off b s).out = s.out := by
  unfold stripStep
  rw [bytesStep_out]
  exact runGroups_out W P off b allGroups s

theorem stripStep_bytes (b : Fin 16) (s : Mem F) (y : S512x112.Idx) :
    (stripStep W P off b s).bytes y = if (y 0).val / 32 = b.val then bytesBlock P y else s.bytes y := by
  have h0 : (y 0).val < 512 := (y 0).isLt
  have h1 : (y 1).val < 112 := (y 1).isLt
  show put (runGroupsStep W P off b allGroups s).bytes _ _ _ y = _
  rw [runGroups_bytes]
  split
  · next h =>
    have eb : stripAt (y 0).val = b := Fin.ext (show (y 0).val / 32 % 16 = b.val by omega)
    refine (put_hit (s := S512x112) _ _ S32x112.size _ _
      (ix2 (n0 := 32) (n1 := 112) ⟨(y 0).val % 32, by omega⟩ (y 1)) fun a => ?_).trans ?_
    · match a with
      | ⟨0, _⟩ => show (y 0).val = 32 * b.val + (y 0).val % 32; omega
      | ⟨1, _⟩ => show (y 1).val = 0 + (y 1).val; omega
    · unfold bytesBlock; rw [eb]
  · next h => exact put_miss _ _ _ _ _ 0 (show (y 0).val < 32 * b.val ∨ 32 * b.val + 32 ≤ (y 0).val by omega)

/-! ## Some strips -/

/-- A part of the contents that each strip writes once is written by the strips in a list. -/
theorem runStrips_part {α : Type} (part : Mem F → α) (v : α) (n : Fin 16)
    (h : ∀ (b : Fin 16) (s : Mem F), part (stripStep W P off b s) = if n = b then v else part s) (bs : List (Fin 16)) :
    ∀ (s : Mem F), part (runStripsStep W P off bs s) = if n ∈ bs then v else part s := by
  induction bs with
  | nil => intro s; rw [if_neg List.not_mem_nil]; rfl
  | cons b bs ih =>
    intro s
    refine (ih (stripStep W P off b s)).trans ?_
    rw [h]
    by_cases h1 : n ∈ bs
    · rw [if_pos h1, if_pos (List.mem_cons_of_mem _ h1)]
    · rw [if_neg h1]
      by_cases h2 : n = b
      · rw [if_pos h2, if_pos (h2 ▸ List.mem_cons_self)]
      · rw [if_neg h2, if_neg (by simp [h1, h2])]

include hoff in
theorem runStrips_other (m' : Fin 2) (hm : m' ≠ m) (bs : List (Fin 16)) : ∀ (s : Mem F),
    half (runStripsStep W P off bs s).wide m' = half s.wide m' := by
  induction bs with
  | nil => intros; rfl
  | cons b bs ih => exact fun s => (ih _).trans (stripStep_other W P m off hoff m' hm b s)

theorem runStrips_out (bs : List (Fin 16)) : ∀ (s : Mem F), (runStripsStep W P off bs s).out = s.out := by
  induction bs with
  | nil => intros; rfl
  | cons b bs ih => exact fun s => (ih _).trans (stripStep_out W P off b s)

/-- A strip writes the codes of its rows, -/
theorem part_codes (y : S512x3584.Idx) (n : Fin 16) (hn : (y 0).val / 32 = n.val) (b : Fin 16) (s : Mem F) :
    (stripStep W P off b s).codes y = if n = b then codesBlock W P y else s.codes y := by
  rw [stripStep_codes, hn]; simp only [Fin.ext_iff]

/-- their bytes, -/
theorem part_bytes (y : S512x112.Idx) (n : Fin 16) (hn : (y 0).val / 32 = n.val) (b : Fin 16) (s : Mem F) :
    (stripStep W P off b s).bytes y = if n = b then bytesBlock P y else s.bytes y := by
  rw [stripStep_bytes, hn]; simp only [Fin.ext_iff]

include hoff in
/-- and their widened codes. -/
theorem part_wide (z : S1x512x3584.Idx) (n : Fin 16) (hn : (z 1).val / 32 = n.val) (b : Fin 16) (s : Mem F) :
    half (stripStep W P off b s).wide m z = if n = b then wideBlock W P z else half s.wide m z := by
  rw [stripStep_wide W P m off hoff, hn]; simp only [Fin.ext_iff]

/-! ## Some steps -/

variable (m' : Fin 2) (hm : m' ≠ m) (doff : Fin 3 → Nat)
  (hdoff : ∀ a, doff a + S1x512x3584.size a ≤ S2x512x3584.size a) (hd : doff = ![m'.val, 0, 0])

include hd in
theorem dotStep_out (j : Fin 4) (s : Mem F) (y : S1920x512.Idx) :
    (dotStep X doff hdoff j s).out y
      = if (y 0).val / 480 = j.val then outBlock X (half s.wide m') y else s.out y := by
  subst hd
  have h0 : (y 0).val < 1920 := (y 0).isLt
  have h1 : (y 1).val < 512 := (y 1).isLt
  show put s.out ![480 * j.val, 0] _ _ y = _
  split
  · next h =>
    refine (put_hit (s := S1920x512) _ _ S480x512.size _ _
      (ix2 (n0 := 480) (n1 := 512) ⟨(y 0).val % 480, by omega⟩ (y 1)) fun a => ?_).trans ?_
    · match a with
      | ⟨0, _⟩ => show (y 0).val = 480 * j.val + (y 0).val % 480; omega
      | ⟨1, _⟩ => show (y 1).val = 0 + (y 1).val; omega
    · have hj : (⟨(y 0).val / 480, by omega⟩ : Fin 4) = j := Fin.ext h
      unfold outBlock; rw [hj]; rfl
  · next h =>
    exact put_miss _ _ _ _ _ 0 (show (y 0).val < 480 * j.val ∨ 480 * j.val + 480 ≤ (y 0).val by omega)

/-- The same for the steps: a part that the products leave is written by the strips among the steps. -/
theorem runSteps_part {α : Type} (part : Mem F → α) (v : α) (n : Fin 16)
    (h : ∀ (b : Fin 16) (s : Mem F), part (stripStep W P off b s) = if n = b then v else part s)
    (h' : ∀ (j : Fin 4) (s : Mem F), part (dotStep X doff hdoff j s) = part s) (ps : List (Fin 4 × List (Fin 16))) :
    ∀ (s : Mem F), part (runStepsStep X W P off doff hdoff ps s) = if n ∈ ps.flatMap (·.2) then v else part s := by
  induction ps with
  | nil => intro s; exact (if_neg List.not_mem_nil).symm
  | cons p ps ih =>
    intro s
    refine (ih (runStripsStep W P off p.2 (dotStep X doff hdoff p.1 s))).trans ?_
    rw [runStrips_part W P off part v n h, h']
    simp only [List.flatMap_cons, List.mem_append]
    by_cases h1 : n ∈ ps.flatMap (·.2)
    · rw [if_pos h1, if_pos (.inr h1)]
    · rw [if_neg h1]
      by_cases h2 : n ∈ p.2
      · rw [if_pos h2, if_pos (.inl h2)]
      · rw [if_neg h2, if_neg (by simp only [h1, h2, or_self, not_false_eq_true])]

include hoff hm hd in
theorem runSteps_out (ps : List (Fin 4 × List (Fin 16))) (y : S1920x512.Idx) (j : Fin 4) (hj : (y 0).val / 480 = j.val) :
    ∀ (s : Mem F), (runStepsStep X W P off doff hdoff ps s).out y
      = if j ∈ ps.map (·.1) then outBlock X (half s.wide m') y else s.out y := by
  induction ps with
  | nil => intros; rfl
  | cons p ps ih =>
    intro s
    show (runStepsStep X W P off doff hdoff ps _).out y = _
    rw [ih, runStrips_other W P m off hoff m' hm, runStrips_out, dotStep_out X m' doff hdoff hd, hj]
    have e : half (dotStep X doff hdoff p.1 s).wide m' = half s.wide m' := rfl
    rw [e]
    by_cases h : j ∈ ps.map (·.1)
    · rw [if_pos h, List.map_cons, if_pos (List.mem_cons_of_mem _ h)]
    · rw [if_neg h, List.map_cons]
      by_cases h' : j = p.1
      · rw [if_pos (congrArg Fin.val h'), if_pos (h' ▸ List.mem_cons_self)]
      · rw [if_neg (fun e => h' (Fin.ext e)), if_neg (by simp only [List.mem_cons, h, h', or_self, not_false_eq_true])]

/-! ## A grid point -/

theorem mem_allStrips : ∀ r : Fin 16, r ∈ allStrips := by decide
theorem mem_steps : ∀ r : Fin 16, r ∈ (steps.flatMap (·.2)) := by decide
theorem mem_dots : ∀ j : Fin 4, j ∈ (steps.map (·.1)) := by decide

theorem first_codes (s : Mem F) : (firstStep W P off s).codes = codesBlock W P := by
  funext y
  have h0 : (y 0).val < 512 := (y 0).isLt
  exact (runStrips_part W P off (fun s => s.codes y) _ ⟨(y 0).val / 32, by omega⟩ (part_codes W P off y _ rfl) allStrips s).trans
    (if_pos (mem_allStrips _))

theorem first_bytes (s : Mem F) : (firstStep W P off s).bytes = bytesBlock P := by
  funext y
  have h0 : (y 0).val < 512 := (y 0).isLt
  exact (runStrips_part W P off (fun s => s.bytes y) _ ⟨(y 0).val / 32, by omega⟩ (part_bytes W P off y _ rfl) allStrips s).trans
    (if_pos (mem_allStrips _))

include hoff in
theorem first_wide (s : Mem F) : half (firstStep W P off s).wide m = wideBlock W P := by
  funext z
  have h0 : (z 1).val < 512 := (z 1).isLt
  exact (runStrips_part W P off (fun s => half s.wide m z) _ ⟨(z 1).val / 32, by omega⟩ (part_wide W P m off hoff z _ rfl)
    allStrips s).trans (if_pos (mem_allStrips _))

theorem first_out (s : Mem F) : (firstStep W P off s).out = s.out := runStrips_out W P off allStrips s

theorem later_codes (s : Mem F) : (laterStep X W P off doff hdoff s).codes = codesBlock W P := by
  funext y
  have h0 : (y 0).val < 512 := (y 0).isLt
  exact (runSteps_part X W P off doff hdoff (fun s => s.codes y) _ ⟨(y 0).val / 32, by omega⟩ (part_codes W P off y _ rfl)
    (fun _ _ => rfl) steps s).trans (if_pos (mem_steps _))

theorem later_bytes (s : Mem F) : (laterStep X W P off doff hdoff s).bytes = bytesBlock P := by
  funext y
  have h0 : (y 0).val < 512 := (y 0).isLt
  exact (runSteps_part X W P off doff hdoff (fun s => s.bytes y) _ ⟨(y 0).val / 32, by omega⟩ (part_bytes W P off y _ rfl)
    (fun _ _ => rfl) steps s).trans (if_pos (mem_steps _))

include hoff in
theorem later_wide (s : Mem F) : half (laterStep X W P off doff hdoff s).wide m = wideBlock W P := by
  funext z
  have h0 : (z 1).val < 512 := (z 1).isLt
  exact (runSteps_part X W P off doff hdoff (fun s => half s.wide m z) _ ⟨(z 1).val / 32, by omega⟩
    (part_wide W P m off hoff z _ rfl) (fun _ _ => rfl) steps s).trans (if_pos (mem_steps _))

include hoff hm hd in
theorem later_out (s : Mem F) : (laterStep X W P off doff hdoff s).out = outBlock X (half s.wide m') := by
  funext y
  have h0 : (y 0).val < 1920 := (y 0).isLt
  exact (runSteps_out X W P m off hoff m' hm doff hdoff hd steps y ⟨(y 0).val / 480, by omega⟩ rfl s).trans
    (if_pos (mem_dots _))

end Cert.Fp
-- ==== Proof.FFrameIdeal.lean ====
/- The run of the forward product over the reals: what each grid point leaves in its windows, what the scratch carries from
   one grid point to the next, and the frame.

   At every point the body writes the codes and the scale bytes of the point's block, and keeps the widened codes in one
   half of the scratch. From the second point on it also writes the product of the block before, out of the other half. -/
module

public import proofs.«01_k».proof.Proof.FBody
public import proofs.«01_k».proof.Proof.FContents
public import Idealize.ShloMosaic.Lib.Claim
public import proofs.«01_k».proof.Proof.Gen.FpropIdeal.Frame

@[expose] public section

set_option maxRecDepth 200000

noncomputable section

namespace Cert.FpropIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FpropIdeal Cert.FpropIdeal.Gen Cert.FpropIdeal.Facts Cert.FpropIdeal.Facts₀

variable {F : FTy → Type} [FloatOps F]

local notation "𝕄" => MT nD τ sig Unit (Elt F) ℕ (UR sig nD τ) ℕ

/-! ## The grid -/

theorem cond1_iff : ∀ i : grid0.Coords, k0_cond1 i = 1#1 ↔ (i 0).val = 0 := by decide +kernel
theorem cond2_iff : ∀ i : grid0.Coords, k0_cond2 i = 1#1 ↔ (i 0).val ≠ 0 := by decide +kernel
theorem coords_val : ∀ t : Fin grid0.N, (grid0.coords t 0).val = t.val := by decide +kernel
theorem flush_first : (cfg0.win 2).flush (⟨0, by decide⟩ : Fin cfg0.N) = false := by decide +kernel

/-! ## The body -/

section
variable (c : Dev nD) (E : Set ℕ) (i : grid0.Coords) (arg1 : Memref sig .tc .vmem S1920x3584 .bf16) (harg1 : arg1.IsWhole)
  (arg2 : Memref sig .tc .vmem S512x3584 .bf16) (harg2 : arg2.IsWhole)
  (arg3 : Memref sig .tc .vmem S1920x512 .bf16) (harg3 : arg3.IsWhole)
  (arg4 : Memref sig .tc .vmem S512x3584 .fp8e4m3) (harg4 : arg4.IsWhole)
  (arg5 : Memref sig .tc .vmem S512x112 .i8) (harg5 : arg5.IsWhole)
  (arg6 : Memref sig .tc .vmem S2x512x3584 .bf16) (harg6 : arg6.IsWhole)
  (X : Vec F S1920x3584 .bf16) (W : Vec F S512x3584 .bf16)

theorem sound_first (h : (i 0).val = 0) (s : Fp.Mem F) (k : PUnit → sProp 𝕄) :
    iprop(Fp.held c arg1 arg2 arg3 arg4 arg5 arg6 X W s
        ∗ (Fp.held c arg1 arg2 arg3 arg4 arg5 arg6 X W (Fp.firstStep W (Fp.powers W) (off i) s) -∗ k ⟨⟩))
      ⊢ wp frame (wpE (defs₀ (F := F)) Variants.none c none) E
        (cc0_fprop i arg1 harg1 arg2 harg2 arg3 harg3 arg4 harg4 arg5 harg5 arg6 harg6) k := by
  have h1 : k0_cond1 i = 1#1 := (cond1_iff i).2 h
  have h2 : ¬ k0_cond2 i = 1#1 := fun e => (cond2_iff i).1 e h
  rw [body_eq]
  unfold body
  refine Fp.run_bind _ _ _ _ _ _ _ _ _ _ _ (Fp.load_run _ _ _ _ _ _ _ _ _ _ _ s) ?_
  rw [dif_pos h1, dif_neg h2]
  exact Fp.first_run _ _ _ _ _ _ _ harg4 _ harg5 _ harg6 _ _ _ (off i) (off_inb i) (off_packed i) s k

theorem sound_later (h : (i 0).val ≠ 0) (hd : ∀ a, k0_off449 i a + S1x512x3584.size a ≤ S2x512x3584.size a)
    (s : Fp.Mem F) (k : PUnit → sProp 𝕄) :
    iprop(Fp.held c arg1 arg2 arg3 arg4 arg5 arg6 X W s
        ∗ (Fp.held c arg1 arg2 arg3 arg4 arg5 arg6 X W
            (Fp.laterStep X W (Fp.powers W) (off i) (k0_off449 i) hd s) -∗ k ⟨⟩))
      ⊢ wp frame (wpE (defs₀ (F := F)) Variants.none c none) E
        (cc0_fprop i arg1 harg1 arg2 harg2 arg3 harg3 arg4 harg4 arg5 harg5 arg6 harg6) k := by
  have h1 : ¬ k0_cond1 i = 1#1 := fun e => h ((cond1_iff i).1 e)
  have h2 : k0_cond2 i = 1#1 := (cond2_iff i).2 h
  rw [body_eq]
  unfold body
  refine Fp.run_bind _ _ _ _ _ _ _ _ _ _ _ (Fp.load_run _ _ _ _ _ _ _ _ _ _ _ s) ?_
  rw [dif_neg h1, dif_pos h2]
  exact Fp.later_run _ _ _ _ _ _ harg3 _ harg4 _ harg5 _ harg6 _ _ _ (off i) (off_inb i) (off_packed i) (k0_off449 i)
    hd s k

end

/-! ## The pipeline's proof data -/

variable (m : (ℓ : Loc nD τ sig) → Buf (Elt F) ℓ) (ρ : Dev nD → PrngReg)

/-- The other operand, whole at every point. -/
def xAt (c : Dev nD) (t : Fin cfg0.N) : Vec F S1920x3584 .bf16 := iblk m c 0 t
/-- The block of weights at a point. -/
def wAt (c : Dev nD) (t : Fin cfg0.N) : Vec F S512x3584 .bf16 := iblk m c 1 t
/-- The widened codes of the block at a point. -/
def wideAt (c : Dev nD) (t : Fin cfg0.N) : Vec F S1x512x3584 .bf16 :=
  Fp.wideBlock (wAt m c t) (Fp.powers (wAt m c t))
/-- The point before, or the first. -/
def prev (t : Fin cfg0.N) : Fin cfg0.N := ⟨t.val - 1, by have := t.isLt; omega⟩
/-- The half of the scratch that a point fills. -/
def slot (t : Fin cfg0.N) : Fin 2 := ⟨t.val % 2, Nat.mod_lt _ (by decide)⟩

/-- What is held between the points: the scratch, with the widened codes of the point before. -/
def carried (c : Dev nD) (n : ℕ) : sProp 𝕄 :=
  iprop((∃ S6 : Vec F S2x512x3584 .bf16, ⌜∀ t : Fin cfg0.N, t.val + 1 = n → Fp.half S6 (slot t) = wideAt m c t⌝
        ∗ owns (c : Thread nD τ) (Memref.whole cc0_scratch0) fullShare S6)
      ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Fp.outBlock (xAt m c t) (wideAt m c (prev t))
    | ⟨3, _⟩ => Fp.codesBlock (wAt m c t) (Fp.powers (wAt m c t))
    | ⟨4, _⟩ => Fp.bytesBlock (Fp.powers (wAt m c t))
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = Fp.outBlock (xAt m c t) (wideAt m c (prev t)) := by dsimp only [dats]
theorem after_3 (c : Dev nD) (t : Fin cfg0.N) :
    (dats m 0 c).after 3 t = Fp.codesBlock (wAt m c t) (Fp.powers (wAt m c t)) := by dsimp only [dats]
theorem after_4 (c : Dev nD) (t : Fin cfg0.N) :
    (dats m 0 c).after 4 t = Fp.bytesBlock (Fp.powers (wAt m c t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem phi_eq (c : Dev nD) (t : Fin (cfg0.N + 1)) : (dats m 0 c).Φ t = carried m c t.val := by dsimp only [dats]

/-! ## The body at a point -/

/-- What the body is called with at a point. -/
def bodyPre (c : Dev nD) (t : Fin cfg0.N) : sProp 𝕄 :=
  iprop(carried m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns, the product's window at `R`. -/
def bodyPost (c : Dev nD) (t : Fin cfg0.N) (R : sProp 𝕄) : sProp 𝕄 :=
  iprop(carried m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ R
    ∗ owns (c : Thread nD τ) (st0_3 t) fullShare ((dats m 0 c).after 3 t)
    ∗ owns (c : Thread nD τ) (st0_4 t) fullShare ((dats m 0 c).after 4 t))

theorem carry (c : Dev nD) (t : Fin cfg0.N) (S : Vec F S2x512x3584 .bf16) (h : Fp.half S (slot t) = wideAt m c t) :
    ∀ t' : Fin cfg0.N, t'.val + 1 = t.val + 1 → Fp.half S (slot t') = wideAt m c t' := fun t' e => by
  have : t' = t := Fin.ext (by omega)
  subst this; exact h

theorem body_first (c : Dev nD) (t : Fin cfg0.N) (h : t.val = 0) :
    bodyPre m c t ⊢ wp frame (wpE (defs₀ (F := F)) Variants.none c none) Set.univ (bodyAt0 t)
      (fun _ => bodyPost m c t iprop(∃ d, owns (c : Thread nD τ) (st0_2 t) fullShare ((dats m 0 c).before 2 t d))) := by
  have hi : (grid0.coords t 0).val = 0 := (coords_val t).trans h
  have hoff : ∀ b g q, off (grid0.coords t) b g q = ![(slot t).val, 32 * b.val, 512 * g.val + 128 * q.val] := fun b g q =>
    (off_eq _ b g q).trans (by rw [coords_val]; rfl)
  unfold bodyPre bodyPost bodyAt0 carried
  simp only [before_0, before_1]
  rw [show (dats m 0 c).owesAt () t.succ = (dats m 0 c).owesAt () t.castSucc from rfl,
    after_0, after_1, after_3, after_4]
  iintro ⟨⟨⟨%S6, -, H6⟩, Hr⟩, Ho, ⟨%d0, H0⟩, ⟨%d1, H1⟩, ⟨%d2, H2⟩, ⟨%d3, H3⟩, ⟨%d4, H4⟩⟩
  iapply (sound_first c Set.univ (grid0.coords t) _ _ _ _ _ _ _ _ _ _ _ _ (xAt m c t) (wAt m c t) hi
    ⟨(dats m 0 c).before 2 t d2, (dats m 0 c).before 3 t d3, (dats m 0 c).before 4 t d4, S6⟩ _)
  unfold Fp.held
  rw [Fp.first_codes, Fp.first_bytes, Fp.first_out]
  isplitl [H0 H1 H2 H3 H4 H6]
  · isplitl [H0]; · iexact H0
    isplitl [H1]; · iexact H1
    isplitl [H2]; · iexact H2
    isplitl [H3]; · iexact H3
    isplitl [H4]; · iexact H4
    iexact H6
  iintro ⟨H0, H1, H2, H3, H4, H6⟩
  isplitl [H6 Hr]
  · isplitl [H6]
    · iexists _; isplitr
      swap; · iexact H6
      ipureintro
      exact carry m c t _ (Fp.first_wide _ _ (slot t) _ hoff _)
    iexact Hr
  isplitl [Ho]; · iexact Ho
  isplitl [H0]; · iexact H0
  isplitl [H1]; · iexact H1
  isplitl [H2]; · iexists d2; iexact H2
  isplitl [H3]; · iexact H3
  iexact H4

theorem body_later (c : Dev nD) (t : Fin cfg0.N) (h : t.val ≠ 0) :
    bodyPre m c t ⊢ wp frame (wpE (defs₀ (F := F)) Variants.none c none) Set.univ (bodyAt0 t)
      (fun _ => bodyPost m c t (owns (c : Thread nD τ) (st0_2 t) fullShare ((dats m 0 c).after 2 t))) := by
  have hi : (grid0.coords t 0).val ≠ 0 := fun e => h ((coords_val t).symm.trans e)
  have hoff : ∀ b g q, off (grid0.coords t) b g q = ![(slot t).val, 32 * b.val, 512 * g.val + 128 * q.val] := fun b g q =>
    (off_eq _ b g q).trans (by rw [coords_val]; rfl)
  have hd : k0_off449 (grid0.coords t) = ![(slot (prev t)).val, 0, 0] := (doff_eq _).trans (by
    rw [coords_val]
    have e : 1 - t.val % 2 = (t.val - 1) % 2 := by omega
    rw [e]; rfl)
  have hdo : ∀ a, k0_off449 (grid0.coords t) a + S1x512x3584.size a ≤ S2x512x3584.size a := by
    rw [hd]; exact Fp.half_inb _
  have hne : slot (prev t) ≠ slot t := fun e => by
    have : (t.val - 1) % 2 = t.val % 2 := congrArg Fin.val e
    omega
  have hp : (prev t).val + 1 = t.val := by show t.val - 1 + 1 = t.val; omega
  unfold bodyPre bodyPost bodyAt0 carried
  simp only [before_0, before_1]
  rw [show (dats m 0 c).owesAt () t.succ = (dats m 0 c).owesAt () t.castSucc from rfl,
    after_0, after_1, after_2, after_3, after_4]
  iintro ⟨⟨⟨%S6, %hS6, H6⟩, Hr⟩, Ho, ⟨%d0, H0⟩, ⟨%d1, H1⟩, ⟨%d2, H2⟩, ⟨%d3, H3⟩, ⟨%d4, H4⟩⟩
  iapply (sound_later c Set.univ (grid0.coords t) _ _ _ _ _ _ _ _ _ _ _ _ (xAt m c t) (wAt m c t) hi hdo
    ⟨(dats m 0 c).before 2 t d2, (dats m 0 c).before 3 t d3, (dats m 0 c).before 4 t d4, S6⟩ _)
  unfold Fp.held
  rw [Fp.later_codes, Fp.later_bytes, Fp.later_out _ _ _ (slot t) _ hoff (slot (prev t)) hne _ hdo hd,
    hS6 _ hp]
  isplitl [H0 H1 H2 H3 H4 H6]
  · isplitl [H0]; · iexact H0
    isplitl [H1]; · iexact H1
    isplitl [H2]; · iexact H2
    isplitl [H3]; · iexact H3
    isplitl [H4]; · iexact H4
    iexact H6
  iintro ⟨H0, H1, H2, H3, H4, H6⟩
  isplitl [H6 Hr]
  · isplitl [H6]
    · iexists _; isplitr
      swap; · iexact H6
      ipureintro
      exact carry m c t _ (Fp.later_wide _ _ _ (slot t) _ hoff _ hdo _)
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The product's window is untouched at the first point only. -/
theorem idle_2 (t : Fin cfg0.N) : idle0 2 (grid0.coords t) = decide (t.val = 0) := by
  show (!(k0_cond2 (grid0.coords t) == 1#1)) = _
  by_cases h : t.val = 0
  · have e : ¬ k0_cond2 (grid0.coords t) = 1#1 := fun e => (cond2_iff _).1 e ((coords_val t).trans h)
    rw [beq_eq_false_iff_ne.2 e, decide_eq_true h]; rfl
  · have e : k0_cond2 (grid0.coords t) = 1#1 := (cond2_iff _).2 fun e => h ((coords_val t).symm.trans e)
    rw [e, decide_eq_false h]; rfl
/-- The other outputs are written at every point. -/
theorem idle_34 (t : Fin cfg0.N) : (!(k0_cond1 (grid0.coords t) == 1#1) && !(k0_cond2 (grid0.coords t) == 1#1)) = false := by
  by_cases h : (grid0.coords t 0).val = 0
  · rw [(cond1_iff _).2 h]; rfl
  · rw [(cond2_iff _).2 h, Bool.and_comm]; rfl
theorem idle_3 (t : Fin cfg0.N) : idle0 3 (grid0.coords t) = false := idle_34 t
theorem idle_4 (t : Fin cfg0.N) : idle0 4 (grid0.coords t) = false := idle_34 t
theorem flush_2 (t : Fin cfg0.N) (h : t.val = 0) : (win0 2).flush t = false := by
  have : t = ⟨0, by decide⟩ := Fin.ext h
  subst this; exact flush_first

theorem body_obligation (c : Dev nD) : BodyObligation (dats (F := F) m 0 c) (defs₀ (F := F)) Variants.none () Set.univ := fun t => by
  rw [bigSep_W0, bigSep_W0, defs₀_row]
  by_cases h : t.val = 0
  · have h2 := (idle_2 t).trans (decide_eq_true h)
    simp only
    rw [idle_3 t, h2, flush_2 t h]
    exact triple_restated (body_first m c t h) rfl .rfl fun _ => .rfl
  · have h2 := (idle_2 t).trans (decide_eq_false h)
    simp only
    rw [idle_3 t, h2]
    exact triple_restated (body_later m c t h) rfl .rfl fun _ => .rfl

/-! ## The run and the frame -/

/-- The region enters with the scratch at any contents, -/
theorem enter (c : Dev nD) : Pipeline.ΦA spec0 c ⊢ (dats (F := F) m 0 c).Φ 0 := by
  rw [phi_eq]
  unfold Pipeline.ΦA carried
  rw [scopedRest0_eq]
  simp only [owns_whole]
  iintro ⟨⟨%f, H6⟩, Hr⟩
  isplitl [H6]
  · iexists f; isplitr
    swap; · iexact H6
    ipureintro
    intro t e; exact absurd e (Nat.succ_ne_zero _)
  iexact Hr

/-- and leaves with it so. -/
theorem leave (c : Dev nD) : (dats (F := F) m 0 c).Φ (Fin.last cfg0.N) ⊢ Pipeline.ΦA spec0 c := by
  rw [phi_eq]
  unfold Pipeline.ΦA carried
  rw [scopedRest0_eq]
  simp only [owns_whole]
  iintro ⟨⟨%f, -, H6⟩, Hr⟩
  isplitl [H6]; · iexists f; iexact H6
  iexact Hr

set_option backward.isDefEq.respectTransparency.types false in
set_option maxHeartbeats 800000 in
/-- Every execution ends, with every array at what the proof data says and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: every execution ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FpropIdeal.Hand
-- ==== Proof.XLanes.lean ====
/- The maxima in the lanes, over the reals: after the exchanges, a lane holds the maximum of one block of 32 columns of
   one of the four tiles. -/
module

public import proofs.«01_k».proof.Proof.XProgram
public import proofs.«01_k».proof.Proof.Block

@[expose] public section

set_option maxRecDepth 16384

noncomputable section

namespace Cert.Xq

open Idealize.ShloMosaic
open Cert.Wgrad

/-! ## Which lane takes from which -/

/-- The lane that differs in one bit. -/
def flip (n : ℕ) (l : Fin 128) : Fin 128 := ⟨(if l.val / n % 2 = 0 then l.val + n else l.val - n) % 128, by omega⟩

/-- The tile whose maximum a lane holds. -/
def tileAt (l : Fin 128) : Fin 4 := ⟨l.val / 16 % 2 + 2 * (l.val / 8 % 2), by omega⟩

/-- The lane that holds tile `c`'s maximum of lane `l`'s block. -/
def srcAt (c : Fin 4) (l : Fin 128) : Fin 128 := ⟨l.val / 32 * 32 + 16 * (c.val % 2) + 8 * (c.val / 2), by omega⟩

/-- The lane that holds the maximum of block `l` of all the columns. -/
def compactAt (l : Fin 128) : Fin 128 :=
  ⟨l.val % 4 * 32 + l.val / 4 % 2 * 16 + l.val / 8 % 2 * 8 + l.val / 16 % 8, by omega⟩

theorem xor_lane (n : BitVec 32) (hn : n = 16#32 ∨ n = 8#32 ∨ n = 4#32 ∨ n = 2#32 ∨ n = 1#32) :
    ∀ l : Fin 128, IntOp.xori (BitVec.ofNat 32 l.val) n = BitVec.ofNat 32 (flip n.toNat l).val := by
  rcases hn with rfl | rfl | rfl | rfl | rfl <;> decide +kernel

theorem src_lane : ∀ (c : Fin 4) (l : Fin 128), IntOp.addi (IntOp.addi (IntOp.andi (BitVec.ofNat 32 l.val) 96#32)
    ((![0#32, 16#32, 0#32, 16#32] : Fin 4 → BitVec 32) c)) ((![0#32, 0#32, 8#32, 8#32] : Fin 4 → BitVec 32) c)
      = BitVec.ofNat 32 (srcAt c l).val := by decide +kernel

theorem compact_lane (r : Fin 16) : ∀ l : Fin 128, compact (ix2 r l) = BitVec.ofNat 32 (compactAt l).val := by
  revert r; decide +kernel

theorem xor_apply (n : BitVec 32) (hn : n = 16#32 ∨ n = 8#32 ∨ n = 4#32 ∨ n = 2#32 ∨ n = 1#32) (r : Fin 16) (l : Fin 128) :
    xori lane (broadcast S16x128 n) (ix2 r l) = BitVec.ofNat 32 (flip n.toNat l).val := by
  refine Eq.trans ?_ (xor_lane n hn l)
  pointwise [lane]

theorem src_apply (c : Fin 4) (r : Fin 16) (l : Fin 128) : src c (ix2 r l) = BitVec.ofNat 32 (srcAt c l).val := by
  refine Eq.trans ?_ (src_lane c l)
  pointwise [src, lane]

/-- An index that names a lane is not negative. -/
theorem lane_index : ∀ n : Fin 128, (Scalar.select (IntOp.cmpi .slt (BitVec.ofNat 32 n.val) 0#32)
    (IntOp.addi (BitVec.ofNat 32 n.val) 128#32) (BitVec.ofNat 32 n.val)).toNat % 128 = n.val := by decide +kernel

theorem take_apply (m : FVec Ideal S16x128 .bf16) (idx : IVec S16x128 32) (r : Fin 16) (l n : Fin 128)
    (h : idx (ix2 r l) = BitVec.ofNat 32 n.val) : take m idx (ix2 r l) = m (ix2 r n) := by
  pointwise [take]
  refine congrArg m (congrArg (ix2 r) (Fin.ext ?_))
  show (Scalar.select (IntOp.cmpi .slt (idx (ix2 r l)) 0#32) (IntOp.addi (idx (ix2 r l)) 128#32) (idx (ix2 r l))).toNat % 128 = n.val
  rw [h]
  exact lane_index n

theorem bit_lane (n : BitVec 32) (hn : n = 16#32 ∨ n = 8#32 ∨ n = 4#32 ∨ n = 2#32 ∨ n = 1#32) :
    ∀ l : Fin 128, IntOp.cmpi .ne (IntOp.andi (BitVec.ofNat 32 l.val) n) 0#32 = if l.val / n.toNat % 2 = 0 then 0#1 else 1#1 := by
  rcases hn with rfl | rfl | rfl | rfl | rfl <;> decide +kernel

theorem bit_apply (n : BitVec 32) (hn : n = 16#32 ∨ n = 8#32 ∨ n = 4#32 ∨ n = 2#32 ∨ n = 1#32) (r : Fin 16) (l : Fin 128) :
    bit n (ix2 r l) = if l.val / n.toNat % 2 = 0 then 0#1 else 1#1 := by
  refine Eq.trans ?_ (bit_lane n hn l)
  pointwise [bit, lane]

theorem pick_apply (n : BitVec 32) (hn : n = 16#32 ∨ n = 8#32 ∨ n = 4#32 ∨ n = 2#32 ∨ n = 1#32)
    (a b : FVec Ideal S16x128 .bf16) (r : Fin 16) (l : Fin 128) :
    select (bit n) a b (ix2 r l) = if l.val / n.toNat % 2 = 0 then b (ix2 r l) else a (ix2 r l) := by
  show Scalar.select (bit n (ix2 r l)) (a (ix2 r l)) (b (ix2 r l)) = _
  rw [bit_apply n hn]
  split
  · exact if_neg (by decide)
  · exact if_pos rfl

theorem fold_apply (n : BitVec 32) (hn : n = 16#32 ∨ n = 8#32 ∨ n = 4#32 ∨ n = 2#32 ∨ n = 1#32)
    (m : FVec Ideal S16x128 .bf16) (r : Fin 16) (l : Fin 128) :
    fold m n (ix2 r l) = max (m (ix2 r l)) (m (ix2 r (flip n.toNat l))) :=
  congrArg (max (m (ix2 r l))) (take_apply m _ r l _ (xor_apply n hn r l))

theorem merge_apply (n : BitVec 32) (hn : n = 16#32 ∨ n = 8#32 ∨ n = 4#32 ∨ n = 2#32 ∨ n = 1#32)
    (hf : ∀ l : Fin 128, (flip n.toNat l).val / n.toNat % 2 = 1 - l.val / n.toNat % 2)
    (a b : FVec Ideal S16x128 .bf16) (r : Fin 16) (l : Fin 128) :
    merge a b n (ix2 r l) = if l.val / n.toNat % 2 = 0 then max (a (ix2 r l)) (a (ix2 r (flip n.toNat l)))
      else max (b (ix2 r l)) (b (ix2 r (flip n.toNat l))) := by
  refine Eq.trans (congrArg₂ max (pick_apply n hn b a r l)
    ((take_apply _ _ r l _ (xor_apply n hn r l)).trans (pick_apply n hn a b r _))) ?_
  have h := hf l
  by_cases c : l.val / n.toNat % 2 = 0
  · rw [if_pos c, if_pos c, if_neg (by omega)]
  · have h' : l.val / n.toNat % 2 < 2 := Nat.mod_lt _ (by decide)
    rw [if_neg c, if_neg c, if_pos (by omega)]

/-! ## The maxima -/

/-- A lane ends with the maximum over its 32 lanes of one of the four tiles. -/
theorem lanes_le (T : Fin 4 → FVec Ideal S16x128 .bf16) (r : Fin 16) (z : EReal) (l : Fin 128) :
    fold (fold (fold (merge (merge (T 0) (T 1) 16#32) (merge (T 2) (T 3) 16#32) 8#32) 4#32) 2#32) 1#32 (ix2 r l) ≤ z
      ↔ ∀ q : Fin 128, q.val / 32 = l.val / 32 → T (tileAt l) (ix2 r q) ≤ z := by
  have v16 : ∀ l : Fin 128, (flip (16#32).toNat l).val = if l.val / 16 % 2 = 0 then l.val + 16 else l.val - 16 := by decide +kernel
  have v8 : ∀ l : Fin 128, (flip (8#32).toNat l).val = if l.val / 8 % 2 = 0 then l.val + 8 else l.val - 8 := by decide +kernel
  have v4 : ∀ l : Fin 128, (flip (4#32).toNat l).val = if l.val / 4 % 2 = 0 then l.val + 4 else l.val - 4 := by decide +kernel
  have v2 : ∀ l : Fin 128, (flip (2#32).toNat l).val = if l.val / 2 % 2 = 0 then l.val + 2 else l.val - 2 := by decide +kernel
  have v1 : ∀ l : Fin 128, (flip (1#32).toNat l).val = if l.val / 1 % 2 = 0 then l.val + 1 else l.val - 1 := by decide +kernel
  have e16 : (16#32).toNat = 16 := rfl
  have e8 : (8#32).toNat = 8 := rfl
  have s1 : ∀ (A B : FVec Ideal S16x128 .bf16) (l : Fin 128), merge A B 16#32 (ix2 r l) ≤ z
      ↔ ∀ q : Fin 128, q.val / 32 = l.val / 32 ∧ q.val % 16 = l.val % 16 →
        (if l.val / 16 % 2 = 0 then A else B) (ix2 r q) ≤ z := fun A B l => by
    rw [merge_apply 16#32 (by simp) (by decide +kernel)]
    simp only [e16]
    have hv := v16 l
    have key : ∀ C : FVec Ideal S16x128 .bf16, max (C (ix2 r l)) (C (ix2 r (flip (16#32).toNat l))) ≤ z
        ↔ ∀ q : Fin 128, q.val / 32 = l.val / 32 ∧ q.val % 16 = l.val % 16 → C (ix2 r q) ≤ z := fun C => by
      rw [max_le_iff]
      constructor
      · rintro ⟨a, b⟩ q hq
        by_cases c : q.val = l.val
        · rw [show q = l from Fin.ext c]; exact a
        · rw [show q = flip (16#32).toNat l from Fin.ext (by rw [hv]; split <;> omega)]; exact b
      · exact fun h => ⟨h l ⟨rfl, rfl⟩, h _ (by rw [hv]; split <;> omega)⟩
    split
    · exact key A
    · exact key B
  have s2 : ∀ l : Fin 128, merge (merge (T 0) (T 1) 16#32) (merge (T 2) (T 3) 16#32) 8#32 (ix2 r l) ≤ z
      ↔ ∀ q : Fin 128, q.val / 32 = l.val / 32 ∧ q.val % 8 = l.val % 8 → T (tileAt l) (ix2 r q) ≤ z := fun l => by
    rw [merge_apply 8#32 (by simp) (by decide +kernel)]
    simp only [e8]
    have hv := v8 l
    have key : ∀ A B : FVec Ideal S16x128 .bf16, max (merge A B 16#32 (ix2 r l)) (merge A B 16#32 (ix2 r (flip (8#32).toNat l))) ≤ z
        ↔ ∀ q : Fin 128, q.val / 32 = l.val / 32 ∧ q.val % 8 = l.val % 8 →
          (if l.val / 16 % 2 = 0 then A else B) (ix2 r q) ≤ z := fun A B => by
      rw [max_le_iff, s1, s1]
      have hb : (flip (8#32).toNat l).val / 16 % 2 = l.val / 16 % 2 := by rw [hv]; split <;> omega
      rw [hb]
      constructor
      · rintro ⟨a, b⟩ q hq
        by_cases c : q.val % 16 = l.val % 16
        · exact a q ⟨hq.1, c⟩
        · exact b q (by rw [hv]; split <;> omega)
      · exact fun h => ⟨fun q hq => h q (by omega), fun q hq => h q (by rw [hv] at hq; split at hq <;> omega)⟩
    have ht : ∀ a b : Fin 2, l.val / 16 % 2 = a.val → l.val / 8 % 2 = b.val → tileAt l = ⟨a.val + 2 * b.val, by omega⟩ :=
      fun a b ha hb => Fin.ext (by show _ + 2 * _ = _; rw [ha, hb])
    have h16 : l.val / 16 % 2 = 0 ∨ l.val / 16 % 2 = 1 := by omega
    have h8 : l.val / 8 % 2 = 0 ∨ l.val / 8 % 2 = 1 := by omega
    rcases h8 with h8 | h8 <;> rcases h16 with h16 | h16
    · rw [if_pos h8, show T (tileAt l) = if l.val / 16 % 2 = 0 then T 0 else T 1 by rw [if_pos h16, ht 0 0 h16 h8]; rfl]
      exact key _ _
    · rw [if_pos h8, show T (tileAt l) = if l.val / 16 % 2 = 0 then T 0 else T 1 by
        rw [if_neg (by omega), ht 1 0 h16 h8]; rfl]
      exact key _ _
    · rw [if_neg (by omega), show T (tileAt l) = if l.val / 16 % 2 = 0 then T 2 else T 3 by
        rw [if_pos h16, ht 0 1 h16 h8]; rfl]
      exact key _ _
    · rw [if_neg (by omega), show T (tileAt l) = if l.val / 16 % 2 = 0 then T 2 else T 3 by
        rw [if_neg (by omega), ht 1 1 h16 h8]; rfl]
      exact key _ _
  have s3 : ∀ l : Fin 128, fold (merge (merge (T 0) (T 1) 16#32) (merge (T 2) (T 3) 16#32) 8#32) 4#32 (ix2 r l) ≤ z
      ↔ ∀ q : Fin 128, q.val / 32 = l.val / 32 ∧ q.val % 4 = l.val % 4 → T (tileAt l) (ix2 r q) ≤ z := fun l => by
    have hv := v4 l
    rw [fold_apply 4#32 (by simp), max_le_iff, s2, s2,
      show tileAt (flip (4#32).toNat l) = tileAt l from Fin.ext (by
        show (flip (4#32).toNat l).val / 16 % 2 + 2 * ((flip (4#32).toNat l).val / 8 % 2) = l.val / 16 % 2 + 2 * (l.val / 8 % 2)
        rw [hv]; split <;> omega)]
    constructor
    · rintro ⟨a, b⟩ q hq
      by_cases c : q.val % 8 = l.val % 8
      · exact a q ⟨hq.1, c⟩
      · exact b q (by rw [hv]; split <;> omega)
    · exact fun h => ⟨fun q hq => h q (by omega), fun q hq => h q (by rw [hv] at hq; split at hq <;> omega)⟩
  have s4 : ∀ l : Fin 128, fold (fold (merge (merge (T 0) (T 1) 16#32) (merge (T 2) (T 3) 16#32) 8#32) 4#32) 2#32 (ix2 r l) ≤ z
      ↔ ∀ q : Fin 128, q.val / 32 = l.val / 32 ∧ q.val % 2 = l.val % 2 → T (tileAt l) (ix2 r q) ≤ z := fun l => by
    have hv := v2 l
    rw [fold_apply 2#32 (by simp), max_le_iff, s3, s3,
      show tileAt (flip (2#32).toNat l) = tileAt l from Fin.ext (by
        show (flip (2#32).toNat l).val / 16 % 2 + 2 * ((flip (2#32).toNat l).val / 8 % 2) = l.val / 16 % 2 + 2 * (l.val / 8 % 2)
        rw [hv]; split <;> omega)]
    constructor
    · rintro ⟨a, b⟩ q hq
      by_cases c : q.val % 4 = l.val % 4
      · exact a q ⟨hq.1, c⟩
      · exact b q (by rw [hv]; split <;> omega)
    · exact fun h => ⟨fun q hq => h q (by omega), fun q hq => h q (by rw [hv] at hq; split at hq <;> omega)⟩
  have hv := v1 l
  rw [fold_apply 1#32 (by simp), max_le_iff, s4, s4,
    show tileAt (flip (1#32).toNat l) = tileAt l from Fin.ext (by
      show (flip (1#32).toNat l).val / 16 % 2 + 2 * ((flip (1#32).toNat l).val / 8 % 2) = l.val / 16 % 2 + 2 * (l.val / 8 % 2)
      rw [hv]; split <;> omega)]
  constructor
  · rintro ⟨a, b⟩ q hq
    by_cases c : q.val % 2 = l.val % 2
    · exact a q ⟨hq, c⟩
    · exact b q (by rw [hv]; split <;> omega)
  · exact fun h => ⟨fun q hq => h q (by omega), fun q hq => h q (by rw [hv] at hq; split at hq <;> omega)⟩

theorem half_tile_apply (p : FVec Ideal S32x512 .bf16) (h : Fin 2) (c : Fin 4) (r : Fin 16) (l : Fin 128) :
    halfOf (tileOf p c) h (ix2 r l) = p (ix2 ⟨16 * h.val + r.val, by omega⟩ ⟨128 * c.val + l.val, by omega⟩) := by
  pointwise [halfOf, tileOf]

theorem powers_apply (v : FVec Ideal S32x512 .bf16) (y : S32x512.Idx) : powers v y = power (mag (v y)) := by
  have e : ∀ (a b c d : FVec Ideal S32x512 .bf16), select (cmpf .olt a b) c d y = if a y < b y then c y else d y := by
    intros; pointwise
  have e' : ∀ (a p : FVec Ideal S32x512 .bf16) (c : BitVec 16), climb a p c y = up (a y) (p y) (Ideal.ofBits .bf16 c) := by
    intros; pointwise [climb, up]
  unfold powers power
  simp only [e, e']
  rw [← bf16_least, ← bf16_64, ← bf16_32, ← bf16_16, ← bf16_8, ← bf16_4, ← bf16_2, ← bf16_1, ← bf16_zero]
  rfl

/-- Block `b` of 32 columns of row `a` of a group. -/
abbrev rowBlock (v : FVec Ideal S32x512 .bf16) (a : Fin 32) (b : Fin 16) : Fin 32 → EReal :=
  fun i => v (ix2 a ⟨32 * b.val + i.val, by omega⟩)

/-- The block of columns whose maximum a lane holds. -/
def blockAt (l : Fin 128) : Fin 16 := ⟨4 * (tileAt l).val + l.val / 32, by omega⟩

section
variable (v : FVec Ideal S32x512 .bf16) (e : Fin 32 → Fin 16 → ℤ) (he : ∀ a b, BlockExp (rowBlock v a b) (e a b))
include he

theorem laneMax_eq (h : Fin 2) (r : Fin 16) (l : Fin 128) :
    laneMax (powers v) h (ix2 r l) = two (e ⟨16 * h.val + r.val, by omega⟩ (blockAt l)) := by
  have es : ∀ (a b c d : FVec Ideal S16x128 .bf16) (y : S16x128.Idx),
      select (cmpf .oeq a b) c d y = if a y = b y then c y else d y := by
    intros; pointwise
  rw [← sup_power (he ⟨16 * h.val + r.val, by omega⟩ (blockAt l))]
  have hm : fold (fold (fold (merge (merge (halfOf (tileOf (powers v) 0) h) (halfOf (tileOf (powers v) 1) h) 16#32)
      (merge (halfOf (tileOf (powers v) 2) h) (halfOf (tileOf (powers v) 3) h) 16#32) 8#32) 4#32) 2#32) 1#32 (ix2 r l)
        = Finset.univ.sup fun i => power (mag (rowBlock v ⟨16 * h.val + r.val, by omega⟩ (blockAt l) i)) := by
    refine eq_of_forall_ge_iff fun z => (lanes_le (fun c => halfOf (tileOf (powers v) c) h) r z l).trans ?_
    rw [Finset.sup_le_iff]
    simp only [half_tile_apply, powers_apply]
    have hl := l.isLt
    constructor
    · intro H i _
      have := H ⟨l.val / 32 * 32 + i.val, by omega⟩ (by show (l.val / 32 * 32 + i.val) / 32 = _; omega)
      refine Eq.trans_le (congrArg (fun n => power (mag (v (ix2 _ n)))) (Fin.ext ?_)) this
      show 32 * (4 * (tileAt l).val + l.val / 32) + i.val = 128 * (tileAt l).val + (l.val / 32 * 32 + i.val)
      omega
    · intro H q hq
      have := H ⟨q.val % 32, by omega⟩ (Finset.mem_univ _)
      refine Eq.trans_le (congrArg (fun n => power (mag (v (ix2 _ n)))) (Fin.ext ?_)) this
      show 128 * (tileAt l).val + q.val = 32 * (4 * (tileAt l).val + l.val / 32) + q.val % 32
      omega
  unfold laneMax
  simp only [es]
  rw [hm, ← bf16_8, ← bf16_zero]
  rfl

theorem scaleTile_eq (c : Fin 4) (a : Fin 32) (l : Fin 128) :
    scaleTile (powers v) c (ix2 a l) = two (e a ⟨4 * c.val + l.val / 32, by omega⟩) := by
  have hl := l.isLt
  have ht : ∀ (h : Fin 2) (r : Fin 16), take (floorOf (laneMax (powers v) h)) (src c) (ix2 r l)
      = two (e ⟨16 * h.val + r.val, by omega⟩ ⟨4 * c.val + l.val / 32, by omega⟩) := fun h r => by
    have hb : blockAt (srcAt c l) = ⟨4 * c.val + l.val / 32, by omega⟩ := by
      revert c l; decide +kernel
    have hk := (he ⟨16 * h.val + r.val, by omega⟩ ⟨4 * c.val + l.val / 32, by omega⟩).bounds
    rw [take_apply _ _ r l _ (src_apply c r l)]
    show max (laneMax (powers v) h (ix2 r (srcAt c l))) (Ideal.ofBits .bf16 0x0380#16) = _
    rw [laneMax_eq v e he, hb, bf16_floor, max_eq_left (two_le (by omega))]
  have ha := a.isLt
  pointwise [scaleTile]
  split
  · next h =>
    rw [ht 0 ⟨a.val, h⟩]
    exact congrArg (fun a => two (e a _)) (Fin.ext (by show 16 * 0 + a.val = a.val; omega))
  · next h =>
    rw [ht 1 ⟨a.val - 16, by omega⟩]
    exact congrArg (fun a => two (e a _)) (Fin.ext (by show 16 * 1 + (a.val - 16) = a.val; omega))

theorem tileCodes_eq (c : Fin 4) (a : Fin 32) (l : Fin 128) :
    tileCodes (tileOf v c) (scaleTile (powers v) c) (ix2 a l)
      = code (e a ⟨4 * c.val + l.val / 32, by omega⟩) (v (ix2 a ⟨128 * c.val + l.val, by omega⟩)) := by
  pointwise [tileCodes]
  rw [scaleTile_eq v e he, bf16_8, div_two, bf16_max, bf16_min]
  refine congrArg (fun x => min _ (max _ (v x * _))) ?_
  funext b
  match b with
  | ⟨0, _⟩ => exact Fin.ext (by show 0 + a.val = a.val; omega)
  | ⟨1, _⟩ => rfl

theorem tileWide_eq (c : Fin 4) (a : Fin 32) (l : Fin 128) :
    tileWide (tileOf v c) (scaleTile (powers v) c) (ix2 a l)
      = widened (e a ⟨4 * c.val + l.val / 32, by omega⟩) (v (ix2 a ⟨128 * c.val + l.val, by omega⟩)) := by
  show (tileCodes (tileOf v c) (scaleTile (powers v) c) (ix2 a l) : EReal)
    * (scaleTile (powers v) c (ix2 a l) * Ideal.ofBits .bf16 0x3B80#16) = _
  rw [scaleTile_eq v e he, bf16_down, two_mul_two]
  exact congrArg (· * two (e a ⟨4 * c.val + l.val / 32, by omega⟩ - 8)) (tileCodes_eq v e he c a l)

end

/-! ## The scale bytes of the rows -/

theorem group_lane : ∀ (l : Fin 128) (n : Fin 8), IntOp.cmpi .eq (IntOp.andi (BitVec.ofNat 32 l.val) 7#32) (BitVec.ofNat 32 n.val)
    = if l.val % 8 = n.val then 1#1 else 0#1 := by decide +kernel

theorem isGroup_apply (n : Fin 8) (a b : FVec Ideal S16x128 .bf16) (r : Fin 16) (l : Fin 128) :
    select (isGroup (BitVec.ofNat 32 n.val)) a b (ix2 r l) = if l.val % 8 = n.val then a (ix2 r l) else b (ix2 r l) := by
  have h : isGroup (BitVec.ofNat 32 n.val) (ix2 r l) = if l.val % 8 = n.val then 1#1 else 0#1 := by
    refine Eq.trans ?_ (group_lane l n)
    pointwise [isGroup, lane]
  show Scalar.select (isGroup (BitVec.ofNat 32 n.val) (ix2 r l)) (a (ix2 r l)) (b (ix2 r l)) = _
  rw [h]
  split
  · exact if_pos rfl
  · exact if_neg (by decide)

theorem rowWord_eq (m : Fin 7 → FVec Ideal S16x128 .bf16) (r : Fin 16) (l : Fin 128) (hl : l.val < 112) (k : ℤ)
    (hk : -119 ≤ k ∧ k ≤ 127) (h : m ⟨l.val / 16, by omega⟩ (ix2 r (compactAt l)) = two k) :
    rowWord (m 0) (m 1) (m 2) (m 3) (m 4) (m 5) (m 6) (ix2 r l) = IntOp.shli .vector (BitVec.ofInt 32 (k + 127)) 7#32 := by
  have hc : (compactAt l).val % 8 = l.val / 16 := by
    show (l.val % 4 * 32 + l.val / 4 % 2 * 16 + l.val / 8 % 2 * 8 + l.val / 16 % 8) % 8 = _
    omega
  have hs : take (select (isGroup 6#32) (m 6) (select (isGroup 5#32) (m 5) (select (isGroup 4#32) (m 4)
      (select (isGroup 3#32) (m 3) (select (isGroup 2#32) (m 2) (select (isGroup 1#32) (m 1) (m 0))))))) compact (ix2 r l)
        = two k := by
    rw [take_apply _ _ r l _ (compact_lane r l), ← h]
    have i1 : ∀ a b, select (isGroup 1#32) a b (ix2 r (compactAt l)) = _ := fun a b => isGroup_apply 1 a b r (compactAt l)
    have i2 : ∀ a b, select (isGroup 2#32) a b (ix2 r (compactAt l)) = _ := fun a b => isGroup_apply 2 a b r (compactAt l)
    have i3 : ∀ a b, select (isGroup 3#32) a b (ix2 r (compactAt l)) = _ := fun a b => isGroup_apply 3 a b r (compactAt l)
    have i4 : ∀ a b, select (isGroup 4#32) a b (ix2 r (compactAt l)) = _ := fun a b => isGroup_apply 4 a b r (compactAt l)
    have i5 : ∀ a b, select (isGroup 5#32) a b (ix2 r (compactAt l)) = _ := fun a b => isGroup_apply 5 a b r (compactAt l)
    have i6 : ∀ a b, select (isGroup 6#32) a b (ix2 r (compactAt l)) = _ := fun a b => isGroup_apply 6 a b r (compactAt l)
    rw [hc] at i1 i2 i3 i4 i5 i6
    rw [i6, i5, i4, i3, i2, i1]
    have hg : ∀ g : Fin 7, l.val / 16 = g.val → m g (ix2 r (compactAt l)) = m ⟨l.val / 16, by omega⟩ (ix2 r (compactAt l)) :=
      fun g e => congrArg (fun g => m g (ix2 r (compactAt l))) (Fin.ext e.symm)
    split_ifs with c6 c5 c4 c3 c2 c1
    · exact hg 6 c6
    · exact hg 5 c5
    · exact hg 4 c4
    · exact hg 3 c3
    · exact hg 2 c2
    · exact hg 1 c1
    · refine hg 0 ?_
      have e1 : ((1 : Fin 8) : ℕ) = 1 := rfl
      have e2 : ((2 : Fin 8) : ℕ) = 2 := rfl
      have e3 : ((3 : Fin 8) : ℕ) = 3 := rfl
      have e4 : ((4 : Fin 8) : ℕ) = 4 := rfl
      have e5 : ((5 : Fin 8) : ℕ) = 5 := rfl
      have e6 : ((6 : Fin 8) : ℕ) = 6 := rfl
      show l.val / 16 = 0
      omega
  refine Eq.trans (b := IntOp.shli .vector (Ideal.fptosi 32 (Ideal.div (Ideal.log (two k)) (Ideal.log (Ideal.ofBits .f32 0x40000000#32))
    + Ideal.ofBits .f32 0x42FF0000#32)) 7#32) ?_ ?_
  · rw [← hs]
    pointwise [rowWord]
    rfl
  rw [f32_two, log_two_zpow, f32_bias, ← EReal.coe_add]
  have hf : Ideal.fptosi 32 (((k : ℝ) + 127.5 : ℝ) : EReal) = BitVec.ofInt 32 (k + 127) := by
   refine fptosi_of ?_ ?_ (by omega)
   · rw [Int.floor_eq_iff]
     push_cast
     constructor <;> linarith
   · have : (-119 : ℝ) ≤ (k : ℝ) := by exact_mod_cast hk.1
     linarith
  rw [hf]

/-- The scale byte of a word. -/
theorem byte_eq {k : ℤ} (hk : -119 ≤ k ∧ k ≤ 127) : BitVec.setWidth 8 (IntOp.andi (IntOp.subi (IntOp.shrsi .vector
    (IntOp.shli .vector (BitVec.ofInt 32 (k + 127)) 7#32) 7#32) 8#32) 255#32) = scaleByte k := by
  have hn := byte_of_word ⟨(k + 127).toNat, by omega⟩
  have hc : (((k + 127).toNat : ℕ) : ℤ) = k + 127 := Int.toNat_of_nonneg (by omega)
  simp only [hc] at hn
  rw [← BitVec.ofInt_natCast, hc] at hn
  refine hn.trans (congrArg (BitVec.ofInt 8) ?_)
  omega

/-- The block a compacted lane holds. -/
theorem block_lane : ∀ q : Fin 112, blockAt (compactAt ⟨q.val, by omega⟩) = ⟨q.val % 16, by omega⟩ := by decide +kernel

theorem bytesOf_eq (v : Fin 7 → FVec Ideal S32x512 .bf16) (e : Fin 7 → Fin 32 → Fin 16 → ℤ)
    (he : ∀ g a b, BlockExp (rowBlock (v g) a b) (e g a b)) (a : Fin 32) (q : Fin 112) :
    bytesOf (v 0) (v 1) (v 2) (v 3) (v 4) (v 5) (v 6) (ix2 a q)
      = scaleByte (e ⟨q.val / 16, by omega⟩ a ⟨q.val % 16, by omega⟩) := by
  have hq := q.isLt
  have ha := a.isLt
  have hk := (he ⟨q.val / 16, by omega⟩ a ⟨q.val % 16, by omega⟩).bounds
  have hw : ∀ (h : Fin 2) (r : Fin 16), 16 * h.val + r.val = a.val →
      rowWord (laneMax (powers (v 0)) h) (laneMax (powers (v 1)) h) (laneMax (powers (v 2)) h) (laneMax (powers (v 3)) h)
        (laneMax (powers (v 4)) h) (laneMax (powers (v 5)) h) (laneMax (powers (v 6)) h) (ix2 r ⟨q.val, by omega⟩)
      = IntOp.shli .vector (BitVec.ofInt 32 (e ⟨q.val / 16, by omega⟩ a ⟨q.val % 16, by omega⟩ + 127)) 7#32 := fun h r hr => by
    refine rowWord_eq (fun g => laneMax (powers (v g)) h) r ⟨q.val, by omega⟩ hq _ hk ?_
    refine (laneMax_eq (v ⟨q.val / 16, by omega⟩) (e ⟨q.val / 16, by omega⟩) (he ⟨q.val / 16, by omega⟩) h r _).trans ?_
    rw [show (⟨16 * h.val + r.val, by omega⟩ : Fin 32) = a from Fin.ext hr,
      show blockAt (compactAt ⟨q.val, by omega⟩) = ⟨q.val % 16, by omega⟩ from block_lane q]
  rw [← byte_eq hk]
  unfold bytesOf
  have hb : ∀ (A B : IVec S16x128 32), rowBytes A B (ix2 a q) = BitVec.setWidth 8 (IntOp.andi (IntOp.subi (IntOp.shrsi .vector
      (if h : a.val < 16 then A (ix2 ⟨a.val, h⟩ ⟨q.val, by omega⟩) else B (ix2 ⟨a.val - 16, by omega⟩ ⟨q.val, by omega⟩))
      7#32) 8#32) 255#32) := by
    intros
    pointwise [rowBytes]
  rw [hb]
  split
  · next h => rw [hw 0 ⟨a.val, h⟩ (by show 16 * 0 + a.val = a.val; omega)]
  · next h => rw [hw 1 ⟨a.val - 16, by omega⟩ (by show 16 * 1 + (a.val - 16) = a.val; omega)]

end Cert.Xq
-- ==== Proof.FLanes.lean ====
/- The maxima in the lanes of f32 rows, over the reals: they are those of the activation quantiser, which holds them in
   bf16 rows, so what its lanes hold is what these hold. -/
module

public import proofs.«01_k».proof.Proof.FSteps
public import proofs.«01_k».proof.Proof.XLanes

@[expose] public section

set_option maxRecDepth 16384

noncomputable section

namespace Cert.Fp

open Idealize.ShloMosaic
open VecWindow (window)
open Cert.Wgrad
open Cert.Xq (S32x128 S16x128 S16x128x1 S32x112 lane bit compact isGroup src tileOf tileCodes tileWide rowBytes flip rowBlock
  blockAt srcAt compactAt xor_apply src_apply compact_lane)

theorem f32_256 : Ideal.ofBits .f32 0x43800000#32 = two 8 :=
  ieee_of (e := 8) (m := 23) (b := 0x43800000#32) false 135 0 (by decide) (by decide) (by decide) (by decide) (by decide) (by norm_num)
theorem f32_floor : Ideal.ofBits .f32 0x03800000#32 = two (-120) :=
  ieee_of (e := 8) (m := 23) (b := 0x03800000#32) false 7 0 (by decide) (by decide) (by decide) (by decide) (by decide) (by norm_num)

/-- Rows of reals, read as f32 rows. -/
def up32 {s : Shape} (m : FVec Ideal s .bf16) : FVec Ideal s .f32 := fun y => m y

theorem take_apply (m : FVec Ideal S16x128 .f32) (idx : IVec S16x128 32) (r : Fin 16) (l n : Fin 128)
    (h : idx (ix2 r l) = BitVec.ofNat 32 n.val) : take m idx (ix2 r l) = m (ix2 r n) := by
  pointwise [take]
  refine congrArg m (congrArg (ix2 r) (Fin.ext ?_))
  show (idx (ix2 r l)).toNat % 128 = n.val
  rw [h, BitVec.toNat_ofNat]
  omega

/-- Taking along lanes is the same, whatever the type. -/
theorem take_eq (m : FVec Ideal S16x128 .bf16) (idx : IVec S16x128 32)
    (h : ∀ r l, ∃ n : Fin 128, idx (ix2 r l) = BitVec.ofNat 32 n.val) : take (up32 m) idx = up32 (Xq.take m idx) := by
  funext (y : S16x128.Idx)
  obtain ⟨r, l, rfl⟩ : ∃ (r : Fin 16) (l : Fin 128), y = ix2 r l := ⟨y 0, y 1, eq_ix2 y⟩
  obtain ⟨n, hn⟩ := h r l
  exact (take_apply _ _ r l n hn).trans (Xq.take_apply m _ r l n hn).symm

theorem fold_eq (n : BitVec 32) (hn : n = 16#32 ∨ n = 8#32 ∨ n = 4#32 ∨ n = 2#32 ∨ n = 1#32) (m : FVec Ideal S16x128 .bf16) :
    fold (up32 m) n = up32 (Xq.fold m n) := by
  unfold fold
  rw [take_eq m _ fun r l => ⟨_, xor_apply n hn r l⟩]
  rfl

theorem merge_eq (n : BitVec 32) (hn : n = 16#32 ∨ n = 8#32 ∨ n = 4#32 ∨ n = 2#32 ∨ n = 1#32) (a b : FVec Ideal S16x128 .bf16) :
    merge (up32 a) (up32 b) n = up32 (Xq.merge a b n) := by
  unfold merge
  have e : ∀ a b : FVec Ideal S16x128 .bf16, select (bit n) (up32 a) (up32 b) = up32 (select (bit n) a b) := fun _ _ => rfl
  rw [e, e, take_eq _ _ fun r l => ⟨_, xor_apply n hn r l⟩]
  rfl

theorem half_eq (p : FVec Ideal S32x512 .bf16) (h : Fin 2) (c : Fin 4) :
    halfOf (tileOf (up32 p) c) h = up32 (Xq.halfOf (tileOf p c) h) := by
  funext (y : S16x128.Idx)
  obtain ⟨r, l, rfl⟩ : ∃ (r : Fin 16) (l : Fin 128), y = ix2 r l := ⟨y 0, y 1, eq_ix2 y⟩
  refine Eq.trans ?_ (Xq.half_tile_apply p h c r l).symm
  pointwise [halfOf, tileOf]
  rfl

theorem laneMax_up (p : FVec Ideal S32x512 .bf16) (h : Fin 2) : laneMax (up32 p) h = up32 (Xq.laneMax p h) := by
  unfold laneMax
  simp only [half_eq]
  rw [merge_eq 16#32 (by simp), merge_eq 16#32 (by simp), merge_eq 8#32 (by simp), fold_eq 4#32 (by simp),
    fold_eq 2#32 (by simp), fold_eq 1#32 (by simp)]
  funext y
  have e : ∀ (a b c d : FVec Ideal S16x128 .f32), select (cmpf .oeq a b) c d y = if a y = b y then c y else d y := by
    intros; pointwise
  have e' : ∀ (a b c d : FVec Ideal S16x128 .bf16), select (cmpf .oeq a b) c d y = if a y = b y then c y else d y := by
    intros; pointwise
  show _ = Xq.laneMax p h y
  unfold Xq.laneMax
  simp only [e, e']
  show (if _ = Ideal.ofBits .f32 0x00000000#32 then Ideal.ofBits .f32 0x43800000#32 else _)
    = (if _ = Ideal.ofBits .bf16 0x0000#16 then Ideal.ofBits .bf16 0x4380#16 else _)
  rw [f32_zero, f32_256, bf16_zero, bf16_8]
  rfl

theorem floorOf_up (m : FVec Ideal S16x128 .bf16) : floorOf (up32 m) = up32 (Xq.floorOf m) := by
  funext y
  show max (m y : EReal) (Ideal.ofBits .f32 0x03800000#32) = max (m y) (Ideal.ofBits .bf16 0x0380#16)
  rw [f32_floor, bf16_floor]

theorem scaleTile_up (p : FVec Ideal S32x512 .bf16) (c : Fin 4) : scaleTile (up32 p) c = Xq.scaleTile p c := by
  unfold scaleTile
  rw [laneMax_up, laneMax_up, floorOf_up, floorOf_up, take_eq _ _ fun r l => ⟨_, src_apply c r l⟩,
    take_eq _ _ fun r l => ⟨_, src_apply c r l⟩]
  funext (y : S32x128.Idx)
  obtain ⟨a, l, rfl⟩ : ∃ (a : Fin 32) (l : Fin 128), y = ix2 a l := ⟨y 0, y 1, eq_ix2 y⟩
  pointwise [Xq.scaleTile]
  rfl

theorem rowWord_up (m0 m1 m2 m3 m4 m5 m6 : FVec Ideal S16x128 .bf16) :
    rowWord (up32 m0) (up32 m1) (up32 m2) (up32 m3) (up32 m4) (up32 m5) (up32 m6) = Xq.rowWord m0 m1 m2 m3 m4 m5 m6 := by
  unfold rowWord
  have e : ∀ (n : BitVec 32) (a b : FVec Ideal S16x128 .bf16),
      select (isGroup n) (up32 a) (up32 b) = up32 (select (isGroup n) a b) := fun _ _ _ => rfl
  simp only [e]
  rw [take_eq _ _ fun r l => ⟨_, compact_lane r l⟩]
  rfl

/-! ## The groups -/

theorem powers_apply (v : FVec Ideal S512x3584 .bf16) (y : S512x3584.Idx) : powers v y = power (mag (v y)) := by
  have e : ∀ (a b c d : FVec Ideal S512x3584 .bf16), select (cmpf .olt a b) c d y = if a y < b y then c y else d y := by
    intros; pointwise
  have e' : ∀ (a p : FVec Ideal S512x3584 .bf16) (c : BitVec 16), climb a p c y = Wgrad.up (a y) (p y) (Ideal.ofBits .bf16 c) := by
    intros; pointwise [climb, Wgrad.up]
  have e'' : ∀ (p : FVec Ideal S512x3584 .bf16), extf .f32 p lt_bf16_f32 y = p y := fun _ => rfl
  unfold powers power
  simp only [e'', e, e']
  rw [← bf16_least, ← bf16_64, ← bf16_32, ← bf16_16, ← bf16_8, ← bf16_4, ← bf16_2, ← bf16_1, ← bf16_zero]
  rfl

variable (W : FVec Ideal S512x3584 .bf16)

theorem groupRows_apply (b : Fin 16) (g : Fin 7) (a : Fin 32) (n : Fin 512) :
    groupRows (F := Ideal) W b g (ix2 a n) = W (ix2 ⟨32 * b.val + a.val, by omega⟩ ⟨512 * g.val + n.val, by omega⟩) := by
  refine congrArg W (funext fun i => Fin.ext ?_)
  match i with
  | ⟨0, _⟩ => show 32 * b.val + 1 * a.val = 32 * b.val + a.val; omega
  | ⟨1, _⟩ => show 512 * g.val + 1 * n.val = 512 * g.val + n.val; omega

theorem groupOf_eq (b : Fin 16) (g : Fin 7) : groupOf (powers W) b g = up32 (Xq.powers (groupRows (F := Ideal) W b g)) := by
  funext (y : S32x512.Idx)
  obtain ⟨a, n, rfl⟩ : ∃ (a : Fin 32) (n : Fin 512), y = ix2 a n := ⟨y 0, y 1, eq_ix2 y⟩
  show _ = Xq.powers (groupRows (F := Ideal) W b g) (ix2 a n)
  rw [Xq.powers_apply, groupRows_apply, ← powers_apply]
  pointwise [groupOf]

theorem scaleTile_eq (b : Fin 16) (g : Fin 7) (c : Fin 4) :
    scaleTile (groupOf (powers W) b g) c = Xq.scaleTile (Xq.powers (groupRows (F := Ideal) W b g)) c := by
  rw [groupOf_eq, scaleTile_up]

theorem stripBytes_eq (b : Fin 16) : stripBytes (powers W) b = Xq.bytesOf (groupRows (F := Ideal) W b 0) (groupRows (F := Ideal) W b 1)
    (groupRows (F := Ideal) W b 2) (groupRows (F := Ideal) W b 3) (groupRows (F := Ideal) W b 4) (groupRows (F := Ideal) W b 5) (groupRows (F := Ideal) W b 6) := by
  unfold stripBytes stripWord Xq.bytesOf
  simp only [groupOf_eq, laneMax_up, rowWord_up]

end Cert.Fp
-- ==== Proof.BlockValue.lean ====
/- What a block's buffers hold over the reals, element by element: the quantiser's codes, scale bytes and widened codes,
   and the product as a sum over the block's 1920 rows. -/
module

public import proofs.«01_k».proof.Proof.Block
public import proofs.«01_k».proof.Proof.Contents

@[expose] public section

set_option maxRecDepth 16384

noncomputable section

namespace Cert.Wgrad

open Idealize.ShloMosaic
open VecWindow (window)

/-- Four transposed strips side by side. -/
theorem group_apply (w : Fin 4 → FVec Ideal S32x512 .bf16) (a : Fin 512) (b : Fin 128) :
    group (w 0) (w 1) (w 2) (w 3) (ix3 0 a b) = w ⟨b.val / 32, by omega⟩ (ix2 ⟨b.val % 32, by omega⟩ a) := by
  have hb := b.isLt
  have e : ∀ (j : Fin 4) (i : Fin 32), 32 * j.val + i.val = b.val →
      w j (ix2 i a) = w ⟨b.val / 32, by omega⟩ (ix2 ⟨b.val % 32, by omega⟩ a) := fun j i h =>
    congrArg₂ (fun j i => w j (ix2 i a)) (Fin.ext (by show j.val = b.val / 32; omega))
      (Fin.ext (by show i.val = b.val % 32; omega))
  pointwise [group]
  split_ifs
  all_goals first
    | exact e 0 ⟨b.val, by omega⟩ (by show 32 * 0 + b.val = b.val; omega)
    | exact e 1 ⟨b.val - 32, by omega⟩ (by show 32 * 1 + (b.val - 32) = b.val; omega)
    | exact e 2 ⟨b.val - 32 - 32, by omega⟩ (by show 32 * 2 + (b.val - 32 - 32) = b.val; omega)
    | exact e 3 ⟨b.val - 32 - 32 - 32, by omega⟩ (by show 32 * 3 + (b.val - 32 - 32 - 32) = b.val; omega)

section
variable (X : FVec Ideal S1920x512 .bf16)

theorem stripRows_apply (q : Fin 60) (i : Fin 32) (l : Fin 512) :
    stripRows (F := Ideal) X q (ix2 i l) = X (ix2 ⟨32 * q.val + i.val, by omega⟩ l) := by
  refine congrArg X (funext fun a => Fin.ext ?_)
  match a with
  | ⟨0, _⟩ => show 32 * q.val + 1 * i.val = 32 * q.val + i.val; omega
  | ⟨1, _⟩ => show 0 + 1 * l.val = l.val; omega

theorem stripOf_powers_apply (q : Fin 60) (i : Fin 32) (l : Fin 512) :
    stripOf (powers X) q (ix2 i l) = power (mag (X (ix2 ⟨32 * q.val + i.val, by omega⟩ l))) := by
  refine Eq.trans (congrArg (powers X) (funext fun a => Fin.ext ?_)) (powers_apply X _)
  match a with
  | ⟨0, _⟩ => show 32 * q.val + i.val = 32 * q.val + i.val; rfl
  | ⟨1, _⟩ => show 0 + l.val = l.val; omega

variable (e : Fin 60 → Fin 512 → ℤ) (he : ∀ q l, BlockExp (fun i => X (ix2 ⟨32 * q.val + i.val, by omega⟩ l)) (e q l))
include he

theorem strip_exp (q : Fin 60) (l : Fin 512) : BlockExp (fun i => stripRows (F := Ideal) X q (ix2 i l)) (e q l) := by
  simp only [stripRows_apply]
  exact he q l

theorem strip_pow (q : Fin 60) (l : Fin 512) (i : Fin 32) :
    stripOf (powers X) q (ix2 i l) = power (mag (stripRows (F := Ideal) X q (ix2 i l))) := by
  rw [stripOf_powers_apply, stripRows_apply]

theorem codesBlock_apply (a : Fin 1920) (l : Fin 512) :
    codesBlock (payOf swapRows) X (powers X) (ix2 a l) = code (e ⟨a.val / 32, by omega⟩ l) (X (ix2 a l)) := by
  have h := codes_eq (stripRows (F := Ideal) X ⟨a.val / 32, by omega⟩) (stripOf (powers X) ⟨a.val / 32, by omega⟩) l
    (strip_exp X e he _ l) (strip_pow X e he _ l) ⟨a.val % 32, by omega⟩
  rw [stripRows_apply] at h
  refine Eq.trans (Eq.trans ?_ h) ?_
  · rfl
  · have h2 : (⟨32 * (a.val / 32) + a.val % 32, by omega⟩ : Fin 1920) = a := Fin.ext (by show 32 * (a.val / 32) + a.val % 32 = _; omega)
    rw [h2]

theorem wideBlock_apply (a : Fin 1920) (l : Fin 512) :
    wideBlock (payOf swapRows) X (powers X) (ix3 0 l a) = widened (e ⟨a.val / 32, by omega⟩ l) (X (ix2 a l)) := by
  have ha := a.isLt
  have h3 : fourth ⟨a.val / 128, by omega⟩ ⟨a.val % 128 / 32, by omega⟩ = ⟨a.val / 32, by omega⟩ :=
    Fin.ext (by show 4 * (a.val / 128) + a.val % 128 / 32 = a.val / 32; omega)
  have h4 : (⟨a.val % 128 % 32, by omega⟩ : Fin 32) = ⟨a.val % 32, by omega⟩ := Fin.ext (by show a.val % 128 % 32 = a.val % 32; omega)
  have h := wide_eq (stripRows (F := Ideal) X ⟨a.val / 32, by omega⟩) (stripOf (powers X) ⟨a.val / 32, by omega⟩) l
    (strip_exp X e he _ l) (strip_pow X e he _ l) ⟨a.val % 32, by omega⟩
  rw [stripRows_apply] at h
  have h2 : (⟨32 * (a.val / 32) + a.val % 32, by omega⟩ : Fin 1920) = a := Fin.ext (by show 32 * (a.val / 32) + a.val % 32 = _; omega)
  rw [h2] at h
  refine Eq.trans ?_ h
  refine Eq.trans (group_apply (fun j => stripWide (payOf swapRows) X (powers X) (fourth ⟨a.val / 128, by omega⟩ j)) l
    ⟨a.val % 128, by omega⟩) ?_
  show stripWide _ X (powers X) (fourth ⟨a.val / 128, by omega⟩ ⟨a.val % 128 / 32, by omega⟩) (ix2 ⟨a.val % 128 % 32, by omega⟩ l) = _
  rw [h3, h4]
  rfl

theorem bytesBlock_apply (b : Fin 3) (q : Fin 20) (l : Fin 512) :
    bytesBlock (payOf swapRows) (powers X) (ix3 b q l) = scaleByte (e ⟨20 * b.val + q.val, by omega⟩ l) := by
  have hk := (he ⟨20 * b.val + q.val, by omega⟩ l).bounds
  have h := word_eq (stripRows (F := Ideal) X ⟨20 * b.val + q.val, by omega⟩) (stripOf (powers X) ⟨20 * b.val + q.val, by omega⟩) l
    (strip_exp X e he _ l) (strip_pow X e he _ l) 0
  pointwise [bytesBlock, bytes, wordsPart, wordRow]
  rw [h]
  have hn := byte_of_word ⟨(e ⟨20 * b.val + q.val, by omega⟩ l + 127).toNat, by omega⟩
  have hc : (((e ⟨20 * b.val + q.val, by omega⟩ l + 127).toNat : ℕ) : ℤ) = e ⟨20 * b.val + q.val, by omega⟩ l + 127 :=
    Int.toNat_of_nonneg (by omega)
  simp only [hc] at hn
  rw [← BitVec.ofInt_natCast, hc] at hn
  refine hn.trans (congrArg (BitVec.ofInt 8) ?_)
  omega

end

theorem outBlock_apply (Y : FVec Ideal S1920x3584 .bf16) (W : FVec Ideal S1x512x1920 .bf16) (l : Fin 512) (n : Fin 3584) :
    outBlock (F := Ideal) Y W (ix2 l n) = ∑ a : Fin 1920, (W (ix3 0 l a) * Y (ix2 a n) : EReal) := by
  have hn := n.isLt
  pointwise [outBlock, product, colBlock, dotDims]
  refine Finset.sum_congr rfl fun x _ => congrArg (_ * ·) (congrArg Y (funext fun a => Fin.ext ?_))
  match a with
  | ⟨0, _⟩ => show 0 + 1 * x.val = x.val; omega
  | ⟨1, _⟩ => show 512 * (n.val / 512) + 1 * (n.val % 512) = n.val; omega

end Cert.Wgrad
-- ==== Proof.FBlockValue.lean ====
/- What a block's buffers of the forward product hold over the reals, element by element: the quantiser's codes, scale
   bytes and widened codes, and the product as a sum over the 3584 columns. -/
module

public import proofs.«01_k».proof.Proof.FLanes
public import proofs.«01_k».proof.Proof.FContents
public import proofs.«01_k».proof.Proof.BlockValue

@[expose] public section

set_option maxRecDepth 16384

noncomputable section

namespace Cert.Fp

open Idealize.ShloMosaic
open VecWindow (window)
open Cert.Wgrad (BlockExp code widened scaleByte S1920x3584 S1920x512 S512x3584 S32x512)

/-- `e` are the exponents of a block's blocks of 32 columns. -/
def BlockExps (W : FVec Ideal S512x3584 .bf16) (e : Fin 512 → Fin 112 → ℤ) : Prop :=
  ∀ a b, BlockExp (fun i => W (ix2 a ⟨32 * b.val + i.val, by omega⟩)) (e a b)

section
variable (W : FVec Ideal S512x3584 .bf16) (e : Fin 512 → Fin 112 → ℤ) (he : BlockExps W e)
include he

theorem rows_exp (b : Fin 16) (g : Fin 7) (a : Fin 32) (q : Fin 16) :
    BlockExp (Xq.rowBlock (groupRows (F := Ideal) W b g) a q)
      (e ⟨32 * b.val + a.val, by omega⟩ ⟨16 * g.val + q.val, by omega⟩) := by
  have h := he ⟨32 * b.val + a.val, by omega⟩ ⟨16 * g.val + q.val, by omega⟩
  have ew : Xq.rowBlock (groupRows (F := Ideal) W b g) a q
      = fun i => W (ix2 ⟨32 * b.val + a.val, by omega⟩ ⟨32 * (16 * g.val + q.val) + i.val, by omega⟩) := funext fun i =>
    (groupRows_apply W b g a _).trans (congrArg (fun n => W (ix2 _ n)) (Fin.ext (by
      show 512 * g.val + (32 * q.val + i.val) = 32 * (16 * g.val + q.val) + i.val; omega)))
  rw [ew]
  exact h

theorem codesBlock_apply (a : Fin 512) (n : Fin 3584) :
    codesBlock W (powers W) (ix2 a n) = code (e a ⟨n.val / 32, by omega⟩) (W (ix2 a n)) := by
  have ha := a.isLt
  have hn := n.isLt
  show Xq.tileCodes (Xq.tileOf (groupRows (F := Ideal) W (stripAt a.val) (groupAt n.val)) (tileAt n.val))
    (scaleTile (groupOf (powers W) (stripAt a.val) (groupAt n.val)) (tileAt n.val))
    (ix2 ⟨a.val % 32, by omega⟩ ⟨n.val % 128, by omega⟩) = _
  rw [scaleTile_eq]
  refine (Xq.tileCodes_eq _ _ (rows_exp W e he _ _) _ _ _).trans ?_
  rw [groupRows_apply]
  refine congrArg₂ code (congrArg₂ e (Fin.ext ?_) (Fin.ext ?_)) (congrArg₂ (fun a n => W (ix2 a n)) (Fin.ext ?_) (Fin.ext ?_))
  · show 32 * (a.val / 32 % 16) + a.val % 32 = a.val; omega
  · show 16 * (n.val / 512 % 7) + (4 * (n.val / 128 % 4) + n.val % 128 / 32) = n.val / 32; omega
  · show 32 * (a.val / 32 % 16) + a.val % 32 = a.val; omega
  · show 512 * (n.val / 512 % 7) + (128 * (n.val / 128 % 4) + n.val % 128) = n.val; omega

theorem wideBlock_apply (a : Fin 512) (n : Fin 3584) :
    wideBlock W (powers W) (ix3 0 a n) = widened (e a ⟨n.val / 32, by omega⟩) (W (ix2 a n)) := by
  have ha := a.isLt
  have hn := n.isLt
  have hk : ∀ v : FVec Ideal Xq.S32x128 .bf16, kept v (ix3 0 ⟨a.val % 32, by omega⟩ ⟨n.val % 128, by omega⟩)
      = v (ix2 ⟨a.val % 32, by omega⟩ ⟨n.val % 128, by omega⟩) := by
    intro v
    pointwise [kept]
  show kept (Xq.tileWide (Xq.tileOf (groupRows (F := Ideal) W (stripAt a.val) (groupAt n.val)) (tileAt n.val))
    (scaleTile (groupOf (powers W) (stripAt a.val) (groupAt n.val)) (tileAt n.val)))
    (ix3 0 ⟨a.val % 32, by omega⟩ ⟨n.val % 128, by omega⟩) = _
  rw [hk, scaleTile_eq]
  refine (Xq.tileWide_eq _ _ (rows_exp W e he _ _) _ _ _).trans ?_
  rw [groupRows_apply]
  refine congrArg₂ widened (congrArg₂ e (Fin.ext ?_) (Fin.ext ?_)) (congrArg₂ (fun a n => W (ix2 a n)) (Fin.ext ?_) (Fin.ext ?_))
  · show 32 * (a.val / 32 % 16) + a.val % 32 = a.val; omega
  · show 16 * (n.val / 512 % 7) + (4 * (n.val / 128 % 4) + n.val % 128 / 32) = n.val / 32; omega
  · show 32 * (a.val / 32 % 16) + a.val % 32 = a.val; omega
  · show 512 * (n.val / 512 % 7) + (128 * (n.val / 128 % 4) + n.val % 128) = n.val; omega

theorem bytesBlock_apply (a : Fin 512) (q : Fin 112) : bytesBlock (powers W) (ix2 a q) = scaleByte (e a q) := by
  have ha := a.isLt
  have hq := q.isLt
  show stripBytes (powers W) (stripAt a.val) (ix2 ⟨a.val % 32, by omega⟩ q) = _
  rw [stripBytes_eq]
  refine (Xq.bytesOf_eq (fun g => groupRows (F := Ideal) W (stripAt a.val) g) _
    (fun g => rows_exp W e he (stripAt a.val) g) _ q).trans ?_
  refine congrArg scaleByte (congrArg₂ e (Fin.ext ?_) (Fin.ext ?_))
  · show 32 * (a.val / 32 % 16) + a.val % 32 = a.val; omega
  · show 16 * (q.val / 16) + q.val % 16 = q.val; omega

end

theorem outBlock_apply (X : FVec Ideal S1920x3584 .bf16) (H : FVec Ideal S1x512x3584 .bf16) (r : Fin 1920) (l : Fin 512) :
    outBlock (F := Ideal) X H (ix2 r l) = ∑ n : Fin 3584, (X (ix2 r n) * H (ix3 0 l n) : EReal) := by
  have hr := r.isLt
  pointwise [outBlock, product, rowBlock]
  refine Finset.sum_congr rfl fun x _ => congrArg (· * _) (congrArg X (funext fun a => Fin.ext ?_))
  match a with
  | ⟨0, _⟩ => show 480 * (r.val / 480) + 1 * (r.val % 480) = r.val; omega
  | ⟨1, _⟩ => show 0 + 1 * x.val = x.val; omega

end Cert.Fp
-- ==== Proof.FValueKernel.lean ====
/- What the forward product leaves in its three result arrays after a run over the reals.

   Point `t` reads row block `min t 36` of the weights and writes that block's codes and scale bytes; from the second point
   on it writes column block `t - 1` of the product. The last block is quantised at two points and written at the last. -/
module

public import proofs.«01_k».proof.Proof.FFrameIdeal
public import proofs.«01_k».proof.Proof.FBlockValue
public import proofs.«01_k».proof.Proof.FResult
public import Idealize.ShloMosaic.Lib.Pipeline.Value

@[expose] public section

set_option maxRecDepth 16384

noncomputable section

namespace Cert.FpropIdeal.Hand

open Idealize.ShloMosaic Idealize.ShloMosaic.TcCoe
open Idealize.SL.Sem
open Idealize.ShloMosaic.Pipeline (Dat Cfg Window)
open Cert.FpropIdeal Cert.FpropIdeal.Gen

/-! ## Where the blocks lie -/

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = min t.val 36 ∧ win0_1.index t (1 : Fin 2) = 0 :=
  (by decide +kernel : ∀ t : Fin grid0.N, _)
theorem index_2 : ∀ t : Fin cfg0.N, win0_2.index t (0 : Fin 2) = 0 ∧ win0_2.index t (1 : Fin 2) = t.val - 1 :=
  (by decide +kernel : ∀ t : Fin grid0.N, _)
theorem index_3 : ∀ t : Fin cfg0.N, win0_3.index t (0 : Fin 2) = min t.val 36 ∧ win0_3.index t (1 : Fin 2) = 0 :=
  (by decide +kernel : ∀ t : Fin grid0.N, _)
theorem index_4 : ∀ t : Fin cfg0.N, win0_4.index t (0 : Fin 2) = min t.val 36 ∧ win0_4.index t (1 : Fin 2) = 0 :=
  (by decide +kernel : ∀ t : Fin grid0.N, _)

theorem flushed_2 : ∀ t : Fin cfg0.N, win0_2.flush t = true ↔ t.val ≠ 0 :=
  (by decide +kernel : ∀ t : Fin grid0.N, _)
theorem flushed_3 : ∀ t : Fin cfg0.N, win0_3.flush t = true ↔ t.val ≠ 36 :=
  (by decide +kernel : ∀ t : Fin grid0.N, _)
theorem flushed_4 : ∀ t : Fin cfg0.N, win0_4.flush t = true ↔ t.val ≠ 36 :=
  (by decide +kernel : ∀ t : Fin grid0.N, _)

/-- The row of the weights at row `l` of the block of point `t`. -/
def row (t : Fin cfg0.N) (l : Fin 512) : Fin 18944 := ⟨512 * min t.val 36 + l.val, by have := l.isLt; omega⟩
/-- The column of the product at column `l` of the block of point `t`. -/
def col (t : Fin cfg0.N) (l : Fin 512) : Fin 18944 :=
  ⟨512 * (t.val - 1) + l.val, by have := l.isLt; have := t.isLt; have : cfg0.N = 38 := N_0; omega⟩

theorem emb_0 (t : Fin cfg0.N) (a : Fin 1920) (n : Fin 3584) :
    ((cfg0.win 0).blk t).view.emb (ix2 a n : S1920x3584.Idx) = (ix2 a n : S1920x3584.Idx) := by
  obtain ⟨e0, e1⟩ := index_0 t
  funext i; apply Fin.ext
  match i with
  | ⟨0, _⟩ => show win0_0.index t (0 : Fin 2) * 1920 + 1 * a.val = a.val; omega
  | ⟨1, _⟩ => show win0_0.index t (1 : Fin 2) * 3584 + 1 * n.val = n.val; omega

theorem emb_1 (t : Fin cfg0.N) (l : Fin 512) (n : Fin 3584) :
    ((cfg0.win 1).blk t).view.emb (ix2 l n : S512x3584.Idx) = (ix2 (row t l) n : S18944x3584.Idx) := by
  obtain ⟨e0, e1⟩ := index_1 t
  funext i; apply Fin.ext
  match i with
  | ⟨0, _⟩ => show win0_1.index t (0 : Fin 2) * 512 + 1 * l.val = 512 * min t.val 36 + l.val; rw [e0]; omega
  | ⟨1, _⟩ => show win0_1.index t (1 : Fin 2) * 3584 + 1 * n.val = n.val; omega

theorem emb_2 (t : Fin cfg0.N) (a : Fin 1920) (l : Fin 512) :
    ((cfg0.win 2).blk t).view.emb (ix2 a l : S1920x512.Idx) = (ix2 a (col t l) : S1920x18944.Idx) := by
  obtain ⟨e0, e1⟩ := index_2 t
  funext i; apply Fin.ext
  match i with
  | ⟨0, _⟩ => show win0_2.index t (0 : Fin 2) * 1920 + 1 * a.val = a.val; omega
  | ⟨1, _⟩ => show win0_2.index t (1 : Fin 2) * 512 + 1 * l.val = 512 * (t.val - 1) + l.val; rw [e1]; omega

theorem emb_3 (t : Fin cfg0.N) (l : Fin 512) (n : Fin 3584) :
    ((cfg0.win 3).blk t).view.emb (ix2 l n : S512x3584.Idx) = (ix2 (row t l) n : S18944x3584.Idx) := by
  obtain ⟨e0, e1⟩ := index_3 t
  funext i; apply Fin.ext
  match i with
  | ⟨0, _⟩ => show win0_3.index t (0 : Fin 2) * 512 + 1 * l.val = 512 * min t.val 36 + l.val; rw [e0]; omega
  | ⟨1, _⟩ => show win0_3.index t (1 : Fin 2) * 3584 + 1 * n.val = n.val; omega

theorem emb_4 (t : Fin cfg0.N) (l : Fin 512) (q : Fin 112) :
    ((cfg0.win 4).blk t).view.emb (ix2 l q : S512x112.Idx) = (ix2 (row t l) q : S18944x112.Idx) := by
  obtain ⟨e0, e1⟩ := index_4 t
  funext i; apply Fin.ext
  match i with
  | ⟨0, _⟩ => show win0_4.index t (0 : Fin 2) * 512 + 1 * l.val = 512 * min t.val 36 + l.val; rw [e0]; omega
  | ⟨1, _⟩ => show win0_4.index t (1 : Fin 2) * 112 + 1 * q.val = q.val; omega

/-! ## What the points write -/

variable (m : (ℓ : Loc nD τ sig) → Buf (Elt Ideal) ℓ) (ρ : Dev nD → PrngReg) (c : Dev nD)

/-- The other operand. -/
abbrev other : FVec Ideal S1920x3584 .bf16 := m ((c : Thread nD τ).loc main_arg0)
/-- The weights. -/
abbrev weights : FVec Ideal S18944x3584 .bf16 := m ((c : Thread nD τ).loc main_arg1)

theorem xAt_apply (t : Fin cfg0.N) (a : Fin 1920) (n : Fin 3584) : xAt m c t (ix2 a n) = other m c (ix2 a n) := by
  show V m c main_arg0 (((cfg0.win 0).blk t).view.emb (ix2 a n : S1920x3584.Idx)) = _
  rw [emb_0, V_main_arg0]

theorem wAt_apply (t : Fin cfg0.N) (l : Fin 512) (n : Fin 3584) : wAt m c t (ix2 l n) = weights m c (ix2 (row t l) n) := by
  show V m c main_arg1 (((cfg0.win 1).blk t).view.emb (ix2 l n : S512x3584.Idx)) = _
  rw [emb_1, V_main_arg1]

variable (E : Fin 18944 → Fin 112 → ℤ) (hE : Fp.Exps (weights m c) E)
include hE

theorem exps_at (t : Fin cfg0.N) : Fp.BlockExps (wAt m c t) (fun l => E (row t l)) := fun l b => by
  simp only [wAt_apply]
  exact hE (row t l) b

theorem out_3 (t : Fin cfg0.N) : (dats m 0 c).flushed 3 t = ((cfg0.win 3).blk t).view.read (Elt Ideal) (Fp.codesAll (weights m c) E) := by
  show (cfg0.win 3).cut (grid0.coords t) ((dats m 0 c).after 3 t) = _
  rw [after_3]
  funext (j : S512x3584.Idx)
  obtain ⟨l, n, rfl⟩ : ∃ (l : Fin 512) (n : Fin 3584), j = ix2 l n := ⟨j 0, j 1, eq_ix2 j⟩
  show Fp.codesBlock (wAt m c t) (Fp.powers (wAt m c t)) (ix2 l n)
    = Fp.codesAll (weights m c) E (((cfg0.win 3).blk t).view.emb (ix2 l n : S512x3584.Idx))
  rw [emb_3, Fp.codesBlock_apply _ _ (exps_at m c E hE t), wAt_apply]
  rfl

theorem out_4 (t : Fin cfg0.N) : (dats m 0 c).flushed 4 t = ((cfg0.win 4).blk t).view.read (Elt Ideal) (Fp.bytesAll E) := by
  show (cfg0.win 4).cut (grid0.coords t) ((dats m 0 c).after 4 t) = _
  rw [after_4]
  funext (j : S512x112.Idx)
  obtain ⟨l, q, rfl⟩ : ∃ (l : Fin 512) (q : Fin 112), j = ix2 l q := ⟨j 0, j 1, eq_ix2 j⟩
  show Fp.bytesBlock (Fp.powers (wAt m c t)) (ix2 l q)
    = Fp.bytesAll E (((cfg0.win 4).blk t).view.emb (ix2 l q : S512x112.Idx))
  rw [emb_4, Fp.bytesBlock_apply _ _ (exps_at m c E hE t)]
  rfl

theorem out_2 (t : Fin cfg0.N) (ht : t.val ≠ 0) :
    (dats m 0 c).flushed 2 t = ((cfg0.win 2).blk t).view.read (Elt Ideal) (Fp.prodAll (other m c) (weights m c) E) := by
  show (cfg0.win 2).cut (grid0.coords t) ((dats m 0 c).after 2 t) = _
  rw [after_2]
  funext (j : S1920x512.Idx)
  obtain ⟨a, l, rfl⟩ : ∃ (a : Fin 1920) (l : Fin 512), j = ix2 a l := ⟨j 0, j 1, eq_ix2 j⟩
  show Fp.outBlock (xAt m c t) (wideAt m c (prev t)) (ix2 a l)
    = Fp.prodAll (other m c) (weights m c) E (((cfg0.win 2).blk t).view.emb (ix2 a l : S1920x512.Idx))
  have hc : row (prev t) l = col t l := Fin.ext (by
    have := t.isLt; have : cfg0.N = 38 := N_0
    show 512 * min (t.val - 1) 36 + l.val = 512 * (t.val - 1) + l.val; omega)
  rw [emb_2, Fp.outBlock_apply]
  refine Finset.sum_congr rfl fun n _ => ?_
  unfold wideAt
  rw [Fp.wideBlock_apply _ _ (exps_at m c E hE (prev t)), wAt_apply, xAt_apply, hc]
  rfl

/-! ## The arrays -/

theorem final_3 : (dats m 0 c).arrAt 3 cfg0.N = Fp.codesAll (weights m c) E :=
  (dats m 0 c).arrAt_eq_of_cover 3 _ (fun t _ => out_3 m c E hE t) fun (i : S18944x3584.Idx) => by
    obtain ⟨r, n, rfl⟩ : ∃ (r : Fin 18944) (n : Fin 3584), i = ix2 r n := ⟨i 0, i 1, eq_ix2 i⟩
    have hN : cfg0.N = 38 := N_0
    have hr := r.isLt
    refine ⟨⟨if r.val / 512 = 36 then 37 else r.val / 512, by split <;> omega⟩, (flushed_3 _).2 (by
      show (if r.val / 512 = 36 then 37 else r.val / 512) ≠ 36; split <;> omega), ?_⟩
    have h := ((cfg0.win 3).blk (⟨if r.val / 512 = 36 then 37 else r.val / 512, by split <;> omega⟩ : Fin cfg0.N)).view.emb_mem_set
      (ix2 ⟨r.val % 512, by omega⟩ n : S512x3584.Idx)
    rw [emb_3] at h
    have e : row ⟨if r.val / 512 = 36 then 37 else r.val / 512, by split <;> omega⟩ ⟨r.val % 512, by omega⟩ = r := Fin.ext (by
      show 512 * min (if r.val / 512 = 36 then 37 else r.val / 512) 36 + r.val % 512 = r.val; split <;> omega)
    rwa [e] at h

theorem final_4 : (dats m 0 c).arrAt 4 cfg0.N = Fp.bytesAll E :=
  (dats m 0 c).arrAt_eq_of_cover 4 _ (fun t _ => out_4 m c E hE t) fun (i : S18944x112.Idx) => by
    obtain ⟨r, q, rfl⟩ : ∃ (r : Fin 18944) (q : Fin 112), i = ix2 r q := ⟨i 0, i 1, eq_ix2 i⟩
    have hN : cfg0.N = 38 := N_0
    have hr := r.isLt
    refine ⟨⟨if r.val / 512 = 36 then 37 else r.val / 512, by split <;> omega⟩, (flushed_4 _).2 (by
      show (if r.val / 512 = 36 then 37 else r.val / 512) ≠ 36; split <;> omega), ?_⟩
    have h := ((cfg0.win 4).blk (⟨if r.val / 512 = 36 then 37 else r.val / 512, by split <;> omega⟩ : Fin cfg0.N)).view.emb_mem_set
      (ix2 ⟨r.val % 512, by omega⟩ q : S512x112.Idx)
    rw [emb_4] at h
    have e : row ⟨if r.val / 512 = 36 then 37 else r.val / 512, by split <;> omega⟩ ⟨r.val % 512, by omega⟩ = r := Fin.ext (by
      show 512 * min (if r.val / 512 = 36 then 37 else r.val / 512) 36 + r.val % 512 = r.val; split <;> omega)
    rwa [e] at h

theorem final_2 : (dats m 0 c).arrAt 2 cfg0.N = Fp.prodAll (other m c) (weights m c) E :=
  (dats m 0 c).arrAt_eq_of_cover 2 _ (fun t ht => out_2 m c E hE t ((flushed_2 t).1 ht)) fun (i : S1920x18944.Idx) => by
    obtain ⟨a, n, rfl⟩ : ∃ (a : Fin 1920) (n : Fin 18944), i = ix2 a n := ⟨i 0, i 1, eq_ix2 i⟩
    have hN : cfg0.N = 38 := N_0
    have hn := n.isLt
    refine ⟨⟨n.val / 512 + 1, by omega⟩, (flushed_2 _).2 (Nat.succ_ne_zero _), ?_⟩
    have h := ((cfg0.win 2).blk (⟨n.val / 512 + 1, by omega⟩ : Fin cfg0.N)).view.emb_mem_set
      (ix2 a ⟨n.val % 512, by omega⟩ : S1920x512.Idx)
    rw [emb_2] at h
    have e : col ⟨n.val / 512 + 1, by omega⟩ ⟨n.val % 512, by omega⟩ = n := Fin.ext (by
      show 512 * (n.val / 512 + 1 - 1) + n.val % 512 = n.val; omega)
    rwa [e] at h

end Cert.FpropIdeal.Hand

namespace Cert.FpropIdeal.Hand

open Idealize.ShloMosaic Idealize.ShloMosaic.TcCoe
open Idealize.SL.Sem
open Cert.FpropIdeal Cert.FpropIdeal.Gen

variable (m : (ℓ : Loc nD τ sig) → Buf (Elt Ideal) ℓ) (ρ : Dev nD → PrngReg)

/-- The run, read at its results: the three functions of the arguments, and the arguments unchanged. -/
theorem run_value (E : Dev nD → Fin 18944 → Fin 112 → ℤ) (hE : ∀ c, Fp.Exps (weights m c) (E c)) :
    θ_run defs (onTc (τ := τ) (main (F := Ideal))) ⟨m, fun _ => 0, ρ⟩ (fun r => ∀ c : Dev nD,
      r.2.mem ((c : Thread nD τ).loc main_v0_0) = Fp.prodAll (other m c) (weights m c) (E c)
      ∧ r.2.mem ((c : Thread nD τ).loc main_v0_1) = Fp.codesAll (weights m c) (E c)
      ∧ r.2.mem ((c : Thread nD τ).loc main_v0_2) = Fp.bytesAll (E c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h c).1 2).trans (final_2 m c (E c) (hE c)),
      ((h c).1 3).trans (final_3 m c (E c) (hE c)), ((h c).1 4).trans (final_4 m c (E c) (hE c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.FpropIdeal.Hand
-- ==== Proof.XRange.lean ====
/- The precondition of the activation quantiser, read: every block of 32 columns and every block of 32 rows has an
   exponent. -/
module

public import proofs.«01_k».proof.Proof.XResult
public import proofs.«01_k».proof.Proof.Range
public import proofs.«01_k».proof.Pre_x_in_range
public import Idealize.ShloMosaic.Lib.ReduceAll

@[expose] public section

set_option maxRecDepth 16384

noncomputable section

namespace Cert.Pre_x_in_range.Hand

open Idealize.ShloMosaic
open Cert.Pre_x_in_range Cert.Pre_x_in_range.Facts
open Cert.Wgrad (BlockExp top mag)
open Cert.Xq (ExpsR ExpsC)
open Cert.Pre_in_range.Hand (blockExp_of within)

variable [Cert.Pre_x_in_range.Facts]

theorem topsR (v : FVec Ideal S1920x112x32 .f32) (z : FVec Ideal S_ .f32) (a : Fin 1920) (b : Fin 112) :
    Host.reduce FloatOps.maximumf v z reducesTo_S1920x112x32_S1920x112_d2 h_S_ (ix2 a b)
      = Finset.fold max (z (Shape.Idx.first h_S_)) (fun i => v (ix3 a b i)) Finset.univ := by
  pointwise

theorem topsC (v : FVec Ideal S60x32x3584 .f32) (z : FVec Ideal S_ .f32) (b : Fin 60) (n : Fin 3584) :
    Host.reduce FloatOps.maximumf v z reducesTo_S60x32x3584_S60x3584_d1 h_S_ (ix2 b n)
      = Finset.fold max (z (Shape.Idx.first h_S_)) (fun i => v (ix3 b i n)) Finset.univ := by
  pointwise

theorem blocksR (v : FVec Ideal S1920x3584 .f32) (a : Fin 1920) (b : Fin 112) (i : Fin 32) :
    shapeCast S1920x112x32 v shapeCasts_S1920x3584_S1920x112x32 (ix3 a b i) = v (ix2 a ⟨32 * b.val + i.val, by omega⟩) := by
  pointwise
  exact congrArg (fun r => v (ix2 a r)) (Fin.ext (by show b.val * 32 + i.val = 32 * b.val + i.val; omega))

theorem blocksC (v : FVec Ideal S1920x3584 .f32) (b : Fin 60) (i : Fin 32) (n : Fin 3584) :
    shapeCast S60x32x3584 v shapeCasts_S1920x3584_S60x32x3584 (ix3 b i n) = v (ix2 ⟨32 * b.val + i.val, by omega⟩ n) := by
  pointwise
  exact congrArg (fun r => v (ix2 r n)) (Fin.ext (by show b.val * 32 + i.val = 32 * b.val + i.val; omega))

theorem both {x y : BitVec 1} (h : IntOp.andi x y = 1#1) : x = 1#1 ∧ y = 1#1 := by
  revert h; revert x y; decide

/-- The largest magnitude of a block of 32. -/
theorem fold_top (f : Fin 32 → EReal) :
    Finset.fold max (constant (F := Ideal) S_ .f32 0xFF800000#32 (Shape.Idx.first h_S_)) (fun i => mag (f i)) Finset.univ = top f := by
  show Finset.fold max (Ideal.ofBits .f32 0xFF800000#32) _ _ = _
  rw [Wgrad.f32_bot]
  rfl

/-- Under the precondition every block has an exponent. -/
theorem exists_exps (X : FVec Ideal S1920x3584 .bf16) (h : fn X = fun _ => 1#1) : (∃ E, ExpsR X E) ∧ ∃ E, ExpsC X E := by
  have : Subsingleton S_.Idx := ⟨fun a b => funext fun i => nomatch i⟩
  have h0 := congrFun h (Shape.Idx.first h_S_)
  dsimp only [fn, fn_part1] at h0
  obtain ⟨hr, hc⟩ := both h0
  have r : ∀ (a : Fin 1920) (b : Fin 112), ∃ k, BlockExp (fun i => X (ix2 a ⟨32 * b.val + i.val, by omega⟩)) k := fun a b => by
    refine blockExp_of ?_
    have h1 := within _ _ _ _ _ (Host.reduce_andi_all _ _ _ _ _ hr (ix2 a b))
    rw [topsR] at h1
    have e : (fun i : Fin 32 => shapeCast S1920x112x32 (Host.absf (extf .f32 X bitsLt_bf16_f32)) shapeCasts_S1920x3584_S1920x112x32 (ix3 a b i))
        = fun i => mag (X (ix2 a ⟨32 * b.val + i.val, by omega⟩)) := funext fun i => blocksR _ a b i
    rw [e, fold_top (fun i => X (ix2 a ⟨32 * b.val + i.val, by omega⟩))] at h1
    rw [← Wgrad.f32_low, ← Wgrad.f32_high, ← Wgrad.f32_zero]
    exact h1
  have c : ∀ (b : Fin 60) (n : Fin 3584), ∃ k, BlockExp (fun i => X (ix2 ⟨32 * b.val + i.val, by omega⟩ n)) k := fun b n => by
    refine blockExp_of ?_
    have h1 := within _ _ _ _ _ (Host.reduce_andi_all _ _ _ _ _ hc (ix2 b n))
    rw [topsC] at h1
    have e : (fun i : Fin 32 => shapeCast S60x32x3584 (Host.absf (extf .f32 X bitsLt_bf16_f32)) shapeCasts_S1920x3584_S60x32x3584 (ix3 b i n))
        = fun i => mag (X (ix2 ⟨32 * b.val + i.val, by omega⟩ n)) := funext fun i => blocksC _ b i n
    rw [e, fold_top (fun i => X (ix2 ⟨32 * b.val + i.val, by omega⟩ n))] at h1
    rw [← Wgrad.f32_low, ← Wgrad.f32_high, ← Wgrad.f32_zero]
    exact h1
  choose ER hR using r
  choose EC hC using c
  exact ⟨⟨ER, hR⟩, ⟨EC, hC⟩⟩

end Cert.Pre_x_in_range.Hand
-- ==== Proof.XBody.lean ====
/- The printed body of the activation quantiser, block by block of 32 rows, is the one of `XProgram`. -/
module

public import proofs.«01_k».proof.Proof.XProgram
public import proofs.«01_k».proof.Proof.Gen.XquantIdeal.Loops

@[expose] public section

set_option maxRecDepth 100000

noncomputable section

namespace Cert.XquantIdeal.Hand

open Idealize.ShloMosaic Idealize.ShloMosaic.TcCoe Idealize.ShloMosaic.Tactic
open Idealize.SL.Sem
open Cert.XquantIdeal Cert.XquantIdeal.Gen Cert.XquantIdeal.Facts Cert.XquantIdeal.Facts₀

variable {F : FTy → Type} [FloatOps F]

/-- Where the groups of a block lie. -/
abbrev goff (k : Fin k0_t1_loop.trips) : Fin 7 → Fin 2 → Nat :=
  ![k0_off1 k, k0_off7 k, k0_off13 k, k0_off19 k, k0_off25 k, k0_off31 k, k0_off37 k]
/-- Where the tiles of a block lie. -/
abbrev toff (k : Fin k0_t1_loop.trips) : Fin 7 → Fin 4 → Fin 2 → Nat :=
  ![![k0_off2 k, k0_off3 k, k0_off4 k, k0_off5 k], ![k0_off8 k, k0_off9 k, k0_off10 k, k0_off11 k],
    ![k0_off14 k, k0_off15 k, k0_off16 k, k0_off17 k], ![k0_off20 k, k0_off21 k, k0_off22 k, k0_off23 k],
    ![k0_off26 k, k0_off27 k, k0_off28 k, k0_off29 k], ![k0_off32 k, k0_off33 k, k0_off34 k, k0_off35 k],
    ![k0_off38 k, k0_off39 k, k0_off40 k, k0_off41 k]]
/-- Where the words of a block lie. -/
abbrev woff (k : Fin k0_t1_loop.trips) : Fin 7 → Fin 2 → Nat :=
  ![k0_off6 k, k0_off12 k, k0_off18 k, k0_off24 k, k0_off30 k, k0_off36 k, k0_off42 k]

theorem goff_eq : ∀ k q, goff k q = ![32 * k.val, 512 * q.val] := by decide +kernel
theorem toff_eq : ∀ k q c, toff k q c = ![32 * k.val, 512 * q.val + 128 * c.val] := by decide +kernel
theorem woff_eq : ∀ k q, woff k q = ![k.val, 512 * q.val] := by decide +kernel
theorem soff_eq : ∀ k, k0_off43 k = ![32 * k.val, 0] := by decide +kernel

theorem goff_inb : ∀ k q a, goff k q a + Wgrad.S32x512.size a ≤ Xq.S640x3584.size a := by decide +kernel
theorem toff_inb : ∀ k q c a, toff k q c a + Xq.S32x128.size a ≤ Xq.S640x3584.size a := by decide +kernel
theorem woff_inb : ∀ k q a, woff k q a + Wgrad.S1x512.size a ≤ Xq.S24x3584.size a := by decide +kernel

/-- Where a block of 32 rows stores. -/
def offs (k : Fin k0_t1_loop.trips) : Xq.Offs where
  g := goff k
  g_inb := goff_inb k
  g_fp8 := by revert k; decide +kernel
  g_bf16 := by revert k; decide +kernel
  t := toff k
  t_inb := toff_inb k
  t_fp8 := by revert k; decide +kernel
  t_bf16 := by revert k; decide +kernel
  w := woff k
  w_inb := woff_inb k
  s := k0_off43 k
  s_inb := Gen.k0_off43_inb k
  s_i8 := Gen.k0_off43_packedi8 k

section
variable (i : grid0.Coords) (arg1 : Memref sig .tc .vmem S640x3584 .bf16) (harg1 : arg1.IsWhole)
  (arg2 : Memref sig .tc .vmem S640x3584 .fp8e4m3) (harg2 : arg2.IsWhole)
  (arg3 : Memref sig .tc .vmem S640x112 .i8) (harg3 : arg3.IsWhole)
  (arg4 : Memref sig .tc .vmem S640x3584 .fp8e4m3) (harg4 : arg4.IsWhole)
  (arg5 : Memref sig .tc .vmem S1x20x3584 .i8) (harg5 : arg5.IsWhole)
  (arg6 : Memref sig .tc .vmem S640x3584 .bf16) (harg6 : arg6.IsWhole)
  (arg7 : Memref sig .tc .vmem S640x3584 .bf16) (harg7 : arg7.IsWhole)
  (arg8 : Memref sig .tc .vmem S24x3584 .i32) (harg8 : arg8.IsWhole)

/-- The body as a loop over blocks of 32 rows. -/
def body : Prog (TpuEff nD τ sig (Elt F) Λ₀ .tc) PUnit :=
  ((Scf.Loop.for k0_t1_loop Gen.k0_t1_ok PUnit.unit fun k _ =>
    Xq.trip arg1 arg2 harg2 arg3 harg3 arg4 harg4 arg6 harg6 arg7 harg7 arg8 (offs k)) >>= fun _ => Xq.readWords arg8)
    >>= fun b => Xq.putCols arg5 harg5 b

theorem body_eq : cc0_x_quant (F := F) i arg1 harg1 arg2 harg2 arg3 harg3 arg4 harg4 arg5 harg5 arg6 harg6 arg7 harg7 arg8 harg8
    = body arg1 arg2 harg2 arg3 harg3 arg4 harg4 arg5 harg5 arg6 harg6 arg7 harg7 arg8 := by
  sl_kernel_rfl

end

end Cert.XquantIdeal.Hand
-- ==== Proof.XSteps.lean ====
/- The activation quantiser's body as a function of what its buffers hold: each store is a `put` over a window of its
   buffer, so each piece of the body takes the contents of the buffers to their contents. -/
module

public import proofs.«01_k».proof.Proof.XProgram
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Xq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Cert.Wgrad (S32x512 S16x512 S8x512 S1x512 slices_S8x512_S1x512 lt_fp8_bf16 lt_bf16_f32 lt_8_32 pos_S32x512 payOf swapRows)

variable {F : FTy → Type} [FloatOps F]

/-- What the buffers that the body writes hold. -/
@[ext] structure Mem (F : FTy → Type) where
  /-- The codes of the rows. -/
  codesR : Vec F S640x3584 .fp8e4m3
  /-- The scale bytes of the rows. -/
  bytesR : Vec F S640x112 .i8
  /-- The codes of the columns. -/
  codesC : Vec F S640x3584 .fp8e4m3
  /-- The scale bytes of the columns. -/
  bytesC : Vec F S1x20x3584 .i8
  /-- The widened codes of the rows. -/
  wideR : Vec F S640x3584 .bf16
  /-- The widened codes of the columns. -/
  wideC : Vec F S640x3584 .bf16
  /-- The scratch of words. -/
  words : Vec F S24x3584 .i32

variable (o : Offs) (X : Vec F S640x3584 .bf16)

/-- The elements of a group. -/
def groupOf (q : Fin 7) : FVec F S32x512 .bf16 := window X (o.g q) S32x512.size (o.g_inb q)

/-- The contents after a tile. -/
def tileStep (q : Fin 7) (c : Fin 4) (v : FVec F S32x512 .bf16) (s : Mem F) : Mem F :=
  { s with
    codesR := put s.codesR (o.t q c) S32x128.size (tileCodes (tileOf v c) (scaleTile (powers v) c))
    wideR := put s.wideR (o.t q c) S32x128.size (tileWide (tileOf v c) (scaleTile (powers v) c)) }

/-- The contents after a group's columns. -/
def colsStep (q : Fin 7) (v : FVec F S32x512 .bf16) (s : Mem F) : Mem F :=
  { s with
    codesC := put s.codesC (o.g q) S32x512.size ((payOf swapRows).codes v (powers v))
    wideC := put s.wideC (o.g q) S32x512.size ((payOf swapRows).wide v (powers v))
    words := put s.words (o.w q) S1x512.size (wordRow (powers v)) }

/-- The contents after a group. -/
def groupStep (q : Fin 7) (s : Mem F) : Mem F :=
  let v := groupOf o X q
  colsStep o q v (tileStep o q 3 v (tileStep o q 2 v (tileStep o q 1 v (tileStep o q 0 v s))))

/-- The contents after the scale bytes of a block's rows. -/
def bytesStep (b : IVec S32x112 8) (s : Mem F) : Mem F :=
  { s with bytesR := put s.bytesR o.s S32x112.size b }

/-- The scale bytes of a block's rows. -/
def blockBytes : IVec S32x112 8 :=
  bytesOf (groupOf o X 0) (groupOf o X 1) (groupOf o X 2) (groupOf o X 3) (groupOf o X 4) (groupOf o X 5) (groupOf o X 6)

/-- The contents after a block of 32 rows. -/
def tripStep (s : Mem F) : Mem F :=
  bytesStep o (blockBytes o X) (groupStep o X 6 (groupStep o X 5 (groupStep o X 4 (groupStep o X 3 (groupStep o X 2
    (groupStep o X 1 (groupStep o X 0 s)))))))

/-- The bytes that the words stand for. -/
def wordBytes (s : Mem F) : IVec S20x3584 8 := colBytes (F := F) (window s.words ![0, 0] S20x3584.size words_inb)

/-- The contents after the scale bytes of the columns. -/
def finishStep (b : IVec S20x3584 8) (s : Mem F) : Mem F :=
  { s with bytesC := put s.bytesC ![0, 0, 0] S1x20x3584.size (shapeCast S1x20x3584 b casts_bytes : IVec S1x20x3584 8) }

variable {nD : Nat} {τ : Topo} {sig : RefSig} {Λ : Labels}

local notation "𝕄" => MT nD τ sig Unit (Elt F) ℕ (UR sig nD τ) ℕ

section Body

variable (defs : Defs nD τ sig (Elt F) Λ) (c : Dev nD) (E : Set ℕ)
  (a1 : Memref sig .tc .vmem S640x3584 .bf16)
  (a2 : Memref sig .tc .vmem S640x3584 .fp8e4m3) (h2 : a2.IsWhole)
  (a3 : Memref sig .tc .vmem S640x112 .i8) (h3 : a3.IsWhole)
  (a4 : Memref sig .tc .vmem S640x3584 .fp8e4m3) (h4 : a4.IsWhole)
  (a5 : Memref sig .tc .vmem S1x20x3584 .i8) (h5 : a5.IsWhole)
  (a6 : Memref sig .tc .vmem S640x3584 .bf16) (h6 : a6.IsWhole)
  (a7 : Memref sig .tc .vmem S640x3584 .bf16) (h7 : a7.IsWhole)
  (a8 : Memref sig .tc .vmem S24x3584 .i32)

/-- The buffers at given contents. -/
def held (s : Mem F) : sProp 𝕄 :=
  iprop(owns (c : Thread nD τ) a1 fullShare X ∗ owns (c : Thread nD τ) a2 fullShare s.codesR
    ∗ owns (c : Thread nD τ) a3 fullShare s.bytesR ∗ owns (c : Thread nD τ) a4 fullShare s.codesC
    ∗ owns (c : Thread nD τ) a5 fullShare s.bytesC ∗ owns (c : Thread nD τ) a6 fullShare s.wideR
    ∗ owns (c : Thread nD τ) a7 fullShare s.wideC ∗ owns (c : Thread nD τ) a8 fullShare s.words)

/-- A piece of the body in front of the rest. -/
theorem run_bind {α β : Type} {p : Prog (TpuEff nD τ sig (Elt F) Λ .tc) α} {rest : α → Prog (TpuEff nD τ sig (Elt F) Λ .tc) β}
    {s s' : Mem F} {v : α} {R : sProp 𝕄} {Q : β → sProp 𝕄}
    (hp : ∀ k : α → sProp 𝕄, iprop(held X c a1 a2 a3 a4 a5 a6 a7 a8 s ∗ (held X c a1 a2 a3 a4 a5 a6 a7 a8 s' -∗ k v))
      ⊢ wp frame (wpE defs Variants.none c none) E p k)
    (hk : iprop(held X c a1 a2 a3 a4 a5 a6 a7 a8 s' ∗ R) ⊢ wp frame (wpE defs Variants.none c none) E (rest v) Q) :
    iprop(held X c a1 a2 a3 a4 a5 a6 a7 a8 s ∗ R) ⊢ wp frame (wpE defs Variants.none c none) E (p >>= rest) Q := by
  rw [wp_bind]
  refine BIBase.Entails.trans ?_ (hp _)
  iintro ⟨H, HR⟩
  isplitl [H]
  · iexact H
  iintro H'
  iapply hk
  isplitl [H']
  · iexact H'
  iexact HR

theorem fetch_run (q : Fin 7) (s : Mem F) (k : Vec F S32x512 .bf16 → sProp 𝕄) :
    iprop(held X c a1 a2 a3 a4 a5 a6 a7 a8 s ∗ (held X c a1 a2 a3 a4 a5 a6 a7 a8 s -∗ k (groupOf o X q)))
      ⊢ wp frame (wpE defs Variants.none c none) E (fetch a1 o q) k := by
  unfold held fetch groupOf owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  rw [View.readAt_unit a1.view f1 (o.g_inb q) rfl (o.g_inb q), hf1]
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists f8; isplitr; · ipureintro; exact hf8
  iexact H8

theorem tile_run (q : Fin 7) (ct : Fin 4) (v : FVec F S32x512 .bf16) (s : Mem F) (k : PUnit → sProp 𝕄) :
    iprop(held X c a1 a2 a3 a4 a5 a6 a7 a8 s ∗ (held X c a1 a2 a3 a4 a5 a6 a7 a8 (tileStep o q ct v s) -∗ k ⟨⟩))
      ⊢ wp frame (wpE defs Variants.none c none) E (tile a2 h2 a6 h6 o q ct v) k := by
  unfold held tile owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  iapply Hk
  isplitl [H1]
  · iexists f1; isplitr; · ipureintro; exact hf1
    iexact H1
  isplitl [H2]
  · iexists _; isplitr
    swap; · iexact H2
    ipureintro
    exact (View.read_writes_cons_put _ _ _ _ _ rfl).trans (by rw [View.writes_nil, hf2]; rfl)
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    exact (View.read_writes_cons_put _ _ _ _ _ rfl).trans (by rw [View.writes_nil, hf6]; rfl)
  isplitl [H7]
  · iexists f7; isplitr; · ipureintro; exact hf7
    iexact H7
  iexists f8; isplitr; · ipureintro; exact hf8
  iexact H8

theorem cols_run (q : Fin 7) (v : FVec F S32x512 .bf16) (s : Mem F) (k : PUnit → sProp 𝕄) :
    iprop(held X c a1 a2 a3 a4 a5 a6 a7 a8 s ∗ (held X c a1 a2 a3 a4 a5 a6 a7 a8 (colsStep o q v s) -∗ k ⟨⟩))
      ⊢ wp frame (wpE defs Variants.none c none) E (cols a4 h4 a7 h7 a8 o q v) k := by
  unfold held cols owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    exact (View.read_writes_cons_put _ _ _ _ _ rfl).trans (by rw [View.writes_nil, hf4]; rfl)
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    exact (View.read_writes_cons_put _ _ _ _ _ rfl).trans (by rw [View.writes_nil, hf7]; rfl)
  iexists _; isplitr
  swap; · iexact H8
  ipureintro
  exact (View.read_writes_cons_put _ _ _ _ _ rfl).trans (by rw [View.writes_nil, hf8]; rfl)

theorem putBytes_run (b : IVec S32x112 8) (s : Mem F) (k : PUnit → sProp 𝕄) :
    iprop(held X c a1 a2 a3 a4 a5 a6 a7 a8 s ∗ (held X c a1 a2 a3 a4 a5 a6 a7 a8 (bytesStep o b s) -∗ k ⟨⟩))
      ⊢ wp frame (wpE defs Variants.none c none) E (putBytes (F := F) a3 h3 o b) k := by
  unfold held putBytes owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    exact (View.read_writes_cons_put _ _ _ _ _ rfl).trans (by rw [View.writes_nil, hf3]; rfl)
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists f8; isplitr; · ipureintro; exact hf8
  iexact H8

theorem readWords_run (s : Mem F) (k : IVec S20x3584 8 → sProp 𝕄) :
    iprop(held X c a1 a2 a3 a4 a5 a6 a7 a8 s ∗ (held X c a1 a2 a3 a4 a5 a6 a7 a8 s -∗ k (wordBytes s)))
      ⊢ wp frame (wpE defs Variants.none c none) E (readWords (F := F) a8) k := by
  unfold held readWords wordBytes owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  rw [View.readAt_unit a8.view f8 words_inb rfl words_inb, hf8]
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists f8; isplitr; · ipureintro; exact hf8
  iexact H8

theorem putCols_run (b : IVec S20x3584 8) (s : Mem F) (k : PUnit → sProp 𝕄) :
    iprop(held X c a1 a2 a3 a4 a5 a6 a7 a8 s ∗ (held X c a1 a2 a3 a4 a5 a6 a7 a8 (finishStep b s) -∗ k ⟨⟩))
      ⊢ wp frame (wpE defs Variants.none c none) E (putCols (F := F) a5 h5 b) k := by
  unfold held putCols owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr
    swap; · iexact H5
    ipureintro
    exact (View.read_writes_cons_put _ _ _ _ _ rfl).trans (by rw [View.writes_nil, hf5]; rfl)
  isplitl [H6]
  · iexists f6; isplitr; · ipureintro; exact hf6
    iexact H6
  isplitl [H7]
  · iexists f7; isplitr; · ipureintro; exact hf7
    iexact H7
  iexists f8; isplitr; · ipureintro; exact hf8
  iexact H8

theorem group_run (q : Fin 7) (s : Mem F) (k : FVec F S32x512 .bf16 → sProp 𝕄) :
    iprop(held X c a1 a2 a3 a4 a5 a6 a7 a8 s ∗ (held X c a1 a2 a3 a4 a5 a6 a7 a8 (groupStep o X q s) -∗ k (groupOf o X q)))
      ⊢ wp frame (wpE defs Variants.none c none) E (group a1 a2 h2 a4 h4 a6 h6 a7 h7 a8 o q) k := by
  unfold group
  refine run_bind _ _ _ _ _ _ _ _ _ _ _ _ (fetch_run _ _ _ _ _ _ _ _ _ _ _ _ _ q s) ?_
  refine run_bind _ _ _ _ _ _ _ _ _ _ _ _ (tile_run _ _ _ _ _ _ _ h2 _ _ _ _ h6 _ _ q 0 (groupOf o X q) s) ?_
  refine run_bind _ _ _ _ _ _ _ _ _ _ _ _ (tile_run _ _ _ _ _ _ _ h2 _ _ _ _ h6 _ _ q 1 (groupOf o X q) _) ?_
  refine run_bind _ _ _ _ _ _ _ _ _ _ _ _ (tile_run _ _ _ _ _ _ _ h2 _ _ _ _ h6 _ _ q 2 (groupOf o X q) _) ?_
  refine run_bind _ _ _ _ _ _ _ _ _ _ _ _ (tile_run _ _ _ _ _ _ _ h2 _ _ _ _ h6 _ _ q 3 (groupOf o X q) _) ?_
  refine run_bind _ _ _ _ _ _ _ _ _ _ _ _ (cols_run _ _ _ _ _ _ _ _ _ h4 _ _ _ h7 _ q (groupOf o X q) _) ?_
  rw [show (pure (groupOf o X q) : Prog (TpuEff nD τ sig (Elt F) Λ .tc) (FVec F S32x512 .bf16)) = Prog.ret (groupOf o X q) from rfl, wp_ret]
  iintro ⟨H, Hk⟩
  imodintro
  iapply Hk
  iexact H

theorem trip_run (s : Mem F) (k : PUnit → sProp 𝕄) :
    iprop(held X c a1 a2 a3 a4 a5 a6 a7 a8 s ∗ (held X c a1 a2 a3 a4 a5 a6 a7 a8 (tripStep o X s) -∗ k ⟨⟩))
      ⊢ wp frame (wpE defs Variants.none c none) E (trip a1 a2 h2 a3 h3 a4 h4 a6 h6 a7 h7 a8 o) k := by
  unfold trip
  refine run_bind _ _ _ _ _ _ _ _ _ _ _ _ (group_run _ _ _ _ _ _ _ h2 _ _ h4 _ _ h6 _ h7 _ 0 s) ?_
  refine run_bind _ _ _ _ _ _ _ _ _ _ _ _ (group_run _ _ _ _ _ _ _ h2 _ _ h4 _ _ h6 _ h7 _ 1 _) ?_
  refine run_bind _ _ _ _ _ _ _ _ _ _ _ _ (group_run _ _ _ _ _ _ _ h2 _ _ h4 _ _ h6 _ h7 _ 2 _) ?_
  refine run_bind _ _ _ _ _ _ _ _ _ _ _ _ (group_run _ _ _ _ _ _ _ h2 _ _ h4 _ _ h6 _ h7 _ 3 _) ?_
  refine run_bind _ _ _ _ _ _ _ _ _ _ _ _ (group_run _ _ _ _ _ _ _ h2 _ _ h4 _ _ h6 _ h7 _ 4 _) ?_
  refine run_bind _ _ _ _ _ _ _ _ _ _ _ _ (group_run _ _ _ _ _ _ _ h2 _ _ h4 _ _ h6 _ h7 _ 5 _) ?_
  refine run_bind _ _ _ _ _ _ _ _ _ _ _ _ (group_run _ _ _ _ _ _ _ h2 _ _ h4 _ _ h6 _ h7 _ 6 _) ?_
  exact putBytes_run _ _ _ _ _ _ _ _ h3 _ _ _ _ _ _ _ k

end Body

end Cert.Xq
-- ==== Proof.XContents.lean ====
/- What the buffers hold, over the reals, after the activation quantiser's body.

   After block `k` the rows below `32 (k + 1)` of each buffer hold their final contents, whatever was there before; after
   the twentieth all rows do, and the words of the scratch give the scale bytes of the columns. -/
module

public import proofs.«01_k».proof.Proof.XSteps
public import proofs.«01_k».proof.Proof.XLanes
public import proofs.«01_k».proof.Proof.Contents

@[expose] public section

set_option maxRecDepth 16384

noncomputable section

namespace Cert.Xq

open Idealize.ShloMosaic
open VecWindow (window put)
open Cert.Wgrad

/-- A `put` whose payload agrees with `T` leaves agreement at every element of its window and wherever there was
    agreement. -/
theorem put_agree {α : Type} {s : Shape} {x T : s.Idx → α} {off size : Fin s.rank → ℕ}
    {w : ((a : Fin s.rank) → Fin (size a)) → α}
    (hw : ∀ (y : s.Idx) (z : (a : Fin s.rank) → Fin (size a)), (∀ a, (y a).val = off a + (z a).val) → w z = T y)
    (y : s.Idx) (h : x y = T y ∨ ∀ a, off a ≤ (y a).val ∧ (y a).val < off a + size a) : put x off size w y = T y := by
  by_cases hy : ∀ a, off a ≤ (y a).val ∧ (y a).val < off a + size a
  · let z : (a : Fin s.rank) → Fin (size a) := fun a => ⟨(y a).val - off a, by have := hy a; omega⟩
    have hz : ∀ a, (y a).val = off a + (z a).val := fun a => by
      have := hy a
      show (y a).val = off a + ((y a).val - off a); omega
    rw [put_hit x off size w y z hz]
    exact hw y z hz
  · exact (dif_neg hy).trans (h.resolve_right hy)

variable (X : FVec Ideal S640x3584 .bf16) (eR : Fin 640 → Fin 112 → ℤ) (eC : Fin 20 → Fin 3584 → ℤ)

/-- The block of 32 columns of an element. -/
def colBlock (y : S640x3584.Idx) : Fin 112 := ⟨(y 1).val / 32, by have := (y 1).isLt; change _ < 3584 at this; omega⟩
/-- The block of 32 rows of an element. -/
def rowsBlock (y : S640x3584.Idx) : Fin 20 := ⟨(y 0).val / 32, by have := (y 0).isLt; change _ < 640 at this; omega⟩

/-- The word that the scratch holds for an exponent. -/
def wordOf (k : ℤ) : BitVec 32 := IntOp.shli .vector (BitVec.ofInt 32 (k + 127)) 7#32

/-- The final contents. -/
def final : Mem Ideal where
  codesR := fun y => code (eR (y 0) (colBlock y)) (X y)
  bytesR := fun y => scaleByte (eR (y 0) (y 1))
  codesC := fun y => code (eC (rowsBlock y) (y 1)) (X y)
  bytesC := fun y => scaleByte (eC (y 1) (y 2))
  wideR := fun y => widened (eR (y 0) (colBlock y)) (X y)
  wideC := fun y => widened (eC (rowsBlock y) (y 1)) (X y)
  words := fun y => if h : (y 0).val < 20 then wordOf (eC ⟨(y 0).val, h⟩ (y 1)) else 0#32

/-- Where block `k` stores. -/
structure At (o : Offs) (k : Fin 20) : Prop where
  g : ∀ q, o.g q = ![32 * k.val, 512 * q.val]
  t : ∀ q c, o.t q c = ![32 * k.val, 512 * q.val + 128 * c.val]
  w : ∀ q, o.w q = ![k.val, 512 * q.val]
  s : o.s = ![32 * k.val, 0]

/-- Does an element lie in the rows of block `k`, in the `w` columns from `lo`? -/
def In (k lo w : ℕ) (y : S640x3584.Idx) : Prop :=
  (32 * k ≤ (y 0).val ∧ (y 0).val < 32 * k + 32) ∧ (lo ≤ (y 1).val ∧ (y 1).val < lo + w)

/-- The blocks along the rows have the exponents `eR`. -/
def RowExps (X : FVec Ideal S640x3584 .bf16) (eR : Fin 640 → Fin 112 → ℤ) : Prop :=
  ∀ a b, BlockExp (fun i => X (ix2 a ⟨32 * b.val + i.val, by omega⟩)) (eR a b)

/-- The blocks down the columns have the exponents `eC`. -/
def ColExps (X : FVec Ideal S640x3584 .bf16) (eC : Fin 20 → Fin 3584 → ℤ) : Prop :=
  ∀ b n, BlockExp (fun i => X (ix2 ⟨32 * b.val + i.val, by omega⟩ n)) (eC b n)

variable (hR : RowExps X eR) (hC : ColExps X eC)
  {o : Offs} {k : Fin 20} (ho : At o k)

section
include ho

theorem groupOf_apply (q : Fin 7) (a : Fin 32) (n : Fin 512) :
    groupOf o X q (ix2 a n) = X (ix2 ⟨32 * k.val + a.val, by omega⟩ ⟨512 * q.val + n.val, by omega⟩) := by
  refine congrArg X (funext fun i => Fin.ext ?_)
  have e := congrFun (ho.g q) i
  match i with
  | ⟨0, _⟩ => exact (congrArg (· + 1 * a.val) e).trans (by show 32 * k.val + 1 * a.val = 32 * k.val + a.val; omega)
  | ⟨1, _⟩ => exact (congrArg (· + 1 * n.val) e).trans (by show 512 * q.val + 1 * n.val = 512 * q.val + n.val; omega)

/-- The exponent of a block of 32 columns of a group. -/
def expR (k : Fin 20) (q : Fin 7) (a : Fin 32) (b : Fin 16) : ℤ := eR ⟨32 * k.val + a.val, by omega⟩ ⟨16 * q.val + b.val, by omega⟩

include hR in
theorem rows_exp (q : Fin 7) (a : Fin 32) (b : Fin 16) : BlockExp (rowBlock (groupOf o X q) a b) (expR eR k q a b) := by
  have h := hR ⟨32 * k.val + a.val, by omega⟩ ⟨16 * q.val + b.val, by omega⟩
  have e : rowBlock (groupOf o X q) a b
      = fun i : Fin 32 => X (ix2 ⟨32 * k.val + a.val, by omega⟩ ⟨32 * (16 * q.val + b.val) + i.val, by omega⟩) := funext fun i => by
    unfold rowBlock
    rw [groupOf_apply X ho]
    exact congrArg (fun n => X (ix2 _ n)) (Fin.ext (by
      show 512 * q.val + (32 * b.val + i.val) = 32 * (16 * q.val + b.val) + i.val; omega))
  rw [e]; exact h

include hC in
theorem cols_exp (q : Fin 7) (l : Fin 512) :
    BlockExp (fun i => (groupOf (F := Ideal) o X q (ix2 i l) : EReal)) (eC k ⟨512 * q.val + l.val, by omega⟩) := by
  simp only [groupOf_apply X ho]
  exact hC k _

end

/-! ## Single stores -/

section
include ho

theorem tile_in (q : Fin 7) (c : Fin 4) (y : S640x3584.Idx) (h : In k.val (512 * q.val + 128 * c.val) 128 y) :
    ∀ a, o.t q c a ≤ (y a).val ∧ (y a).val < o.t q c a + S32x128.size a := by
  rw [ho.t]
  intro a
  match a with
  | ⟨0, _⟩ => exact h.1
  | ⟨1, _⟩ => exact h.2

theorem group_in (q : Fin 7) (y : S640x3584.Idx) (h : In k.val (512 * q.val) 512 y) :
    ∀ a, o.g q a ≤ (y a).val ∧ (y a).val < o.g q a + S32x512.size a := by
  rw [ho.g]
  intro a
  match a with
  | ⟨0, _⟩ => exact h.1
  | ⟨1, _⟩ => exact h.2

/-- An element of a tile, by its place in the tile. -/
theorem tile_place (q : Fin 7) (c : Fin 4) (y : S640x3584.Idx) (z : (a : Fin 2) → Fin (S32x128.size a))
    (h : ∀ a, (y a).val = o.t q c a + (z a).val) : ∃ (a : Fin 32) (l : Fin 128), z = ix2 a l
      ∧ y = ix2 ⟨32 * k.val + a.val, by omega⟩ ⟨512 * q.val + 128 * c.val + l.val, by omega⟩ := by
  rw [ho.t] at h
  refine ⟨z 0, z 1, eq_ix2 z, funext fun i => Fin.ext ?_⟩
  match i with
  | ⟨0, _⟩ => exact h 0
  | ⟨1, _⟩ => exact h 1

/-- An element of a group, by its place in the group. -/
theorem group_place (q : Fin 7) (y : S640x3584.Idx) (z : (a : Fin 2) → Fin (S32x512.size a))
    (h : ∀ a, (y a).val = o.g q a + (z a).val) : ∃ (a : Fin 32) (l : Fin 512), z = ix2 a l
      ∧ y = ix2 ⟨32 * k.val + a.val, by omega⟩ ⟨512 * q.val + l.val, by omega⟩ := by
  rw [ho.g] at h
  refine ⟨z 0, z 1, eq_ix2 z, funext fun i => Fin.ext ?_⟩
  match i with
  | ⟨0, _⟩ => exact h 0
  | ⟨1, _⟩ => exact h 1

theorem exp_at (q : Fin 7) (c : Fin 4) (a : Fin 32) (l : Fin 128) :
    expR eR k q a ⟨4 * c.val + l.val / 32, by omega⟩
      = eR ⟨32 * k.val + a.val, by omega⟩ (colBlock (ix2 ⟨32 * k.val + a.val, by omega⟩ ⟨512 * q.val + 128 * c.val + l.val, by omega⟩)) :=
  congrArg (eR _) (Fin.ext (by
    show 16 * q.val + (4 * c.val + l.val / 32) = (512 * q.val + 128 * c.val + l.val) / 32; omega))

theorem val_at (q : Fin 7) (c : Fin 4) (a : Fin 32) (l : Fin 128) :
    groupOf o X q (ix2 a ⟨128 * c.val + l.val, by omega⟩)
      = X (ix2 ⟨32 * k.val + a.val, by omega⟩ ⟨512 * q.val + 128 * c.val + l.val, by omega⟩) := by
  rw [groupOf_apply X ho]
  exact congrArg (fun n => X (ix2 _ n)) (Fin.ext (by
    show 512 * q.val + (128 * c.val + l.val) = 512 * q.val + 128 * c.val + l.val; omega))

theorem exp_col (q : Fin 7) (a : Fin 32) (l : Fin 512) :
    eC k ⟨512 * q.val + l.val, by omega⟩
      = eC (rowsBlock (ix2 ⟨32 * k.val + a.val, by omega⟩ ⟨512 * q.val + l.val, by omega⟩)) ⟨512 * q.val + l.val, by omega⟩ :=
  congrArg (fun b => eC b _) (Fin.ext (by show k.val = (32 * k.val + a.val) / 32; omega))

include hR

theorem tile_codes (q : Fin 7) (c : Fin 4) (s : Mem Ideal) (y : S640x3584.Idx)
    (h : s.codesR y = (final X eR eC).codesR y ∨ In k.val (512 * q.val + 128 * c.val) 128 y) :
    (tileStep o q c (groupOf o X q) s).codesR y = (final X eR eC).codesR y := by
  refine put_agree (fun y z hz => ?_) y (h.imp_right (tile_in ho q c y))
  obtain ⟨a, l, rfl, rfl⟩ := tile_place ho q c y z hz
  refine (tileCodes_eq _ _ (rows_exp X eR hR ho q) c a l).trans ?_
  rw [val_at X ho, exp_at eR ho]
  rfl

theorem tile_wide (q : Fin 7) (c : Fin 4) (s : Mem Ideal) (y : S640x3584.Idx)
    (h : s.wideR y = (final X eR eC).wideR y ∨ In k.val (512 * q.val + 128 * c.val) 128 y) :
    (tileStep o q c (groupOf o X q) s).wideR y = (final X eR eC).wideR y := by
  refine put_agree (fun y z hz => ?_) y (h.imp_right (tile_in ho q c y))
  obtain ⟨a, l, rfl, rfl⟩ := tile_place ho q c y z hz
  refine (tileWide_eq _ _ (rows_exp X eR hR ho q) c a l).trans ?_
  rw [val_at X ho, exp_at eR ho]
  rfl

theorem bytes_rows (s : Mem Ideal) (y : S640x112.Idx)
    (h : s.bytesR y = (final X eR eC).bytesR y ∨ (32 * k.val ≤ (y 0).val ∧ (y 0).val < 32 * k.val + 32)) :
    (bytesStep o (blockBytes (F := Ideal) o X) s).bytesR y = (final X eR eC).bytesR y := by
  refine put_agree (fun y z hz => ?_) y (h.imp_right fun h => ?_)
  · rw [ho.s] at hz
    obtain ⟨a, q, rfl⟩ : ∃ (a : Fin 32) (q : Fin 112), z = (ix2 a q : S32x112.Idx) := ⟨z 0, z 1, @eq_ix2 32 112 z⟩
    refine (bytesOf_eq (groupOf o X) _ (rows_exp X eR hR ho) a q).trans ?_
    refine congrArg scaleByte (congrArg₂ eR (Fin.ext ?_) (Fin.ext ?_))
    · exact (hz 0).symm
    · have h1 : (y 1).val = 0 + q.val := hz 1
      show 16 * (q.val / 16) + q.val % 16 = (y 1).val
      omega
  · rw [ho.s]
    intro a
    match a with
    | ⟨0, _⟩ => exact h
    | ⟨1, _⟩ =>
      have h1 : (y 1).val < 112 := (y 1).isLt
      exact ⟨Nat.zero_le _, by show (y 1).val < 0 + 112; omega⟩

end

section
include ho hC

theorem cols_codes (q : Fin 7) (s : Mem Ideal) (y : S640x3584.Idx)
    (h : s.codesC y = (final X eR eC).codesC y ∨ In k.val (512 * q.val) 512 y) :
    (colsStep o q (groupOf o X q) s).codesC y = (final X eR eC).codesC y := by
  refine put_agree (fun y z hz => ?_) y (h.imp_right (group_in ho q y))
  obtain ⟨a, l, rfl, rfl⟩ := group_place ho q y z hz
  refine (codes_eq _ _ l (cols_exp X eC hC ho q l) (fun i => powers_apply _ _) a).trans ?_
  rw [groupOf_apply X ho, exp_col eC ho q a l]
  rfl

theorem cols_wide (q : Fin 7) (s : Mem Ideal) (y : S640x3584.Idx)
    (h : s.wideC y = (final X eR eC).wideC y ∨ In k.val (512 * q.val) 512 y) :
    (colsStep o q (groupOf o X q) s).wideC y = (final X eR eC).wideC y := by
  refine put_agree (fun y z hz => ?_) y (h.imp_right (group_in ho q y))
  obtain ⟨a, l, rfl, rfl⟩ := group_place ho q y z hz
  refine (wide_eq _ _ l (cols_exp X eC hC ho q l) (fun i => powers_apply _ _) a).trans ?_
  rw [groupOf_apply X ho, exp_col eC ho q a l]
  rfl

theorem wordRow_apply (p : FVec Ideal S32x512 .bf16) (l : Fin 512) :
    wordRow p (ix2 0 l) = (payOf swapRows).word p (ix2 0 l) := by
  unfold wordRow
  generalize (payOf (F := Ideal) swapRows).word p = w
  pointwise

theorem cols_words (q : Fin 7) (s : Mem Ideal) (y : S24x3584.Idx)
    (h : s.words y = (final X eR eC).words y ∨ ((y 0).val = k.val ∧ 512 * q.val ≤ (y 1).val ∧ (y 1).val < 512 * q.val + 512)) :
    (colsStep o q (groupOf o X q) s).words y = (final X eR eC).words y := by
  refine put_agree (fun y z hz => ?_) y (h.imp_right fun h => ?_)
  · rw [ho.w] at hz
    obtain ⟨a, l, rfl⟩ : ∃ (a : Fin 1) (l : Fin 512), z = (ix2 a l : S1x512.Idx) := ⟨z 0, z 1, @eq_ix2 1 512 z⟩
    have ha : a = 0 := Subsingleton.elim _ _
    subst ha
    have hy : y = (ix2 ⟨k.val, by omega⟩ ⟨512 * q.val + l.val, by omega⟩ : S24x3584.Idx) := funext fun i => Fin.ext (by
      match i with
      | ⟨0, _⟩ => exact hz 0
      | ⟨1, _⟩ => exact hz 1)
    subst hy
    refine (wordRow_apply X eC hC ho _ l).trans ((word_eq _ _ l (cols_exp X eC hC ho q l) (fun i => powers_apply _ _) 0).trans ?_)
    exact (dif_pos (c := k.val < 20) (t := fun h => wordOf (eC ⟨k.val, h⟩ ⟨512 * q.val + l.val, by omega⟩)) (e := fun _ => 0#32) k.isLt).symm
  · rw [ho.w]
    intro a
    match a with
    | ⟨0, _⟩ => exact ⟨h.1.ge, by show (y 0).val < k.val + 1; omega⟩
    | ⟨1, _⟩ => exact h.2

end

/-! ## A group, and a block of 32 rows -/

section
include ho

theorem tiles_chain {P : Mem Ideal → S640x3584.Idx → Prop} (q : Fin 7) (y : S640x3584.Idx)
    (ht : ∀ (c : Fin 4) (s : Mem Ideal), P s y ∨ In k.val (512 * q.val + 128 * c.val) 128 y → P (tileStep o q c (groupOf o X q) s) y)
    (s : Mem Ideal) (h : P s y ∨ In k.val (512 * q.val) 512 y) :
    P (tileStep o q 3 (groupOf o X q) (tileStep o q 2 (groupOf o X q) (tileStep o q 1 (groupOf o X q)
      (tileStep o q 0 (groupOf o X q) s)))) y := by
  refine ht 3 _ (or_iff_not_imp_right.2 fun h3 => ht 2 _ (or_iff_not_imp_right.2 fun h2 => ht 1 _ (or_iff_not_imp_right.2 fun h1 =>
    ht 0 _ (h.imp_right fun hi => ?_))))
  have e0 : (0 : Fin 4).val = 0 := rfl
  have e1 : (1 : Fin 4).val = 1 := rfl
  have e2 : (2 : Fin 4).val = 2 := rfl
  have e3 : (3 : Fin 4).val = 3 := rfl
  rw [e0]; rw [e1] at h1; rw [e2] at h2; rw [e3] at h3
  unfold In at *
  omega

/-- Seven groups, each of which brings its columns to what is wanted and keeps what is so, bring all of the rows there. -/
theorem groups_chain {P : Mem Ideal → Prop} (n : ℕ) (hn : n < 3584) (Q : Prop)
    (hg : ∀ (q : Fin 7) (s : Mem Ideal), P s ∨ (Q ∧ 512 * q.val ≤ n ∧ n < 512 * q.val + 512) → P (groupStep o X q s))
    (s : Mem Ideal) (h : P s ∨ Q) :
    P (groupStep o X 6 (groupStep o X 5 (groupStep o X 4 (groupStep o X 3 (groupStep o X 2 (groupStep o X 1 (groupStep o X 0 s))))))) := by
  refine hg 6 _ (or_iff_not_imp_right.2 fun h6 => hg 5 _ (or_iff_not_imp_right.2 fun h5 => hg 4 _ (or_iff_not_imp_right.2 fun h4 =>
    hg 3 _ (or_iff_not_imp_right.2 fun h3 => hg 2 _ (or_iff_not_imp_right.2 fun h2 => hg 1 _ (or_iff_not_imp_right.2 fun h1 =>
    hg 0 _ (h.imp_right fun hq => ⟨hq, ?_⟩)))))))
  have e0 : (0 : Fin 7).val = 0 := rfl
  have e1 : (1 : Fin 7).val = 1 := rfl
  have e2 : (2 : Fin 7).val = 2 := rfl
  have e3 : (3 : Fin 7).val = 3 := rfl
  have e4 : (4 : Fin 7).val = 4 := rfl
  have e5 : (5 : Fin 7).val = 5 := rfl
  have e6 : (6 : Fin 7).val = 6 := rfl
  rw [e0]; rw [e1] at h1; rw [e2] at h2; rw [e3] at h3; rw [e4] at h4; rw [e5] at h5; rw [e6] at h6
  have g1 : ¬ (512 * 1 ≤ n ∧ n < 512 * 1 + 512) := fun h => h1 ⟨hq, h⟩
  have g2 : ¬ (512 * 2 ≤ n ∧ n < 512 * 2 + 512) := fun h => h2 ⟨hq, h⟩
  have g3 : ¬ (512 * 3 ≤ n ∧ n < 512 * 3 + 512) := fun h => h3 ⟨hq, h⟩
  have g4 : ¬ (512 * 4 ≤ n ∧ n < 512 * 4 + 512) := fun h => h4 ⟨hq, h⟩
  have g5 : ¬ (512 * 5 ≤ n ∧ n < 512 * 5 + 512) := fun h => h5 ⟨hq, h⟩
  have g6 : ¬ (512 * 6 ≤ n ∧ n < 512 * 6 + 512) := fun h => h6 ⟨hq, h⟩
  omega

end

/-- The rows below block `k` hold their final contents. -/
structure Good (n : ℕ) (s : Mem Ideal) : Prop where
  codesR : ∀ y, (y 0).val < 32 * n → s.codesR y = (final X eR eC).codesR y
  bytesR : ∀ y, (y 0).val < 32 * n → s.bytesR y = (final X eR eC).bytesR y
  codesC : ∀ y, (y 0).val < 32 * n → s.codesC y = (final X eR eC).codesC y
  wideR : ∀ y, (y 0).val < 32 * n → s.wideR y = (final X eR eC).wideR y
  wideC : ∀ y, (y 0).val < 32 * n → s.wideC y = (final X eR eC).wideC y
  words : ∀ y, (y 0).val < n → s.words y = (final X eR eC).words y

theorem good_zero (s : Mem Ideal) : Good X eR eC 0 s where
  codesR _ h := absurd h (Nat.not_lt_zero _)
  bytesR _ h := absurd h (Nat.not_lt_zero _)
  codesC _ h := absurd h (Nat.not_lt_zero _)
  wideR _ h := absurd h (Nat.not_lt_zero _)
  wideC _ h := absurd h (Nat.not_lt_zero _)
  words _ h := absurd h (Nat.not_lt_zero _)

section
include hR hC ho

theorem good_step (s : Mem Ideal) (h : Good X eR eC k.val s) : Good X eR eC (k.val + 1) (tripStep o X s) where
  codesR y hy := groups_chain X ho (P := fun s => s.codesR y = (final X eR eC).codesR y) (y 1).val (y 1).isLt
    (32 * k.val ≤ (y 0).val ∧ (y 0).val < 32 * k.val + 32)
    (fun q s hs => tiles_chain X ho (P := fun s y => s.codesR y = (final X eR eC).codesR y) q y
      (fun c s hc => tile_codes X eR eC hR ho q c s y hc) s hs) s
    ((Nat.lt_or_ge (y 0).val (32 * k.val)).imp (h.codesR y) fun h => ⟨h, by omega⟩)
  wideR y hy := groups_chain X ho (P := fun s => s.wideR y = (final X eR eC).wideR y) (y 1).val (y 1).isLt
    (32 * k.val ≤ (y 0).val ∧ (y 0).val < 32 * k.val + 32)
    (fun q s hs => tiles_chain X ho (P := fun s y => s.wideR y = (final X eR eC).wideR y) q y
      (fun c s hc => tile_wide X eR eC hR ho q c s y hc) s hs) s
    ((Nat.lt_or_ge (y 0).val (32 * k.val)).imp (h.wideR y) fun h => ⟨h, by omega⟩)
  codesC y hy := groups_chain X ho (P := fun s => s.codesC y = (final X eR eC).codesC y) (y 1).val (y 1).isLt
    (32 * k.val ≤ (y 0).val ∧ (y 0).val < 32 * k.val + 32)
    (fun q s hs => cols_codes X eR eC hC ho q _ y hs) s
    ((Nat.lt_or_ge (y 0).val (32 * k.val)).imp (h.codesC y) fun h => ⟨h, by omega⟩)
  wideC y hy := groups_chain X ho (P := fun s => s.wideC y = (final X eR eC).wideC y) (y 1).val (y 1).isLt
    (32 * k.val ≤ (y 0).val ∧ (y 0).val < 32 * k.val + 32)
    (fun q s hs => cols_wide X eR eC hC ho q _ y hs) s
    ((Nat.lt_or_ge (y 0).val (32 * k.val)).imp (h.wideC y) fun h => ⟨h, by omega⟩)
  words y hy := groups_chain X ho (P := fun s => s.words y = (final X eR eC).words y) (y 1).val (y 1).isLt ((y 0).val = k.val)
    (fun q s hs => cols_words X eR eC hC ho q _ y hs) s
    ((Nat.lt_or_ge (y 0).val k.val).imp (h.words y) fun h => by omega)
  bytesR y hy := bytes_rows X eR eC hR ho _ y
    ((Nat.lt_or_ge (y 0).val (32 * k.val)).imp (h.bytesR y) fun h => ⟨h, by omega⟩)

end

/-! ## After the last block -/

theorem colBytes_apply (w : IVec S20x3584 32) (r : Fin 20) (n : Fin 3584) :
    shapeCast S1x20x3584 (colBytes (F := Ideal) w) casts_bytes (ix3 0 r n)
      = BitVec.setWidth 8 (IntOp.andi (IntOp.subi (IntOp.shrsi .vector (w (ix2 r n)) 7#32) 8#32) 255#32) := by
  pointwise [colBytes]

include hC in
theorem bytes_cols (s : Mem Ideal) (h : Good X eR eC 20 s) :
    (finishStep (wordBytes s) s).bytesC = (final X eR eC).bytesC := by
  funext y
  refine put_agree (s := S1x20x3584) (fun y z hz => ?_) y (Or.inr fun a => ?_)
  · obtain ⟨b, r, n, rfl⟩ : ∃ (b : Fin 1) (r : Fin 20) (n : Fin 3584), z = (ix3 b r n : S1x20x3584.Idx) := ⟨z 0, z 1, z 2, eq_ix3 z⟩
    have hb : b = 0 := Subsingleton.elim _ _
    subst hb
    have hy : y = (ix3 0 r n : S1x20x3584.Idx) := funext fun i => Fin.ext (by
      match i with
      | ⟨0, _⟩ => exact (hz 0).trans (Nat.zero_add _)
      | ⟨1, _⟩ => exact (hz 1).trans (Nat.zero_add _)
      | ⟨2, _⟩ => exact (hz 2).trans (Nat.zero_add _))
    subst hy
    refine (colBytes_apply _ r n).trans ?_
    have hw : window s.words ![0, 0] S20x3584.size words_inb (ix2 r n : S20x3584.Idx) = wordOf (eC r n) := by
      have e : window s.words ![0, 0] S20x3584.size words_inb (ix2 r n : S20x3584.Idx)
          = s.words (ix2 ⟨r.val, by omega⟩ n : S24x3584.Idx) := congrArg s.words (funext fun i => Fin.ext (by
        match i with
        | ⟨0, _⟩ => show 0 + 1 * r.val = r.val; omega
        | ⟨1, _⟩ => show 0 + 1 * n.val = n.val; omega))
      rw [e, h.words _ r.isLt]
      exact dif_pos r.isLt
    rw [hw]
    exact byte_eq (hC r n).bounds
  · have := (y a).isLt
    match a with
    | ⟨0, _⟩ => exact ⟨Nat.zero_le _, by show (y 0).val < 0 + 1; change (y 0).val < 1 at this; omega⟩
    | ⟨1, _⟩ => exact ⟨Nat.zero_le _, by show (y 1).val < 0 + 20; change (y 1).val < 20 at this; omega⟩
    | ⟨2, _⟩ => exact ⟨Nat.zero_le _, by show (y 2).val < 0 + 3584; change (y 2).val < 3584 at this; omega⟩

include hC in
/-- The contents at the end, but for the scratch. -/
theorem finish_eq (s : Mem Ideal) (h : Good X eR eC 20 s) :
    finishStep (wordBytes s) s = { final X eR eC with words := s.words } := by
  have h1 : s.codesR = (final X eR eC).codesR := funext fun y => h.codesR y (y 0).isLt
  have h2 : s.bytesR = (final X eR eC).bytesR := funext fun y => h.bytesR y (y 0).isLt
  have h3 : s.codesC = (final X eR eC).codesC := funext fun y => h.codesC y (y 0).isLt
  have h4 : s.wideR = (final X eR eC).wideR := funext fun y => h.wideR y (y 0).isLt
  have h5 : s.wideC = (final X eR eC).wideC := funext fun y => h.wideC y (y 0).isLt
  have h6 := bytes_cols X eR eC hC s h
  exact Mem.ext h1 h2 h3 h6 h4 h5 rfl

end Cert.Xq
-- ==== Proof.XFrameIdeal.lean ====
/- The run of the activation quantiser over the reals: given the exponents of the blocks, each grid point leaves in its
   windows the six results of its 640 rows. -/
module

public import proofs.«01_k».proof.Proof.XBody
public import proofs.«01_k».proof.Proof.XContents
public import Idealize.ShloMosaic.Lib.Claim
public import proofs.«01_k».proof.Proof.Gen.XquantIdeal.Frame

@[expose] public section

set_option maxRecDepth 16384

noncomputable section

namespace Cert.XquantIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.XquantIdeal Cert.XquantIdeal.Gen Cert.XquantIdeal.Facts Cert.XquantIdeal.Facts₀

local notation "𝕄" => MT nD τ sig Unit (Elt Ideal) ℕ (UR sig nD τ) ℕ

/-! ## The body -/

theorem trips_eq : k0_t1_loop.trips = 20 := by decide +kernel

/-- A block of 32 rows, of the twenty. -/
def block (k : Fin k0_t1_loop.trips) : Fin 20 := ⟨k.val, by have := k.isLt; have := trips_eq; omega⟩

theorem offs_at (k : Fin k0_t1_loop.trips) : Xq.At (offs k) (block k) where
  g := goff_eq k
  t := toff_eq k
  w := woff_eq k
  s := soff_eq k

section
variable (c : Dev nD) (E : Set ℕ) (i : grid0.Coords) (arg1 : Memref sig .tc .vmem S640x3584 .bf16) (harg1 : arg1.IsWhole)
  (arg2 : Memref sig .tc .vmem S640x3584 .fp8e4m3) (harg2 : arg2.IsWhole)
  (arg3 : Memref sig .tc .vmem S640x112 .i8) (harg3 : arg3.IsWhole)
  (arg4 : Memref sig .tc .vmem S640x3584 .fp8e4m3) (harg4 : arg4.IsWhole)
  (arg5 : Memref sig .tc .vmem S1x20x3584 .i8) (harg5 : arg5.IsWhole)
  (arg6 : Memref sig .tc .vmem S640x3584 .bf16) (harg6 : arg6.IsWhole)
  (arg7 : Memref sig .tc .vmem S640x3584 .bf16) (harg7 : arg7.IsWhole)
  (arg8 : Memref sig .tc .vmem S24x3584 .i32) (harg8 : arg8.IsWhole)
  (X : FVec Ideal S640x3584 .bf16) (eR : Fin 640 → Fin 112 → ℤ) (eC : Fin 20 → Fin 3584 → ℤ)
  (hR : Xq.RowExps X eR) (hC : Xq.ColExps X eC)

/-- What the loop keeps: the rows of the blocks done hold their final contents. -/
def inv (n : ℕ) : sProp 𝕄 :=
  iprop(∃ s : Xq.Mem Ideal, ⌜Xq.Good X eR eC n s⌝ ∗ Xq.held X c arg1 arg2 arg3 arg4 arg5 arg6 arg7 arg8 s)

include hR hC

theorem loop_step (k : Fin k0_t1_loop.trips) :
    inv c arg1 arg2 arg3 arg4 arg5 arg6 arg7 arg8 X eR eC k.val
      ⊢ wp frame (wpE (defs₀ (F := Ideal)) Variants.none c none) E
        (Xq.trip (F := Ideal) arg1 arg2 harg2 arg3 harg3 arg4 harg4 arg6 harg6 arg7 harg7 arg8 (offs k))
        (fun _ => inv c arg1 arg2 arg3 arg4 arg5 arg6 arg7 arg8 X eR eC (k.val + 1)) := by
  unfold inv
  iintro ⟨%s, %hs, H⟩
  iapply (Xq.trip_run (offs k) X defs₀ c E arg1 arg2 harg2 arg3 harg3 arg4 harg4 arg5 arg6 harg6 arg7 harg7 arg8 s _)
  isplitl [H]; · iexact H
  iintro H
  iexists _; isplitr
  swap; · iexact H
  ipureintro
  exact Xq.good_step X eR eC hR hC (offs_at k) s hs

theorem sound (s : Xq.Mem Ideal) (k : PUnit → sProp 𝕄) :
    iprop(Xq.held X c arg1 arg2 arg3 arg4 arg5 arg6 arg7 arg8 s
        ∗ (∀ w, Xq.held X c arg1 arg2 arg3 arg4 arg5 arg6 arg7 arg8 { Xq.final X eR eC with words := w } -∗ k ⟨⟩))
      ⊢ wp frame (wpE (defs₀ (F := Ideal)) Variants.none c none) E
        (cc0_x_quant (F := Ideal) i arg1 harg1 arg2 harg2 arg3 harg3 arg4 harg4 arg5 harg5 arg6 harg6 arg7 harg7 arg8 harg8) k := by
  rw [body_eq]
  unfold body
  rw [wp_bind, wp_bind]
  iintro ⟨H, Hk⟩
  iapply (Scf.wp_for frame (wpE (defs₀ (F := Ideal)) Variants.none c none) E k0_t1_loop.lb k0_t1_loop.ub k0_t1_loop.st Gen.k0_t1_ok
    PUnit.unit _ (fun n _ => inv c arg1 arg2 arg3 arg4 arg5 arg6 arg7 arg8 X eR eC n)
    (fun k _ => loop_step c E arg1 arg2 harg2 arg3 harg3 arg4 harg4 arg5 arg6 harg6 arg7 harg7 arg8 X eR eC hR hC k))
  isplitl [H]
  · unfold inv
    iexists s; isplitr
    · ipureintro; exact Xq.good_zero X eR eC s
    iexact H
  iintro %_ H
  rw [show Scf.trips k0_t1_loop.lb k0_t1_loop.ub k0_t1_loop.st = 20 from trips_eq]
  unfold inv
  icases H with ⟨%s', %hs, H⟩
  iapply (Xq.readWords_run X defs₀ c E arg1 arg2 arg3 arg4 arg5 arg6 arg7 arg8 s' _)
  isplitl [H]; · iexact H
  iintro H
  iapply (Xq.putCols_run X defs₀ c E arg1 arg2 arg3 arg4 arg5 harg5 arg6 arg7 arg8 (Xq.wordBytes s') s' _)
  isplitl [H]; · iexact H
  rw [Xq.finish_eq X eR eC hC s' hs]
  iintro H
  iapply Hk
  iexact H

end

/-! ## The pipeline's proof data -/

variable (m : (ℓ : Loc nD τ sig) → Buf (Elt Ideal) ℓ) (ρ : Dev nD → PrngReg)
  (ER : Dev nD → Fin 1920 → Fin 112 → ℤ) (EC : Dev nD → Fin 60 → Fin 3584 → ℤ)

/-- The rows at a point. -/
def xAt (c : Dev nD) (t : Fin cfg0.N) : FVec Ideal S640x3584 .bf16 := iblk m c 0 t

theorem point_lt (t : Fin cfg0.N) : t.val < 3 := by have := t.isLt; have : cfg0.N = 3 := N_0; omega

/-- The row of the arrays at row `a` of a point. -/
def row (t : Fin cfg0.N) (a : Fin 640) : Fin 1920 := ⟨640 * t.val + a.val, by have := point_lt t; omega⟩
/-- The block of 32 rows of the arrays at block `b` of a point. -/
def rows (t : Fin cfg0.N) (b : Fin 20) : Fin 60 := ⟨20 * t.val + b.val, by have := point_lt t; omega⟩

/-- What the buffers hold after a point. -/
def last (c : Dev nD) (t : Fin cfg0.N) : Xq.Mem Ideal :=
  Xq.final (xAt m c t) (fun a b => ER c (row t a) b) (fun b n => EC c (rows t b) n)

/-- What is held between the points: the scratch. -/
def carried (c : Dev nD) : sProp 𝕄 :=
  iprop((∃ S : Vec Ideal S24x3584 .i32, owns (c : Thread nD τ) (Memref.whole cc0_scratch0) fullShare S) ∗ ∃ r, prngReg c r)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (last m ER EC c t).codesR
    | ⟨2, _⟩ => (last m ER EC c t).bytesR
    | ⟨3, _⟩ => (last m ER EC c t).codesC
    | ⟨4, _⟩ => (last m ER EC c t).bytesC
    | ⟨5, _⟩ => (last m ER EC c t).wideR
    | ⟨6, _⟩ => (last m ER EC c t).wideC
  Φ _ := carried c
  q _ := fullShare
  owed _ := 0

theorem A_eq (c : Dev nD) (w : Fin cfg0.W) : (dats m ER EC 0 c).A w = V m c (Pipeline.arrRef spec0 w) := by
  dsimp only [dats]

theorem after_0 (c : Dev nD) (t : Fin cfg0.N) : (dats m ER EC 0 c).after 0 t = iblk m c 0 t := by dsimp only [dats]
theorem after_1 (c : Dev nD) (t : Fin cfg0.N) : (dats m ER EC 0 c).after 1 t = (last m ER EC c t).codesR := by dsimp only [dats]
theorem after_2 (c : Dev nD) (t : Fin cfg0.N) : (dats m ER EC 0 c).after 2 t = (last m ER EC c t).bytesR := by dsimp only [dats]
theorem after_3 (c : Dev nD) (t : Fin cfg0.N) : (dats m ER EC 0 c).after 3 t = (last m ER EC c t).codesC := by dsimp only [dats]
theorem after_4 (c : Dev nD) (t : Fin cfg0.N) : (dats m ER EC 0 c).after 4 t = (last m ER EC c t).bytesC := by dsimp only [dats]
theorem after_5 (c : Dev nD) (t : Fin cfg0.N) : (dats m ER EC 0 c).after 5 t = (last m ER EC c t).wideR := by dsimp only [dats]
theorem after_6 (c : Dev nD) (t : Fin cfg0.N) : (dats m ER EC 0 c).after 6 t = (last m ER EC c t).wideC := by dsimp only [dats]

theorem before_0 (c : Dev nD) (t : Fin cfg0.N) (d) : (dats m ER EC 0 c).before 0 t d = iblk m c 0 t :=
  before0_0_of m (dats m ER EC 0 c) (A_eq m ER EC c 0) (after_0 m ER EC c) t d

theorem phi_eq (c : Dev nD) (t : Fin (cfg0.N + 1)) : (dats m ER EC 0 c).Φ t = carried c := by dsimp only [dats]

/-! ## The body at a point -/

/-- The blocks of a point have the exponents named. -/
def HasExps : Prop := ∀ (c : Dev nD) (t : Fin cfg0.N),
  Xq.RowExps (xAt m c t) (fun a b => ER c (row t a) b) ∧ Xq.ColExps (xAt m c t) (fun b n => EC c (rows t b) n)

/-- What the body is called with at a point. -/
def bodyPre (c : Dev nD) (t : Fin cfg0.N) : sProp 𝕄 :=
  iprop(carried c ∗ (dats m ER EC 0 c).owesAt () t.castSucc
    ∗ (∃ d, owns (c : Thread nD τ) (st0_0 t) fullShare ((dats m ER EC 0 c).before 0 t d))
    ∗ (∃ d, owns (c : Thread nD τ) (st0_1 t) fullShare ((dats m ER EC 0 c).before 1 t d))
    ∗ (∃ d, owns (c : Thread nD τ) (st0_2 t) fullShare ((dats m ER EC 0 c).before 2 t d))
    ∗ (∃ d, owns (c : Thread nD τ) (st0_3 t) fullShare ((dats m ER EC 0 c).before 3 t d))
    ∗ (∃ d, owns (c : Thread nD τ) (st0_4 t) fullShare ((dats m ER EC 0 c).before 4 t d))
    ∗ (∃ d, owns (c : Thread nD τ) (st0_5 t) fullShare ((dats m ER EC 0 c).before 5 t d))
    ∗ (∃ d, owns (c : Thread nD τ) (st0_6 t) fullShare ((dats m ER EC 0 c).before 6 t d)))

/-- What it returns. -/
def bodyPost (c : Dev nD) (t : Fin cfg0.N) : sProp 𝕄 :=
  iprop(carried c ∗ (dats m ER EC 0 c).owesAt () t.succ
    ∗ owns (c : Thread nD τ) (st0_0 t) fullShare ((dats m ER EC 0 c).after 0 t)
    ∗ owns (c : Thread nD τ) (st0_1 t) fullShare ((dats m ER EC 0 c).after 1 t)
    ∗ owns (c : Thread nD τ) (st0_2 t) fullShare ((dats m ER EC 0 c).after 2 t)
    ∗ owns (c : Thread nD τ) (st0_3 t) fullShare ((dats m ER EC 0 c).after 3 t)
    ∗ owns (c : Thread nD τ) (st0_4 t) fullShare ((dats m ER EC 0 c).after 4 t)
    ∗ owns (c : Thread nD τ) (st0_5 t) fullShare ((dats m ER EC 0 c).after 5 t)
    ∗ owns (c : Thread nD τ) (st0_6 t) fullShare ((dats m ER EC 0 c).after 6 t))

theorem defs₀_row (t : Fin cfg0.N) :
    defs₀ (F := Ideal) .tc cfg0.body (cfg0.bodyArgs t (cfg0.slots t)) = bodyAt0 t := by
  unfold defs₀; rw [Defs.onTc_tc]

section
variable (hE : HasExps m ER EC)
include hE

theorem body_at (c : Dev nD) (t : Fin cfg0.N) :
    bodyPre m ER EC c t ⊢ wp frame (wpE (defs₀ (F := Ideal)) Variants.none c none) Set.univ (bodyAt0 t)
      (fun _ => bodyPost m ER EC c t) := by
  unfold bodyPre bodyPost bodyAt0 carried
  simp only [before_0]
  rw [show (dats m ER EC 0 c).owesAt () t.succ = (dats m ER EC 0 c).owesAt () t.castSucc from rfl,
    after_0, after_1, after_2, after_3, after_4, after_5, after_6]
  iintro ⟨⟨⟨%S, HS⟩, Hr⟩, Ho, ⟨%d0, H0⟩, ⟨%d1, H1⟩, ⟨%d2, H2⟩, ⟨%d3, H3⟩, ⟨%d4, H4⟩, ⟨%d5, H5⟩, ⟨%d6, H6⟩⟩
  iapply (sound c Set.univ (grid0.coords t) _ _ _ _ _ _ _ _ _ _ _ _ _ _ _ _ (xAt m c t) (fun a b => ER c (row t a) b)
    (fun b n => EC c (rows t b) n) (hE c t).1 (hE c t).2
    ⟨(dats m ER EC 0 c).before 1 t d1, (dats m ER EC 0 c).before 2 t d2, (dats m ER EC 0 c).before 3 t d3,
      (dats m ER EC 0 c).before 4 t d4, (dats m ER EC 0 c).before 5 t d5, (dats m ER EC 0 c).before 6 t d6, S⟩ _)
  unfold Xq.held
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro %w ⟨H0, H1, H2, H3, H4, H5, H6, HS⟩
  isplitl [HS Hr]
  · isplitl [HS]; · iexists w; iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) :
    BodyObligation (dats m ER EC 0 c) (defs₀ (F := Ideal)) Variants.none () Set.univ := fun t => by
  rw [bigSep_W0, bigSep_W0, defs₀_row]
  exact triple_restated (body_at m ER EC hE c t) rfl .rfl fun _ => .rfl

/-! ## The run -/

/-- The region enters with the scratch at any contents, -/
theorem enter (c : Dev nD) : Pipeline.ΦA spec0 c ⊢ (dats m ER EC 0 c).Φ 0 := by
  rw [phi_eq]
  unfold Pipeline.ΦA carried
  rw [scopedRest0_eq]
  simp only [owns_whole]
  iintro ⟨⟨%f, HS⟩, Hr⟩
  isplitl [HS]; · iexists f; iexact HS
  iexact Hr

/-- and leaves with it so. -/
theorem leave (c : Dev nD) : (dats m ER EC 0 c).Φ (Fin.last cfg0.N) ⊢ Pipeline.ΦA spec0 c := by
  rw [phi_eq]
  unfold Pipeline.ΦA carried
  rw [scopedRest0_eq]
  simp only [owns_whole]
  iintro ⟨⟨%f, HS⟩, Hr⟩
  isplitl [HS]; · iexists f; iexact HS
  iexact Hr

set_option backward.isDefEq.respectTransparency.types false in
set_option maxHeartbeats 800000 in
/-- Every execution ends, with every array at what the proof data says and every semaphore counter at zero. -/
theorem run_main_quiescent : θ_run defs (onTc (τ := τ) (main (F := Ideal))) (s₀ m ρ)
    (fun r => (Pipeline.FramePost cfgs (dats m ER EC) 0 (V m)) r ∧ r.2.sem = fun _ => 0) :=
  Pipeline.θ_run_frame_track (Q' := _) cfgs (dats m ER EC) (0 : Fin 1) launch0 defs₀ Variants.none m ρ main
    (hbody := fun c => (body_obligation m ER EC hE c).loose) (hshare := fun c => (dats m ER EC 0 c).share_full fun _ => rfl)
    (howed := fun _ _ => rfl) (V := V m) (hmain := hmain m Variants.none) (hA := A_eq m ER EC)
    (hin := enter m ER EC hE) (hout := leave m ER EC hE)

theorem run_main : θ_run defs (onTc (τ := τ) (main (F := Ideal))) (s₀ m ρ) (Pipeline.FramePost cfgs (dats m ER EC) 0 (V m)) :=
  (θ_run defs _ _).mono (fun _ h => h.1) (run_main_quiescent m ρ ER EC hE)

end

end Cert.XquantIdeal.Hand
-- ==== Proof.XValueKernel.lean ====
/- What the activation quantiser leaves in its six result arrays after a run over the reals: point `t` writes rows `640 t`
   to `640 t + 639` of each. -/
module

public import proofs.«01_k».proof.Proof.XFrameIdeal
public import proofs.«01_k».proof.Proof.XResult
public import Idealize.ShloMosaic.Lib.Pipeline.Value

@[expose] public section

set_option maxRecDepth 16384

noncomputable section

namespace Cert.XquantIdeal.Hand

open Idealize.ShloMosaic Idealize.ShloMosaic.TcCoe
open Idealize.SL.Sem
open Idealize.ShloMosaic.Pipeline (Dat Cfg Window)
open Cert.XquantIdeal Cert.XquantIdeal.Gen
open Cert.Xq (ExpsR ExpsC)

/-! ## Where the blocks lie -/

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)

/-- A point, of the three. -/
def point (t : Fin cfg0.N) : Fin 3 := ⟨t.val, point_lt t⟩

theorem emb_0 (t : Fin cfg0.N) (a : Fin 640) (n : Fin 3584) :
    ((cfg0.win 0).blk t).view.emb (ix2 a n : S640x3584.Idx) = (ix2 (row t a) n : S1920x3584.Idx) := by
  obtain ⟨e0, e1⟩ := index_0 t
  funext i; apply Fin.ext
  match i with
  | ⟨0, _⟩ => show win0_0.index t (0 : Fin 2) * 640 + 1 * a.val = 640 * t.val + a.val; rw [e0]; omega
  | ⟨1, _⟩ => show win0_0.index t (1 : Fin 2) * 3584 + 1 * n.val = n.val; omega

theorem emb_1 (t : Fin cfg0.N) (a : Fin 640) (n : Fin 3584) :
    ((cfg0.win 1).blk t).view.emb (ix2 a n : S640x3584.Idx) = (ix2 (row t a) n : S1920x3584.Idx) := by
  obtain ⟨e0, e1⟩ := index_1 t
  funext i; apply Fin.ext
  match i with
  | ⟨0, _⟩ => show win0_1.index t (0 : Fin 2) * 640 + 1 * a.val = 640 * t.val + a.val; rw [e0]; omega
  | ⟨1, _⟩ => show win0_1.index t (1 : Fin 2) * 3584 + 1 * n.val = n.val; omega

theorem emb_2 (t : Fin cfg0.N) (a : Fin 640) (n : Fin 112) :
    ((cfg0.win 2).blk t).view.emb (ix2 a n : S640x112.Idx) = (ix2 (row t a) n : S1920x112.Idx) := by
  obtain ⟨e0, e1⟩ := index_2 t
  funext i; apply Fin.ext
  match i with
  | ⟨0, _⟩ => show win0_2.index t (0 : Fin 2) * 640 + 1 * a.val = 640 * t.val + a.val; rw [e0]; omega
  | ⟨1, _⟩ => show win0_2.index t (1 : Fin 2) * 112 + 1 * n.val = n.val; omega

theorem emb_3 (t : Fin cfg0.N) (a : Fin 640) (n : Fin 3584) :
    ((cfg0.win 3).blk t).view.emb (ix2 a n : S640x3584.Idx) = (ix2 (row t a) n : S1920x3584.Idx) := by
  obtain ⟨e0, e1⟩ := index_3 t
  funext i; apply Fin.ext
  match i with
  | ⟨0, _⟩ => show win0_3.index t (0 : Fin 2) * 640 + 1 * a.val = 640 * t.val + a.val; rw [e0]; omega
  | ⟨1, _⟩ => show win0_3.index t (1 : Fin 2) * 3584 + 1 * n.val = n.val; omega

theorem emb_4 (t : Fin cfg0.N) (q : Fin 20) (n : Fin 3584) :
    ((cfg0.win 4).blk t).view.emb (ix3 0 q n : S1x20x3584.Idx) = (ix3 (point t) q n : S3x20x3584.Idx) := by
  obtain ⟨e0, e1, e2⟩ := index_4 t
  funext i; apply Fin.ext
  match i with
  | ⟨0, _⟩ => show win0_4.index t (0 : Fin 3) * 1 + 1 * 0 = t.val; omega
  | ⟨1, _⟩ => show win0_4.index t (1 : Fin 3) * 20 + 1 * q.val = q.val; omega
  | ⟨2, _⟩ => show win0_4.index t (2 : Fin 3) * 3584 + 1 * n.val = n.val; omega

theorem emb_5 (t : Fin cfg0.N) (a : Fin 640) (n : Fin 3584) :
    ((cfg0.win 5).blk t).view.emb (ix2 a n : S640x3584.Idx) = (ix2 (row t a) n : S1920x3584.Idx) := by
  obtain ⟨e0, e1⟩ := index_5 t
  funext i; apply Fin.ext
  match i with
  | ⟨0, _⟩ => show win0_5.index t (0 : Fin 2) * 640 + 1 * a.val = 640 * t.val + a.val; rw [e0]; omega
  | ⟨1, _⟩ => show win0_5.index t (1 : Fin 2) * 3584 + 1 * n.val = n.val; omega

theorem emb_6 (t : Fin cfg0.N) (a : Fin 640) (n : Fin 3584) :
    ((cfg0.win 6).blk t).view.emb (ix2 a n : S640x3584.Idx) = (ix2 (row t a) n : S1920x3584.Idx) := by
  obtain ⟨e0, e1⟩ := index_6 t
  funext i; apply Fin.ext
  match i with
  | ⟨0, _⟩ => show win0_6.index t (0 : Fin 2) * 640 + 1 * a.val = 640 * t.val + a.val; rw [e0]; omega
  | ⟨1, _⟩ => show win0_6.index t (1 : Fin 2) * 3584 + 1 * n.val = n.val; omega

/-! ## What the points write -/

variable (m : (ℓ : Loc nD τ sig) → Buf (Elt Ideal) ℓ) (ρ : Dev nD → PrngReg)

/-- The activations. -/
abbrev acts (c : Dev nD) : FVec Ideal S1920x3584 .bf16 := m ((c : Thread nD τ).loc main_arg0)

theorem xAt_apply (c : Dev nD) (t : Fin cfg0.N) (a : Fin 640) (n : Fin 3584) :
    xAt m c t (ix2 a n) = acts m c (ix2 (row t a) n) := by
  show V m c main_arg0 (((cfg0.win 0).blk t).view.emb (ix2 a n : S640x3584.Idx)) = _
  rw [emb_0, V_main_arg0]

variable (ER : Dev nD → Fin 1920 → Fin 112 → ℤ) (EC : Dev nD → Fin 60 → Fin 3584 → ℤ)

theorem hasExps (hR : ∀ c, ExpsR (acts m c) (ER c)) (hC : ∀ c, ExpsC (acts m c) (EC c)) : HasExps m ER EC := fun c t => by
  refine ⟨fun a b => ?_, fun b n => ?_⟩
  · show Wgrad.BlockExp (fun i : Fin 32 => (xAt m c t (ix2 a ⟨32 * b.val + i.val, by omega⟩) : EReal)) (ER c (row t a) b)
    simp only [xAt_apply]
    exact hR c (row t a) b
  · show Wgrad.BlockExp (fun i : Fin 32 => (xAt m c t (ix2 ⟨32 * b.val + i.val, by omega⟩ n) : EReal)) (EC c (rows t b) n)
    simp only [xAt_apply]
    have h := hC c (rows t b) n
    have e : (fun i : Fin 32 => acts m c (ix2 (row t ⟨32 * b.val + i.val, by omega⟩) n))
        = fun i : Fin 32 => acts m c (ix2 ⟨32 * (rows t b).val + i.val, by omega⟩ n) := funext fun i =>
      congrArg (fun r => acts m c (ix2 r n)) (Fin.ext (by
        show 640 * t.val + (32 * b.val + i.val) = 32 * (20 * t.val + b.val) + i.val; omega))
    rw [e]
    exact h

theorem rows_row (t : Fin cfg0.N) (a : Fin 640) :
    rows t ⟨a.val / 32, by omega⟩ = ⟨(row t a).val / 32, by omega⟩ := Fin.ext (by
  show 20 * t.val + a.val / 32 = (640 * t.val + a.val) / 32; omega)

variable (c : Dev nD)

theorem out_1 (t : Fin cfg0.N) :
    (dats m ER EC 0 c).flushed 1 t = ((cfg0.win 1).blk t).view.read (Elt Ideal) (Xq.codesR (acts m c) (ER c)) := by
  show (cfg0.win 1).cut (grid0.coords t) ((dats m ER EC 0 c).after 1 t) = _
  rw [after_1]
  funext (j : S640x3584.Idx)
  obtain ⟨a, n, rfl⟩ : ∃ (a : Fin 640) (n : Fin 3584), j = ix2 a n := ⟨j 0, j 1, eq_ix2 j⟩
  show (last m ER EC c t).codesR (ix2 a n) = Xq.codesR (acts m c) (ER c) (((cfg0.win 1).blk t).view.emb (ix2 a n : S640x3584.Idx))
  rw [emb_1]
  show Wgrad.code (ER c (row t a) ⟨n.val / 32, by omega⟩) (xAt m c t (ix2 a n)) = _
  rw [xAt_apply]
  rfl

theorem out_2 (t : Fin cfg0.N) :
    (dats m ER EC 0 c).flushed 2 t = ((cfg0.win 2).blk t).view.read (Elt Ideal) (Xq.bytesR (ER c)) := by
  show (cfg0.win 2).cut (grid0.coords t) ((dats m ER EC 0 c).after 2 t) = _
  rw [after_2]
  funext (j : S640x112.Idx)
  obtain ⟨a, n, rfl⟩ : ∃ (a : Fin 640) (n : Fin 112), j = ix2 a n := ⟨j 0, j 1, eq_ix2 j⟩
  show (last m ER EC c t).bytesR (ix2 a n) = Xq.bytesR (ER c) (((cfg0.win 2).blk t).view.emb (ix2 a n : S640x112.Idx))
  rw [emb_2]
  rfl

theorem out_3 (t : Fin cfg0.N) :
    (dats m ER EC 0 c).flushed 3 t = ((cfg0.win 3).blk t).view.read (Elt Ideal) (Xq.codesC (acts m c) (EC c)) := by
  show (cfg0.win 3).cut (grid0.coords t) ((dats m ER EC 0 c).after 3 t) = _
  rw [after_3]
  funext (j : S640x3584.Idx)
  obtain ⟨a, n, rfl⟩ : ∃ (a : Fin 640) (n : Fin 3584), j = ix2 a n := ⟨j 0, j 1, eq_ix2 j⟩
  show (last m ER EC c t).codesC (ix2 a n) = Xq.codesC (acts m c) (EC c) (((cfg0.win 3).blk t).view.emb (ix2 a n : S640x3584.Idx))
  rw [emb_3]
  show Wgrad.code (EC c (rows t ⟨a.val / 32, by omega⟩) n) (xAt m c t (ix2 a n)) = _
  rw [xAt_apply, rows_row]
  rfl

theorem out_4 (t : Fin cfg0.N) :
    (dats m ER EC 0 c).flushed 4 t = ((cfg0.win 4).blk t).view.read (Elt Ideal) (Xq.bytesC (EC c)) := by
  show (cfg0.win 4).cut (grid0.coords t) ((dats m ER EC 0 c).after 4 t) = _
  rw [after_4]
  funext (j : S1x20x3584.Idx)
  obtain ⟨b, q, n, rfl⟩ : ∃ (b : Fin 1) (q : Fin 20) (n : Fin 3584), j = ix3 b q n := ⟨j 0, j 1, j 2, eq_ix3 j⟩
  have hb : b = 0 := Subsingleton.elim _ _
  subst hb
  show (last m ER EC c t).bytesC (ix3 0 q n) = Xq.bytesC (EC c) (((cfg0.win 4).blk t).view.emb (ix3 0 q n : S1x20x3584.Idx))
  rw [emb_4]
  rfl

theorem out_5 (t : Fin cfg0.N) :
    (dats m ER EC 0 c).flushed 5 t = ((cfg0.win 5).blk t).view.read (Elt Ideal) (Xq.wideR (acts m c) (ER c)) := by
  show (cfg0.win 5).cut (grid0.coords t) ((dats m ER EC 0 c).after 5 t) = _
  rw [after_5]
  funext (j : S640x3584.Idx)
  obtain ⟨a, n, rfl⟩ : ∃ (a : Fin 640) (n : Fin 3584), j = ix2 a n := ⟨j 0, j 1, eq_ix2 j⟩
  show (last m ER EC c t).wideR (ix2 a n) = Xq.wideR (acts m c) (ER c) (((cfg0.win 5).blk t).view.emb (ix2 a n : S640x3584.Idx))
  rw [emb_5]
  show Wgrad.widened (ER c (row t a) ⟨n.val / 32, by omega⟩) (xAt m c t (ix2 a n)) = _
  rw [xAt_apply]
  rfl

theorem out_6 (t : Fin cfg0.N) :
    (dats m ER EC 0 c).flushed 6 t = ((cfg0.win 6).blk t).view.read (Elt Ideal) (Xq.wideC (acts m c) (EC c)) := by
  show (cfg0.win 6).cut (grid0.coords t) ((dats m ER EC 0 c).after 6 t) = _
  rw [after_6]
  funext (j : S640x3584.Idx)
  obtain ⟨a, n, rfl⟩ : ∃ (a : Fin 640) (n : Fin 3584), j = ix2 a n := ⟨j 0, j 1, eq_ix2 j⟩
  show (last m ER EC c t).wideC (ix2 a n) = Xq.wideC (acts m c) (EC c) (((cfg0.win 6).blk t).view.emb (ix2 a n : S640x3584.Idx))
  rw [emb_6]
  show Wgrad.widened (EC c (rows t ⟨a.val / 32, by omega⟩) n) (xAt m c t (ix2 a n)) = _
  rw [xAt_apply, rows_row]
  rfl

/-! ## The arrays -/

/-- The point that writes a row. -/
def pointOf (r : Fin 1920) : Fin cfg0.N := ⟨r.val / 640, by have : cfg0.N = 3 := N_0; omega⟩

theorem row_pointOf (r : Fin 1920) : row (pointOf r) ⟨r.val % 640, by omega⟩ = r := Fin.ext (by
  show 640 * (r.val / 640) + r.val % 640 = r.val; omega)

theorem final_1 : (dats m ER EC 0 c).arrAt 1 cfg0.N = Xq.codesR (acts m c) (ER c) :=
  (dats m ER EC 0 c).arrAt_eq_of_cover 1 _ (fun t _ => out_1 m ER EC c t) fun (i : S1920x3584.Idx) => by
    obtain ⟨r, n, rfl⟩ : ∃ (r : Fin 1920) (n : Fin 3584), i = ix2 r n := ⟨i 0, i 1, eq_ix2 i⟩
    refine ⟨pointOf r, flush0_1 _, ?_⟩
    have h := ((cfg0.win 1).blk (pointOf r)).view.emb_mem_set (ix2 ⟨r.val % 640, by omega⟩ n : S640x3584.Idx)
    rwa [emb_1, row_pointOf] at h

theorem final_2 : (dats m ER EC 0 c).arrAt 2 cfg0.N = Xq.bytesR (ER c) :=
  (dats m ER EC 0 c).arrAt_eq_of_cover 2 _ (fun t _ => out_2 m ER EC c t) fun (i : S1920x112.Idx) => by
    obtain ⟨r, n, rfl⟩ : ∃ (r : Fin 1920) (n : Fin 112), i = ix2 r n := ⟨i 0, i 1, eq_ix2 i⟩
    refine ⟨pointOf r, flush0_2 _, ?_⟩
    have h := ((cfg0.win 2).blk (pointOf r)).view.emb_mem_set (ix2 ⟨r.val % 640, by omega⟩ n : S640x112.Idx)
    rwa [emb_2, row_pointOf] at h

theorem final_3 : (dats m ER EC 0 c).arrAt 3 cfg0.N = Xq.codesC (acts m c) (EC c) :=
  (dats m ER EC 0 c).arrAt_eq_of_cover 3 _ (fun t _ => out_3 m ER EC c t) fun (i : S1920x3584.Idx) => by
    obtain ⟨r, n, rfl⟩ : ∃ (r : Fin 1920) (n : Fin 3584), i = ix2 r n := ⟨i 0, i 1, eq_ix2 i⟩
    refine ⟨pointOf r, flush0_3 _, ?_⟩
    have h := ((cfg0.win 3).blk (pointOf r)).view.emb_mem_set (ix2 ⟨r.val % 640, by omega⟩ n : S640x3584.Idx)
    rwa [emb_3, row_pointOf] at h

theorem final_4 : (dats m ER EC 0 c).arrAt 4 cfg0.N = Xq.bytesC (EC c) :=
  (dats m ER EC 0 c).arrAt_eq_of_cover 4 _ (fun t _ => out_4 m ER EC c t) fun (i : S3x20x3584.Idx) => by
    obtain ⟨b, q, n, rfl⟩ : ∃ (b : Fin 3) (q : Fin 20) (n : Fin 3584), i = ix3 b q n := ⟨i 0, i 1, i 2, eq_ix3 i⟩
    have hN : cfg0.N = 3 := N_0
    refine ⟨⟨b.val, by omega⟩, flush0_4 _, ?_⟩
    have h := ((cfg0.win 4).blk (⟨b.val, by omega⟩ : Fin cfg0.N)).view.emb_mem_set (ix3 0 q n : S1x20x3584.Idx)
    rwa [emb_4] at h

theorem final_5 : (dats m ER EC 0 c).arrAt 5 cfg0.N = Xq.wideR (acts m c) (ER c) :=
  (dats m ER EC 0 c).arrAt_eq_of_cover 5 _ (fun t _ => out_5 m ER EC c t) fun (i : S1920x3584.Idx) => by
    obtain ⟨r, n, rfl⟩ : ∃ (r : Fin 1920) (n : Fin 3584), i = ix2 r n := ⟨i 0, i 1, eq_ix2 i⟩
    refine ⟨pointOf r, flush0_5 _, ?_⟩
    have h := ((cfg0.win 5).blk (pointOf r)).view.emb_mem_set (ix2 ⟨r.val % 640, by omega⟩ n : S640x3584.Idx)
    rwa [emb_5, row_pointOf] at h

theorem final_6 : (dats m ER EC 0 c).arrAt 6 cfg0.N = Xq.wideC (acts m c) (EC c) :=
  (dats m ER EC 0 c).arrAt_eq_of_cover 6 _ (fun t _ => out_6 m ER EC c t) fun (i : S1920x3584.Idx) => by
    obtain ⟨r, n, rfl⟩ : ∃ (r : Fin 1920) (n : Fin 3584), i = ix2 r n := ⟨i 0, i 1, eq_ix2 i⟩
    refine ⟨pointOf r, flush0_6 _, ?_⟩
    have h := ((cfg0.win 6).blk (pointOf r)).view.emb_mem_set (ix2 ⟨r.val % 640, by omega⟩ n : S640x3584.Idx)
    rwa [emb_6, row_pointOf] at h

/-- The run, read at its results: the six functions of the argument, and the argument unchanged. -/
theorem run_value (hR : ∀ c, ExpsR (acts m c) (ER c)) (hC : ∀ c, ExpsC (acts m c) (EC c)) :
    θ_run defs (onTc (τ := τ) (main (F := Ideal))) ⟨m, fun _ => 0, ρ⟩ (fun r => ∀ c : Dev nD,
      r.2.mem ((c : Thread nD τ).loc main_v0_0) = Xq.codesR (acts m c) (ER c)
      ∧ r.2.mem ((c : Thread nD τ).loc main_v0_1) = Xq.bytesR (ER c)
      ∧ r.2.mem ((c : Thread nD τ).loc main_v0_2) = Xq.codesC (acts m c) (EC c)
      ∧ r.2.mem ((c : Thread nD τ).loc main_v0_3) = Xq.bytesC (EC c)
      ∧ r.2.mem ((c : Thread nD τ).loc main_v0_4) = Xq.wideR (acts m c) (ER c)
      ∧ r.2.mem ((c : Thread nD τ).loc main_v0_5) = Xq.wideC (acts m c) (EC c)
      ∧ r.2.mem ((c : Thread nD τ).loc main_arg0) = m ((c : Thread nD τ).loc main_arg0)) :=
  (θ_run defs _ _).mono (fun _ h c => ⟨((h c).1 1).trans (final_1 m ER EC c),
      ((h c).1 2).trans (final_2 m ER EC c), ((h c).1 3).trans (final_3 m ER EC c),
      ((h c).1 4).trans (final_4 m ER EC c), ((h c).1 5).trans (final_5 m ER EC c),
      ((h c).1 6).trans (final_6 m ER EC c),
      ((h c).1 0).trans (((dats m ER EC 0 c).arrAt_in 0 rfl _).trans ((A_eq m ER EC c 0).trans (V_main_arg0 m c)))⟩)
    (run_main m ρ ER EC (hasExps m ER EC hR hC))

end Cert.XquantIdeal.Hand
-- ==== Proof.BodyIdeal.lean ====
/- The printed body of the program over the reals is the body of `Program`. -/
module

public import proofs.«01_k».proof.Proof.Payload
public import proofs.«01_k».proof.Proof.Gen.KernelIdeal
public import Idealize.ShloMosaic.Lib.Tactic

@[expose] public section

set_option maxRecDepth 100000

noncomputable section

namespace Cert.KernelIdeal.Hand

open Idealize.ShloMosaic Idealize.SL.Sem
open Cert.KernelIdeal Cert.KernelIdeal.Facts Cert.KernelIdeal.Facts₀

variable {F : FTy → Type} [FloatOps F]

/-- Where the groups of the first grid point's block lie in the scratch. -/
abbrev off1 (i : grid0.Coords) : Fin 15 → Fin 3 → Nat :=
  ![k0_off1 i, k0_off2 i, k0_off3 i, k0_off4 i, k0_off5 i, k0_off6 i, k0_off7 i, k0_off8 i, k0_off9 i, k0_off10 i,
    k0_off11 i, k0_off12 i, k0_off13 i, k0_off14 i, k0_off15 i]
/-- Where the groups of a later grid point's block lie in the scratch. -/
abbrev off2 (i : grid0.Coords) : Fin 15 → Fin 3 → Nat :=
  ![k0_off17 i, k0_off18 i, k0_off19 i, k0_off20 i, k0_off21 i, k0_off22 i, k0_off23 i, k0_off24 i, k0_off25 i,
    k0_off26 i, k0_off27 i, k0_off28 i, k0_off29 i, k0_off30 i, k0_off31 i]

theorem off1_eq : ∀ (i : grid0.Coords) (r : Fin 15), off1 i r = ![(i 0).val % 2, 0, 128 * r.val] := by decide +kernel
theorem off2_eq : ∀ (i : grid0.Coords) (r : Fin 15), off2 i r = ![(i 0).val % 2, 0, 128 * r.val] := by decide +kernel
theorem off16_eq : ∀ (i : grid0.Coords), k0_off16 i = ![1 - (i 0).val % 2, 0, 0] := by decide +kernel

theorem off1_inb (i : grid0.Coords) (r : Fin 15) (a : Fin 3) : off1 i r a + S1x512x128.size a ≤ S2x512x1920.size a := by
  rw [off1_eq]; exact Wgrad.group_inb ⟨(i 0).val % 2, Nat.mod_lt _ (by decide)⟩ r a
theorem off2_inb (i : grid0.Coords) (r : Fin 15) (a : Fin 3) : off2 i r a + S1x512x128.size a ≤ S2x512x1920.size a := by
  rw [off2_eq]; exact Wgrad.group_inb ⟨(i 0).val % 2, Nat.mod_lt _ (by decide)⟩ r a
theorem off1_packed : ∀ (i : grid0.Coords) (r : Fin 15),
    (Rect.unit (s := S2x512x1920) (off1 i r) S1x512x128.size (off1_inb i r)).PackedRows (EltTy.packing .bf16) := by
  decide +kernel
theorem off2_packed : ∀ (i : grid0.Coords) (r : Fin 15),
    (Rect.unit (s := S2x512x1920) (off2 i r) S1x512x128.size (off2_inb i r)).PackedRows (EltTy.packing .bf16) := by
  decide +kernel

section
variable (i : grid0.Coords) (arg1 : Memref sig .tc .vmem S1920x512 .bf16) (harg1 : arg1.IsWhole)
  (arg2 : Memref sig .tc .vmem S1920x3584 .bf16) (harg2 : arg2.IsWhole)
  (arg3 : Memref sig .tc .vmem S512x3584 .f32) (harg3 : arg3.IsWhole)
  (arg4 : Memref sig .tc .vmem S1920x512 .fp8e4m3) (harg4 : arg4.IsWhole)
  (arg5 : Memref sig .tc .vmem S3x20x512 .i8) (harg5 : arg5.IsWhole)
  (arg6 : Memref sig .tc .vmem S2x512x1920 .bf16) (harg6 : arg6.IsWhole)
  (arg7 : Memref sig .tc .vmem S3x24x512 .i32) (harg7 : arg7.IsWhole)

/-- The body as a run over strips, groups and column blocks. -/
def body : Prog (TpuEff nD τ sig (Elt F) Λ₀ .tc) PUnit := do
  let v : Vec F S1920x512 .bf16 ← Prog.lift (.load arg1
    (Rect.unit (s := S1920x512) ![0, 0] S1920x512.size Wgrad.whole_inb).toLoadRect (View.loadsAt_vmem Wgrad.pos_S1920x512))
  if k0_h1 : k0_cond1 i = 1#1 then do
    Wgrad.first (Wgrad.payOf Wgrad.swapRows) arg1 arg4 harg4 arg5 harg5 arg6 harg6 arg7 (off1 i) (off1_inb i) (off1_packed i)
      (Wgrad.powers v)
    pure ⟨⟩
  else do
    pure ⟨⟩
  if k0_h2 : k0_cond2 i = 1#1 then do
    Wgrad.later (Wgrad.payOf Wgrad.swapRows) arg1 arg2 arg3 arg4 harg4 arg5 harg5 arg6 harg6 arg7 (off2 i) (off2_inb i)
      (off2_packed i) (k0_off16 i) (k0_off16_inb i k0_h2) (Wgrad.powers v)
    pure ⟨⟩
  else do
    pure ⟨⟩
  pure ⟨⟩

theorem body_eq : cc0_wgrad (F := F) i arg1 harg1 arg2 harg2 arg3 harg3 arg4 harg4 arg5 harg5 arg6 harg6 arg7 harg7
    = body i arg1 arg2 arg3 arg4 harg4 arg5 harg5 arg6 harg6 arg7 := by
  sl_kernel_rfl

end

end Cert.KernelIdeal.Hand
-- ==== Proof.FrameIdeal.lean ====
/- The run of the program over the reals: what each grid point leaves in its windows, what the scratch carries from one
   grid point to the next, and the frame.

   At every point the body writes the codes and the scale bytes of the point's block, and keeps the widened codes in one
   half of the scratch. From the second point on it also writes the product of the block before, out of the other half. -/
module

public import proofs.«01_k».proof.Proof.BodyIdeal
public import proofs.«01_k».proof.Proof.Contents
public import Idealize.ShloMosaic.Lib.Claim
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts Cert.KernelIdeal.Facts₀

variable {F : FTy → Type} [FloatOps F]

local notation "𝕄" => MT nD τ sig Unit (Elt F) ℕ (UR sig nD τ) ℕ

/-- What a strip computes. -/
abbrev pay : Wgrad.Pay F := Wgrad.payOf Wgrad.swapRows

/-! ## The grid -/

theorem cond1_iff : ∀ i : grid0.Coords, k0_cond1 i = 1#1 ↔ (i 0).val = 0 := by decide +kernel
theorem cond2_iff : ∀ i : grid0.Coords, k0_cond2 i = 1#1 ↔ (i 0).val ≠ 0 := by decide +kernel
theorem coords_val : ∀ t : Fin grid0.N, (grid0.coords t 0).val = t.val := by decide +kernel
theorem flush_first : (cfg0.win 2).flush (⟨0, by decide⟩ : Fin cfg0.N) = false := by decide +kernel

/-! ## The body -/

section
variable (c : Dev nD) (E : Set ℕ) (i : grid0.Coords) (arg1 : Memref sig .tc .vmem S1920x512 .bf16) (harg1 : arg1.IsWhole)
  (arg2 : Memref sig .tc .vmem S1920x3584 .bf16) (harg2 : arg2.IsWhole)
  (arg3 : Memref sig .tc .vmem S512x3584 .f32) (harg3 : arg3.IsWhole)
  (arg4 : Memref sig .tc .vmem S1920x512 .fp8e4m3) (harg4 : arg4.IsWhole)
  (arg5 : Memref sig .tc .vmem S3x20x512 .i8) (harg5 : arg5.IsWhole)
  (arg6 : Memref sig .tc .vmem S2x512x1920 .bf16) (harg6 : arg6.IsWhole)
  (arg7 : Memref sig .tc .vmem S3x24x512 .i32) (harg7 : arg7.IsWhole)
  (X : Vec F S1920x512 .bf16) (Y : Vec F S1920x3584 .bf16)

theorem sound_first (h : (i 0).val = 0) (s : Wgrad.Mem F) (k : PUnit → sProp 𝕄) :
    iprop(Wgrad.held c arg1 arg2 arg3 arg4 arg5 arg6 arg7 X Y s
        ∗ (Wgrad.held c arg1 arg2 arg3 arg4 arg5 arg6 arg7 X Y (Wgrad.firstStep pay X (Wgrad.powers X) (off1 i) s) -∗ k ⟨⟩))
      ⊢ wp frame (wpE (defs₀ (F := F)) Variants.none c none) E
        (cc0_wgrad i arg1 harg1 arg2 harg2 arg3 harg3 arg4 harg4 arg5 harg5 arg6 harg6 arg7 harg7) k := by
  have h1 : k0_cond1 i = 1#1 := (cond1_iff i).2 h
  have h2 : ¬ k0_cond2 i = 1#1 := fun e => (cond2_iff i).1 e h
  rw [body_eq]
  unfold body
  refine Wgrad.run_bind _ _ _ _ _ _ _ _ _ _ _ _ (Wgrad.load_run _ _ _ _ _ _ _ _ _ _ _ _ s) ?_
  rw [dif_pos h1, dif_neg h2]
  exact Wgrad.first_run _ _ _ _ _ _ _ _ harg4 _ harg5 _ harg6 _ _ _ _ (off1 i) (off1_inb i) (off1_packed i) s k

theorem sound_later (h : (i 0).val ≠ 0) (hd : ∀ a, k0_off16 i a + S1x512x1920.size a ≤ S2x512x1920.size a)
    (s : Wgrad.Mem F) (k : PUnit → sProp 𝕄) :
    iprop(Wgrad.held c arg1 arg2 arg3 arg4 arg5 arg6 arg7 X Y s
        ∗ (Wgrad.held c arg1 arg2 arg3 arg4 arg5 arg6 arg7 X Y
            (Wgrad.laterStep pay X Y (Wgrad.powers X) (off2 i) (k0_off16 i) hd s) -∗ k ⟨⟩))
      ⊢ wp frame (wpE (defs₀ (F := F)) Variants.none c none) E
        (cc0_wgrad i arg1 harg1 arg2 harg2 arg3 harg3 arg4 harg4 arg5 harg5 arg6 harg6 arg7 harg7) k := by
  have h1 : ¬ k0_cond1 i = 1#1 := fun e => h ((cond1_iff i).1 e)
  have h2 : k0_cond2 i = 1#1 := (cond2_iff i).2 h
  rw [body_eq]
  unfold body
  refine Wgrad.run_bind _ _ _ _ _ _ _ _ _ _ _ _ (Wgrad.load_run _ _ _ _ _ _ _ _ _ _ _ _ s) ?_
  rw [dif_neg h1, dif_pos h2]
  exact Wgrad.later_run _ _ _ _ _ _ _ _ harg4 _ harg5 _ harg6 _ _ _ _ (off2 i) (off2_inb i) (off2_packed i) (k0_off16 i)
    hd s k

end

/-! ## The pipeline's proof data -/

variable (m : (ℓ : Loc nD τ sig) → Buf (Elt F) ℓ) (ρ : Dev nD → PrngReg)

/-- The block of gradients at a point. -/
def xAt (c : Dev nD) (t : Fin cfg0.N) : Vec F S1920x512 .bf16 := iblk m c 0 t
/-- The other operand, whole at every point. -/
def yAt (c : Dev nD) (t : Fin cfg0.N) : Vec F S1920x3584 .bf16 := iblk m c 1 t
/-- The widened codes of the block at a point, transposed. -/
def wideAt (c : Dev nD) (t : Fin cfg0.N) : Vec F S1x512x1920 .bf16 :=
  Wgrad.wideBlock pay (xAt m c t) (Wgrad.powers (xAt m c t))
/-- The point before, or the first. -/
def prev (t : Fin cfg0.N) : Fin cfg0.N := ⟨t.val - 1, by have := t.isLt; omega⟩
/-- The half of the scratch that a point fills. -/
def slot (t : Fin cfg0.N) : Fin 2 := ⟨t.val % 2, Nat.mod_lt _ (by decide)⟩

/-- What is held between the points: the scratches, the first with the widened codes of the point before. -/
def carried (c : Dev nD) (n : ℕ) : sProp 𝕄 :=
  iprop((∃ S6 : Vec F S2x512x1920 .bf16, ⌜∀ t : Fin cfg0.N, t.val + 1 = n → Wgrad.half S6 (slot t) = wideAt m c t⌝
        ∗ owns (c : Thread nD τ) (Memref.whole cc0_scratch0) fullShare S6)
      ∗ (∃ S7 : Vec F S3x24x512 .i32, owns (c : Thread nD τ) (Memref.whole cc0_scratch1) fullShare S7)
      ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Wgrad.outBlock (yAt m c t) (wideAt m c (prev t))
    | ⟨3, _⟩ => Wgrad.codesBlock pay (xAt m c t) (Wgrad.powers (xAt m c t))
    | ⟨4, _⟩ => Wgrad.bytesBlock pay (Wgrad.powers (xAt m c t))
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = Wgrad.outBlock (yAt m c t) (wideAt m c (prev t)) := by dsimp only [dats]
theorem after_3 (c : Dev nD) (t : Fin cfg0.N) :
    (dats m 0 c).after 3 t = Wgrad.codesBlock pay (xAt m c t) (Wgrad.powers (xAt m c t)) := by dsimp only [dats]
theorem after_4 (c : Dev nD) (t : Fin cfg0.N) :
    (dats m 0 c).after 4 t = Wgrad.bytesBlock pay (Wgrad.powers (xAt m c t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem phi_eq (c : Dev nD) (t : Fin (cfg0.N + 1)) : (dats m 0 c).Φ t = carried m c t.val := by dsimp only [dats]

/-! ## The body at a point -/

/-- What the body is called with at a point. -/
def bodyPre (c : Dev nD) (t : Fin cfg0.N) : sProp 𝕄 :=
  iprop(carried m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns, the product's window at `R`. -/
def bodyPost (c : Dev nD) (t : Fin cfg0.N) (R : sProp 𝕄) : sProp 𝕄 :=
  iprop(carried m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ R
    ∗ owns (c : Thread nD τ) (st0_3 t) fullShare ((dats m 0 c).after 3 t)
    ∗ owns (c : Thread nD τ) (st0_4 t) fullShare ((dats m 0 c).after 4 t))

theorem carry (c : Dev nD) (t : Fin cfg0.N) (S : Vec F S2x512x1920 .bf16) (h : Wgrad.half S (slot t) = wideAt m c t) :
    ∀ t' : Fin cfg0.N, t'.val + 1 = t.val + 1 → Wgrad.half S (slot t') = wideAt m c t' := fun t' e => by
  have : t' = t := Fin.ext (by omega)
  subst this; exact h

theorem body_first (c : Dev nD) (t : Fin cfg0.N) (h : t.val = 0) :
    bodyPre m c t ⊢ wp frame (wpE (defs₀ (F := F)) Variants.none c none) Set.univ (bodyAt0 t)
      (fun _ => bodyPost m c t iprop(∃ d, owns (c : Thread nD τ) (st0_2 t) fullShare ((dats m 0 c).before 2 t d))) := by
  have hi : (grid0.coords t 0).val = 0 := (coords_val t).trans h
  have hoff : ∀ r, off1 (grid0.coords t) r = ![(slot t).val, 0, 128 * r.val] := fun r =>
    (off1_eq _ r).trans (by rw [coords_val]; rfl)
  unfold bodyPre bodyPost bodyAt0 carried
  simp only [before_0, before_1]
  rw [show (dats m 0 c).owesAt () t.succ = (dats m 0 c).owesAt () t.castSucc from rfl,
    after_0, after_1, after_3, after_4]
  iintro ⟨⟨⟨%S6, -, H6⟩, ⟨%S7, H7⟩, Hr⟩, Ho, ⟨%d0, H0⟩, ⟨%d1, H1⟩, ⟨%d2, H2⟩, ⟨%d3, H3⟩, ⟨%d4, H4⟩⟩
  iapply (sound_first c Set.univ (grid0.coords t) _ _ _ _ _ _ _ _ _ _ _ _ _ _ (xAt m c t) (yAt m c t) hi
    ⟨(dats m 0 c).before 2 t d2, (dats m 0 c).before 3 t d3, (dats m 0 c).before 4 t d4, S6, S7⟩ _)
  unfold Wgrad.held
  rw [Wgrad.first_codes, Wgrad.first_bytes, Wgrad.first_out]
  isplitl [H0 H1 H2 H3 H4 H6 H7]
  · isplitl [H0]; · iexact H0
    isplitl [H1]; · iexact H1
    isplitl [H2]; · iexact H2
    isplitl [H3]; · iexact H3
    isplitl [H4]; · iexact H4
    isplitl [H6]; · iexact H6
    iexact H7
  iintro ⟨H0, H1, H2, H3, H4, H6, H7⟩
  isplitl [H6 H7 Hr]
  · isplitl [H6]
    · iexists _; isplitr
      swap; · iexact H6
      ipureintro
      exact carry m c t _ (Wgrad.first_wide pay _ _ (slot t) _ hoff _)
    isplitl [H7]; · iexists _; iexact H7
    iexact Hr
  isplitl [Ho]; · iexact Ho
  isplitl [H0]; · iexact H0
  isplitl [H1]; · iexact H1
  isplitl [H2]; · iexists d2; iexact H2
  isplitl [H3]; · iexact H3
  iexact H4

theorem body_later (c : Dev nD) (t : Fin cfg0.N) (h : t.val ≠ 0) :
    bodyPre m c t ⊢ wp frame (wpE (defs₀ (F := F)) Variants.none c none) Set.univ (bodyAt0 t)
      (fun _ => bodyPost m c t (owns (c : Thread nD τ) (st0_2 t) fullShare ((dats m 0 c).after 2 t))) := by
  have hi : (grid0.coords t 0).val ≠ 0 := fun e => h ((coords_val t).symm.trans e)
  have hoff : ∀ r, off2 (grid0.coords t) r = ![(slot t).val, 0, 128 * r.val] := fun r =>
    (off2_eq _ r).trans (by rw [coords_val]; rfl)
  have hd : k0_off16 (grid0.coords t) = ![(slot (prev t)).val, 0, 0] := (off16_eq _).trans (by
    rw [coords_val]
    have e : 1 - t.val % 2 = (t.val - 1) % 2 := by omega
    rw [e]; rfl)
  have hdo : ∀ a, k0_off16 (grid0.coords t) a + S1x512x1920.size a ≤ S2x512x1920.size a := by
    rw [hd]; exact Wgrad.half_inb _
  have hne : slot (prev t) ≠ slot t := fun e => by
    have : (t.val - 1) % 2 = t.val % 2 := congrArg Fin.val e
    omega
  have hp : (prev t).val + 1 = t.val := by show t.val - 1 + 1 = t.val; omega
  unfold bodyPre bodyPost bodyAt0 carried
  simp only [before_0, before_1]
  rw [show (dats m 0 c).owesAt () t.succ = (dats m 0 c).owesAt () t.castSucc from rfl,
    after_0, after_1, after_2, after_3, after_4]
  iintro ⟨⟨⟨%S6, %hS6, H6⟩, ⟨%S7, H7⟩, Hr⟩, Ho, ⟨%d0, H0⟩, ⟨%d1, H1⟩, ⟨%d2, H2⟩, ⟨%d3, H3⟩, ⟨%d4, H4⟩⟩
  iapply (sound_later c Set.univ (grid0.coords t) _ _ _ _ _ _ _ _ _ _ _ _ _ _ (xAt m c t) (yAt m c t) hi hdo
    ⟨(dats m 0 c).before 2 t d2, (dats m 0 c).before 3 t d3, (dats m 0 c).before 4 t d4, S6, S7⟩ _)
  unfold Wgrad.held
  rw [Wgrad.later_codes, Wgrad.later_bytes, Wgrad.later_out pay _ _ _ (slot t) _ hoff (slot (prev t)) hne _ hdo hd,
    hS6 _ hp]
  isplitl [H0 H1 H2 H3 H4 H6 H7]
  · isplitl [H0]; · iexact H0
    isplitl [H1]; · iexact H1
    isplitl [H2]; · iexact H2
    isplitl [H3]; · iexact H3
    isplitl [H4]; · iexact H4
    isplitl [H6]; · iexact H6
    iexact H7
  iintro ⟨H0, H1, H2, H3, H4, H6, H7⟩
  isplitl [H6 H7 Hr]
  · isplitl [H6]
    · iexists _; isplitr
      swap; · iexact H6
      ipureintro
      exact carry m c t _ (Wgrad.later_wide pay _ _ _ (slot t) _ hoff _ hdo _)
    isplitl [H7]; · iexists _; iexact H7
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The product's window is untouched at the first point only. -/
theorem idle_2 (t : Fin cfg0.N) : idle0 2 (grid0.coords t) = decide (t.val = 0) := by
  show (!(k0_cond2 (grid0.coords t) == 1#1)) = _
  by_cases h : t.val = 0
  · have e : ¬ k0_cond2 (grid0.coords t) = 1#1 := fun e => (cond2_iff _).1 e ((coords_val t).trans h)
    rw [beq_eq_false_iff_ne.2 e, decide_eq_true h]; rfl
  · have e : k0_cond2 (grid0.coords t) = 1#1 := (cond2_iff _).2 fun e => h ((coords_val t).symm.trans e)
    rw [e, decide_eq_false h]; rfl
/-- The other outputs are written at every point. -/
theorem idle_34 (t : Fin cfg0.N) : (!(k0_cond1 (grid0.coords t) == 1#1) && !(k0_cond2 (grid0.coords t) == 1#1)) = false := by
  by_cases h : (grid0.coords t 0).val = 0
  · rw [(cond1_iff _).2 h]; rfl
  · rw [(cond2_iff _).2 h, Bool.and_comm]; rfl
theorem idle_3 (t : Fin cfg0.N) : idle0 3 (grid0.coords t) = false := idle_34 t
theorem idle_4 (t : Fin cfg0.N) : idle0 4 (grid0.coords t) = false := idle_34 t
theorem flush_2 (t : Fin cfg0.N) (h : t.val = 0) : (win0 2).flush t = false := by
  have : t = ⟨0, by decide⟩ := Fin.ext h
  subst this; exact flush_first

theorem body_obligation (c : Dev nD) : BodyObligation (dats (F := F) m 0 c) (defs₀ (F := F)) Variants.none () Set.univ := fun t => by
  rw [bigSep_W0, bigSep_W0, defs₀_row]
  by_cases h : t.val = 0
  · have h2 := (idle_2 t).trans (decide_eq_true h)
    simp only
    rw [idle_3 t, h2, flush_2 t h]
    exact triple_restated (body_first m c t h) rfl .rfl fun _ => .rfl
  · have h2 := (idle_2 t).trans (decide_eq_false h)
    simp only
    rw [idle_3 t, h2]
    exact triple_restated (body_later m c t h) rfl .rfl fun _ => .rfl

/-! ## The run and the frame -/

/-- The region enters with the scratches at any contents, -/
theorem enter (c : Dev nD) : Pipeline.ΦA spec0 c ⊢ (dats (F := F) m 0 c).Φ 0 := by
  rw [phi_eq]
  unfold Pipeline.ΦA carried
  rw [scopedRest0_eq]
  simp only [owns_whole]
  iintro ⟨⟨⟨%f, H6⟩, ⟨%g, H7⟩⟩, Hr⟩
  isplitl [H6]
  · iexists f; isplitr
    swap; · iexact H6
    ipureintro
    intro t e; exact absurd e (Nat.succ_ne_zero _)
  isplitl [H7]; · iexists g; iexact H7
  iexact Hr

/-- and leaves with them so. -/
theorem leave (c : Dev nD) : (dats (F := F) m 0 c).Φ (Fin.last cfg0.N) ⊢ Pipeline.ΦA spec0 c := by
  rw [phi_eq]
  unfold Pipeline.ΦA carried
  rw [scopedRest0_eq]
  simp only [owns_whole]
  iintro ⟨⟨%f, -, H6⟩, ⟨%g, H7⟩, Hr⟩
  isplitl [H6 H7]
  · isplitl [H6]; · iexists f; iexact H6
    iexists g; iexact H7
  iexact Hr

set_option backward.isDefEq.respectTransparency.types false in
set_option maxHeartbeats 800000 in
/-- Every execution ends, with every array at what the proof data says and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: every execution ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand
-- ==== Proof.BodyBits.lean ====
/- The printed body of the program on bits is the body of `Program`. -/
module

public import proofs.«01_k».proof.Proof.Payload
public import proofs.«01_k».proof.Proof.Gen.Kernel
public import Idealize.ShloMosaic.Lib.Tactic

@[expose] public section

set_option maxRecDepth 100000

noncomputable section

namespace Cert.Kernel.Hand

open Idealize.ShloMosaic Idealize.SL.Sem
open Cert.Kernel Cert.Kernel.Facts Cert.Kernel.Facts₀

variable {F : FTy → Type} [BitOps F]

/-- Where the groups of the first grid point's block lie in the scratch. -/
abbrev off1 (i : grid0.Coords) : Fin 15 → Fin 3 → Nat :=
  ![k0_off1 i, k0_off2 i, k0_off3 i, k0_off4 i, k0_off5 i, k0_off6 i, k0_off7 i, k0_off8 i, k0_off9 i, k0_off10 i,
    k0_off11 i, k0_off12 i, k0_off13 i, k0_off14 i, k0_off15 i]
/-- Where the groups of a later grid point's block lie in the scratch. -/
abbrev off2 (i : grid0.Coords) : Fin 15 → Fin 3 → Nat :=
  ![k0_off17 i, k0_off18 i, k0_off19 i, k0_off20 i, k0_off21 i, k0_off22 i, k0_off23 i, k0_off24 i, k0_off25 i,
    k0_off26 i, k0_off27 i, k0_off28 i, k0_off29 i, k0_off30 i, k0_off31 i]

theorem off1_eq : ∀ (i : grid0.Coords) (r : Fin 15), off1 i r = ![(i 0).val % 2, 0, 128 * r.val] := by decide +kernel
theorem off2_eq : ∀ (i : grid0.Coords) (r : Fin 15), off2 i r = ![(i 0).val % 2, 0, 128 * r.val] := by decide +kernel
theorem off16_eq : ∀ (i : grid0.Coords), k0_off16 i = ![1 - (i 0).val % 2, 0, 0] := by decide +kernel

theorem off1_inb (i : grid0.Coords) (r : Fin 15) (a : Fin 3) : off1 i r a + S1x512x128.size a ≤ S2x512x1920.size a := by
  rw [off1_eq]; exact Wgrad.group_inb ⟨(i 0).val % 2, Nat.mod_lt _ (by decide)⟩ r a
theorem off2_inb (i : grid0.Coords) (r : Fin 15) (a : Fin 3) : off2 i r a + S1x512x128.size a ≤ S2x512x1920.size a := by
  rw [off2_eq]; exact Wgrad.group_inb ⟨(i 0).val % 2, Nat.mod_lt _ (by decide)⟩ r a
theorem off1_packed : ∀ (i : grid0.Coords) (r : Fin 15),
    (Rect.unit (s := S2x512x1920) (off1 i r) S1x512x128.size (off1_inb i r)).PackedRows (EltTy.packing .bf16) := by
  decide +kernel
theorem off2_packed : ∀ (i : grid0.Coords) (r : Fin 15),
    (Rect.unit (s := S2x512x1920) (off2 i r) S1x512x128.size (off2_inb i r)).PackedRows (EltTy.packing .bf16) := by
  decide +kernel

section
variable (i : grid0.Coords) (arg1 : Memref sig .tc .vmem S1920x512 .bf16) (harg1 : arg1.IsWhole)
  (arg2 : Memref sig .tc .vmem S1920x3584 .bf16) (harg2 : arg2.IsWhole)
  (arg3 : Memref sig .tc .vmem S512x3584 .f32) (harg3 : arg3.IsWhole)
  (arg4 : Memref sig .tc .vmem S1920x512 .fp8e4m3) (harg4 : arg4.IsWhole)
  (arg5 : Memref sig .tc .vmem S3x20x512 .i8) (harg5 : arg5.IsWhole)
  (arg6 : Memref sig .tc .vmem S2x512x1920 .bf16) (harg6 : arg6.IsWhole)
  (arg7 : Memref sig .tc .vmem S3x24x512 .i32) (harg7 : arg7.IsWhole)

/-- The body as a run over strips, groups and column blocks. -/
def body : Prog (TpuEff nD τ sig (Elt F) Λ₀ .tc) PUnit := do
  let v : Vec F S1920x512 .bf16 ← Prog.lift (.load arg1
    (Rect.unit (s := S1920x512) ![0, 0] S1920x512.size Wgrad.whole_inb).toLoadRect (View.loadsAt_vmem Wgrad.pos_S1920x512))
  if k0_h1 : k0_cond1 i = 1#1 then do
    Wgrad.first (Wgrad.payOf Wgrad.swapWords) arg1 arg4 harg4 arg5 harg5 arg6 harg6 arg7 (off1 i) (off1_inb i) (off1_packed i)
      (Wgrad.powers v)
    pure ⟨⟩
  else do
    pure ⟨⟩
  if k0_h2 : k0_cond2 i = 1#1 then do
    Wgrad.later (Wgrad.payOf Wgrad.swapWords) arg1 arg2 arg3 arg4 harg4 arg5 harg5 arg6 harg6 arg7 (off2 i) (off2_inb i)
      (off2_packed i) (k0_off16 i) (k0_off16_inb i k0_h2) (Wgrad.powers v)
    pure ⟨⟩
  else do
    pure ⟨⟩
  pure ⟨⟩

theorem body_eq : cc0_wgrad (F := F) i arg1 harg1 arg2 harg2 arg3 harg3 arg4 harg4 arg5 harg5 arg6 harg6 arg7 harg7
    = body i arg1 arg2 arg3 arg4 harg4 arg5 harg5 arg6 harg6 arg7 := by
  sl_kernel_rfl

end

end Cert.Kernel.Hand
-- ==== Proof.FrameBits.lean ====
/- The run of the program on the machine's floats: what each grid point leaves in its windows, what the scratch carries from one
   grid point to the next, and the frame.

   At every point the body writes the codes and the scale bytes of the point's block, and keeps the widened codes in one
   half of the scratch. From the second point on it also writes the product of the block before, out of the other half. -/
module

public import proofs.«01_k».proof.Proof.BodyBits
public import proofs.«01_k».proof.Proof.Contents
public import Idealize.ShloMosaic.Lib.Claim
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts Cert.Kernel.Facts₀

variable {F : FTy → Type} [BitOps F]

local notation "𝕄" => MT nD τ sig Unit (Elt F) ℕ (UR sig nD τ) ℕ

/-- What a strip computes. -/
abbrev pay : Wgrad.Pay F := Wgrad.payOf Wgrad.swapWords

/-! ## The grid -/

theorem cond1_iff : ∀ i : grid0.Coords, k0_cond1 i = 1#1 ↔ (i 0).val = 0 := by decide +kernel
theorem cond2_iff : ∀ i : grid0.Coords, k0_cond2 i = 1#1 ↔ (i 0).val ≠ 0 := by decide +kernel
theorem coords_val : ∀ t : Fin grid0.N, (grid0.coords t 0).val = t.val := by decide +kernel
theorem flush_first : (cfg0.win 2).flush (⟨0, by decide⟩ : Fin cfg0.N) = false := by decide +kernel

/-! ## The body -/

section
variable (c : Dev nD) (E : Set ℕ) (i : grid0.Coords) (arg1 : Memref sig .tc .vmem S1920x512 .bf16) (harg1 : arg1.IsWhole)
  (arg2 : Memref sig .tc .vmem S1920x3584 .bf16) (harg2 : arg2.IsWhole)
  (arg3 : Memref sig .tc .vmem S512x3584 .f32) (harg3 : arg3.IsWhole)
  (arg4 : Memref sig .tc .vmem S1920x512 .fp8e4m3) (harg4 : arg4.IsWhole)
  (arg5 : Memref sig .tc .vmem S3x20x512 .i8) (harg5 : arg5.IsWhole)
  (arg6 : Memref sig .tc .vmem S2x512x1920 .bf16) (harg6 : arg6.IsWhole)
  (arg7 : Memref sig .tc .vmem S3x24x512 .i32) (harg7 : arg7.IsWhole)
  (X : Vec F S1920x512 .bf16) (Y : Vec F S1920x3584 .bf16)

theorem sound_first (h : (i 0).val = 0) (s : Wgrad.Mem F) (k : PUnit → sProp 𝕄) :
    iprop(Wgrad.held c arg1 arg2 arg3 arg4 arg5 arg6 arg7 X Y s
        ∗ (Wgrad.held c arg1 arg2 arg3 arg4 arg5 arg6 arg7 X Y (Wgrad.firstStep pay X (Wgrad.powers X) (off1 i) s) -∗ k ⟨⟩))
      ⊢ wp frame (wpE (defs₀ (F := F)) Variants.none c none) E
        (cc0_wgrad i arg1 harg1 arg2 harg2 arg3 harg3 arg4 harg4 arg5 harg5 arg6 harg6 arg7 harg7) k := by
  have h1 : k0_cond1 i = 1#1 := (cond1_iff i).2 h
  have h2 : ¬ k0_cond2 i = 1#1 := fun e => (cond2_iff i).1 e h
  rw [body_eq]
  unfold body
  refine Wgrad.run_bind _ _ _ _ _ _ _ _ _ _ _ _ (Wgrad.load_run _ _ _ _ _ _ _ _ _ _ _ _ s) ?_
  rw [dif_pos h1, dif_neg h2]
  exact Wgrad.first_run _ _ _ _ _ _ _ _ harg4 _ harg5 _ harg6 _ _ _ _ (off1 i) (off1_inb i) (off1_packed i) s k

theorem sound_later (h : (i 0).val ≠ 0) (hd : ∀ a, k0_off16 i a + S1x512x1920.size a ≤ S2x512x1920.size a)
    (s : Wgrad.Mem F) (k : PUnit → sProp 𝕄) :
    iprop(Wgrad.held c arg1 arg2 arg3 arg4 arg5 arg6 arg7 X Y s
        ∗ (Wgrad.held c arg1 arg2 arg3 arg4 arg5 arg6 arg7 X Y
            (Wgrad.laterStep pay X Y (Wgrad.powers X) (off2 i) (k0_off16 i) hd s) -∗ k ⟨⟩))
      ⊢ wp frame (wpE (defs₀ (F := F)) Variants.none c none) E
        (cc0_wgrad i arg1 harg1 arg2 harg2 arg3 harg3 arg4 harg4 arg5 harg5 arg6 harg6 arg7 harg7) k := by
  have h1 : ¬ k0_cond1 i = 1#1 := fun e => h ((cond1_iff i).1 e)
  have h2 : k0_cond2 i = 1#1 := (cond2_iff i).2 h
  rw [body_eq]
  unfold body
  refine Wgrad.run_bind _ _ _ _ _ _ _ _ _ _ _ _ (Wgrad.load_run _ _ _ _ _ _ _ _ _ _ _ _ s) ?_
  rw [dif_neg h1, dif_pos h2]
  exact Wgrad.later_run _ _ _ _ _ _ _ _ harg4 _ harg5 _ harg6 _ _ _ _ (off2 i) (off2_inb i) (off2_packed i) (k0_off16 i)
    hd s k

end

/-! ## The pipeline's proof data -/

variable (m : (ℓ : Loc nD τ sig) → Buf (Elt F) ℓ) (ρ : Dev nD → PrngReg)

/-- The block of gradients at a point. -/
def xAt (c : Dev nD) (t : Fin cfg0.N) : Vec F S1920x512 .bf16 := iblk m c 0 t
/-- The other operand, whole at every point. -/
def yAt (c : Dev nD) (t : Fin cfg0.N) : Vec F S1920x3584 .bf16 := iblk m c 1 t
/-- The widened codes of the block at a point, transposed. -/
def wideAt (c : Dev nD) (t : Fin cfg0.N) : Vec F S1x512x1920 .bf16 :=
  Wgrad.wideBlock pay (xAt m c t) (Wgrad.powers (xAt m c t))
/-- The point before, or the first. -/
def prev (t : Fin cfg0.N) : Fin cfg0.N := ⟨t.val - 1, by have := t.isLt; omega⟩
/-- The half of the scratch that a point fills. -/
def slot (t : Fin cfg0.N) : Fin 2 := ⟨t.val % 2, Nat.mod_lt _ (by decide)⟩

/-- What is held between the points: the scratches, the first with the widened codes of the point before. -/
def carried (c : Dev nD) (n : ℕ) : sProp 𝕄 :=
  iprop((∃ S6 : Vec F S2x512x1920 .bf16, ⌜∀ t : Fin cfg0.N, t.val + 1 = n → Wgrad.half S6 (slot t) = wideAt m c t⌝
        ∗ owns (c : Thread nD τ) (Memref.whole cc0_scratch0) fullShare S6)
      ∗ (∃ S7 : Vec F S3x24x512 .i32, owns (c : Thread nD τ) (Memref.whole cc0_scratch1) fullShare S7)
      ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Wgrad.outBlock (yAt m c t) (wideAt m c (prev t))
    | ⟨3, _⟩ => Wgrad.codesBlock pay (xAt m c t) (Wgrad.powers (xAt m c t))
    | ⟨4, _⟩ => Wgrad.bytesBlock pay (Wgrad.powers (xAt m c t))
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = Wgrad.outBlock (yAt m c t) (wideAt m c (prev t)) := by dsimp only [dats]
theorem after_3 (c : Dev nD) (t : Fin cfg0.N) :
    (dats m 0 c).after 3 t = Wgrad.codesBlock pay (xAt m c t) (Wgrad.powers (xAt m c t)) := by dsimp only [dats]
theorem after_4 (c : Dev nD) (t : Fin cfg0.N) :
    (dats m 0 c).after 4 t = Wgrad.bytesBlock pay (Wgrad.powers (xAt m c t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem phi_eq (c : Dev nD) (t : Fin (cfg0.N + 1)) : (dats m 0 c).Φ t = carried m c t.val := by dsimp only [dats]

/-! ## The body at a point -/

/-- What the body is called with at a point. -/
def bodyPre (c : Dev nD) (t : Fin cfg0.N) : sProp 𝕄 :=
  iprop(carried m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns, the product's window at `R`. -/
def bodyPost (c : Dev nD) (t : Fin cfg0.N) (R : sProp 𝕄) : sProp 𝕄 :=
  iprop(carried m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ R
    ∗ owns (c : Thread nD τ) (st0_3 t) fullShare ((dats m 0 c).after 3 t)
    ∗ owns (c : Thread nD τ) (st0_4 t) fullShare ((dats m 0 c).after 4 t))

theorem carry (c : Dev nD) (t : Fin cfg0.N) (S : Vec F S2x512x1920 .bf16) (h : Wgrad.half S (slot t) = wideAt m c t) :
    ∀ t' : Fin cfg0.N, t'.val + 1 = t.val + 1 → Wgrad.half S (slot t') = wideAt m c t' := fun t' e => by
  have : t' = t := Fin.ext (by omega)
  subst this; exact h

theorem body_first (c : Dev nD) (t : Fin cfg0.N) (h : t.val = 0) :
    bodyPre m c t ⊢ wp frame (wpE (defs₀ (F := F)) Variants.none c none) Set.univ (bodyAt0 t)
      (fun _ => bodyPost m c t iprop(∃ d, owns (c : Thread nD τ) (st0_2 t) fullShare ((dats m 0 c).before 2 t d))) := by
  have hi : (grid0.coords t 0).val = 0 := (coords_val t).trans h
  have hoff : ∀ r, off1 (grid0.coords t) r = ![(slot t).val, 0, 128 * r.val] := fun r =>
    (off1_eq _ r).trans (by rw [coords_val]; rfl)
  unfold bodyPre bodyPost bodyAt0 carried
  simp only [before_0, before_1]
  rw [show (dats m 0 c).owesAt () t.succ = (dats m 0 c).owesAt () t.castSucc from rfl,
    after_0, after_1, after_3, after_4]
  iintro ⟨⟨⟨%S6, -, H6⟩, ⟨%S7, H7⟩, Hr⟩, Ho, ⟨%d0, H0⟩, ⟨%d1, H1⟩, ⟨%d2, H2⟩, ⟨%d3, H3⟩, ⟨%d4, H4⟩⟩
  iapply (sound_first c Set.univ (grid0.coords t) _ _ _ _ _ _ _ _ _ _ _ _ _ _ (xAt m c t) (yAt m c t) hi
    ⟨(dats m 0 c).before 2 t d2, (dats m 0 c).before 3 t d3, (dats m 0 c).before 4 t d4, S6, S7⟩ _)
  unfold Wgrad.held
  rw [Wgrad.first_codes, Wgrad.first_bytes, Wgrad.first_out]
  isplitl [H0 H1 H2 H3 H4 H6 H7]
  · isplitl [H0]; · iexact H0
    isplitl [H1]; · iexact H1
    isplitl [H2]; · iexact H2
    isplitl [H3]; · iexact H3
    isplitl [H4]; · iexact H4
    isplitl [H6]; · iexact H6
    iexact H7
  iintro ⟨H0, H1, H2, H3, H4, H6, H7⟩
  isplitl [H6 H7 Hr]
  · isplitl [H6]
    · iexists _; isplitr
      swap; · iexact H6
      ipureintro
      exact carry m c t _ (Wgrad.first_wide pay _ _ (slot t) _ hoff _)
    isplitl [H7]; · iexists _; iexact H7
    iexact Hr
  isplitl [Ho]; · iexact Ho
  isplitl [H0]; · iexact H0
  isplitl [H1]; · iexact H1
  isplitl [H2]; · iexists d2; iexact H2
  isplitl [H3]; · iexact H3
  iexact H4

theorem body_later (c : Dev nD) (t : Fin cfg0.N) (h : t.val ≠ 0) :
    bodyPre m c t ⊢ wp frame (wpE (defs₀ (F := F)) Variants.none c none) Set.univ (bodyAt0 t)
      (fun _ => bodyPost m c t (owns (c : Thread nD τ) (st0_2 t) fullShare ((dats m 0 c).after 2 t))) := by
  have hi : (grid0.coords t 0).val ≠ 0 := fun e => h ((coords_val t).symm.trans e)
  have hoff : ∀ r, off2 (grid0.coords t) r = ![(slot t).val, 0, 128 * r.val] := fun r =>
    (off2_eq _ r).trans (by rw [coords_val]; rfl)
  have hd : k0_off16 (grid0.coords t) = ![(slot (prev t)).val, 0, 0] := (off16_eq _).trans (by
    rw [coords_val]
    have e : 1 - t.val % 2 = (t.val - 1) % 2 := by omega
    rw [e]; rfl)
  have hdo : ∀ a, k0_off16 (grid0.coords t) a + S1x512x1920.size a ≤ S2x512x1920.size a := by
    rw [hd]; exact Wgrad.half_inb _
  have hne : slot (prev t) ≠ slot t := fun e => by
    have : (t.val - 1) % 2 = t.val % 2 := congrArg Fin.val e
    omega
  have hp : (prev t).val + 1 = t.val := by show t.val - 1 + 1 = t.val; omega
  unfold bodyPre bodyPost bodyAt0 carried
  simp only [before_0, before_1]
  rw [show (dats m 0 c).owesAt () t.succ = (dats m 0 c).owesAt () t.castSucc from rfl,
    after_0, after_1, after_2, after_3, after_4]
  iintro ⟨⟨⟨%S6, %hS6, H6⟩, ⟨%S7, H7⟩, Hr⟩, Ho, ⟨%d0, H0⟩, ⟨%d1, H1⟩, ⟨%d2, H2⟩, ⟨%d3, H3⟩, ⟨%d4, H4⟩⟩
  iapply (sound_later c Set.univ (grid0.coords t) _ _ _ _ _ _ _ _ _ _ _ _ _ _ (xAt m c t) (yAt m c t) hi hdo
    ⟨(dats m 0 c).before 2 t d2, (dats m 0 c).before 3 t d3, (dats m 0 c).before 4 t d4, S6, S7⟩ _)
  unfold Wgrad.held
  rw [Wgrad.later_codes, Wgrad.later_bytes, Wgrad.later_out pay _ _ _ (slot t) _ hoff (slot (prev t)) hne _ hdo hd,
    hS6 _ hp]
  isplitl [H0 H1 H2 H3 H4 H6 H7]
  · isplitl [H0]; · iexact H0
    isplitl [H1]; · iexact H1
    isplitl [H2]; · iexact H2
    isplitl [H3]; · iexact H3
    isplitl [H4]; · iexact H4
    isplitl [H6]; · iexact H6
    iexact H7
  iintro ⟨H0, H1, H2, H3, H4, H6, H7⟩
  isplitl [H6 H7 Hr]
  · isplitl [H6]
    · iexists _; isplitr
      swap; · iexact H6
      ipureintro
      exact carry m c t _ (Wgrad.later_wide pay _ _ _ (slot t) _ hoff _ hdo _)
    isplitl [H7]; · iexists _; iexact H7
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The product's window is untouched at the first point only. -/
theorem idle_2 (t : Fin cfg0.N) : idle0 2 (grid0.coords t) = decide (t.val = 0) := by
  show (!(k0_cond2 (grid0.coords t) == 1#1)) = _
  by_cases h : t.val = 0
  · have e : ¬ k0_cond2 (grid0.coords t) = 1#1 := fun e => (cond2_iff _).1 e ((coords_val t).trans h)
    rw [beq_eq_false_iff_ne.2 e, decide_eq_true h]; rfl
  · have e : k0_cond2 (grid0.coords t) = 1#1 := (cond2_iff _).2 fun e => h ((coords_val t).symm.trans e)
    rw [e, decide_eq_false h]; rfl
/-- The other outputs are written at every point. -/
theorem idle_34 (t : Fin cfg0.N) : (!(k0_cond1 (grid0.coords t) == 1#1) && !(k0_cond2 (grid0.coords t) == 1#1)) = false := by
  by_cases h : (grid0.coords t 0).val = 0
  · rw [(cond1_iff _).2 h]; rfl
  · rw [(cond2_iff _).2 h, Bool.and_comm]; rfl
theorem idle_3 (t : Fin cfg0.N) : idle0 3 (grid0.coords t) = false := idle_34 t
theorem idle_4 (t : Fin cfg0.N) : idle0 4 (grid0.coords t) = false := idle_34 t
theorem flush_2 (t : Fin cfg0.N) (h : t.val = 0) : (win0 2).flush t = false := by
  have : t = ⟨0, by decide⟩ := Fin.ext h
  subst this; exact flush_first

theorem body_obligation (c : Dev nD) : BodyObligation (dats (F := F) m 0 c) (defs₀ (F := F)) Variants.none () Set.univ := fun t => by
  rw [bigSep_W0, bigSep_W0, defs₀_row]
  by_cases h : t.val = 0
  · have h2 := (idle_2 t).trans (decide_eq_true h)
    simp only
    rw [idle_3 t, h2, flush_2 t h]
    exact triple_restated (body_first m c t h) rfl .rfl fun _ => .rfl
  · have h2 := (idle_2 t).trans (decide_eq_false h)
    simp only
    rw [idle_3 t, h2]
    exact triple_restated (body_later m c t h) rfl .rfl fun _ => .rfl

/-! ## The run and the frame -/

/-- The region enters with the scratches at any contents, -/
theorem enter (c : Dev nD) : Pipeline.ΦA spec0 c ⊢ (dats (F := F) m 0 c).Φ 0 := by
  rw [phi_eq]
  unfold Pipeline.ΦA carried
  rw [scopedRest0_eq]
  simp only [owns_whole]
  iintro ⟨⟨⟨%f, H6⟩, ⟨%g, H7⟩⟩, Hr⟩
  isplitl [H6]
  · iexists f; isplitr
    swap; · iexact H6
    ipureintro
    intro t e; exact absurd e (Nat.succ_ne_zero _)
  isplitl [H7]; · iexists g; iexact H7
  iexact Hr

/-- and leaves with them so. -/
theorem leave (c : Dev nD) : (dats (F := F) m 0 c).Φ (Fin.last cfg0.N) ⊢ Pipeline.ΦA spec0 c := by
  rw [phi_eq]
  unfold Pipeline.ΦA carried
  rw [scopedRest0_eq]
  simp only [owns_whole]
  iintro ⟨⟨%f, -, H6⟩, ⟨%g, H7⟩, Hr⟩
  isplitl [H6 H7]
  · isplitl [H6]; · iexists f; iexact H6
    iexists g; iexact H7
  iexact Hr

set_option backward.isDefEq.respectTransparency.types false in
set_option maxHeartbeats 800000 in
/-- Every execution ends, with every array at what the proof data says and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: every execution ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand
-- ==== Proof.ValueKernel.lean ====
/- What the kernel's three result arrays hold after a run over the reals.

   Point `t` reads column block `min t 36` of the gradients and writes that block's codes and scale bytes; from the second
   point on it writes row block `t - 1` of the product. The last block is quantised at two points and written at the last. -/
module

public import proofs.«01_k».proof.Proof.FrameIdeal
public import proofs.«01_k».proof.Proof.BlockValue
public import proofs.«01_k».proof.Proof.Result
public import Idealize.ShloMosaic.Lib.Pipeline.Value

@[expose] public section

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

/-! ## Where the blocks lie -/

theorem index_0 : ∀ t : Fin cfg0.N, win0_0.index t (0 : Fin 2) = 0 ∧ win0_0.index t (1 : Fin 2) = min t.val 36 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val - 1 ∧ win0_2.index t (1 : Fin 2) = 0 :=
  (by decide +kernel : ∀ t : Fin grid0.N, _)
theorem index_3 : ∀ t : Fin cfg0.N, win0_3.index t (0 : Fin 2) = 0 ∧ win0_3.index t (1 : Fin 2) = min t.val 36 :=
  (by decide +kernel : ∀ t : Fin grid0.N, _)
theorem index_4 : ∀ t : Fin cfg0.N,
    win0_4.index t (0 : Fin 3) = 0 ∧ win0_4.index t (1 : Fin 3) = 0 ∧ win0_4.index t (2 : Fin 3) = min t.val 36 :=
  (by decide +kernel : ∀ t : Fin grid0.N, _)

theorem flushed_2 : ∀ t : Fin cfg0.N, win0_2.flush t = true ↔ t.val ≠ 0 :=
  (by decide +kernel : ∀ t : Fin grid0.N, _)
theorem flushed_3 : ∀ t : Fin cfg0.N, win0_3.flush t = true ↔ t.val ≠ 36 :=
  (by decide +kernel : ∀ t : Fin grid0.N, _)
theorem flushed_4 : ∀ t : Fin cfg0.N, win0_4.flush t = true ↔ t.val ≠ 36 :=
  (by decide +kernel : ∀ t : Fin grid0.N, _)

/-- The column of the arrays at column `l` of the block of point `t`. -/
def col (t : Fin cfg0.N) (l : Fin 512) : Fin 18944 := ⟨512 * min t.val 36 + l.val, by have := l.isLt; omega⟩
/-- The row of the product at row `l` of the block of point `t`. -/
def row (t : Fin cfg0.N) (l : Fin 512) : Fin 18944 :=
  ⟨512 * (t.val - 1) + l.val, by have := l.isLt; have := t.isLt; have : cfg0.N = 38 := N_0; omega⟩

theorem emb_0 (t : Fin cfg0.N) (a : Fin 1920) (l : Fin 512) :
    ((cfg0.win 0).blk t).view.emb (ix2 a l : S1920x512.Idx) = (ix2 a (col t l) : S1920x18944.Idx) := by
  obtain ⟨e0, e1⟩ := index_0 t
  funext i; apply Fin.ext
  match i with
  | ⟨0, _⟩ => show win0_0.index t (0 : Fin 2) * 1920 + 1 * a.val = a.val; omega
  | ⟨1, _⟩ => show win0_0.index t (1 : Fin 2) * 512 + 1 * l.val = 512 * min t.val 36 + l.val; rw [e1]; omega

theorem emb_1 (t : Fin cfg0.N) (a : Fin 1920) (n : Fin 3584) :
    ((cfg0.win 1).blk t).view.emb (ix2 a n : S1920x3584.Idx) = (ix2 a n : S1920x3584.Idx) := by
  obtain ⟨e0, e1⟩ := index_1 t
  funext i; apply Fin.ext
  match i with
  | ⟨0, _⟩ => show win0_1.index t (0 : Fin 2) * 1920 + 1 * a.val = a.val; omega
  | ⟨1, _⟩ => show win0_1.index t (1 : Fin 2) * 3584 + 1 * n.val = n.val; omega

theorem emb_2 (t : Fin cfg0.N) (l : Fin 512) (n : Fin 3584) :
    ((cfg0.win 2).blk t).view.emb (ix2 l n : S512x3584.Idx) = (ix2 (row t l) n : S18944x3584.Idx) := by
  obtain ⟨e0, e1⟩ := index_2 t
  funext i; apply Fin.ext
  match i with
  | ⟨0, _⟩ => show win0_2.index t (0 : Fin 2) * 512 + 1 * l.val = 512 * (t.val - 1) + l.val; rw [e0]; omega
  | ⟨1, _⟩ => show win0_2.index t (1 : Fin 2) * 3584 + 1 * n.val = n.val; omega

theorem emb_3 (t : Fin cfg0.N) (a : Fin 1920) (l : Fin 512) :
    ((cfg0.win 3).blk t).view.emb (ix2 a l : S1920x512.Idx) = (ix2 a (col t l) : S1920x18944.Idx) := by
  obtain ⟨e0, e1⟩ := index_3 t
  funext i; apply Fin.ext
  match i with
  | ⟨0, _⟩ => show win0_3.index t (0 : Fin 2) * 1920 + 1 * a.val = a.val; omega
  | ⟨1, _⟩ => show win0_3.index t (1 : Fin 2) * 512 + 1 * l.val = 512 * min t.val 36 + l.val; rw [e1]; omega

theorem emb_4 (t : Fin cfg0.N) (b : Fin 3) (q : Fin 20) (l : Fin 512) :
    ((cfg0.win 4).blk t).view.emb (ix3 b q l : S3x20x512.Idx) = (ix3 b q (col t l) : S3x20x18944.Idx) := by
  obtain ⟨e0, e1, e2⟩ := index_4 t
  funext i; apply Fin.ext
  match i with
  | ⟨0, _⟩ => show win0_4.index t (0 : Fin 3) * 3 + 1 * b.val = b.val; omega
  | ⟨1, _⟩ => show win0_4.index t (1 : Fin 3) * 20 + 1 * q.val = q.val; omega
  | ⟨2, _⟩ => show win0_4.index t (2 : Fin 3) * 512 + 1 * l.val = 512 * min t.val 36 + l.val; rw [e2]; omega

/-! ## What the points write -/

variable (m : (ℓ : Loc nD τ sig) → Buf (Elt Ideal) ℓ) (ρ : Dev nD → PrngReg) (c : Dev nD)

/-- The gradients. -/
abbrev grads : FVec Ideal S1920x18944 .bf16 := m ((c : Thread nD τ).loc main_arg0)
/-- The other operand. -/
abbrev other : FVec Ideal S1920x3584 .bf16 := m ((c : Thread nD τ).loc main_arg1)

theorem xAt_apply (t : Fin cfg0.N) (a : Fin 1920) (l : Fin 512) : xAt m c t (ix2 a l) = grads m c (ix2 a (col t l)) := by
  show V m c main_arg0 (((cfg0.win 0).blk t).view.emb (ix2 a l : S1920x512.Idx)) = _
  rw [emb_0, V_main_arg0]

theorem yAt_apply (t : Fin cfg0.N) (a : Fin 1920) (n : Fin 3584) : yAt m c t (ix2 a n) = other m c (ix2 a n) := by
  show V m c main_arg1 (((cfg0.win 1).blk t).view.emb (ix2 a n : S1920x3584.Idx)) = _
  rw [emb_1, V_main_arg1]

variable (E : Fin 60 → Fin 18944 → ℤ) (hE : Wgrad.Exps (grads m c) E)
include hE

theorem exps_at (t : Fin cfg0.N) (q : Fin 60) (l : Fin 512) :
    Wgrad.BlockExp (fun i => xAt m c t (ix2 ⟨32 * q.val + i.val, by omega⟩ l)) (E q (col t l)) := by
  simp only [xAt_apply]
  exact hE q (col t l)

theorem out_3 (t : Fin cfg0.N) : (dats m 0 c).flushed 3 t = ((cfg0.win 3).blk t).view.read (Elt Ideal) (Wgrad.codesAll (grads m c) E) := by
  show (cfg0.win 3).cut (grid0.coords t) ((dats m 0 c).after 3 t) = _
  rw [after_3]
  funext (j : S1920x512.Idx)
  obtain ⟨a, l, rfl⟩ : ∃ (a : Fin 1920) (l : Fin 512), j = ix2 a l := ⟨j 0, j 1, eq_ix2 j⟩
  show Wgrad.codesBlock pay (xAt m c t) (Wgrad.powers (xAt m c t)) (ix2 a l)
    = Wgrad.codesAll (grads m c) E (((cfg0.win 3).blk t).view.emb (ix2 a l : S1920x512.Idx))
  rw [emb_3, Wgrad.codesBlock_apply _ _ (exps_at m c E hE t), xAt_apply]
  rfl

theorem out_4 (t : Fin cfg0.N) : (dats m 0 c).flushed 4 t = ((cfg0.win 4).blk t).view.read (Elt Ideal) (Wgrad.bytesAll E) := by
  show (cfg0.win 4).cut (grid0.coords t) ((dats m 0 c).after 4 t) = _
  rw [after_4]
  funext (j : S3x20x512.Idx)
  obtain ⟨b, q, l, rfl⟩ : ∃ (b : Fin 3) (q : Fin 20) (l : Fin 512), j = ix3 b q l := ⟨j 0, j 1, j 2, eq_ix3 j⟩
  show Wgrad.bytesBlock pay (Wgrad.powers (xAt m c t)) (ix3 b q l)
    = Wgrad.bytesAll E (((cfg0.win 4).blk t).view.emb (ix3 b q l : S3x20x512.Idx))
  rw [emb_4, Wgrad.bytesBlock_apply _ _ (exps_at m c E hE t)]
  rfl

theorem out_2 (t : Fin cfg0.N) (ht : t.val ≠ 0) :
    (dats m 0 c).flushed 2 t = ((cfg0.win 2).blk t).view.read (Elt Ideal) (Wgrad.gradAll (grads m c) E (other m c)) := by
  show (cfg0.win 2).cut (grid0.coords t) ((dats m 0 c).after 2 t) = _
  rw [after_2]
  funext (j : S512x3584.Idx)
  obtain ⟨l, n, rfl⟩ : ∃ (l : Fin 512) (n : Fin 3584), j = ix2 l n := ⟨j 0, j 1, eq_ix2 j⟩
  show Wgrad.outBlock (yAt m c t) (wideAt m c (prev t)) (ix2 l n)
    = Wgrad.gradAll (grads m c) E (other m c) (((cfg0.win 2).blk t).view.emb (ix2 l n : S512x3584.Idx))
  have hc : col (prev t) l = row t l := Fin.ext (by
    have := t.isLt; have : cfg0.N = 38 := N_0
    show 512 * min (t.val - 1) 36 + l.val = 512 * (t.val - 1) + l.val; omega)
  rw [emb_2, Wgrad.outBlock_apply]
  refine Finset.sum_congr rfl fun a _ => ?_
  unfold wideAt
  rw [Wgrad.wideBlock_apply _ _ (exps_at m c E hE (prev t)), xAt_apply, yAt_apply, hc]
  rfl

/-! ## The arrays -/

theorem final_3 : (dats m 0 c).arrAt 3 cfg0.N = Wgrad.codesAll (grads m c) E :=
  (dats m 0 c).arrAt_eq_of_cover 3 _ (fun t _ => out_3 m c E hE t) fun (i : S1920x18944.Idx) => by
    obtain ⟨a, n, rfl⟩ : ∃ (a : Fin 1920) (n : Fin 18944), i = ix2 a n := ⟨i 0, i 1, eq_ix2 i⟩
    have hN : cfg0.N = 38 := N_0
    have hn := n.isLt
    refine ⟨⟨if n.val / 512 = 36 then 37 else n.val / 512, by split <;> omega⟩, (flushed_3 _).2 (by
      show (if n.val / 512 = 36 then 37 else n.val / 512) ≠ 36; split <;> omega), ?_⟩
    have h := ((cfg0.win 3).blk (⟨if n.val / 512 = 36 then 37 else n.val / 512, by split <;> omega⟩ : Fin cfg0.N)).view.emb_mem_set
      (ix2 a ⟨n.val % 512, by omega⟩ : S1920x512.Idx)
    rw [emb_3] at h
    have e : col ⟨if n.val / 512 = 36 then 37 else n.val / 512, by split <;> omega⟩ ⟨n.val % 512, by omega⟩ = n := Fin.ext (by
      show 512 * min (if n.val / 512 = 36 then 37 else n.val / 512) 36 + n.val % 512 = n.val; split <;> omega)
    rwa [e] at h

theorem final_4 : (dats m 0 c).arrAt 4 cfg0.N = Wgrad.bytesAll E :=
  (dats m 0 c).arrAt_eq_of_cover 4 _ (fun t _ => out_4 m c E hE t) fun (i : S3x20x18944.Idx) => by
    obtain ⟨b, q, n, rfl⟩ : ∃ (b : Fin 3) (q : Fin 20) (n : Fin 18944), i = ix3 b q n := ⟨i 0, i 1, i 2, eq_ix3 i⟩
    have hN : cfg0.N = 38 := N_0
    have hn := n.isLt
    refine ⟨⟨if n.val / 512 = 36 then 37 else n.val / 512, by split <;> omega⟩, (flushed_4 _).2 (by
      show (if n.val / 512 = 36 then 37 else n.val / 512) ≠ 36; split <;> omega), ?_⟩
    have h := ((cfg0.win 4).blk (⟨if n.val / 512 = 36 then 37 else n.val / 512, by split <;> omega⟩ : Fin cfg0.N)).view.emb_mem_set
      (ix3 b q ⟨n.val % 512, by omega⟩ : S3x20x512.Idx)
    rw [emb_4] at h
    have e : col ⟨if n.val / 512 = 36 then 37 else n.val / 512, by split <;> omega⟩ ⟨n.val % 512, by omega⟩ = n := Fin.ext (by
      show 512 * min (if n.val / 512 = 36 then 37 else n.val / 512) 36 + n.val % 512 = n.val; split <;> omega)
    rwa [e] at h

theorem final_2 : (dats m 0 c).arrAt 2 cfg0.N = Wgrad.gradAll (grads m c) E (other m c) :=
  (dats m 0 c).arrAt_eq_of_cover 2 _ (fun t ht => out_2 m c E hE t ((flushed_2 t).1 ht)) fun (i : S18944x3584.Idx) => by
    obtain ⟨r, n, rfl⟩ : ∃ (r : Fin 18944) (n : Fin 3584), i = ix2 r n := ⟨i 0, i 1, eq_ix2 i⟩
    have hN : cfg0.N = 38 := N_0
    have hr := r.isLt
    refine ⟨⟨r.val / 512 + 1, by omega⟩, (flushed_2 _).2 (Nat.succ_ne_zero _), ?_⟩
    have h := ((cfg0.win 2).blk (⟨r.val / 512 + 1, by omega⟩ : Fin cfg0.N)).view.emb_mem_set
      (ix2 ⟨r.val % 512, by omega⟩ n : S512x3584.Idx)
    rw [emb_2] at h
    have e : row ⟨r.val / 512 + 1, by omega⟩ ⟨r.val % 512, by omega⟩ = r := Fin.ext (by
      show 512 * (r.val / 512 + 1 - 1) + r.val % 512 = r.val; omega)
    rwa [e] at h

end Cert.KernelIdeal.Hand

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-- The run, read at its results: the three functions of the arguments, and the arguments unchanged. -/
theorem run_value (E : Dev nD → Fin 60 → Fin 18944 → ℤ) (hE : ∀ c, Wgrad.Exps (grads m c) (E c)) :
    θ_run defs (onTc (τ := τ) (main (F := Ideal))) ⟨m, fun _ => 0, ρ⟩ (fun r => ∀ c : Dev nD,
      r.2.mem ((c : Thread nD τ).loc main_v0_0) = Wgrad.gradAll (grads m c) (E c) (other m c)
      ∧ r.2.mem ((c : Thread nD τ).loc main_v0_1) = Wgrad.codesAll (grads m c) (E c)
      ∧ r.2.mem ((c : Thread nD τ).loc main_v0_2) = Wgrad.bytesAll (E c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h c).1 2).trans (final_2 m c (E c) (hE c)),
      ((h c).1 3).trans (final_3 m c (E c) (hE c)), ((h c).1 4).trans (final_4 m c (E c) (hE c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand
-- ==== Proof.lean ====
module

public import proofs.«01_k».proof.Defs
public import proofs.«01_k».proof.Proof.XquantFrame
public import proofs.«01_k».proof.Proof.XquantIdealFrame
public import proofs.«01_k».proof.Proof.FRange
public import proofs.«01_k».proof.Proof.FValueReference
public import proofs.«01_k».proof.Proof.FValueKernel
public import proofs.«01_k».proof.Proof.XRange
public import proofs.«01_k».proof.Proof.XValueReference
public import proofs.«01_k».proof.Proof.XValueKernel
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.Xquant
public import proofs.«01_k».proof.Proof.Gen.Xquant.Skeleton
public import proofs.«01_k».proof.Proof.Gen.Xquant.Loops
public import proofs.«01_k».proof.Proof.Gen.Xquant.Launch
public import proofs.«01_k».proof.Proof.Gen.Xquant.Points
public import proofs.«01_k».proof.Proof.Gen.Xquant.Frame
public import proofs.«01_k».proof.Proof.Gen.XquantIdeal
public import proofs.«01_k».proof.Proof.Gen.XquantIdeal.Skeleton
public import proofs.«01_k».proof.Proof.Gen.XquantIdeal.Loops
public import proofs.«01_k».proof.Proof.Gen.XquantIdeal.Launch
public import proofs.«01_k».proof.Proof.Gen.XquantIdeal.Points
public import proofs.«01_k».proof.Proof.Gen.XquantIdeal.Frame
public import proofs.«01_k».proof.Proof.Gen.XReferenceIdeal
public import proofs.«01_k».proof.Proof.Gen.XReferenceIdeal.Skeleton
public import proofs.«01_k».proof.Proof.Gen.XReferenceIdeal.Launch
public import proofs.«01_k».proof.Proof.Gen.XReferenceIdeal.Points
public import proofs.«01_k».proof.Proof.Gen.XReferenceIdeal.Frame
public import proofs.«01_k».proof.Proof.Gen.Pre_x_in_range
public import proofs.«01_k».proof.Proof.Gen.FpropIdeal
public import proofs.«01_k».proof.Proof.Gen.FpropIdeal.Launch
public import proofs.«01_k».proof.Proof.Gen.FpropIdeal.Points
public import proofs.«01_k».proof.Proof.Gen.FpropIdeal.Frame
public import proofs.«01_k».proof.Proof.Gen.FReferenceIdeal
public import proofs.«01_k».proof.Proof.Gen.FReferenceIdeal.Skeleton
public import proofs.«01_k».proof.Proof.Gen.FReferenceIdeal.Launch
public import proofs.«01_k».proof.Proof.Gen.FReferenceIdeal.Points
public import proofs.«01_k».proof.Proof.Gen.FReferenceIdeal.Frame
public import proofs.«01_k».proof.Proof.Gen.Pre_w_in_range
public import proofs.«01_k».proof.Proof.FrameIdeal
public import proofs.«01_k».proof.Proof.FrameBits
public import proofs.«01_k».proof.Proof.ValueKernel
public import proofs.«01_k».proof.Proof.ValueReference
public import proofs.«01_k».proof.Proof.Range
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Both programs compute the same three functions of the arguments: the codes and scale bytes of the gradients, and the
    product of the widened codes, transposed, with the other operand. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  choose E hE using fun c => Cert.Pre_in_range.Hand.exists_exps _ _ (hpre c)
  have h0 : ∀ c, Cert.ReferenceIdeal.Hand.grads m' c = Cert.KernelIdeal.Hand.grads m c := fun c => (hargs c).1
  have h1 : ∀ c, Cert.ReferenceIdeal.Hand.other m' c = Cert.KernelIdeal.Hand.other m c := fun c => (hargs c).2
  refine ⟨fun c => Cert.Wgrad.gradAll (Cert.KernelIdeal.Hand.grads m c) (E c) (Cert.KernelIdeal.Hand.other m c),
    fun c => Cert.Wgrad.codesAll (Cert.KernelIdeal.Hand.grads m c) (E c), fun c => Cert.Wgrad.bytesAll (E c),
    Cert.KernelIdeal.Hand.run_value m g E hE, ?_⟩
  exact (θ_run _ _ _).mono
    (fun _ h c => ⟨(h c).1.trans (by rw [h0, h1]), (h c).2.1.trans (by rw [h0]), (h c).2.2⟩)
    (Cert.ReferenceIdeal.Hand.run_value m' g' E fun c => by rw [h0]; exact hE c)

/-- The same of the activation quantiser: both programs leave the six functions of the activations that the
    exponents of the blocks determine. -/
theorem x_algebraic : Cert.algebraic_XquantIdeal_XReferenceIdeal_pre_x_in_range (hXquantIdeal := Cert.XquantIdeal.Gen.facts)
    (hXReferenceIdeal := Cert.XReferenceIdeal.Gen.facts) (hPre_x_in_range := Cert.Pre_x_in_range.Gen.facts) := by
  intro m g m' g' hpre hargs
  choose ER hR using fun c => (Cert.Pre_x_in_range.Hand.exists_exps _ (hpre c)).1
  choose EC hC using fun c => (Cert.Pre_x_in_range.Hand.exists_exps _ (hpre c)).2
  have h0 : ∀ c, Cert.XReferenceIdeal.Hand.acts m' c = Cert.XquantIdeal.Hand.acts m c := fun c => hargs c
  refine ⟨_, _, _, _, _, _, Cert.XquantIdeal.Hand.run_value m g ER EC hR hC, ?_⟩
  exact (θ_run _ _ _).mono
    (fun _ h c => ⟨(h c).1.trans (by rw [h0]), (h c).2.1, (h c).2.2.1.trans (by rw [h0]), (h c).2.2.2.1,
      (h c).2.2.2.2.1.trans (by rw [h0]), (h c).2.2.2.2.2.1.trans (by rw [h0]), (h c).2.2.2.2.2.2⟩)
    (Cert.XReferenceIdeal.Hand.run_value m' g' ER (fun c => by rw [h0]; exact hR c) EC (fun c => by rw [h0]; exact hC c))

/-- The same of the forward product: both programs leave the codes and scale bytes of the weights, and the product of the
    other operand with the widened codes, transposed. -/
theorem f_algebraic : Cert.algebraic_FpropIdeal_FReferenceIdeal_pre_w_in_range (hFpropIdeal := Cert.FpropIdeal.Gen.facts)
    (hFReferenceIdeal := Cert.FReferenceIdeal.Gen.facts) (hPre_w_in_range := Cert.Pre_w_in_range.Gen.facts) := by
  intro m g m' g' hpre hargs
  choose E hE using fun c => Cert.Pre_w_in_range.Hand.exists_exps _ _ (hpre c)
  have h0 : ∀ c, Cert.FReferenceIdeal.Hand.other m' c = Cert.FpropIdeal.Hand.other m c := fun c => (hargs c).1
  have h1 : ∀ c, Cert.FReferenceIdeal.Hand.weights m' c = Cert.FpropIdeal.Hand.weights m c := fun c => (hargs c).2
  refine ⟨fun c => Cert.Fp.prodAll (Cert.FpropIdeal.Hand.other m c) (Cert.FpropIdeal.Hand.weights m c) (E c),
    fun c => Cert.Fp.codesAll (Cert.FpropIdeal.Hand.weights m c) (E c), fun c => Cert.Fp.bytesAll (E c),
    Cert.FpropIdeal.Hand.run_value m g E hE, ?_⟩
  exact (θ_run _ _ _).mono
    (fun _ h c => ⟨(h c).1.trans (by rw [h0, h1]), (h c).2.1.trans (by rw [h1]), (h c).2.2⟩)
    (Cert.FReferenceIdeal.Hand.run_value m' g' E fun c => by rw [h1]; exact hE c)

theorem claim : Cert.Claim :=
  ⟨Cert.Kernel.Gen.facts, Cert.KernelIdeal.Gen.facts, Cert.ReferenceIdeal.Gen.facts, Cert.Xquant.Gen.facts,
    Cert.XquantIdeal.Gen.facts, Cert.XReferenceIdeal.Gen.facts, Cert.FpropIdeal.Gen.facts, Cert.FReferenceIdeal.Gen.facts,
    Cert.Pre_in_range.Gen.facts, Cert.Pre_x_in_range.Gen.facts, Cert.Pre_w_in_range.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    fun m ρ _ => Cert.Xquant.Forget.frame m ρ,
    fun m ρ _ => Cert.XquantIdeal.Forget.frame m ρ,
    fun m ρ _ => Cert.XquantIdeal.Forget.frame m ρ,
    fun m ρ _ => Cert.XReferenceIdeal.Gen.frame m ρ,
    fun m ρ _ => Cert.XReferenceIdeal.Gen.frame m ρ,
    fun m ρ _ => Cert.FpropIdeal.Hand.frame m ρ,
    fun m ρ _ => Cert.FpropIdeal.Hand.frame m ρ,
    fun m ρ _ => Cert.FReferenceIdeal.Gen.frame m ρ,
    fun m ρ _ => Cert.FReferenceIdeal.Gen.frame m ρ,
    IdealRules.bf16_pair.statement Cert.KernelIdeal.S16x512 Cert.KernelIdeal.S8x512,
    algebraic,
    IdealRules.bf16_pair.statement Cert.XquantIdeal.S16x512 Cert.XquantIdeal.S8x512,
    x_algebraic,
    f_algebraic⟩

end Cert.Proof

end
